-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MobaIn (m : (ℓ : Loc Cert.MobaIn.nD Cert.MobaIn.τ Cert.MobaIn.sig) → Buf (Elt Bits) ℓ) : Prop :=
  True

def Pre_MobaInIdeal (m : (ℓ : Loc Cert.MobaInIdeal.nD Cert.MobaInIdeal.τ Cert.MobaInIdeal.sig) → Buf (Elt Ideal) ℓ) : Prop :=
  True

def Pre_MobaInRefIdeal (m : (ℓ : Loc Cert.MobaInRefIdeal.nD Cert.MobaInRefIdeal.τ Cert.MobaInRefIdeal.sig) → Buf (Elt Ideal) ℓ) : Prop :=
  True

def Pre_NsaIn (m : (ℓ : Loc Cert.NsaIn.nD Cert.NsaIn.τ Cert.NsaIn.sig) → Buf (Elt Bits) ℓ) : Prop :=
  True

def Pre_NsaInIdeal (m : (ℓ : Loc Cert.NsaInIdeal.nD Cert.NsaInIdeal.τ Cert.NsaInIdeal.sig) → Buf (Elt Ideal) ℓ) : Prop :=
  True

def Pre_NsaInRefIdeal (m : (ℓ : Loc Cert.NsaInRefIdeal.nD Cert.NsaInRefIdeal.τ Cert.NsaInRefIdeal.sig) → Buf (Elt Ideal) ℓ) : Prop :=
  True

def Pre_NsaFirst (m : (ℓ : Loc Cert.NsaFirst.nD Cert.NsaFirst.τ Cert.NsaFirst.sig) → Buf (Elt Bits) ℓ) : Prop :=
  True

def Pre_NsaFirstIdeal (m : (ℓ : Loc Cert.NsaFirstIdeal.nD Cert.NsaFirstIdeal.τ Cert.NsaFirstIdeal.sig) → Buf (Elt Ideal) ℓ) : Prop :=
  True

def Pre_NsaFirstRefIdeal (m : (ℓ : Loc Cert.NsaFirstRefIdeal.nD Cert.NsaFirstRefIdeal.τ Cert.NsaFirstRefIdeal.sig) → Buf (Elt Ideal) ℓ) : Prop :=
  True

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_MobaIn [hMobaIn : Cert.MobaIn.Facts] : Prop :=
  ∀ (m : (ℓ : Loc Cert.MobaIn.nD Cert.MobaIn.τ Cert.MobaIn.sig) → Buf (Elt Bits) ℓ) (g : Dev Cert.MobaIn.nD → PrngReg), Pre_MobaIn m →
    θ_run (Cert.MobaIn.defs (F := Bits)) (onTc (τ := Cert.MobaIn.τ) (Cert.MobaIn.main (F := Bits))) ⟨m, fun _ => 0, g⟩ (fun r => (∀ c : Dev Cert.MobaIn.nD,
      r.2.mem ((c.tc : Thread Cert.MobaIn.nD Cert.MobaIn.τ).loc Cert.MobaIn.main_arg0) = m ((c.tc : Thread Cert.MobaIn.nD Cert.MobaIn.τ).loc Cert.MobaIn.main_arg0)
      ∧ r.2.mem ((c.tc : Thread Cert.MobaIn.nD Cert.MobaIn.τ).loc Cert.MobaIn.main_arg1) = m ((c.tc : Thread Cert.MobaIn.nD Cert.MobaIn.τ).loc Cert.MobaIn.main_arg1)
      ∧ r.2.mem ((c.tc : Thread Cert.MobaIn.nD Cert.MobaIn.τ).loc Cert.MobaIn.main_arg2) = m ((c.tc : Thread Cert.MobaIn.nD Cert.MobaIn.τ).loc Cert.MobaIn.main_arg2)
      ∧ r.2.mem ((c.tc : Thread Cert.MobaIn.nD Cert.MobaIn.τ).loc Cert.MobaIn.main_arg3) = m ((c.tc : Thread Cert.MobaIn.nD Cert.MobaIn.τ).loc Cert.MobaIn.main_arg3)
      ∧ r.2.mem ((c.tc : Thread Cert.MobaIn.nD Cert.MobaIn.τ).loc Cert.MobaIn.main_arg4) = m ((c.tc : Thread Cert.MobaIn.nD Cert.MobaIn.τ).loc Cert.MobaIn.main_arg4)
      ∧ r.2.mem ((c.tc : Thread Cert.MobaIn.nD Cert.MobaIn.τ).loc Cert.MobaIn.main_arg5) = m ((c.tc : Thread Cert.MobaIn.nD Cert.MobaIn.τ).loc Cert.MobaIn.main_arg5)
      ∧ r.2.mem ((c.tc : Thread Cert.MobaIn.nD Cert.MobaIn.τ).loc Cert.MobaIn.main_arg6) = m ((c.tc : Thread Cert.MobaIn.nD Cert.MobaIn.τ).loc Cert.MobaIn.main_arg6)
      ∧ r.2.mem ((c.tc : Thread Cert.MobaIn.nD Cert.MobaIn.τ).loc Cert.MobaIn.main_arg7) = m ((c.tc : Thread Cert.MobaIn.nD Cert.MobaIn.τ).loc Cert.MobaIn.main_arg7)
      ∧ r.2.mem ((c.tc : Thread Cert.MobaIn.nD Cert.MobaIn.τ).loc Cert.MobaIn.main_arg8) = m ((c.tc : Thread Cert.MobaIn.nD Cert.MobaIn.τ).loc Cert.MobaIn.main_arg8)
      ∧ r.2.mem ((c.tc : Thread Cert.MobaIn.nD Cert.MobaIn.τ).loc Cert.MobaIn.main_arg9) = m ((c.tc : Thread Cert.MobaIn.nD Cert.MobaIn.τ).loc Cert.MobaIn.main_arg9)
      ∧ r.2.mem ((c.tc : Thread Cert.MobaIn.nD Cert.MobaIn.τ).loc Cert.MobaIn.main_arg10) = m ((c.tc : Thread Cert.MobaIn.nD Cert.MobaIn.τ).loc Cert.MobaIn.main_arg10)
      ∧ r.2.mem ((c.tc : Thread Cert.MobaIn.nD Cert.MobaIn.τ).loc Cert.MobaIn.main_arg11) = m ((c.tc : Thread Cert.MobaIn.nD Cert.MobaIn.τ).loc Cert.MobaIn.main_arg11))
      ∧ r.2.sem = fun _ => 0)

def quiescent_MobaInIdeal [hMobaInIdeal : Cert.MobaInIdeal.Facts] : Prop :=
  ∀ (m : (ℓ : Loc Cert.MobaInIdeal.nD Cert.MobaInIdeal.τ Cert.MobaInIdeal.sig) → Buf (Elt Ideal) ℓ) (g : Dev Cert.MobaInIdeal.nD → PrngReg), Pre_MobaInIdeal m →
    θ_run (Cert.MobaInIdeal.defs (F := Ideal)) (onTc (τ := Cert.MobaInIdeal.τ) (Cert.MobaInIdeal.main (F := Ideal))) ⟨m, fun _ => 0, g⟩ (fun r => (∀ c : Dev Cert.MobaInIdeal.nD,
      r.2.mem ((c.tc : Thread Cert.MobaInIdeal.nD Cert.MobaInIdeal.τ).loc Cert.MobaInIdeal.main_arg0) = m ((c.tc : Thread Cert.MobaInIdeal.nD Cert.MobaInIdeal.τ).loc Cert.MobaInIdeal.main_arg0)
      ∧ r.2.mem ((c.tc : Thread Cert.MobaInIdeal.nD Cert.MobaInIdeal.τ).loc Cert.MobaInIdeal.main_arg1) = m ((c.tc : Thread Cert.MobaInIdeal.nD Cert.MobaInIdeal.τ).loc Cert.MobaInIdeal.main_arg1)
      ∧ r.2.mem ((c.tc : Thread Cert.MobaInIdeal.nD Cert.MobaInIdeal.τ).loc Cert.MobaInIdeal.main_arg2) = m ((c.tc : Thread Cert.MobaInIdeal.nD Cert.MobaInIdeal.τ).loc Cert.MobaInIdeal.main_arg2)
      ∧ r.2.mem ((c.tc : Thread Cert.MobaInIdeal.nD Cert.MobaInIdeal.τ).loc Cert.MobaInIdeal.main_arg3) = m ((c.tc : Thread Cert.MobaInIdeal.nD Cert.MobaInIdeal.τ).loc Cert.MobaInIdeal.main_arg3)
      ∧ r.2.mem ((c.tc : Thread Cert.MobaInIdeal.nD Cert.MobaInIdeal.τ).loc Cert.MobaInIdeal.main_arg4) = m ((c.tc : Thread Cert.MobaInIdeal.nD Cert.MobaInIdeal.τ).loc Cert.MobaInIdeal.main_arg4)
      ∧ r.2.mem ((c.tc : Thread Cert.MobaInIdeal.nD Cert.MobaInIdeal.τ).loc Cert.MobaInIdeal.main_arg5) = m ((c.tc : Thread Cert.MobaInIdeal.nD Cert.MobaInIdeal.τ).loc Cert.MobaInIdeal.main_arg5)
      ∧ r.2.mem ((c.tc : Thread Cert.MobaInIdeal.nD Cert.MobaInIdeal.τ).loc Cert.MobaInIdeal.main_arg6) = m ((c.tc : Thread Cert.MobaInIdeal.nD Cert.MobaInIdeal.τ).loc Cert.MobaInIdeal.main_arg6)
      ∧ r.2.mem ((c.tc : Thread Cert.MobaInIdeal.nD Cert.MobaInIdeal.τ).loc Cert.MobaInIdeal.main_arg7) = m ((c.tc : Thread Cert.MobaInIdeal.nD Cert.MobaInIdeal.τ).loc Cert.MobaInIdeal.main_arg7)
      ∧ r.2.mem ((c.tc : Thread Cert.MobaInIdeal.nD Cert.MobaInIdeal.τ).loc Cert.MobaInIdeal.main_arg8) = m ((c.tc : Thread Cert.MobaInIdeal.nD Cert.MobaInIdeal.τ).loc Cert.MobaInIdeal.main_arg8)
      ∧ r.2.mem ((c.tc : Thread Cert.MobaInIdeal.nD Cert.MobaInIdeal.τ).loc Cert.MobaInIdeal.main_arg9) = m ((c.tc : Thread Cert.MobaInIdeal.nD Cert.MobaInIdeal.τ).loc Cert.MobaInIdeal.main_arg9)
      ∧ r.2.mem ((c.tc : Thread Cert.MobaInIdeal.nD Cert.MobaInIdeal.τ).loc Cert.MobaInIdeal.main_arg10) = m ((c.tc : Thread Cert.MobaInIdeal.nD Cert.MobaInIdeal.τ).loc Cert.MobaInIdeal.main_arg10)
      ∧ r.2.mem ((c.tc : Thread Cert.MobaInIdeal.nD Cert.MobaInIdeal.τ).loc Cert.MobaInIdeal.main_arg11) = m ((c.tc : Thread Cert.MobaInIdeal.nD Cert.MobaInIdeal.τ).loc Cert.MobaInIdeal.main_arg11))
      ∧ r.2.sem = fun _ => 0)

def quiescent_MobaInRefIdeal [hMobaInRefIdeal : Cert.MobaInRefIdeal.Facts] : Prop :=
  ∀ (m : (ℓ : Loc Cert.MobaInRefIdeal.nD Cert.MobaInRefIdeal.τ Cert.MobaInRefIdeal.sig) → Buf (Elt Ideal) ℓ) (g : Dev Cert.MobaInRefIdeal.nD → PrngReg), Pre_MobaInRefIdeal m →
    θ_run (Cert.MobaInRefIdeal.defs (F := Ideal)) (onTc (τ := Cert.MobaInRefIdeal.τ) (Cert.MobaInRefIdeal.main (F := Ideal))) ⟨m, fun _ => 0, g⟩ (fun r => (∀ c : Dev Cert.MobaInRefIdeal.nD,
      r.2.mem ((c.tc : Thread Cert.MobaInRefIdeal.nD Cert.MobaInRefIdeal.τ).loc Cert.MobaInRefIdeal.main_arg0) = m ((c.tc : Thread Cert.MobaInRefIdeal.nD Cert.MobaInRefIdeal.τ).loc Cert.MobaInRefIdeal.main_arg0)
      ∧ r.2.mem ((c.tc : Thread Cert.MobaInRefIdeal.nD Cert.MobaInRefIdeal.τ).loc Cert.MobaInRefIdeal.main_arg1) = m ((c.tc : Thread Cert.MobaInRefIdeal.nD Cert.MobaInRefIdeal.τ).loc Cert.MobaInRefIdeal.main_arg1)
      ∧ r.2.mem ((c.tc : Thread Cert.MobaInRefIdeal.nD Cert.MobaInRefIdeal.τ).loc Cert.MobaInRefIdeal.main_arg2) = m ((c.tc : Thread Cert.MobaInRefIdeal.nD Cert.MobaInRefIdeal.τ).loc Cert.MobaInRefIdeal.main_arg2)
      ∧ r.2.mem ((c.tc : Thread Cert.MobaInRefIdeal.nD Cert.MobaInRefIdeal.τ).loc Cert.MobaInRefIdeal.main_arg3) = m ((c.tc : Thread Cert.MobaInRefIdeal.nD Cert.MobaInRefIdeal.τ).loc Cert.MobaInRefIdeal.main_arg3)
      ∧ r.2.mem ((c.tc : Thread Cert.MobaInRefIdeal.nD Cert.MobaInRefIdeal.τ).loc Cert.MobaInRefIdeal.main_arg4) = m ((c.tc : Thread Cert.MobaInRefIdeal.nD Cert.MobaInRefIdeal.τ).loc Cert.MobaInRefIdeal.main_arg4)
      ∧ r.2.mem ((c.tc : Thread Cert.MobaInRefIdeal.nD Cert.MobaInRefIdeal.τ).loc Cert.MobaInRefIdeal.main_arg5) = m ((c.tc : Thread Cert.MobaInRefIdeal.nD Cert.MobaInRefIdeal.τ).loc Cert.MobaInRefIdeal.main_arg5)
      ∧ r.2.mem ((c.tc : Thread Cert.MobaInRefIdeal.nD Cert.MobaInRefIdeal.τ).loc Cert.MobaInRefIdeal.main_arg6) = m ((c.tc : Thread Cert.MobaInRefIdeal.nD Cert.MobaInRefIdeal.τ).loc Cert.MobaInRefIdeal.main_arg6)
      ∧ r.2.mem ((c.tc : Thread Cert.MobaInRefIdeal.nD Cert.MobaInRefIdeal.τ).loc Cert.MobaInRefIdeal.main_arg7) = m ((c.tc : Thread Cert.MobaInRefIdeal.nD Cert.MobaInRefIdeal.τ).loc Cert.MobaInRefIdeal.main_arg7)
      ∧ r.2.mem ((c.tc : Thread Cert.MobaInRefIdeal.nD Cert.MobaInRefIdeal.τ).loc Cert.MobaInRefIdeal.main_arg8) = m ((c.tc : Thread Cert.MobaInRefIdeal.nD Cert.MobaInRefIdeal.τ).loc Cert.MobaInRefIdeal.main_arg8)
      ∧ r.2.mem ((c.tc : Thread Cert.MobaInRefIdeal.nD Cert.MobaInRefIdeal.τ).loc Cert.MobaInRefIdeal.main_arg9) = m ((c.tc : Thread Cert.MobaInRefIdeal.nD Cert.MobaInRefIdeal.τ).loc Cert.MobaInRefIdeal.main_arg9)
      ∧ r.2.mem ((c.tc : Thread Cert.MobaInRefIdeal.nD Cert.MobaInRefIdeal.τ).loc Cert.MobaInRefIdeal.main_arg10) = m ((c.tc : Thread Cert.MobaInRefIdeal.nD Cert.MobaInRefIdeal.τ).loc Cert.MobaInRefIdeal.main_arg10)
      ∧ r.2.mem ((c.tc : Thread Cert.MobaInRefIdeal.nD Cert.MobaInRefIdeal.τ).loc Cert.MobaInRefIdeal.main_arg11) = m ((c.tc : Thread Cert.MobaInRefIdeal.nD Cert.MobaInRefIdeal.τ).loc Cert.MobaInRefIdeal.main_arg11))
      ∧ r.2.sem = fun _ => 0)

def quiescent_NsaIn [hNsaIn : Cert.NsaIn.Facts] : Prop :=
  ∀ (m : (ℓ : Loc Cert.NsaIn.nD Cert.NsaIn.τ Cert.NsaIn.sig) → Buf (Elt Bits) ℓ) (g : Dev Cert.NsaIn.nD → PrngReg), Pre_NsaIn m →
    θ_run (Cert.NsaIn.defs (F := Bits)) (onTc (τ := Cert.NsaIn.τ) (Cert.NsaIn.main (F := Bits))) ⟨m, fun _ => 0, g⟩ (fun r => (∀ c : Dev Cert.NsaIn.nD,
      r.2.mem ((c.tc : Thread Cert.NsaIn.nD Cert.NsaIn.τ).loc Cert.NsaIn.main_arg0) = m ((c.tc : Thread Cert.NsaIn.nD Cert.NsaIn.τ).loc Cert.NsaIn.main_arg0)
      ∧ r.2.mem ((c.tc : Thread Cert.NsaIn.nD Cert.NsaIn.τ).loc Cert.NsaIn.main_arg1) = m ((c.tc : Thread Cert.NsaIn.nD Cert.NsaIn.τ).loc Cert.NsaIn.main_arg1)
      ∧ r.2.mem ((c.tc : Thread Cert.NsaIn.nD Cert.NsaIn.τ).loc Cert.NsaIn.main_arg2) = m ((c.tc : Thread Cert.NsaIn.nD Cert.NsaIn.τ).loc Cert.NsaIn.main_arg2)
      ∧ r.2.mem ((c.tc : Thread Cert.NsaIn.nD Cert.NsaIn.τ).loc Cert.NsaIn.main_arg3) = m ((c.tc : Thread Cert.NsaIn.nD Cert.NsaIn.τ).loc Cert.NsaIn.main_arg3)
      ∧ r.2.mem ((c.tc : Thread Cert.NsaIn.nD Cert.NsaIn.τ).loc Cert.NsaIn.main_arg4) = m ((c.tc : Thread Cert.NsaIn.nD Cert.NsaIn.τ).loc Cert.NsaIn.main_arg4)
      ∧ r.2.mem ((c.tc : Thread Cert.NsaIn.nD Cert.NsaIn.τ).loc Cert.NsaIn.main_arg5) = m ((c.tc : Thread Cert.NsaIn.nD Cert.NsaIn.τ).loc Cert.NsaIn.main_arg5)
      ∧ r.2.mem ((c.tc : Thread Cert.NsaIn.nD Cert.NsaIn.τ).loc Cert.NsaIn.main_arg6) = m ((c.tc : Thread Cert.NsaIn.nD Cert.NsaIn.τ).loc Cert.NsaIn.main_arg6)
      ∧ r.2.mem ((c.tc : Thread Cert.NsaIn.nD Cert.NsaIn.τ).loc Cert.NsaIn.main_arg7) = m ((c.tc : Thread Cert.NsaIn.nD Cert.NsaIn.τ).loc Cert.NsaIn.main_arg7)
      ∧ r.2.mem ((c.tc : Thread Cert.NsaIn.nD Cert.NsaIn.τ).loc Cert.NsaIn.main_arg8) = m ((c.tc : Thread Cert.NsaIn.nD Cert.NsaIn.τ).loc Cert.NsaIn.main_arg8)
      ∧ r.2.mem ((c.tc : Thread Cert.NsaIn.nD Cert.NsaIn.τ).loc Cert.NsaIn.main_arg9) = m ((c.tc : Thread Cert.NsaIn.nD Cert.NsaIn.τ).loc Cert.NsaIn.main_arg9)
      ∧ r.2.mem ((c.tc : Thread Cert.NsaIn.nD Cert.NsaIn.τ).loc Cert.NsaIn.main_arg10) = m ((c.tc : Thread Cert.NsaIn.nD Cert.NsaIn.τ).loc Cert.NsaIn.main_arg10)
      ∧ r.2.mem ((c.tc : Thread Cert.NsaIn.nD Cert.NsaIn.τ).loc Cert.NsaIn.main_arg11) = m ((c.tc : Thread Cert.NsaIn.nD Cert.NsaIn.τ).loc Cert.NsaIn.main_arg11)
      ∧ r.2.mem ((c.tc : Thread Cert.NsaIn.nD Cert.NsaIn.τ).loc Cert.NsaIn.main_arg12) = m ((c.tc : Thread Cert.NsaIn.nD Cert.NsaIn.τ).loc Cert.NsaIn.main_arg12)
      ∧ r.2.mem ((c.tc : Thread Cert.NsaIn.nD Cert.NsaIn.τ).loc Cert.NsaIn.main_arg13) = m ((c.tc : Thread Cert.NsaIn.nD Cert.NsaIn.τ).loc Cert.NsaIn.main_arg13))
      ∧ r.2.sem = fun _ => 0)

def quiescent_NsaInIdeal [hNsaInIdeal : Cert.NsaInIdeal.Facts] : Prop :=
  ∀ (m : (ℓ : Loc Cert.NsaInIdeal.nD Cert.NsaInIdeal.τ Cert.NsaInIdeal.sig) → Buf (Elt Ideal) ℓ) (g : Dev Cert.NsaInIdeal.nD → PrngReg), Pre_NsaInIdeal m →
    θ_run (Cert.NsaInIdeal.defs (F := Ideal)) (onTc (τ := Cert.NsaInIdeal.τ) (Cert.NsaInIdeal.main (F := Ideal))) ⟨m, fun _ => 0, g⟩ (fun r => (∀ c : Dev Cert.NsaInIdeal.nD,
      r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
      ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
      ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2)
      ∧ r.2.mem ((c.tc : Thread Cert.NsaInIdeal.nD Cert.NsaInIdeal.τ).loc Cert.NsaInIdeal.main_arg3) = m ((c.tc : Thread Cert.NsaInIdeal.nD Cert.NsaInIdeal.τ).loc Cert.NsaInIdeal.main_arg3)
      ∧ r.2.mem ((c.tc : Thread Cert.NsaInIdeal.nD Cert.NsaInIdeal.τ).loc Cert.NsaInIdeal.main_arg4) = m ((c.tc : Thread Cert.NsaInIdeal.nD Cert.NsaInIdeal.τ).loc Cert.NsaInIdeal.main_arg4)
      ∧ r.2.mem ((c.tc : Thread Cert.NsaInIdeal.nD Cert.NsaInIdeal.τ).loc Cert.NsaInIdeal.main_arg5) = m ((c.tc : Thread Cert.NsaInIdeal.nD Cert.NsaInIdeal.τ).loc Cert.NsaInIdeal.main_arg5)
      ∧ r.2.mem ((c.tc : Thread Cert.NsaInIdeal.nD Cert.NsaInIdeal.τ).loc Cert.NsaInIdeal.main_arg6) = m ((c.tc : Thread Cert.NsaInIdeal.nD Cert.NsaInIdeal.τ).loc Cert.NsaInIdeal.main_arg6)
      ∧ r.2.mem ((c.tc : Thread Cert.NsaInIdeal.nD Cert.NsaInIdeal.τ).loc Cert.NsaInIdeal.main_arg7) = m ((c.tc : Thread Cert.NsaInIdeal.nD Cert.NsaInIdeal.τ).loc Cert.NsaInIdeal.main_arg7)
      ∧ r.2.mem ((c.tc : Thread Cert.NsaInIdeal.nD Cert.NsaInIdeal.τ).loc Cert.NsaInIdeal.main_arg8) = m ((c.tc : Thread Cert.NsaInIdeal.nD Cert.NsaInIdeal.τ).loc Cert.NsaInIdeal.main_arg8)
      ∧ r.2.mem ((c.tc : Thread Cert.NsaInIdeal.nD Cert.NsaInIdeal.τ).loc Cert.NsaInIdeal.main_arg9) = m ((c.tc : Thread Cert.NsaInIdeal.nD Cert.NsaInIdeal.τ).loc Cert.NsaInIdeal.main_arg9)
      ∧ r.2.mem ((c.tc : Thread Cert.NsaInIdeal.nD Cert.NsaInIdeal.τ).loc Cert.NsaInIdeal.main_arg10) = m ((c.tc : Thread Cert.NsaInIdeal.nD Cert.NsaInIdeal.τ).loc Cert.NsaInIdeal.main_arg10)
      ∧ r.2.mem ((c.tc : Thread Cert.NsaInIdeal.nD Cert.NsaInIdeal.τ).loc Cert.NsaInIdeal.main_arg11) = m ((c.tc : Thread Cert.NsaInIdeal.nD Cert.NsaInIdeal.τ).loc Cert.NsaInIdeal.main_arg11)
      ∧ r.2.mem ((c.tc : Thread Cert.NsaInIdeal.nD Cert.NsaInIdeal.τ).loc Cert.NsaInIdeal.main_arg12) = m ((c.tc : Thread Cert.NsaInIdeal.nD Cert.NsaInIdeal.τ).loc Cert.NsaInIdeal.main_arg12)
      ∧ r.2.mem ((c.tc : Thread Cert.NsaInIdeal.nD Cert.NsaInIdeal.τ).loc Cert.NsaInIdeal.main_arg13) = m ((c.tc : Thread Cert.NsaInIdeal.nD Cert.NsaInIdeal.τ).loc Cert.NsaInIdeal.main_arg13))
      ∧ r.2.sem = fun _ => 0)

def quiescent_NsaInRefIdeal [hNsaInRefIdeal : Cert.NsaInRefIdeal.Facts] : Prop :=
  ∀ (m : (ℓ : Loc Cert.NsaInRefIdeal.nD Cert.NsaInRefIdeal.τ Cert.NsaInRefIdeal.sig) → Buf (Elt Ideal) ℓ) (g : Dev Cert.NsaInRefIdeal.nD → PrngReg), Pre_NsaInRefIdeal m →
    θ_run (Cert.NsaInRefIdeal.defs (F := Ideal)) (onTc (τ := Cert.NsaInRefIdeal.τ) (Cert.NsaInRefIdeal.main (F := Ideal))) ⟨m, fun _ => 0, g⟩ (fun r => (∀ c : Dev Cert.NsaInRefIdeal.nD,
      r.2.mem ((c.tc : Thread Cert.NsaInRefIdeal.nD Cert.NsaInRefIdeal.τ).loc Cert.NsaInRefIdeal.main_arg0) = m ((c.tc : Thread Cert.NsaInRefIdeal.nD Cert.NsaInRefIdeal.τ).loc Cert.NsaInRefIdeal.main_arg0)
      ∧ r.2.mem ((c.tc : Thread Cert.NsaInRefIdeal.nD Cert.NsaInRefIdeal.τ).loc Cert.NsaInRefIdeal.main_arg1) = m ((c.tc : Thread Cert.NsaInRefIdeal.nD Cert.NsaInRefIdeal.τ).loc Cert.NsaInRefIdeal.main_arg1)
      ∧ r.2.mem ((c.tc : Thread Cert.NsaInRefIdeal.nD Cert.NsaInRefIdeal.τ).loc Cert.NsaInRefIdeal.main_arg2) = m ((c.tc : Thread Cert.NsaInRefIdeal.nD Cert.NsaInRefIdeal.τ).loc Cert.NsaInRefIdeal.main_arg2)
      ∧ r.2.mem ((c.tc : Thread Cert.NsaInRefIdeal.nD Cert.NsaInRefIdeal.τ).loc Cert.NsaInRefIdeal.main_arg3) = m ((c.tc : Thread Cert.NsaInRefIdeal.nD Cert.NsaInRefIdeal.τ).loc Cert.NsaInRefIdeal.main_arg3)
      ∧ r.2.mem ((c.tc : Thread Cert.NsaInRefIdeal.nD Cert.NsaInRefIdeal.τ).loc Cert.NsaInRefIdeal.main_arg4) = m ((c.tc : Thread Cert.NsaInRefIdeal.nD Cert.NsaInRefIdeal.τ).loc Cert.NsaInRefIdeal.main_arg4)
      ∧ r.2.mem ((c.tc : Thread Cert.NsaInRefIdeal.nD Cert.NsaInRefIdeal.τ).loc Cert.NsaInRefIdeal.main_arg5) = m ((c.tc : Thread Cert.NsaInRefIdeal.nD Cert.NsaInRefIdeal.τ).loc Cert.NsaInRefIdeal.main_arg5)
      ∧ r.2.mem ((c.tc : Thread Cert.NsaInRefIdeal.nD Cert.NsaInRefIdeal.τ).loc Cert.NsaInRefIdeal.main_arg6) = m ((c.tc : Thread Cert.NsaInRefIdeal.nD Cert.NsaInRefIdeal.τ).loc Cert.NsaInRefIdeal.main_arg6)
      ∧ r.2.mem ((c.tc : Thread Cert.NsaInRefIdeal.nD Cert.NsaInRefIdeal.τ).loc Cert.NsaInRefIdeal.main_arg7) = m ((c.tc : Thread Cert.NsaInRefIdeal.nD Cert.NsaInRefIdeal.τ).loc Cert.NsaInRefIdeal.main_arg7)
      ∧ r.2.mem ((c.tc : Thread Cert.NsaInRefIdeal.nD Cert.NsaInRefIdeal.τ).loc Cert.NsaInRefIdeal.main_arg8) = m ((c.tc : Thread Cert.NsaInRefIdeal.nD Cert.NsaInRefIdeal.τ).loc Cert.NsaInRefIdeal.main_arg8)
      ∧ r.2.mem ((c.tc : Thread Cert.NsaInRefIdeal.nD Cert.NsaInRefIdeal.τ).loc Cert.NsaInRefIdeal.main_arg9) = m ((c.tc : Thread Cert.NsaInRefIdeal.nD Cert.NsaInRefIdeal.τ).loc Cert.NsaInRefIdeal.main_arg9)
      ∧ r.2.mem ((c.tc : Thread Cert.NsaInRefIdeal.nD Cert.NsaInRefIdeal.τ).loc Cert.NsaInRefIdeal.main_arg10) = m ((c.tc : Thread Cert.NsaInRefIdeal.nD Cert.NsaInRefIdeal.τ).loc Cert.NsaInRefIdeal.main_arg10)
      ∧ r.2.mem ((c.tc : Thread Cert.NsaInRefIdeal.nD Cert.NsaInRefIdeal.τ).loc Cert.NsaInRefIdeal.main_arg11) = m ((c.tc : Thread Cert.NsaInRefIdeal.nD Cert.NsaInRefIdeal.τ).loc Cert.NsaInRefIdeal.main_arg11)
      ∧ r.2.mem ((c.tc : Thread Cert.NsaInRefIdeal.nD Cert.NsaInRefIdeal.τ).loc Cert.NsaInRefIdeal.main_arg12) = m ((c.tc : Thread Cert.NsaInRefIdeal.nD Cert.NsaInRefIdeal.τ).loc Cert.NsaInRefIdeal.main_arg12)
      ∧ r.2.mem ((c.tc : Thread Cert.NsaInRefIdeal.nD Cert.NsaInRefIdeal.τ).loc Cert.NsaInRefIdeal.main_arg13) = m ((c.tc : Thread Cert.NsaInRefIdeal.nD Cert.NsaInRefIdeal.τ).loc Cert.NsaInRefIdeal.main_arg13))
      ∧ r.2.sem = fun _ => 0)

def quiescent_NsaFirst [hNsaFirst : Cert.NsaFirst.Facts] : Prop :=
  ∀ (m : (ℓ : Loc Cert.NsaFirst.nD Cert.NsaFirst.τ Cert.NsaFirst.sig) → Buf (Elt Bits) ℓ) (g : Dev Cert.NsaFirst.nD → PrngReg), Pre_NsaFirst m →
    θ_run (Cert.NsaFirst.defs (F := Bits)) (onTc (τ := Cert.NsaFirst.τ) (Cert.NsaFirst.main (F := Bits))) ⟨m, fun _ => 0, g⟩ (fun r => (∀ c : Dev Cert.NsaFirst.nD,
      r.2.mem ((c.tc : Thread Cert.NsaFirst.nD Cert.NsaFirst.τ).loc Cert.NsaFirst.main_arg0) = m ((c.tc : Thread Cert.NsaFirst.nD Cert.NsaFirst.τ).loc Cert.NsaFirst.main_arg0)
      ∧ r.2.mem ((c.tc : Thread Cert.NsaFirst.nD Cert.NsaFirst.τ).loc Cert.NsaFirst.main_arg1) = m ((c.tc : Thread Cert.NsaFirst.nD Cert.NsaFirst.τ).loc Cert.NsaFirst.main_arg1)
      ∧ r.2.mem ((c.tc : Thread Cert.NsaFirst.nD Cert.NsaFirst.τ).loc Cert.NsaFirst.main_arg2) = m ((c.tc : Thread Cert.NsaFirst.nD Cert.NsaFirst.τ).loc Cert.NsaFirst.main_arg2)
      ∧ r.2.mem ((c.tc : Thread Cert.NsaFirst.nD Cert.NsaFirst.τ).loc Cert.NsaFirst.main_arg3) = m ((c.tc : Thread Cert.NsaFirst.nD Cert.NsaFirst.τ).loc Cert.NsaFirst.main_arg3)
      ∧ r.2.mem ((c.tc : Thread Cert.NsaFirst.nD Cert.NsaFirst.τ).loc Cert.NsaFirst.main_arg4) = m ((c.tc : Thread Cert.NsaFirst.nD Cert.NsaFirst.τ).loc Cert.NsaFirst.main_arg4)
      ∧ r.2.mem ((c.tc : Thread Cert.NsaFirst.nD Cert.NsaFirst.τ).loc Cert.NsaFirst.main_arg5) = m ((c.tc : Thread Cert.NsaFirst.nD Cert.NsaFirst.τ).loc Cert.NsaFirst.main_arg5)
      ∧ r.2.mem ((c.tc : Thread Cert.NsaFirst.nD Cert.NsaFirst.τ).loc Cert.NsaFirst.main_arg6) = m ((c.tc : Thread Cert.NsaFirst.nD Cert.NsaFirst.τ).loc Cert.NsaFirst.main_arg6)
      ∧ r.2.mem ((c.tc : Thread Cert.NsaFirst.nD Cert.NsaFirst.τ).loc Cert.NsaFirst.main_arg7) = m ((c.tc : Thread Cert.NsaFirst.nD Cert.NsaFirst.τ).loc Cert.NsaFirst.main_arg7)
      ∧ r.2.mem ((c.tc : Thread Cert.NsaFirst.nD Cert.NsaFirst.τ).loc Cert.NsaFirst.main_arg8) = m ((c.tc : Thread Cert.NsaFirst.nD Cert.NsaFirst.τ).loc Cert.NsaFirst.main_arg8)
      ∧ r.2.mem ((c.tc : Thread Cert.NsaFirst.nD Cert.NsaFirst.τ).loc Cert.NsaFirst.main_arg9) = m ((c.tc : Thread Cert.NsaFirst.nD Cert.NsaFirst.τ).loc Cert.NsaFirst.main_arg9)
      ∧ r.2.mem ((c.tc : Thread Cert.NsaFirst.nD Cert.NsaFirst.τ).loc Cert.NsaFirst.main_arg10) = m ((c.tc : Thread Cert.NsaFirst.nD Cert.NsaFirst.τ).loc Cert.NsaFirst.main_arg10))
      ∧ r.2.sem = fun _ => 0)

def quiescent_NsaFirstIdeal [hNsaFirstIdeal : Cert.NsaFirstIdeal.Facts] : Prop :=
  ∀ (m : (ℓ : Loc Cert.NsaFirstIdeal.nD Cert.NsaFirstIdeal.τ Cert.NsaFirstIdeal.sig) → Buf (Elt Ideal) ℓ) (g : Dev Cert.NsaFirstIdeal.nD → PrngReg), Pre_NsaFirstIdeal m →
    θ_run (Cert.NsaFirstIdeal.defs (F := Ideal)) (onTc (τ := Cert.NsaFirstIdeal.τ) (Cert.NsaFirstIdeal.main (F := Ideal))) ⟨m, fun _ => 0, g⟩ (fun r => (∀ c : Dev Cert.NsaFirstIdeal.nD,
      r.2.mem ((c.tc : Thread Cert.NsaFirstIdeal.nD Cert.NsaFirstIdeal.τ).loc Cert.NsaFirstIdeal.main_arg0) = m ((c.tc : Thread Cert.NsaFirstIdeal.nD Cert.NsaFirstIdeal.τ).loc Cert.NsaFirstIdeal.main_arg0)
      ∧ r.2.mem ((c.tc : Thread Cert.NsaFirstIdeal.nD Cert.NsaFirstIdeal.τ).loc Cert.NsaFirstIdeal.main_arg1) = m ((c.tc : Thread Cert.NsaFirstIdeal.nD Cert.NsaFirstIdeal.τ).loc Cert.NsaFirstIdeal.main_arg1)
      ∧ r.2.mem ((c.tc : Thread Cert.NsaFirstIdeal.nD Cert.NsaFirstIdeal.τ).loc Cert.NsaFirstIdeal.main_arg2) = m ((c.tc : Thread Cert.NsaFirstIdeal.nD Cert.NsaFirstIdeal.τ).loc Cert.NsaFirstIdeal.main_arg2)
      ∧ r.2.mem ((c.tc : Thread Cert.NsaFirstIdeal.nD Cert.NsaFirstIdeal.τ).loc Cert.NsaFirstIdeal.main_arg3) = m ((c.tc : Thread Cert.NsaFirstIdeal.nD Cert.NsaFirstIdeal.τ).loc Cert.NsaFirstIdeal.main_arg3)
      ∧ r.2.mem ((c.tc : Thread Cert.NsaFirstIdeal.nD Cert.NsaFirstIdeal.τ).loc Cert.NsaFirstIdeal.main_arg4) = m ((c.tc : Thread Cert.NsaFirstIdeal.nD Cert.NsaFirstIdeal.τ).loc Cert.NsaFirstIdeal.main_arg4)
      ∧ r.2.mem ((c.tc : Thread Cert.NsaFirstIdeal.nD Cert.NsaFirstIdeal.τ).loc Cert.NsaFirstIdeal.main_arg5) = m ((c.tc : Thread Cert.NsaFirstIdeal.nD Cert.NsaFirstIdeal.τ).loc Cert.NsaFirstIdeal.main_arg5)
      ∧ r.2.mem ((c.tc : Thread Cert.NsaFirstIdeal.nD Cert.NsaFirstIdeal.τ).loc Cert.NsaFirstIdeal.main_arg6) = m ((c.tc : Thread Cert.NsaFirstIdeal.nD Cert.NsaFirstIdeal.τ).loc Cert.NsaFirstIdeal.main_arg6)
      ∧ r.2.mem ((c.tc : Thread Cert.NsaFirstIdeal.nD Cert.NsaFirstIdeal.τ).loc Cert.NsaFirstIdeal.main_arg7) = m ((c.tc : Thread Cert.NsaFirstIdeal.nD Cert.NsaFirstIdeal.τ).loc Cert.NsaFirstIdeal.main_arg7)
      ∧ r.2.mem ((c.tc : Thread Cert.NsaFirstIdeal.nD Cert.NsaFirstIdeal.τ).loc Cert.NsaFirstIdeal.main_arg8) = m ((c.tc : Thread Cert.NsaFirstIdeal.nD Cert.NsaFirstIdeal.τ).loc Cert.NsaFirstIdeal.main_arg8)
      ∧ r.2.mem ((c.tc : Thread Cert.NsaFirstIdeal.nD Cert.NsaFirstIdeal.τ).loc Cert.NsaFirstIdeal.main_arg9) = m ((c.tc : Thread Cert.NsaFirstIdeal.nD Cert.NsaFirstIdeal.τ).loc Cert.NsaFirstIdeal.main_arg9)
      ∧ r.2.mem ((c.tc : Thread Cert.NsaFirstIdeal.nD Cert.NsaFirstIdeal.τ).loc Cert.NsaFirstIdeal.main_arg10) = m ((c.tc : Thread Cert.NsaFirstIdeal.nD Cert.NsaFirstIdeal.τ).loc Cert.NsaFirstIdeal.main_arg10))
      ∧ r.2.sem = fun _ => 0)

def quiescent_NsaFirstRefIdeal [hNsaFirstRefIdeal : Cert.NsaFirstRefIdeal.Facts] : Prop :=
  ∀ (m : (ℓ : Loc Cert.NsaFirstRefIdeal.nD Cert.NsaFirstRefIdeal.τ Cert.NsaFirstRefIdeal.sig) → Buf (Elt Ideal) ℓ) (g : Dev Cert.NsaFirstRefIdeal.nD → PrngReg), Pre_NsaFirstRefIdeal m →
    θ_run (Cert.NsaFirstRefIdeal.defs (F := Ideal)) (onTc (τ := Cert.NsaFirstRefIdeal.τ) (Cert.NsaFirstRefIdeal.main (F := Ideal))) ⟨m, fun _ => 0, g⟩ (fun r => (∀ c : Dev Cert.NsaFirstRefIdeal.nD,
      r.2.mem ((c.tc : Thread Cert.NsaFirstRefIdeal.nD Cert.NsaFirstRefIdeal.τ).loc Cert.NsaFirstRefIdeal.main_arg0) = m ((c.tc : Thread Cert.NsaFirstRefIdeal.nD Cert.NsaFirstRefIdeal.τ).loc Cert.NsaFirstRefIdeal.main_arg0)
      ∧ r.2.mem ((c.tc : Thread Cert.NsaFirstRefIdeal.nD Cert.NsaFirstRefIdeal.τ).loc Cert.NsaFirstRefIdeal.main_arg1) = m ((c.tc : Thread Cert.NsaFirstRefIdeal.nD Cert.NsaFirstRefIdeal.τ).loc Cert.NsaFirstRefIdeal.main_arg1)
      ∧ r.2.mem ((c.tc : Thread Cert.NsaFirstRefIdeal.nD Cert.NsaFirstRefIdeal.τ).loc Cert.NsaFirstRefIdeal.main_arg2) = m ((c.tc : Thread Cert.NsaFirstRefIdeal.nD Cert.NsaFirstRefIdeal.τ).loc Cert.NsaFirstRefIdeal.main_arg2)
      ∧ r.2.mem ((c.tc : Thread Cert.NsaFirstRefIdeal.nD Cert.NsaFirstRefIdeal.τ).loc Cert.NsaFirstRefIdeal.main_arg3) = m ((c.tc : Thread Cert.NsaFirstRefIdeal.nD Cert.NsaFirstRefIdeal.τ).loc Cert.NsaFirstRefIdeal.main_arg3)
      ∧ r.2.mem ((c.tc : Thread Cert.NsaFirstRefIdeal.nD Cert.NsaFirstRefIdeal.τ).loc Cert.NsaFirstRefIdeal.main_arg4) = m ((c.tc : Thread Cert.NsaFirstRefIdeal.nD Cert.NsaFirstRefIdeal.τ).loc Cert.NsaFirstRefIdeal.main_arg4)
      ∧ r.2.mem ((c.tc : Thread Cert.NsaFirstRefIdeal.nD Cert.NsaFirstRefIdeal.τ).loc Cert.NsaFirstRefIdeal.main_arg5) = m ((c.tc : Thread Cert.NsaFirstRefIdeal.nD Cert.NsaFirstRefIdeal.τ).loc Cert.NsaFirstRefIdeal.main_arg5)
      ∧ r.2.mem ((c.tc : Thread Cert.NsaFirstRefIdeal.nD Cert.NsaFirstRefIdeal.τ).loc Cert.NsaFirstRefIdeal.main_arg6) = m ((c.tc : Thread Cert.NsaFirstRefIdeal.nD Cert.NsaFirstRefIdeal.τ).loc Cert.NsaFirstRefIdeal.main_arg6)
      ∧ r.2.mem ((c.tc : Thread Cert.NsaFirstRefIdeal.nD Cert.NsaFirstRefIdeal.τ).loc Cert.NsaFirstRefIdeal.main_arg7) = m ((c.tc : Thread Cert.NsaFirstRefIdeal.nD Cert.NsaFirstRefIdeal.τ).loc Cert.NsaFirstRefIdeal.main_arg7)
      ∧ r.2.mem ((c.tc : Thread Cert.NsaFirstRefIdeal.nD Cert.NsaFirstRefIdeal.τ).loc Cert.NsaFirstRefIdeal.main_arg8) = m ((c.tc : Thread Cert.NsaFirstRefIdeal.nD Cert.NsaFirstRefIdeal.τ).loc Cert.NsaFirstRefIdeal.main_arg8)
      ∧ r.2.mem ((c.tc : Thread Cert.NsaFirstRefIdeal.nD Cert.NsaFirstRefIdeal.τ).loc Cert.NsaFirstRefIdeal.main_arg9) = m ((c.tc : Thread Cert.NsaFirstRefIdeal.nD Cert.NsaFirstRefIdeal.τ).loc Cert.NsaFirstRefIdeal.main_arg9)
      ∧ r.2.mem ((c.tc : Thread Cert.NsaFirstRefIdeal.nD Cert.NsaFirstRefIdeal.τ).loc Cert.NsaFirstRefIdeal.main_arg10) = m ((c.tc : Thread Cert.NsaFirstRefIdeal.nD Cert.NsaFirstRefIdeal.τ).loc Cert.NsaFirstRefIdeal.main_arg10))
      ∧ r.2.sem = fun _ => 0)

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v8) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_MobaIn_MobaInIdeal : Prop :=
  True

def algebraic_MobaInIdeal_MobaInRefIdeal [hMobaInIdeal : Cert.MobaInIdeal.Facts] [hMobaInRefIdeal : Cert.MobaInRefIdeal.Facts] : Prop :=
  ∀ (m : (ℓ : Loc Cert.MobaInIdeal.nD Cert.MobaInIdeal.τ Cert.MobaInIdeal.sig) → Buf (Elt Ideal) ℓ) (g : Dev Cert.MobaInIdeal.nD → PrngReg)
    (m' : (ℓ : Loc Cert.MobaInRefIdeal.nD Cert.MobaInRefIdeal.τ Cert.MobaInRefIdeal.sig) → Buf (Elt Ideal) ℓ) (g' : Dev Cert.MobaInRefIdeal.nD → PrngReg), Pre_MobaInIdeal m →
    (∀ c : Dev Cert.MobaInIdeal.nD,
      m' ((c.tc : Thread Cert.MobaInRefIdeal.nD Cert.MobaInRefIdeal.τ).loc Cert.MobaInRefIdeal.main_arg0) = m ((c.tc : Thread Cert.MobaInIdeal.nD Cert.MobaInIdeal.τ).loc Cert.MobaInIdeal.main_arg0)
      ∧ m' ((c.tc : Thread Cert.MobaInRefIdeal.nD Cert.MobaInRefIdeal.τ).loc Cert.MobaInRefIdeal.main_arg1) = m ((c.tc : Thread Cert.MobaInIdeal.nD Cert.MobaInIdeal.τ).loc Cert.MobaInIdeal.main_arg1)
      ∧ m' ((c.tc : Thread Cert.MobaInRefIdeal.nD Cert.MobaInRefIdeal.τ).loc Cert.MobaInRefIdeal.main_arg2) = m ((c.tc : Thread Cert.MobaInIdeal.nD Cert.MobaInIdeal.τ).loc Cert.MobaInIdeal.main_arg2)
      ∧ m' ((c.tc : Thread Cert.MobaInRefIdeal.nD Cert.MobaInRefIdeal.τ).loc Cert.MobaInRefIdeal.main_arg3) = m ((c.tc : Thread Cert.MobaInIdeal.nD Cert.MobaInIdeal.τ).loc Cert.MobaInIdeal.main_arg3)
      ∧ m' ((c.tc : Thread Cert.MobaInRefIdeal.nD Cert.MobaInRefIdeal.τ).loc Cert.MobaInRefIdeal.main_arg4) = m ((c.tc : Thread Cert.MobaInIdeal.nD Cert.MobaInIdeal.τ).loc Cert.MobaInIdeal.main_arg4)
      ∧ m' ((c.tc : Thread Cert.MobaInRefIdeal.nD Cert.MobaInRefIdeal.τ).loc Cert.MobaInRefIdeal.main_arg5) = m ((c.tc : Thread Cert.MobaInIdeal.nD Cert.MobaInIdeal.τ).loc Cert.MobaInIdeal.main_arg5)
      ∧ m' ((c.tc : Thread Cert.MobaInRefIdeal.nD Cert.MobaInRefIdeal.τ).loc Cert.MobaInRefIdeal.main_arg6) = m ((c.tc : Thread Cert.MobaInIdeal.nD Cert.MobaInIdeal.τ).loc Cert.MobaInIdeal.main_arg6)
      ∧ m' ((c.tc : Thread Cert.MobaInRefIdeal.nD Cert.MobaInRefIdeal.τ).loc Cert.MobaInRefIdeal.main_arg7) = m ((c.tc : Thread Cert.MobaInIdeal.nD Cert.MobaInIdeal.τ).loc Cert.MobaInIdeal.main_arg7)
      ∧ m' ((c.tc : Thread Cert.MobaInRefIdeal.nD Cert.MobaInRefIdeal.τ).loc Cert.MobaInRefIdeal.main_arg8) = m ((c.tc : Thread Cert.MobaInIdeal.nD Cert.MobaInIdeal.τ).loc Cert.MobaInIdeal.main_arg8)
      ∧ m' ((c.tc : Thread Cert.MobaInRefIdeal.nD Cert.MobaInRefIdeal.τ).loc Cert.MobaInRefIdeal.main_arg9) = m ((c.tc : Thread Cert.MobaInIdeal.nD Cert.MobaInIdeal.τ).loc Cert.MobaInIdeal.main_arg9)
      ∧ m' ((c.tc : Thread Cert.MobaInRefIdeal.nD Cert.MobaInRefIdeal.τ).loc Cert.MobaInRefIdeal.main_arg10) = m ((c.tc : Thread Cert.MobaInIdeal.nD Cert.MobaInIdeal.τ).loc Cert.MobaInIdeal.main_arg10)
      ∧ m' ((c.tc : Thread Cert.MobaInRefIdeal.nD Cert.MobaInRefIdeal.τ).loc Cert.MobaInRefIdeal.main_arg11) = m ((c.tc : Thread Cert.MobaInIdeal.nD Cert.MobaInIdeal.τ).loc Cert.MobaInIdeal.main_arg11)) →
    ∃ (v0 : (c : Dev Cert.MobaInIdeal.nD) → Buf (Elt Ideal) ((c.tc : Thread Cert.MobaInIdeal.nD Cert.MobaInIdeal.τ).loc Cert.MobaInIdeal.main_v7_0)) (v1 : (c : Dev Cert.MobaInIdeal.nD) → Buf (Elt Ideal) ((c.tc : Thread Cert.MobaInIdeal.nD Cert.MobaInIdeal.τ).loc Cert.MobaInIdeal.main_v7_1)) (v2 : (c : Dev Cert.MobaInIdeal.nD) → Buf (Elt Ideal) ((c.tc : Thread Cert.MobaInIdeal.nD Cert.MobaInIdeal.τ).loc Cert.MobaInIdeal.main_v7_2)) (v3 : (c : Dev Cert.MobaInIdeal.nD) → Buf (Elt Ideal) ((c.tc : Thread Cert.MobaInIdeal.nD Cert.MobaInIdeal.τ).loc Cert.MobaInIdeal.main_v7_3)) (v4 : (c : Dev Cert.MobaInIdeal.nD) → Buf (Elt Ideal) ((c.tc : Thread Cert.MobaInIdeal.nD Cert.MobaInIdeal.τ).loc Cert.MobaInIdeal.main_v7_4)) (v5 : (c : Dev Cert.MobaInIdeal.nD) → Buf (Elt Ideal) ((c.tc : Thread Cert.MobaInIdeal.nD Cert.MobaInIdeal.τ).loc Cert.MobaInIdeal.main_v7_5)),
      θ_run (Cert.MobaInIdeal.defs (F := Ideal)) (onTc (τ := Cert.MobaInIdeal.τ) (Cert.MobaInIdeal.main (F := Ideal))) ⟨m, fun _ => 0, g⟩ (fun r => ∀ c : Dev Cert.MobaInIdeal.nD,
          r.2.mem ((c.tc : Thread Cert.MobaInIdeal.nD Cert.MobaInIdeal.τ).loc Cert.MobaInIdeal.main_v7_0) = v0 c
          ∧ r.2.mem ((c.tc : Thread Cert.MobaInIdeal.nD Cert.MobaInIdeal.τ).loc Cert.MobaInIdeal.main_v7_1) = v1 c
          ∧ r.2.mem ((c.tc : Thread Cert.MobaInIdeal.nD Cert.MobaInIdeal.τ).loc Cert.MobaInIdeal.main_v7_2) = v2 c
          ∧ r.2.mem ((c.tc : Thread Cert.MobaInIdeal.nD Cert.MobaInIdeal.τ).loc Cert.MobaInIdeal.main_v7_3) = v3 c
          ∧ r.2.mem ((c.tc : Thread Cert.MobaInIdeal.nD Cert.MobaInIdeal.τ).loc Cert.MobaInIdeal.main_v7_4) = v4 c
          ∧ r.2.mem ((c.tc : Thread Cert.MobaInIdeal.nD Cert.MobaInIdeal.τ).loc Cert.MobaInIdeal.main_v7_5) = v5 c
          ∧ r.2.mem ((c.tc : Thread Cert.MobaInIdeal.nD Cert.MobaInIdeal.τ).loc Cert.MobaInIdeal.main_arg0) = m ((c.tc : Thread Cert.MobaInIdeal.nD Cert.MobaInIdeal.τ).loc Cert.MobaInIdeal.main_arg0)
          ∧ r.2.mem ((c.tc : Thread Cert.MobaInIdeal.nD Cert.MobaInIdeal.τ).loc Cert.MobaInIdeal.main_arg1) = m ((c.tc : Thread Cert.MobaInIdeal.nD Cert.MobaInIdeal.τ).loc Cert.MobaInIdeal.main_arg1)
          ∧ r.2.mem ((c.tc : Thread Cert.MobaInIdeal.nD Cert.MobaInIdeal.τ).loc Cert.MobaInIdeal.main_arg2) = m ((c.tc : Thread Cert.MobaInIdeal.nD Cert.MobaInIdeal.τ).loc Cert.MobaInIdeal.main_arg2)
          ∧ r.2.mem ((c.tc : Thread Cert.MobaInIdeal.nD Cert.MobaInIdeal.τ).loc Cert.MobaInIdeal.main_arg3) = m ((c.tc : Thread Cert.MobaInIdeal.nD Cert.MobaInIdeal.τ).loc Cert.MobaInIdeal.main_arg3)
          ∧ r.2.mem ((c.tc : Thread Cert.MobaInIdeal.nD Cert.MobaInIdeal.τ).loc Cert.MobaInIdeal.main_arg4) = m ((c.tc : Thread Cert.MobaInIdeal.nD Cert.MobaInIdeal.τ).loc Cert.MobaInIdeal.main_arg4)
          ∧ r.2.mem ((c.tc : Thread Cert.MobaInIdeal.nD Cert.MobaInIdeal.τ).loc Cert.MobaInIdeal.main_arg5) = m ((c.tc : Thread Cert.MobaInIdeal.nD Cert.MobaInIdeal.τ).loc Cert.MobaInIdeal.main_arg5)
          ∧ r.2.mem ((c.tc : Thread Cert.MobaInIdeal.nD Cert.MobaInIdeal.τ).loc Cert.MobaInIdeal.main_arg6) = m ((c.tc : Thread Cert.MobaInIdeal.nD Cert.MobaInIdeal.τ).loc Cert.MobaInIdeal.main_arg6)
          ∧ r.2.mem ((c.tc : Thread Cert.MobaInIdeal.nD Cert.MobaInIdeal.τ).loc Cert.MobaInIdeal.main_arg7) = m ((c.tc : Thread Cert.MobaInIdeal.nD Cert.MobaInIdeal.τ).loc Cert.MobaInIdeal.main_arg7)
          ∧ r.2.mem ((c.tc : Thread Cert.MobaInIdeal.nD Cert.MobaInIdeal.τ).loc Cert.MobaInIdeal.main_arg8) = m ((c.tc : Thread Cert.MobaInIdeal.nD Cert.MobaInIdeal.τ).loc Cert.MobaInIdeal.main_arg8)
          ∧ r.2.mem ((c.tc : Thread Cert.MobaInIdeal.nD Cert.MobaInIdeal.τ).loc Cert.MobaInIdeal.main_arg9) = m ((c.tc : Thread Cert.MobaInIdeal.nD Cert.MobaInIdeal.τ).loc Cert.MobaInIdeal.main_arg9)
          ∧ r.2.mem ((c.tc : Thread Cert.MobaInIdeal.nD Cert.MobaInIdeal.τ).loc Cert.MobaInIdeal.main_arg10) = m ((c.tc : Thread Cert.MobaInIdeal.nD Cert.MobaInIdeal.τ).loc Cert.MobaInIdeal.main_arg10)
          ∧ r.2.mem ((c.tc : Thread Cert.MobaInIdeal.nD Cert.MobaInIdeal.τ).loc Cert.MobaInIdeal.main_arg11) = m ((c.tc : Thread Cert.MobaInIdeal.nD Cert.MobaInIdeal.τ).loc Cert.MobaInIdeal.main_arg11))
      ∧ θ_run (Cert.MobaInRefIdeal.defs (F := Ideal)) (onTc (τ := Cert.MobaInRefIdeal.τ) (Cert.MobaInRefIdeal.main (F := Ideal))) ⟨m', fun _ => 0, g'⟩ (fun r => ∀ c : Dev Cert.MobaInRefIdeal.nD,
          r.2.mem ((c.tc : Thread Cert.MobaInRefIdeal.nD Cert.MobaInRefIdeal.τ).loc Cert.MobaInRefIdeal.main_v116) = v0 c
          ∧ r.2.mem ((c.tc : Thread Cert.MobaInRefIdeal.nD Cert.MobaInRefIdeal.τ).loc Cert.MobaInRefIdeal.main_v117) = v1 c
          ∧ r.2.mem ((c.tc : Thread Cert.MobaInRefIdeal.nD Cert.MobaInRefIdeal.τ).loc Cert.MobaInRefIdeal.main_v105) = v2 c
          ∧ r.2.mem ((c.tc : Thread Cert.MobaInRefIdeal.nD Cert.MobaInRefIdeal.τ).loc Cert.MobaInRefIdeal.main_v121) = v3 c
          ∧ r.2.mem ((c.tc : Thread Cert.MobaInRefIdeal.nD Cert.MobaInRefIdeal.τ).loc Cert.MobaInRefIdeal.main_v130) = v4 c
          ∧ r.2.mem ((c.tc : Thread Cert.MobaInRefIdeal.nD Cert.MobaInRefIdeal.τ).loc Cert.MobaInRefIdeal.main_v131) = v5 c
          ∧ r.2.mem ((c.tc : Thread Cert.MobaInRefIdeal.nD Cert.MobaInRefIdeal.τ).loc Cert.MobaInRefIdeal.main_arg0) = m' ((c.tc : Thread Cert.MobaInRefIdeal.nD Cert.MobaInRefIdeal.τ).loc Cert.MobaInRefIdeal.main_arg0)
          ∧ r.2.mem ((c.tc : Thread Cert.MobaInRefIdeal.nD Cert.MobaInRefIdeal.τ).loc Cert.MobaInRefIdeal.main_arg1) = m' ((c.tc : Thread Cert.MobaInRefIdeal.nD Cert.MobaInRefIdeal.τ).loc Cert.MobaInRefIdeal.main_arg1)
          ∧ r.2.mem ((c.tc : Thread Cert.MobaInRefIdeal.nD Cert.MobaInRefIdeal.τ).loc Cert.MobaInRefIdeal.main_arg2) = m' ((c.tc : Thread Cert.MobaInRefIdeal.nD Cert.MobaInRefIdeal.τ).loc Cert.MobaInRefIdeal.main_arg2)
          ∧ r.2.mem ((c.tc : Thread Cert.MobaInRefIdeal.nD Cert.MobaInRefIdeal.τ).loc Cert.MobaInRefIdeal.main_arg3) = m' ((c.tc : Thread Cert.MobaInRefIdeal.nD Cert.MobaInRefIdeal.τ).loc Cert.MobaInRefIdeal.main_arg3)
          ∧ r.2.mem ((c.tc : Thread Cert.MobaInRefIdeal.nD Cert.MobaInRefIdeal.τ).loc Cert.MobaInRefIdeal.main_arg4) = m' ((c.tc : Thread Cert.MobaInRefIdeal.nD Cert.MobaInRefIdeal.τ).loc Cert.MobaInRefIdeal.main_arg4)
          ∧ r.2.mem ((c.tc : Thread Cert.MobaInRefIdeal.nD Cert.MobaInRefIdeal.τ).loc Cert.MobaInRefIdeal.main_arg5) = m' ((c.tc : Thread Cert.MobaInRefIdeal.nD Cert.MobaInRefIdeal.τ).loc Cert.MobaInRefIdeal.main_arg5)
          ∧ r.2.mem ((c.tc : Thread Cert.MobaInRefIdeal.nD Cert.MobaInRefIdeal.τ).loc Cert.MobaInRefIdeal.main_arg6) = m' ((c.tc : Thread Cert.MobaInRefIdeal.nD Cert.MobaInRefIdeal.τ).loc Cert.MobaInRefIdeal.main_arg6)
          ∧ r.2.mem ((c.tc : Thread Cert.MobaInRefIdeal.nD Cert.MobaInRefIdeal.τ).loc Cert.MobaInRefIdeal.main_arg7) = m' ((c.tc : Thread Cert.MobaInRefIdeal.nD Cert.MobaInRefIdeal.τ).loc Cert.MobaInRefIdeal.main_arg7)
          ∧ r.2.mem ((c.tc : Thread Cert.MobaInRefIdeal.nD Cert.MobaInRefIdeal.τ).loc Cert.MobaInRefIdeal.main_arg8) = m' ((c.tc : Thread Cert.MobaInRefIdeal.nD Cert.MobaInRefIdeal.τ).loc Cert.MobaInRefIdeal.main_arg8)
          ∧ r.2.mem ((c.tc : Thread Cert.MobaInRefIdeal.nD Cert.MobaInRefIdeal.τ).loc Cert.MobaInRefIdeal.main_arg9) = m' ((c.tc : Thread Cert.MobaInRefIdeal.nD Cert.MobaInRefIdeal.τ).loc Cert.MobaInRefIdeal.main_arg9)
          ∧ r.2.mem ((c.tc : Thread Cert.MobaInRefIdeal.nD Cert.MobaInRefIdeal.τ).loc Cert.MobaInRefIdeal.main_arg10) = m' ((c.tc : Thread Cert.MobaInRefIdeal.nD Cert.MobaInRefIdeal.τ).loc Cert.MobaInRefIdeal.main_arg10)
          ∧ r.2.mem ((c.tc : Thread Cert.MobaInRefIdeal.nD Cert.MobaInRefIdeal.τ).loc Cert.MobaInRefIdeal.main_arg11) = m' ((c.tc : Thread Cert.MobaInRefIdeal.nD Cert.MobaInRefIdeal.τ).loc Cert.MobaInRefIdeal.main_arg11))

def preserves_NsaIn_NsaInIdeal : Prop :=
  True

def algebraic_NsaInIdeal_NsaInRefIdeal [hNsaInIdeal : Cert.NsaInIdeal.Facts] [hNsaInRefIdeal : Cert.NsaInRefIdeal.Facts] : Prop :=
  ∀ (m : (ℓ : Loc Cert.NsaInIdeal.nD Cert.NsaInIdeal.τ Cert.NsaInIdeal.sig) → Buf (Elt Ideal) ℓ) (g : Dev Cert.NsaInIdeal.nD → PrngReg)
    (m' : (ℓ : Loc Cert.NsaInRefIdeal.nD Cert.NsaInRefIdeal.τ Cert.NsaInRefIdeal.sig) → Buf (Elt Ideal) ℓ) (g' : Dev Cert.NsaInRefIdeal.nD → PrngReg), Pre_NsaInIdeal m →
    (∀ c : Dev Cert.NsaInIdeal.nD,
      m' ((c.tc : Thread Cert.NsaInRefIdeal.nD Cert.NsaInRefIdeal.τ).loc Cert.NsaInRefIdeal.main_arg0) = m ((c.tc : Thread Cert.NsaInIdeal.nD Cert.NsaInIdeal.τ).loc Cert.NsaInIdeal.main_arg0)
      ∧ m' ((c.tc : Thread Cert.NsaInRefIdeal.nD Cert.NsaInRefIdeal.τ).loc Cert.NsaInRefIdeal.main_arg1) = m ((c.tc : Thread Cert.NsaInIdeal.nD Cert.NsaInIdeal.τ).loc Cert.NsaInIdeal.main_arg1)
      ∧ m' ((c.tc : Thread Cert.NsaInRefIdeal.nD Cert.NsaInRefIdeal.τ).loc Cert.NsaInRefIdeal.main_arg2) = m ((c.tc : Thread Cert.NsaInIdeal.nD Cert.NsaInIdeal.τ).loc Cert.NsaInIdeal.main_arg2)
      ∧ m' ((c.tc : Thread Cert.NsaInRefIdeal.nD Cert.NsaInRefIdeal.τ).loc Cert.NsaInRefIdeal.main_arg3) = m ((c.tc : Thread Cert.NsaInIdeal.nD Cert.NsaInIdeal.τ).loc Cert.NsaInIdeal.main_arg3)
      ∧ m' ((c.tc : Thread Cert.NsaInRefIdeal.nD Cert.NsaInRefIdeal.τ).loc Cert.NsaInRefIdeal.main_arg4) = m ((c.tc : Thread Cert.NsaInIdeal.nD Cert.NsaInIdeal.τ).loc Cert.NsaInIdeal.main_arg4)
      ∧ m' ((c.tc : Thread Cert.NsaInRefIdeal.nD Cert.NsaInRefIdeal.τ).loc Cert.NsaInRefIdeal.main_arg5) = m ((c.tc : Thread Cert.NsaInIdeal.nD Cert.NsaInIdeal.τ).loc Cert.NsaInIdeal.main_arg5)
      ∧ m' ((c.tc : Thread Cert.NsaInRefIdeal.nD Cert.NsaInRefIdeal.τ).loc Cert.NsaInRefIdeal.main_arg6) = m ((c.tc : Thread Cert.NsaInIdeal.nD Cert.NsaInIdeal.τ).loc Cert.NsaInIdeal.main_arg6)
      ∧ m' ((c.tc : Thread Cert.NsaInRefIdeal.nD Cert.NsaInRefIdeal.τ).loc Cert.NsaInRefIdeal.main_arg7) = m ((c.tc : Thread Cert.NsaInIdeal.nD Cert.NsaInIdeal.τ).loc Cert.NsaInIdeal.main_arg7)
      ∧ m' ((c.tc : Thread Cert.NsaInRefIdeal.nD Cert.NsaInRefIdeal.τ).loc Cert.NsaInRefIdeal.main_arg8) = m ((c.tc : Thread Cert.NsaInIdeal.nD Cert.NsaInIdeal.τ).loc Cert.NsaInIdeal.main_arg8)
      ∧ m' ((c.tc : Thread Cert.NsaInRefIdeal.nD Cert.NsaInRefIdeal.τ).loc Cert.NsaInRefIdeal.main_arg9) = m ((c.tc : Thread Cert.NsaInIdeal.nD Cert.NsaInIdeal.τ).loc Cert.NsaInIdeal.main_arg9)
      ∧ m' ((c.tc : Thread Cert.NsaInRefIdeal.nD Cert.NsaInRefIdeal.τ).loc Cert.NsaInRefIdeal.main_arg10) = m ((c.tc : Thread Cert.NsaInIdeal.nD Cert.NsaInIdeal.τ).loc Cert.NsaInIdeal.main_arg10)
      ∧ m' ((c.tc : Thread Cert.NsaInRefIdeal.nD Cert.NsaInRefIdeal.τ).loc Cert.NsaInRefIdeal.main_arg11) = m ((c.tc : Thread Cert.NsaInIdeal.nD Cert.NsaInIdeal.τ).loc Cert.NsaInIdeal.main_arg11)
      ∧ m' ((c.tc : Thread Cert.NsaInRefIdeal.nD Cert.NsaInRefIdeal.τ).loc Cert.NsaInRefIdeal.main_arg12) = m ((c.tc : Thread Cert.NsaInIdeal.nD Cert.NsaInIdeal.τ).loc Cert.NsaInIdeal.main_arg12)
      ∧ m' ((c.tc : Thread Cert.NsaInRefIdeal.nD Cert.NsaInRefIdeal.τ).loc Cert.NsaInRefIdeal.main_arg13) = m ((c.tc : Thread Cert.NsaInIdeal.nD Cert.NsaInIdeal.τ).loc Cert.NsaInIdeal.main_arg13)) →
    ∃ (v0 : (c : Dev Cert.NsaInIdeal.nD) → Buf (Elt Ideal) ((c.tc : Thread Cert.NsaInIdeal.nD Cert.NsaInIdeal.τ).loc Cert.NsaInIdeal.main_v9_0)) (v1 : (c : Dev Cert.NsaInIdeal.nD) → Buf (Elt Ideal) ((c.tc : Thread Cert.NsaInIdeal.nD Cert.NsaInIdeal.τ).loc Cert.NsaInIdeal.main_v9_1)) (v2 : (c : Dev Cert.NsaInIdeal.nD) → Buf (Elt Ideal) ((c.tc : Thread Cert.NsaInIdeal.nD Cert.NsaInIdeal.τ).loc Cert.NsaInIdeal.main_v9_2)) (v3 : (c : Dev Cert.NsaInIdeal.nD) → Buf (Elt Ideal) ((c.tc : Thread Cert.NsaInIdeal.nD Cert.NsaInIdeal.τ).loc Cert.NsaInIdeal.main_v9_3)) (v4 : (c : Dev Cert.NsaInIdeal.nD) → Buf (Elt Ideal) ((c.tc : Thread Cert.NsaInIdeal.nD Cert.NsaInIdeal.τ).loc Cert.NsaInIdeal.main_v9_4)) (v5 : (c : Dev Cert.NsaInIdeal.nD) → Buf (Elt Ideal) ((c.tc : Thread Cert.NsaInIdeal.nD Cert.NsaInIdeal.τ).loc Cert.NsaInIdeal.main_v9_5)) (v6 : (c : Dev Cert.NsaInIdeal.nD) → Buf (Elt Ideal) ((c.tc : Thread Cert.NsaInIdeal.nD Cert.NsaInIdeal.τ).loc Cert.NsaInIdeal.main_v9_6)) (v7 : (c : Dev Cert.NsaInIdeal.nD) → Buf (Elt Ideal) ((c.tc : Thread Cert.NsaInIdeal.nD Cert.NsaInIdeal.τ).loc Cert.NsaInIdeal.main_v9_7)) (v8 : (c : Dev Cert.NsaInIdeal.nD) → Buf (Elt Ideal) ((c.tc : Thread Cert.NsaInIdeal.nD Cert.NsaInIdeal.τ).loc Cert.NsaInIdeal.main_v9_8)) (v9 : (c : Dev Cert.NsaInIdeal.nD) → Buf (Elt Ideal) ((c.tc : Thread Cert.NsaInIdeal.nD Cert.NsaInIdeal.τ).loc Cert.NsaInIdeal.main_v9_9)),
      θ_run (Cert.NsaInIdeal.defs (F := Ideal)) (onTc (τ := Cert.NsaInIdeal.τ) (Cert.NsaInIdeal.main (F := Ideal))) ⟨m, fun _ => 0, g⟩ (fun r => ∀ c : Dev Cert.NsaInIdeal.nD,
          r.2.mem ((c.tc : Thread Cert.NsaInIdeal.nD Cert.NsaInIdeal.τ).loc Cert.NsaInIdeal.main_v9_0) = v0 c
          ∧ r.2.mem ((c.tc : Thread Cert.NsaInIdeal.nD Cert.NsaInIdeal.τ).loc Cert.NsaInIdeal.main_v9_1) = v1 c
          ∧ r.2.mem ((c.tc : Thread Cert.NsaInIdeal.nD Cert.NsaInIdeal.τ).loc Cert.NsaInIdeal.main_v9_2) = v2 c
          ∧ r.2.mem ((c.tc : Thread Cert.NsaInIdeal.nD Cert.NsaInIdeal.τ).loc Cert.NsaInIdeal.main_v9_3) = v3 c
          ∧ r.2.mem ((c.tc : Thread Cert.NsaInIdeal.nD Cert.NsaInIdeal.τ).loc Cert.NsaInIdeal.main_v9_4) = v4 c
          ∧ r.2.mem ((c.tc : Thread Cert.NsaInIdeal.nD Cert.NsaInIdeal.τ).loc Cert.NsaInIdeal.main_v9_5) = v5 c
          ∧ r.2.mem ((c.tc : Thread Cert.NsaInIdeal.nD Cert.NsaInIdeal.τ).loc Cert.NsaInIdeal.main_v9_6) = v6 c
          ∧ r.2.mem ((c.tc : Thread Cert.NsaInIdeal.nD Cert.NsaInIdeal.τ).loc Cert.NsaInIdeal.main_v9_7) = v7 c
          ∧ r.2.mem ((c.tc : Thread Cert.NsaInIdeal.nD Cert.NsaInIdeal.τ).loc Cert.NsaInIdeal.main_v9_8) = v8 c
          ∧ r.2.mem ((c.tc : Thread Cert.NsaInIdeal.nD Cert.NsaInIdeal.τ).loc Cert.NsaInIdeal.main_v9_9) = v9 c
          ∧ r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
          ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1)
          ∧ r.2.mem ((c.tc : Thread Cert.NsaInIdeal.nD Cert.NsaInIdeal.τ).loc Cert.NsaInIdeal.main_arg2) = m ((c.tc : Thread Cert.NsaInIdeal.nD Cert.NsaInIdeal.τ).loc Cert.NsaInIdeal.main_arg2)
          ∧ r.2.mem ((c.tc : Thread Cert.NsaInIdeal.nD Cert.NsaInIdeal.τ).loc Cert.NsaInIdeal.main_arg3) = m ((c.tc : Thread Cert.NsaInIdeal.nD Cert.NsaInIdeal.τ).loc Cert.NsaInIdeal.main_arg3)
          ∧ r.2.mem ((c.tc : Thread Cert.NsaInIdeal.nD Cert.NsaInIdeal.τ).loc Cert.NsaInIdeal.main_arg4) = m ((c.tc : Thread Cert.NsaInIdeal.nD Cert.NsaInIdeal.τ).loc Cert.NsaInIdeal.main_arg4)
          ∧ r.2.mem ((c.tc : Thread Cert.NsaInIdeal.nD Cert.NsaInIdeal.τ).loc Cert.NsaInIdeal.main_arg5) = m ((c.tc : Thread Cert.NsaInIdeal.nD Cert.NsaInIdeal.τ).loc Cert.NsaInIdeal.main_arg5)
          ∧ r.2.mem ((c.tc : Thread Cert.NsaInIdeal.nD Cert.NsaInIdeal.τ).loc Cert.NsaInIdeal.main_arg6) = m ((c.tc : Thread Cert.NsaInIdeal.nD Cert.NsaInIdeal.τ).loc Cert.NsaInIdeal.main_arg6)
          ∧ r.2.mem ((c.tc : Thread Cert.NsaInIdeal.nD Cert.NsaInIdeal.τ).loc Cert.NsaInIdeal.main_arg7) = m ((c.tc : Thread Cert.NsaInIdeal.nD Cert.NsaInIdeal.τ).loc Cert.NsaInIdeal.main_arg7)
          ∧ r.2.mem ((c.tc : Thread Cert.NsaInIdeal.nD Cert.NsaInIdeal.τ).loc Cert.NsaInIdeal.main_arg8) = m ((c.tc : Thread Cert.NsaInIdeal.nD Cert.NsaInIdeal.τ).loc Cert.NsaInIdeal.main_arg8)
          ∧ r.2.mem ((c.tc : Thread Cert.NsaInIdeal.nD Cert.NsaInIdeal.τ).loc Cert.NsaInIdeal.main_arg9) = m ((c.tc : Thread Cert.NsaInIdeal.nD Cert.NsaInIdeal.τ).loc Cert.NsaInIdeal.main_arg9)
          ∧ r.2.mem ((c.tc : Thread Cert.NsaInIdeal.nD Cert.NsaInIdeal.τ).loc Cert.NsaInIdeal.main_arg10) = m ((c.tc : Thread Cert.NsaInIdeal.nD Cert.NsaInIdeal.τ).loc Cert.NsaInIdeal.main_arg10)
          ∧ r.2.mem ((c.tc : Thread Cert.NsaInIdeal.nD Cert.NsaInIdeal.τ).loc Cert.NsaInIdeal.main_arg11) = m ((c.tc : Thread Cert.NsaInIdeal.nD Cert.NsaInIdeal.τ).loc Cert.NsaInIdeal.main_arg11)
          ∧ r.2.mem ((c.tc : Thread Cert.NsaInIdeal.nD Cert.NsaInIdeal.τ).loc Cert.NsaInIdeal.main_arg12) = m ((c.tc : Thread Cert.NsaInIdeal.nD Cert.NsaInIdeal.τ).loc Cert.NsaInIdeal.main_arg12)
          ∧ r.2.mem ((c.tc : Thread Cert.NsaInIdeal.nD Cert.NsaInIdeal.τ).loc Cert.NsaInIdeal.main_arg13) = m ((c.tc : Thread Cert.NsaInIdeal.nD Cert.NsaInIdeal.τ).loc Cert.NsaInIdeal.main_arg13))
      ∧ θ_run (Cert.NsaInRefIdeal.defs (F := Ideal)) (onTc (τ := Cert.NsaInRefIdeal.τ) (Cert.NsaInRefIdeal.main (F := Ideal))) ⟨m', fun _ => 0, g'⟩ (fun r => ∀ c : Dev Cert.NsaInRefIdeal.nD,
          r.2.mem ((c.tc : Thread Cert.NsaInRefIdeal.nD Cert.NsaInRefIdeal.τ).loc Cert.NsaInRefIdeal.main_v162) = v0 c
          ∧ r.2.mem ((c.tc : Thread Cert.NsaInRefIdeal.nD Cert.NsaInRefIdeal.τ).loc Cert.NsaInRefIdeal.main_v165) = v1 c
          ∧ r.2.mem ((c.tc : Thread Cert.NsaInRefIdeal.nD Cert.NsaInRefIdeal.τ).loc Cert.NsaInRefIdeal.main_v168) = v2 c
          ∧ r.2.mem ((c.tc : Thread Cert.NsaInRefIdeal.nD Cert.NsaInRefIdeal.τ).loc Cert.NsaInRefIdeal.main_v171) = v3 c
          ∧ r.2.mem ((c.tc : Thread Cert.NsaInRefIdeal.nD Cert.NsaInRefIdeal.τ).loc Cert.NsaInRefIdeal.main_v174) = v4 c
          ∧ r.2.mem ((c.tc : Thread Cert.NsaInRefIdeal.nD Cert.NsaInRefIdeal.τ).loc Cert.NsaInRefIdeal.main_v178) = v5 c
          ∧ r.2.mem ((c.tc : Thread Cert.NsaInRefIdeal.nD Cert.NsaInRefIdeal.τ).loc Cert.NsaInRefIdeal.main_v182) = v6 c
          ∧ r.2.mem ((c.tc : Thread Cert.NsaInRefIdeal.nD Cert.NsaInRefIdeal.τ).loc Cert.NsaInRefIdeal.main_v184) = v7 c
          ∧ r.2.mem ((c.tc : Thread Cert.NsaInRefIdeal.nD Cert.NsaInRefIdeal.τ).loc Cert.NsaInRefIdeal.main_v193) = v8 c
          ∧ r.2.mem ((c.tc : Thread Cert.NsaInRefIdeal.nD Cert.NsaInRefIdeal.τ).loc Cert.NsaInRefIdeal.main_v194) = v9 c
          ∧ r.2.mem ((c.tc : Thread Cert.NsaInRefIdeal.nD Cert.NsaInRefIdeal.τ).loc Cert.NsaInRefIdeal.main_arg0) = m' ((c.tc : Thread Cert.NsaInRefIdeal.nD Cert.NsaInRefIdeal.τ).loc Cert.NsaInRefIdeal.main_arg0)
          ∧ r.2.mem ((c.tc : Thread Cert.NsaInRefIdeal.nD Cert.NsaInRefIdeal.τ).loc Cert.NsaInRefIdeal.main_arg1) = m' ((c.tc : Thread Cert.NsaInRefIdeal.nD Cert.NsaInRefIdeal.τ).loc Cert.NsaInRefIdeal.main_arg1)
          ∧ r.2.mem ((c.tc : Thread Cert.NsaInRefIdeal.nD Cert.NsaInRefIdeal.τ).loc Cert.NsaInRefIdeal.main_arg2) = m' ((c.tc : Thread Cert.NsaInRefIdeal.nD Cert.NsaInRefIdeal.τ).loc Cert.NsaInRefIdeal.main_arg2)
          ∧ r.2.mem ((c.tc : Thread Cert.NsaInRefIdeal.nD Cert.NsaInRefIdeal.τ).loc Cert.NsaInRefIdeal.main_arg3) = m' ((c.tc : Thread Cert.NsaInRefIdeal.nD Cert.NsaInRefIdeal.τ).loc Cert.NsaInRefIdeal.main_arg3)
          ∧ r.2.mem ((c.tc : Thread Cert.NsaInRefIdeal.nD Cert.NsaInRefIdeal.τ).loc Cert.NsaInRefIdeal.main_arg4) = m' ((c.tc : Thread Cert.NsaInRefIdeal.nD Cert.NsaInRefIdeal.τ).loc Cert.NsaInRefIdeal.main_arg4)
          ∧ r.2.mem ((c.tc : Thread Cert.NsaInRefIdeal.nD Cert.NsaInRefIdeal.τ).loc Cert.NsaInRefIdeal.main_arg5) = m' ((c.tc : Thread Cert.NsaInRefIdeal.nD Cert.NsaInRefIdeal.τ).loc Cert.NsaInRefIdeal.main_arg5)
          ∧ r.2.mem ((c.tc : Thread Cert.NsaInRefIdeal.nD Cert.NsaInRefIdeal.τ).loc Cert.NsaInRefIdeal.main_arg6) = m' ((c.tc : Thread Cert.NsaInRefIdeal.nD Cert.NsaInRefIdeal.τ).loc Cert.NsaInRefIdeal.main_arg6)
          ∧ r.2.mem ((c.tc : Thread Cert.NsaInRefIdeal.nD Cert.NsaInRefIdeal.τ).loc Cert.NsaInRefIdeal.main_arg7) = m' ((c.tc : Thread Cert.NsaInRefIdeal.nD Cert.NsaInRefIdeal.τ).loc Cert.NsaInRefIdeal.main_arg7)
          ∧ r.2.mem ((c.tc : Thread Cert.NsaInRefIdeal.nD Cert.NsaInRefIdeal.τ).loc Cert.NsaInRefIdeal.main_arg8) = m' ((c.tc : Thread Cert.NsaInRefIdeal.nD Cert.NsaInRefIdeal.τ).loc Cert.NsaInRefIdeal.main_arg8)
          ∧ r.2.mem ((c.tc : Thread Cert.NsaInRefIdeal.nD Cert.NsaInRefIdeal.τ).loc Cert.NsaInRefIdeal.main_arg9) = m' ((c.tc : Thread Cert.NsaInRefIdeal.nD Cert.NsaInRefIdeal.τ).loc Cert.NsaInRefIdeal.main_arg9)
          ∧ r.2.mem ((c.tc : Thread Cert.NsaInRefIdeal.nD Cert.NsaInRefIdeal.τ).loc Cert.NsaInRefIdeal.main_arg10) = m' ((c.tc : Thread Cert.NsaInRefIdeal.nD Cert.NsaInRefIdeal.τ).loc Cert.NsaInRefIdeal.main_arg10)
          ∧ r.2.mem ((c.tc : Thread Cert.NsaInRefIdeal.nD Cert.NsaInRefIdeal.τ).loc Cert.NsaInRefIdeal.main_arg11) = m' ((c.tc : Thread Cert.NsaInRefIdeal.nD Cert.NsaInRefIdeal.τ).loc Cert.NsaInRefIdeal.main_arg11)
          ∧ r.2.mem ((c.tc : Thread Cert.NsaInRefIdeal.nD Cert.NsaInRefIdeal.τ).loc Cert.NsaInRefIdeal.main_arg12) = m' ((c.tc : Thread Cert.NsaInRefIdeal.nD Cert.NsaInRefIdeal.τ).loc Cert.NsaInRefIdeal.main_arg12)
          ∧ r.2.mem ((c.tc : Thread Cert.NsaInRefIdeal.nD Cert.NsaInRefIdeal.τ).loc Cert.NsaInRefIdeal.main_arg13) = m' ((c.tc : Thread Cert.NsaInRefIdeal.nD Cert.NsaInRefIdeal.τ).loc Cert.NsaInRefIdeal.main_arg13))

def preserves_NsaFirst_NsaFirstIdeal : Prop :=
  True

def algebraic_NsaFirstIdeal_NsaFirstRefIdeal [hNsaFirstIdeal : Cert.NsaFirstIdeal.Facts] [hNsaFirstRefIdeal : Cert.NsaFirstRefIdeal.Facts] : Prop :=
  ∀ (m : (ℓ : Loc Cert.NsaFirstIdeal.nD Cert.NsaFirstIdeal.τ Cert.NsaFirstIdeal.sig) → Buf (Elt Ideal) ℓ) (g : Dev Cert.NsaFirstIdeal.nD → PrngReg)
    (m' : (ℓ : Loc Cert.NsaFirstRefIdeal.nD Cert.NsaFirstRefIdeal.τ Cert.NsaFirstRefIdeal.sig) → Buf (Elt Ideal) ℓ) (g' : Dev Cert.NsaFirstRefIdeal.nD → PrngReg), Pre_NsaFirstIdeal m →
    (∀ c : Dev Cert.NsaFirstIdeal.nD,
      m' ((c.tc : Thread Cert.NsaFirstRefIdeal.nD Cert.NsaFirstRefIdeal.τ).loc Cert.NsaFirstRefIdeal.main_arg0) = m ((c.tc : Thread Cert.NsaFirstIdeal.nD Cert.NsaFirstIdeal.τ).loc Cert.NsaFirstIdeal.main_arg0)
      ∧ m' ((c.tc : Thread Cert.NsaFirstRefIdeal.nD Cert.NsaFirstRefIdeal.τ).loc Cert.NsaFirstRefIdeal.main_arg1) = m ((c.tc : Thread Cert.NsaFirstIdeal.nD Cert.NsaFirstIdeal.τ).loc Cert.NsaFirstIdeal.main_arg1)
      ∧ m' ((c.tc : Thread Cert.NsaFirstRefIdeal.nD Cert.NsaFirstRefIdeal.τ).loc Cert.NsaFirstRefIdeal.main_arg2) = m ((c.tc : Thread Cert.NsaFirstIdeal.nD Cert.NsaFirstIdeal.τ).loc Cert.NsaFirstIdeal.main_arg2)
      ∧ m' ((c.tc : Thread Cert.NsaFirstRefIdeal.nD Cert.NsaFirstRefIdeal.τ).loc Cert.NsaFirstRefIdeal.main_arg3) = m ((c.tc : Thread Cert.NsaFirstIdeal.nD Cert.NsaFirstIdeal.τ).loc Cert.NsaFirstIdeal.main_arg3)
      ∧ m' ((c.tc : Thread Cert.NsaFirstRefIdeal.nD Cert.NsaFirstRefIdeal.τ).loc Cert.NsaFirstRefIdeal.main_arg4) = m ((c.tc : Thread Cert.NsaFirstIdeal.nD Cert.NsaFirstIdeal.τ).loc Cert.NsaFirstIdeal.main_arg4)
      ∧ m' ((c.tc : Thread Cert.NsaFirstRefIdeal.nD Cert.NsaFirstRefIdeal.τ).loc Cert.NsaFirstRefIdeal.main_arg5) = m ((c.tc : Thread Cert.NsaFirstIdeal.nD Cert.NsaFirstIdeal.τ).loc Cert.NsaFirstIdeal.main_arg5)
      ∧ m' ((c.tc : Thread Cert.NsaFirstRefIdeal.nD Cert.NsaFirstRefIdeal.τ).loc Cert.NsaFirstRefIdeal.main_arg6) = m ((c.tc : Thread Cert.NsaFirstIdeal.nD Cert.NsaFirstIdeal.τ).loc Cert.NsaFirstIdeal.main_arg6)
      ∧ m' ((c.tc : Thread Cert.NsaFirstRefIdeal.nD Cert.NsaFirstRefIdeal.τ).loc Cert.NsaFirstRefIdeal.main_arg7) = m ((c.tc : Thread Cert.NsaFirstIdeal.nD Cert.NsaFirstIdeal.τ).loc Cert.NsaFirstIdeal.main_arg7)
      ∧ m' ((c.tc : Thread Cert.NsaFirstRefIdeal.nD Cert.NsaFirstRefIdeal.τ).loc Cert.NsaFirstRefIdeal.main_arg8) = m ((c.tc : Thread Cert.NsaFirstIdeal.nD Cert.NsaFirstIdeal.τ).loc Cert.NsaFirstIdeal.main_arg8)
      ∧ m' ((c.tc : Thread Cert.NsaFirstRefIdeal.nD Cert.NsaFirstRefIdeal.τ).loc Cert.NsaFirstRefIdeal.main_arg9) = m ((c.tc : Thread Cert.NsaFirstIdeal.nD Cert.NsaFirstIdeal.τ).loc Cert.NsaFirstIdeal.main_arg9)
      ∧ m' ((c.tc : Thread Cert.NsaFirstRefIdeal.nD Cert.NsaFirstRefIdeal.τ).loc Cert.NsaFirstRefIdeal.main_arg10) = m ((c.tc : Thread Cert.NsaFirstIdeal.nD Cert.NsaFirstIdeal.τ).loc Cert.NsaFirstIdeal.main_arg10)) →
    ∃ (v0 : (c : Dev Cert.NsaFirstIdeal.nD) → Buf (Elt Ideal) ((c.tc : Thread Cert.NsaFirstIdeal.nD Cert.NsaFirstIdeal.τ).loc Cert.NsaFirstIdeal.main_v7_0)) (v1 : (c : Dev Cert.NsaFirstIdeal.nD) → Buf (Elt Ideal) ((c.tc : Thread Cert.NsaFirstIdeal.nD Cert.NsaFirstIdeal.τ).loc Cert.NsaFirstIdeal.main_v7_1)) (v2 : (c : Dev Cert.NsaFirstIdeal.nD) → Buf (Elt Ideal) ((c.tc : Thread Cert.NsaFirstIdeal.nD Cert.NsaFirstIdeal.τ).loc Cert.NsaFirstIdeal.main_v7_2)) (v3 : (c : Dev Cert.NsaFirstIdeal.nD) → Buf (Elt Ideal) ((c.tc : Thread Cert.NsaFirstIdeal.nD Cert.NsaFirstIdeal.τ).loc Cert.NsaFirstIdeal.main_v7_3)) (v4 : (c : Dev Cert.NsaFirstIdeal.nD) → Buf (Elt Ideal) ((c.tc : Thread Cert.NsaFirstIdeal.nD Cert.NsaFirstIdeal.τ).loc Cert.NsaFirstIdeal.main_v7_4)) (v5 : (c : Dev Cert.NsaFirstIdeal.nD) → Buf (Elt Ideal) ((c.tc : Thread Cert.NsaFirstIdeal.nD Cert.NsaFirstIdeal.τ).loc Cert.NsaFirstIdeal.main_v7_5)) (v6 : (c : Dev Cert.NsaFirstIdeal.nD) → Buf (Elt Ideal) ((c.tc : Thread Cert.NsaFirstIdeal.nD Cert.NsaFirstIdeal.τ).loc Cert.NsaFirstIdeal.main_v7_6)) (v7 : (c : Dev Cert.NsaFirstIdeal.nD) → Buf (Elt Ideal) ((c.tc : Thread Cert.NsaFirstIdeal.nD Cert.NsaFirstIdeal.τ).loc Cert.NsaFirstIdeal.main_v7_7)) (v8 : (c : Dev Cert.NsaFirstIdeal.nD) → Buf (Elt Ideal) ((c.tc : Thread Cert.NsaFirstIdeal.nD Cert.NsaFirstIdeal.τ).loc Cert.NsaFirstIdeal.main_v7_8)) (v9 : (c : Dev Cert.NsaFirstIdeal.nD) → Buf (Elt Ideal) ((c.tc : Thread Cert.NsaFirstIdeal.nD Cert.NsaFirstIdeal.τ).loc Cert.NsaFirstIdeal.main_v7_9)),
      θ_run (Cert.NsaFirstIdeal.defs (F := Ideal)) (onTc (τ := Cert.NsaFirstIdeal.τ) (Cert.NsaFirstIdeal.main (F := Ideal))) ⟨m, fun _ => 0, g⟩ (fun r => ∀ c : Dev Cert.NsaFirstIdeal.nD,
          r.2.mem ((c.tc : Thread Cert.NsaFirstIdeal.nD Cert.NsaFirstIdeal.τ).loc Cert.NsaFirstIdeal.main_v7_0) = v0 c
          ∧ r.2.mem ((c.tc : Thread Cert.NsaFirstIdeal.nD Cert.NsaFirstIdeal.τ).loc Cert.NsaFirstIdeal.main_v7_1) = v1 c
          ∧ r.2.mem ((c.tc : Thread Cert.NsaFirstIdeal.nD Cert.NsaFirstIdeal.τ).loc Cert.NsaFirstIdeal.main_v7_2) = v2 c
          ∧ r.2.mem ((c.tc : Thread Cert.NsaFirstIdeal.nD Cert.NsaFirstIdeal.τ).loc Cert.NsaFirstIdeal.main_v7_3) = v3 c
          ∧ r.2.mem ((c.tc : Thread Cert.NsaFirstIdeal.nD Cert.NsaFirstIdeal.τ).loc Cert.NsaFirstIdeal.main_v7_4) = v4 c
          ∧ r.2.mem ((c.tc : Thread Cert.NsaFirstIdeal.nD Cert.NsaFirstIdeal.τ).loc Cert.NsaFirstIdeal.main_v7_5) = v5 c
          ∧ r.2.mem ((c.tc : Thread Cert.NsaFirstIdeal.nD Cert.NsaFirstIdeal.τ).loc Cert.NsaFirstIdeal.main_v7_6) = v6 c
          ∧ r.2.mem ((c.tc : Thread Cert.NsaFirstIdeal.nD Cert.NsaFirstIdeal.τ).loc Cert.NsaFirstIdeal.main_v7_7) = v7 c
          ∧ r.2.mem ((c.tc : Thread Cert.NsaFirstIdeal.nD Cert.NsaFirstIdeal.τ).loc Cert.NsaFirstIdeal.main_v7_8) = v8 c
          ∧ r.2.mem ((c.tc : Thread Cert.NsaFirstIdeal.nD Cert.NsaFirstIdeal.τ).loc Cert.NsaFirstIdeal.main_v7_9) = v9 c
          ∧ r.2.mem ((c.tc : Thread Cert.NsaFirstIdeal.nD Cert.NsaFirstIdeal.τ).loc Cert.NsaFirstIdeal.main_arg0) = m ((c.tc : Thread Cert.NsaFirstIdeal.nD Cert.NsaFirstIdeal.τ).loc Cert.NsaFirstIdeal.main_arg0)
          ∧ r.2.mem ((c.tc : Thread Cert.NsaFirstIdeal.nD Cert.NsaFirstIdeal.τ).loc Cert.NsaFirstIdeal.main_arg1) = m ((c.tc : Thread Cert.NsaFirstIdeal.nD Cert.NsaFirstIdeal.τ).loc Cert.NsaFirstIdeal.main_arg1)
          ∧ r.2.mem ((c.tc : Thread Cert.NsaFirstIdeal.nD Cert.NsaFirstIdeal.τ).loc Cert.NsaFirstIdeal.main_arg2) = m ((c.tc : Thread Cert.NsaFirstIdeal.nD Cert.NsaFirstIdeal.τ).loc Cert.NsaFirstIdeal.main_arg2)
          ∧ r.2.mem ((c.tc : Thread Cert.NsaFirstIdeal.nD Cert.NsaFirstIdeal.τ).loc Cert.NsaFirstIdeal.main_arg3) = m ((c.tc : Thread Cert.NsaFirstIdeal.nD Cert.NsaFirstIdeal.τ).loc Cert.NsaFirstIdeal.main_arg3)
          ∧ r.2.mem ((c.tc : Thread Cert.NsaFirstIdeal.nD Cert.NsaFirstIdeal.τ).loc Cert.NsaFirstIdeal.main_arg4) = m ((c.tc : Thread Cert.NsaFirstIdeal.nD Cert.NsaFirstIdeal.τ).loc Cert.NsaFirstIdeal.main_arg4)
          ∧ r.2.mem ((c.tc : Thread Cert.NsaFirstIdeal.nD Cert.NsaFirstIdeal.τ).loc Cert.NsaFirstIdeal.main_arg5) = m ((c.tc : Thread Cert.NsaFirstIdeal.nD Cert.NsaFirstIdeal.τ).loc Cert.NsaFirstIdeal.main_arg5)
          ∧ r.2.mem ((c.tc : Thread Cert.NsaFirstIdeal.nD Cert.NsaFirstIdeal.τ).loc Cert.NsaFirstIdeal.main_arg6) = m ((c.tc : Thread Cert.NsaFirstIdeal.nD Cert.NsaFirstIdeal.τ).loc Cert.NsaFirstIdeal.main_arg6)
          ∧ r.2.mem ((c.tc : Thread Cert.NsaFirstIdeal.nD Cert.NsaFirstIdeal.τ).loc Cert.NsaFirstIdeal.main_arg7) = m ((c.tc : Thread Cert.NsaFirstIdeal.nD Cert.NsaFirstIdeal.τ).loc Cert.NsaFirstIdeal.main_arg7)
          ∧ r.2.mem ((c.tc : Thread Cert.NsaFirstIdeal.nD Cert.NsaFirstIdeal.τ).loc Cert.NsaFirstIdeal.main_arg8) = m ((c.tc : Thread Cert.NsaFirstIdeal.nD Cert.NsaFirstIdeal.τ).loc Cert.NsaFirstIdeal.main_arg8)
          ∧ r.2.mem ((c.tc : Thread Cert.NsaFirstIdeal.nD Cert.NsaFirstIdeal.τ).loc Cert.NsaFirstIdeal.main_arg9) = m ((c.tc : Thread Cert.NsaFirstIdeal.nD Cert.NsaFirstIdeal.τ).loc Cert.NsaFirstIdeal.main_arg9)
          ∧ r.2.mem ((c.tc : Thread Cert.NsaFirstIdeal.nD Cert.NsaFirstIdeal.τ).loc Cert.NsaFirstIdeal.main_arg10) = m ((c.tc : Thread Cert.NsaFirstIdeal.nD Cert.NsaFirstIdeal.τ).loc Cert.NsaFirstIdeal.main_arg10))
      ∧ θ_run (Cert.NsaFirstRefIdeal.defs (F := Ideal)) (onTc (τ := Cert.NsaFirstRefIdeal.τ) (Cert.NsaFirstRefIdeal.main (F := Ideal))) ⟨m', fun _ => 0, g'⟩ (fun r => ∀ c : Dev Cert.NsaFirstRefIdeal.nD,
          r.2.mem ((c.tc : Thread Cert.NsaFirstRefIdeal.nD Cert.NsaFirstRefIdeal.τ).loc Cert.NsaFirstRefIdeal.main_v153) = v0 c
          ∧ r.2.mem ((c.tc : Thread Cert.NsaFirstRefIdeal.nD Cert.NsaFirstRefIdeal.τ).loc Cert.NsaFirstRefIdeal.main_v156) = v1 c
          ∧ r.2.mem ((c.tc : Thread Cert.NsaFirstRefIdeal.nD Cert.NsaFirstRefIdeal.τ).loc Cert.NsaFirstRefIdeal.main_v159) = v2 c
          ∧ r.2.mem ((c.tc : Thread Cert.NsaFirstRefIdeal.nD Cert.NsaFirstRefIdeal.τ).loc Cert.NsaFirstRefIdeal.main_v162) = v3 c
          ∧ r.2.mem ((c.tc : Thread Cert.NsaFirstRefIdeal.nD Cert.NsaFirstRefIdeal.τ).loc Cert.NsaFirstRefIdeal.main_v165) = v4 c
          ∧ r.2.mem ((c.tc : Thread Cert.NsaFirstRefIdeal.nD Cert.NsaFirstRefIdeal.τ).loc Cert.NsaFirstRefIdeal.main_v169) = v5 c
          ∧ r.2.mem ((c.tc : Thread Cert.NsaFirstRefIdeal.nD Cert.NsaFirstRefIdeal.τ).loc Cert.NsaFirstRefIdeal.main_v173) = v6 c
          ∧ r.2.mem ((c.tc : Thread Cert.NsaFirstRefIdeal.nD Cert.NsaFirstRefIdeal.τ).loc Cert.NsaFirstRefIdeal.main_v175) = v7 c
          ∧ r.2.mem ((c.tc : Thread Cert.NsaFirstRefIdeal.nD Cert.NsaFirstRefIdeal.τ).loc Cert.NsaFirstRefIdeal.main_v184) = v8 c
          ∧ r.2.mem ((c.tc : Thread Cert.NsaFirstRefIdeal.nD Cert.NsaFirstRefIdeal.τ).loc Cert.NsaFirstRefIdeal.main_v185) = v9 c
          ∧ r.2.mem ((c.tc : Thread Cert.NsaFirstRefIdeal.nD Cert.NsaFirstRefIdeal.τ).loc Cert.NsaFirstRefIdeal.main_arg0) = m' ((c.tc : Thread Cert.NsaFirstRefIdeal.nD Cert.NsaFirstRefIdeal.τ).loc Cert.NsaFirstRefIdeal.main_arg0)
          ∧ r.2.mem ((c.tc : Thread Cert.NsaFirstRefIdeal.nD Cert.NsaFirstRefIdeal.τ).loc Cert.NsaFirstRefIdeal.main_arg1) = m' ((c.tc : Thread Cert.NsaFirstRefIdeal.nD Cert.NsaFirstRefIdeal.τ).loc Cert.NsaFirstRefIdeal.main_arg1)
          ∧ r.2.mem ((c.tc : Thread Cert.NsaFirstRefIdeal.nD Cert.NsaFirstRefIdeal.τ).loc Cert.NsaFirstRefIdeal.main_arg2) = m' ((c.tc : Thread Cert.NsaFirstRefIdeal.nD Cert.NsaFirstRefIdeal.τ).loc Cert.NsaFirstRefIdeal.main_arg2)
          ∧ r.2.mem ((c.tc : Thread Cert.NsaFirstRefIdeal.nD Cert.NsaFirstRefIdeal.τ).loc Cert.NsaFirstRefIdeal.main_arg3) = m' ((c.tc : Thread Cert.NsaFirstRefIdeal.nD Cert.NsaFirstRefIdeal.τ).loc Cert.NsaFirstRefIdeal.main_arg3)
          ∧ r.2.mem ((c.tc : Thread Cert.NsaFirstRefIdeal.nD Cert.NsaFirstRefIdeal.τ).loc Cert.NsaFirstRefIdeal.main_arg4) = m' ((c.tc : Thread Cert.NsaFirstRefIdeal.nD Cert.NsaFirstRefIdeal.τ).loc Cert.NsaFirstRefIdeal.main_arg4)
          ∧ r.2.mem ((c.tc : Thread Cert.NsaFirstRefIdeal.nD Cert.NsaFirstRefIdeal.τ).loc Cert.NsaFirstRefIdeal.main_arg5) = m' ((c.tc : Thread Cert.NsaFirstRefIdeal.nD Cert.NsaFirstRefIdeal.τ).loc Cert.NsaFirstRefIdeal.main_arg5)
          ∧ r.2.mem ((c.tc : Thread Cert.NsaFirstRefIdeal.nD Cert.NsaFirstRefIdeal.τ).loc Cert.NsaFirstRefIdeal.main_arg6) = m' ((c.tc : Thread Cert.NsaFirstRefIdeal.nD Cert.NsaFirstRefIdeal.τ).loc Cert.NsaFirstRefIdeal.main_arg6)
          ∧ r.2.mem ((c.tc : Thread Cert.NsaFirstRefIdeal.nD Cert.NsaFirstRefIdeal.τ).loc Cert.NsaFirstRefIdeal.main_arg7) = m' ((c.tc : Thread Cert.NsaFirstRefIdeal.nD Cert.NsaFirstRefIdeal.τ).loc Cert.NsaFirstRefIdeal.main_arg7)
          ∧ r.2.mem ((c.tc : Thread Cert.NsaFirstRefIdeal.nD Cert.NsaFirstRefIdeal.τ).loc Cert.NsaFirstRefIdeal.main_arg8) = m' ((c.tc : Thread Cert.NsaFirstRefIdeal.nD Cert.NsaFirstRefIdeal.τ).loc Cert.NsaFirstRefIdeal.main_arg8)
          ∧ r.2.mem ((c.tc : Thread Cert.NsaFirstRefIdeal.nD Cert.NsaFirstRefIdeal.τ).loc Cert.NsaFirstRefIdeal.main_arg9) = m' ((c.tc : Thread Cert.NsaFirstRefIdeal.nD Cert.NsaFirstRefIdeal.τ).loc Cert.NsaFirstRefIdeal.main_arg9)
          ∧ r.2.mem ((c.tc : Thread Cert.NsaFirstRefIdeal.nD Cert.NsaFirstRefIdeal.τ).loc Cert.NsaFirstRefIdeal.main_arg10) = m' ((c.tc : Thread Cert.NsaFirstRefIdeal.nD Cert.NsaFirstRefIdeal.τ).loc Cert.NsaFirstRefIdeal.main_arg10))

def Claim : Prop :=
  ∃ (hOutProj : Cert.OutProj.Facts) (hOutProjIdeal : Cert.OutProjIdeal.Facts) (hOutRefIdeal : Cert.OutRefIdeal.Facts) (hMobaIn : Cert.MobaIn.Facts) (hMobaInIdeal : Cert.MobaInIdeal.Facts) (hMobaInRefIdeal : Cert.MobaInRefIdeal.Facts) (hNsaIn : Cert.NsaIn.Facts) (hNsaInIdeal : Cert.NsaInIdeal.Facts) (hNsaInRefIdeal : Cert.NsaInRefIdeal.Facts) (hNsaFirst : Cert.NsaFirst.Facts) (hNsaFirstIdeal : Cert.NsaFirstIdeal.Facts) (hNsaFirstRefIdeal : Cert.NsaFirstRefIdeal.Facts),
    quiescent_OutProj (hOutProj := hOutProj)
    ∧ quiescent_OutProjIdeal (hOutProjIdeal := hOutProjIdeal)
    ∧ quiescent_OutRefIdeal (hOutRefIdeal := hOutRefIdeal)
    ∧ quiescent_MobaIn (hMobaIn := hMobaIn)
    ∧ quiescent_MobaInIdeal (hMobaInIdeal := hMobaInIdeal)
    ∧ quiescent_MobaInRefIdeal (hMobaInRefIdeal := hMobaInRefIdeal)
    ∧ quiescent_NsaIn (hNsaIn := hNsaIn)
    ∧ quiescent_NsaInIdeal (hNsaInIdeal := hNsaInIdeal)
    ∧ quiescent_NsaInRefIdeal (hNsaInRefIdeal := hNsaInRefIdeal)
    ∧ quiescent_NsaFirst (hNsaFirst := hNsaFirst)
    ∧ quiescent_NsaFirstIdeal (hNsaFirstIdeal := hNsaFirstIdeal)
    ∧ quiescent_NsaFirstRefIdeal (hNsaFirstRefIdeal := hNsaFirstRefIdeal)
    ∧ preserves_OutProj_OutProjIdeal
    ∧ algebraic_OutProjIdeal_OutRefIdeal (hOutProjIdeal := hOutProjIdeal) (hOutRefIdeal := hOutRefIdeal)
    ∧ preserves_MobaIn_MobaInIdeal
    ∧ algebraic_MobaInIdeal_MobaInRefIdeal (hMobaInIdeal := hMobaInIdeal) (hMobaInRefIdeal := hMobaInRefIdeal)
    ∧ preserves_NsaIn_NsaInIdeal
    ∧ algebraic_NsaInIdeal_NsaInRefIdeal (hNsaInIdeal := hNsaInIdeal) (hNsaInRefIdeal := hNsaInRefIdeal)
    ∧ preserves_NsaFirst_NsaFirstIdeal
    ∧ algebraic_NsaFirstIdeal_NsaFirstRefIdeal (hNsaFirstIdeal := hNsaFirstIdeal) (hNsaFirstRefIdeal := hNsaFirstRefIdeal)
-- ==== OutProj.lean ====
abbrev S16x4x8x256x256 : Shape := ⟨5, ![16, 4, 8, 256, 256]⟩
abbrev S1024x1024 : Shape := ⟨2, ![1024, 1024]⟩
abbrev S16x1024x1 : Shape := ⟨3, ![16, 1024, 1]⟩
abbrev S16x1024x2048 : Shape := ⟨3, ![16, 1024, 2048]⟩
abbrev S16x2048x1024 : Shape := ⟨3, ![16, 2048, 1024]⟩
abbrev S1x4x2x256x256 : Shape := ⟨5, ![1, 4, 2, 256, 256]⟩
abbrev S1x1024x512 : Shape := ⟨3, ![1, 1024, 512]⟩
abbrev S1x1024x1 : Shape := ⟨3, ![1, 1024, 1]⟩
abbrev S1x512x1024 : Shape := ⟨3, ![1, 512, 1024]⟩
abbrev S256x256 : Shape := ⟨2, ![256, 256]⟩
abbrev S1x1x1x256x256 : Shape := ⟨5, ![1, 1, 1, 256, 256]⟩
abbrev S1x256x256 : Shape := ⟨3, ![1, 256, 256]⟩
abbrev S1x256x1 : Shape := ⟨3, ![1, 256, 1]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S16x4x8x256x256, .bf16⟩
  | .hbm, ⟨1, _⟩ => ⟨S1024x1024, .f32⟩
  | .hbm, ⟨2, _⟩ => ⟨S16x1024x1, .f32⟩
  | .hbm, ⟨3, _⟩ => ⟨S16x1024x2048, .f32⟩
  | .hbm, ⟨4, _⟩ => ⟨S1024x1024, .f32⟩
  | .hbm, ⟨5, _⟩ => ⟨S1024x1024, .bf16⟩
  | .hbm, ⟨6, _⟩ => ⟨S16x2048x1024, .f32⟩
  | .local _ .vmem, ⟨0, _⟩ => ⟨S1x4x2x256x256, .bf16⟩
  | .local _ .vmem, ⟨1, _⟩ => ⟨S1x4x2x256x256, .bf16⟩
  | .local _ .vmem, ⟨2, _⟩ => ⟨S1024x1024, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x1, .f32⟩
  | .local _ .vmem, ⟨6, _⟩ => ⟨S1x1024x1, .f32⟩
  | .local _ .vmem, ⟨7, _⟩ => ⟨S1x512x1024, .f32⟩
  | .local _ .vmem, ⟨8, _⟩ => ⟨S1x512x1024, .f32⟩
  | _, _ => ⟨S16x4x8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x2x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S16x4x8x256x256 : Shape := ⟨5, ![16, 4, 8, 256, 256]⟩
abbrev S1024x1024 : Shape := ⟨2, ![1024, 1024]⟩
abbrev S16x1024x1 : Shape := ⟨3, ![16, 1024, 1]⟩
abbrev S16x1024x2048 : Shape := ⟨3, ![16, 1024, 2048]⟩
abbrev S16x2048x1024 : Shape := ⟨3, ![16, 2048, 1024]⟩
abbrev S16x8x256x4x256 : Shape := ⟨5, ![16, 8, 256, 4, 256]⟩
abbrev S16x1x1024 : Shape := ⟨3, ![16, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16x4x8x256x256, .bf16⟩
  | .hbm, ⟨1, _⟩ => ⟨S1024x1024, .f32⟩
  | .hbm, ⟨2, _⟩ => ⟨S16x1024x1, .f32⟩
  | .hbm, ⟨3, _⟩ => ⟨S16x1024x2048, .f32⟩
  | .hbm, ⟨4, _⟩ => ⟨S16x2048x1024, .f32⟩
  | .hbm, ⟨5, _⟩ => ⟨S16x4x8x256x256, .f32⟩
  | .hbm, ⟨6, _⟩ => ⟨S16x8x256x4x256, .f32⟩
  | .hbm, ⟨7, _⟩ => ⟨S16x2048x1024, .f32⟩
  | .hbm, ⟨8, _⟩ => ⟨S16x2048x1024, .f32⟩
  | .hbm, ⟨9, _⟩ => ⟨S16x1x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | _, _ => ⟨S16x4x8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MobaIn.lean ====
abbrev S16x4x8x256x256 : Shape := ⟨5, ![16, 4, 8, 256, 256]⟩
abbrev S1024x1024 : Shape := ⟨2, ![1024, 1024]⟩
abbrev S16x1024x1 : Shape := ⟨3, ![16, 1024, 1]⟩
abbrev S16x1024x2048 : Shape := ⟨3, ![16, 1024, 2048]⟩
abbrev S1024 : Shape := ⟨1, ![1024]⟩
abbrev S1024x2560 : Shape := ⟨2, ![1024, 2560]⟩
abbrev S64 : Shape := ⟨1, ![64]⟩
abbrev S16x8x2048 : Shape := ⟨3, ![16, 8, 2048]⟩
abbrev S1024x1 : Shape := ⟨2, ![1024, 1]⟩
abbrev S2560x1024 : Shape := ⟨2, ![2560, 1024]⟩
abbrev S64x1 : Shape := ⟨2, ![64, 1]⟩
abbrev S16x4x8x256x80 : Shape := ⟨5, ![16, 4, 8, 256, 80]⟩
abbrev S16x4x256x128 : Shape := ⟨4, ![16, 4, 256, 128]⟩
abbrev S16x4x8x80x256 : Shape := ⟨5, ![16, 4, 8, 80, 256]⟩
abbrev S1x4x2x256x256 : Shape := ⟨5, ![1, 4, 2, 256, 256]⟩
abbrev S1x1024x1 : Shape := ⟨3, ![1, 1024, 1]⟩
abbrev S1x1024x512 : Shape := ⟨3, ![1, 1024, 512]⟩
abbrev S1x8x512 : Shape := ⟨3, ![1, 8, 512]⟩
abbrev S1x4x2x256x80 : Shape := ⟨5, ![1, 4, 2, 256, 80]⟩
abbrev S1x1x256x128 : Shape := ⟨4, ![1, 1, 256, 128]⟩
abbrev S1x4x2x80x256 : Shape := ⟨5, ![1, 4, 2, 80, 256]⟩
abbrev S256x256 : Shape := ⟨2, ![256, 256]⟩
abbrev S1x1x1x256x256 : Shape := ⟨5, ![1, 1, 1, 256, 256]⟩
abbrev S1x256x256 : Shape := ⟨3, ![1, 256, 256]⟩
abbrev S1x256x1 : Shape := ⟨3, ![1, 256, 1]⟩
abbrev S256x1 : Shape := ⟨2, ![256, 1]⟩
abbrev S1024x512 : Shape := ⟨2, ![1024, 512]⟩
abbrev S512 : Shape := ⟨1, ![512]⟩
abbrev S1x512 : Shape := ⟨2, ![1, 512]⟩
abbrev S8x512 : Shape := ⟨2, ![8, 512]⟩
abbrev S256x1024 : Shape := ⟨2, ![256, 1024]⟩
abbrev S256x512 : Shape := ⟨2, ![256, 512]⟩
abbrev S64x512 : Shape := ⟨2, ![64, 512]⟩
abbrev S48x512 : Shape := ⟨2, ![48, 512]⟩
abbrev S64x256 : Shape := ⟨2, ![64, 256]⟩
abbrev S1x1x1x64x256 : Shape := ⟨5, ![1, 1, 1, 64, 256]⟩
abbrev S64x128 : Shape := ⟨2, ![64, 128]⟩
abbrev S128x256 : Shape := ⟨2, ![128, 256]⟩
abbrev S256x128 : Shape := ⟨2, ![256, 128]⟩
abbrev S256x80 : Shape := ⟨2, ![256, 80]⟩
abbrev S1x1x1x256x80 : Shape := ⟨5, ![1, 1, 1, 256, 80]⟩
abbrev S1x1x64x128 : Shape := ⟨4, ![1, 1, 64, 128]⟩
abbrev S16x256 : Shape := ⟨2, ![16, 256]⟩
abbrev S80x256 : Shape := ⟨2, ![80, 256]⟩
abbrev S1x1x1x80x256 : Shape := ⟨5, ![1, 1, 1, 80, 256]⟩

abbrev nBuf : Space → Nat
  | .hbm => 25
  | .vmem => 31
  | .smem => 0
  | _ => 0

abbrev bufTy : (tb : Table) → Fin (tcTables nBuf tb) → BufTy
  | .hbm, ⟨0, _⟩ => ⟨S16x4x8x256x256, .bf16⟩
  | .hbm, ⟨1, _⟩ => ⟨S1024x1024, .f32⟩
  | .hbm, ⟨2, _⟩ => ⟨S16x1024x1, .f32⟩
  | .hbm, ⟨3, _⟩ => ⟨S16x1024x2048, .f32⟩
  | .hbm, ⟨4, _⟩ => ⟨S1024, .f32⟩
  | .hbm, ⟨5, _⟩ => ⟨S16x1024x1, .f32⟩
  | .hbm, ⟨6, _⟩ => ⟨S16x1024x1, .f32⟩
  | .hbm, ⟨7, _⟩ => ⟨S1024x2560, .f32⟩
  | .hbm, ⟨8, _⟩ => ⟨S64, .f32⟩
  | .hbm, ⟨9, _⟩ => ⟨S64, .f32⟩
  | .hbm, ⟨10, _⟩ => ⟨S16x8x2048, .f32⟩
  | .hbm, ⟨11, _⟩ => ⟨S16x8x2048, .f32⟩
  | .hbm, ⟨12, _⟩ => ⟨S1024x1024, .f32⟩
  | .hbm, ⟨13, _⟩ => ⟨S1024x1024, .bf16⟩
  | .hbm, ⟨14, _⟩ => ⟨S1024x1, .f32⟩
  | .hbm, ⟨15, _⟩ => ⟨S2560x1024, .f32⟩
  | .hbm, ⟨16, _⟩ => ⟨S2560x1024, .bf16⟩
  | .hbm, ⟨17, _⟩ => ⟨S64x1, .f32⟩
  | .hbm, ⟨18, _⟩ => ⟨S64x1, .f32⟩
  | .hbm, ⟨19, _⟩ => ⟨S16x4x8x256x256, .bf16⟩
  | .hbm, ⟨20, _⟩ => ⟨S16x4x8x256x80, .bf16⟩
  | .hbm, ⟨21, _⟩ => ⟨S16x4x256x128, .f32⟩
  | .hbm, ⟨22, _⟩ => ⟨S16x4x8x80x256, .bf16⟩
  | .hbm, ⟨23, _⟩ => ⟨S16x4x8x256x256, .f32⟩
  | .hbm, ⟨24, _⟩ => ⟨S16x1024x2048, .f32⟩
  | .local _ .vmem, ⟨0, _⟩ => ⟨S1x4x2x256x256, .bf16⟩
  | .local _ .vmem, ⟨1, _⟩ => ⟨S1x4x2x256x256, .bf16⟩
  | .local _ .vmem, ⟨2, _⟩ => ⟨S1024x1024, .bf16⟩
  | .local _ .vmem, ⟨3, _⟩ => ⟨S1x1024x1, .f32⟩
  | .local _ .vmem, ⟨4, _⟩ => ⟨S1x1024x1, .f32⟩
  | .local _ .vmem, ⟨5, _⟩ => ⟨S1x1024x512, .f32⟩
  | .local _ .vmem, ⟨6, _⟩ => ⟨S1x1024x512, .f32⟩
  | .local _ .vmem, ⟨7, _⟩ => ⟨S1024x1, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S2560x1024, .bf16⟩
  | .local _ .vmem, ⟨13, _⟩ => ⟨S64x1, .f32⟩
  | .local _ .vmem, ⟨14, _⟩ => ⟨S64x1, .f32⟩
  | .local _ .vmem, ⟨15, _⟩ => ⟨S1x8x512, .f32⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x4x2x256x256, .bf16⟩
  | .local _ .vmem, ⟨20, _⟩ => ⟨S1x4x2x256x256, .bf16⟩
  | .local _ .vmem, ⟨21, _⟩ => ⟨S1x4x2x256x80, .bf16⟩
  | .local _ .vmem, ⟨22, _⟩ => ⟨S1x4x2x256x80, .bf16⟩
  | .local _ .vmem, ⟨23, _⟩ => ⟨S1x1x256x128, .f32⟩
  | .local _ .vmem, ⟨24, _⟩ => ⟨S1x1x256x128, .f32⟩
  | .local _ .vmem, ⟨25, _⟩ => ⟨S1x4x2x80x256, .bf16⟩
  | .local _ .vmem, ⟨26, _⟩ => ⟨S1x4x2x80x256, .bf16⟩
  | .local _ .vmem, ⟨27, _⟩ => ⟨S1x4x2x256x256, .f32⟩
  | .local _ .vmem, ⟨28, _⟩ => ⟨S1x4x2x256x256, .f32⟩
  | .local _ .vmem, ⟨29, _⟩ => ⟨S1x1024x512, .f32⟩
  | .local _ .vmem, ⟨30, _⟩ => ⟨S1x1024x512, .f32⟩
  | _, _ => ⟨S16x4x8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x2x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2560x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x2x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x2x256x80 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x2x80x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x2x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MobaInRefIdeal.lean ====
abbrev S16x4x8x256x256 : Shape := ⟨5, ![16, 4, 8, 256, 256]⟩
abbrev S1024x1024 : Shape := ⟨2, ![1024, 1024]⟩
abbrev S16x1024x1 : Shape := ⟨3, ![16, 1024, 1]⟩
abbrev S16x1024x2048 : Shape := ⟨3, ![16, 1024, 2048]⟩
abbrev S1024 : Shape := ⟨1, ![1024]⟩
abbrev S1024x2560 : Shape := ⟨2, ![1024, 2560]⟩
abbrev S64 : Shape := ⟨1, ![64]⟩
abbrev S16x8x2048 : Shape := ⟨3, ![16, 8, 2048]⟩
abbrev S16x2048x1024 : Shape := ⟨3, ![16, 2048, 1024]⟩
abbrev S16x8x256x4x256 : Shape := ⟨5, ![16, 8, 256, 4, 256]⟩
abbrev S16x1x1024 : Shape := ⟨3, ![16, 1, 1024]⟩
abbrev S16x2048x8 : Shape := ⟨3, ![16, 2048, 8]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2560 : Shape := ⟨3, ![16, 2048, 2560]⟩
abbrev S16x2048x256 : Shape := ⟨3, ![16, 2048, 256]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x1x8 : Shape := ⟨4, ![16, 2048, 1, 8]⟩
abbrev S16x2048x16x8 : Shape := ⟨4, ![16, 2048, 16, 8]⟩
abbrev S16x2048x16x48 : Shape := ⟨4, ![16, 2048, 16, 48]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x4x8 : Shape := ⟨4, ![16, 2048, 4, 8]⟩
abbrev S16x2048x4x48 : Shape := ⟨4, ![16, 2048, 4, 48]⟩
abbrev S16x4x2x256x4x64 : Shape := ⟨6, ![16, 4, 2, 256, 4, 64]⟩
abbrev S16x4x2x4x64 : Shape := ⟨5, ![16, 4, 2, 4, 64]⟩
abbrev S16x4x4x64x2 : Shape := ⟨5, ![16, 4, 4, 64, 2]⟩
abbrev S16x4x256x2 : Shape := ⟨4, ![16, 4, 256, 2]⟩
abbrev S16x4x256x128 : Shape := ⟨4, ![16, 4, 256, 128]⟩
abbrev S16x2048x4x15 : Shape := ⟨4, ![16, 2048, 4, 15]⟩
abbrev S16x2048x4x80 : Shape := ⟨4, ![16, 2048, 4, 80]⟩
abbrev S16x8x256x4x80 : Shape := ⟨5, ![16, 8, 256, 4, 80]⟩
abbrev S16x4x8x256x80 : Shape := ⟨5, ![16, 4, 8, 256, 80]⟩
abbrev S16x2048x320 : Shape := ⟨3, ![16, 2048, 320]⟩
abbrev S16x4x8x80x256 : Shape := ⟨5, ![16, 4, 8, 80, 256]⟩

abbrev nBuf : Space → Nat
  | .hbm => 163
  | .vmem => 0
  | .smem => 0
  | _ => 0

abbrev hbmTy0_0 (i : Nat) : BufTy := match i % 128 with
  | 0 => ⟨S16x4x8x256x256, .bf16⟩
  | 1 => ⟨S1024x1024, .f32⟩
  | 2 => ⟨S16x1024x1, .f32⟩
  | 3 => ⟨S16x1024x2048, .f32⟩
  | 4 => ⟨S1024, .f32⟩
  | 5 => ⟨S16x1024x1, .f32⟩
  | 6 => ⟨S16x1024x1, .f32⟩
  | 7 => ⟨S1024x2560, .f32⟩
  | 8 => ⟨S64, .f32⟩
  | 9 => ⟨S64, .f32⟩
  | 10 => ⟨S16x8x2048, .f32⟩
  | 11 => ⟨S16x8x2048, .f32⟩
  | 12 => ⟨S16x2048x1024, .f32⟩
  | 13 => ⟨S16x4x8x256x256, .f32⟩
  | 14 => ⟨S16x8x256x4x256, .f32⟩
  | 15 => ⟨S16x2048x1024, .f32⟩
  | 16 => ⟨S16x2048x1024, .f32⟩
  | 17 => ⟨S16x1x1024, .f32⟩
  | 18 => ⟨S16x2048x1024, .f32⟩
  | 19 => ⟨S16x2048x1024, .f32⟩
  | 20 => ⟨S16x2048x1024, .f32⟩
  | 21 => ⟨S16x2048x8, .f32⟩
  | 22 => ⟨S16x2048x8, .f32⟩
  | 23 => ⟨S16x2048x1024, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S_, .f32⟩
  | 31 => ⟨S16x2048x1, .f32⟩
  | 32 => ⟨S16x2048x1, .f32⟩
  | 33 => ⟨S16x2048x1, .f32⟩
  | 34 => ⟨S16x2048x1024, .f32⟩
  | 35 => ⟨S16x2048x1024, .f32⟩
  | 36 => ⟨S1x1x1024, .f32⟩
  | 37 => ⟨S16x2048x1024, .f32⟩
  | 38 => ⟨S16x2048x1024, .f32⟩
  | 39 => ⟨S16x1x1024, .f32⟩
  | 40 => ⟨S_, .f32⟩
  | 41 => ⟨S16x1x1024, .f32⟩
  | 42 => ⟨S16x1x1024, .f32⟩
  | 43 => ⟨S16x2048x1024, .f32⟩
  | 44 => ⟨S16x2048x1024, .f32⟩
  | 45 => ⟨S16x1x1024, .f32⟩
  | 46 => ⟨S16x2048x1024, .f32⟩
  | 47 => ⟨S16x2048x1024, .f32⟩
  | 48 => ⟨S16x2048x2560, .f32⟩
  | 49 => ⟨S16x2048x1024, .f32⟩
  | 50 => ⟨S16x2048x256, .f32⟩
  | 51 => ⟨S16x2048x256, .f32⟩
  | 52 => ⟨S16x2048x1024, .f32⟩
  | 53 => ⟨S16x2048x16x64, .f32⟩
  | 54 => ⟨S16x2048x16x64, .f32⟩
  | 55 => ⟨S_, .f32⟩
  | 56 => ⟨S16x2048x16, .f32⟩
  | 57 => ⟨S16x2048x16x1, .f32⟩
  | 58 => ⟨S_, .f32⟩
  | 59 => ⟨S16x2048x16x1, .f32⟩
  | 60 => ⟨S16x2048x16x1, .f32⟩
  | 61 => ⟨S_, .f32⟩
  | 62 => ⟨S16x2048x16x1, .f32⟩
  | 63 => ⟨S16x2048x16x1, .f32⟩
  | 64 => ⟨S16x2048x16x1, .f32⟩
  | 65 => ⟨S16x2048x16x64, .f32⟩
  | 66 => ⟨S16x2048x16x64, .f32⟩
  | 67 => ⟨S1x1x1x64, .f32⟩
  | 68 => ⟨S16x2048x16x64, .f32⟩
  | 69 => ⟨S16x2048x16x64, .f32⟩
  | 70 => ⟨S16x2048x1x8, .f32⟩
  | 71 => ⟨S16x2048x1x8, .f32⟩
  | 72 => ⟨S16x2048x16x8, .f32⟩
  | 73 => ⟨S16x2048x16x8, .f32⟩
  | 74 => ⟨S16x2048x16x48, .f32⟩
  | 75 => ⟨S16x2048x16x8, .f32⟩
  | 76 => ⟨S16x2048x16x8, .f32⟩
  | 77 => ⟨S16x2048x16x8, .f32⟩
  | 78 => ⟨S16x2048x16x8, .f32⟩
  | 79 => ⟨S16x2048x16x8, .f32⟩
  | 80 => ⟨S16x2048x16x8, .f32⟩
  | 81 => ⟨S16x2048x16x8, .f32⟩
  | 82 => ⟨S16x2048x16x8, .f32⟩
  | 83 => ⟨S16x2048x16x8, .f32⟩
  | 84 => ⟨S16x2048x16x8, .f32⟩
  | 85 => ⟨S16x2048x16x64, .f32⟩
  | 86 => ⟨S_, .f32⟩
  | 87 => ⟨S16x2048x16x64, .f32⟩
  | 88 => ⟨S16x2048x16x64, .f32⟩
  | 89 => ⟨S16x2048x4x64, .f32⟩
  | 90 => ⟨S16x2048x4x64, .f32⟩
  | 91 => ⟨S_, .f32⟩
  | 92 => ⟨S16x2048x4, .f32⟩
  | 93 => ⟨S16x2048x4x1, .f32⟩
  | 94 => ⟨S_, .f32⟩
  | 95 => ⟨S16x2048x4x1, .f32⟩
  | 96 => ⟨S16x2048x4x1, .f32⟩
  | 97 => ⟨S_, .f32⟩
  | 98 => ⟨S16x2048x4x1, .f32⟩
  | 99 => ⟨S16x2048x4x1, .f32⟩
  | 100 => ⟨S16x2048x4x1, .f32⟩
  | 101 => ⟨S16x2048x4x64, .f32⟩
  | 102 => ⟨S16x2048x4x64, .f32⟩
  | 103 => ⟨S1x1x1x64, .f32⟩
  | 104 => ⟨S16x2048x4x64, .f32⟩
  | 105 => ⟨S16x2048x4x64, .f32⟩
  | 106 => ⟨S16x2048x1x8, .f32⟩
  | 107 => ⟨S16x2048x1x8, .f32⟩
  | 108 => ⟨S16x2048x4x8, .f32⟩
  | 109 => ⟨S16x2048x4x8, .f32⟩
  | 110 => ⟨S16x2048x4x48, .f32⟩
  | 111 => ⟨S16x2048x4x8, .f32⟩
  | 112 => ⟨S16x2048x4x8, .f32⟩
  | 113 => ⟨S16x2048x4x8, .f32⟩
  | 114 => ⟨S16x2048x4x8, .f32⟩
  | 115 => ⟨S16x2048x4x8, .f32⟩
  | 116 => ⟨S16x2048x4x8, .f32⟩
  | 117 => ⟨S16x2048x4x8, .f32⟩
  | 118 => ⟨S16x2048x4x8, .f32⟩
  | 119 => ⟨S16x2048x4x8, .f32⟩
  | 120 => ⟨S16x2048x4x8, .f32⟩
  | 121 => ⟨S16x2048x4x64, .f32⟩
  | 122 => ⟨S16x4x2x256x4x64, .f32⟩
  | 123 => ⟨S_, .f32⟩
  | 124 => ⟨S16x4x2x4x64, .f32⟩
  | 125 => ⟨S_, .f32⟩
  | 126 => ⟨S16x4x2x4x64, .f32⟩
  | 127 => ⟨S16x4x2x4x64, .f32⟩
  | _ => ⟨S16x4x8x256x256, .bf16⟩

abbrev hbmTy0_1 (i : Nat) : BufTy := match i % 128 with
  | 0 => ⟨S16x4x4x64x2, .f32⟩
  | 1 => ⟨S16x4x256x2, .f32⟩
  | 2 => ⟨S_, .i32⟩
  | 3 => ⟨S_, .f32⟩
  | 4 => ⟨S16x4x256x128, .f32⟩
  | 5 => ⟨S_, .f32⟩
  | 6 => ⟨S16x2048x4x1, .f32⟩
  | 7 => ⟨S_, .f32⟩
  | 8 => ⟨S16x2048x4x15, .f32⟩
  | 9 => ⟨S16x2048x4x80, .f32⟩
  | 10 => ⟨S16x8x256x4x80, .f32⟩
  | 11 => ⟨S16x4x8x256x80, .f32⟩
  | 12 => ⟨S16x2048x4x64, .f32⟩
  | 13 => ⟨S16x2048x4x80, .f32⟩
  | 14 => ⟨S16x2048x1024, .f32⟩
  | 15 => ⟨S16x8x256x4x256, .f32⟩
  | 16 => ⟨S16x4x8x256x256, .f32⟩
  | 17 => ⟨S16x4x8x256x256, .bf16⟩
  | 18 => ⟨S16x4x8x256x80, .bf16⟩
  | 19 => ⟨S16x2048x320, .f32⟩
  | 20 => ⟨S16x8x256x4x80, .f32⟩
  | 21 => ⟨S16x4x8x80x256, .f32⟩
  | 22 => ⟨S16x4x8x80x256, .bf16⟩
  | 23 => ⟨S16x2048x1024, .f32⟩
  | 24 => ⟨S16x2048x1024, .f32⟩
  | 25 => ⟨S_, .f32⟩
  | 26 => ⟨S16x2048x1024, .f32⟩
  | 27 => ⟨S16x2048x1024, .f32⟩
  | 28 => ⟨S_, .f32⟩
  | 29 => ⟨S16x2048x1024, .f32⟩
  | 30 => ⟨S16x2048x1024, .f32⟩
  | 31 => ⟨S16x2048x1024, .f32⟩
  | 32 => ⟨S16x8x256x4x256, .f32⟩
  | 33 => ⟨S16x4x8x256x256, .f32⟩
  | 34 => ⟨S16x1024x2048, .f32⟩
  | _ => ⟨S16x4x8x256x256, .bf16⟩

abbrev hbmTy (i : Nat) : BufTy := match i / 128 with
  | 0 => hbmTy0_0 i
  | 1 => hbmTy0_1 i
  | _ => ⟨S16x4x8x256x256, .bf16⟩

abbrev bufTy : (tb : Table) → Fin (tcTables nBuf tb) → BufTy
  | .hbm, ⟨i, _⟩ => hbmTy i
  | _, _ => ⟨S16x4x8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_cst_9 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_10 : Ref sig .tc := ⟨.hbm, 123, rfl⟩
abbrev main_v100 : Ref sig .tc := ⟨.hbm, 124, rfl⟩
abbrev main_cst_11 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_c : Ref sig .tc := ⟨.hbm, 130, rfl⟩
abbrev main_call0_v0 : Ref sig .tc := ⟨.hbm, 131, rfl⟩
abbrev main_v105 : Ref sig .tc := ⟨.hbm, 132, rfl⟩
abbrev main_cst_12 : Ref sig .tc := ⟨.hbm, 133, rfl⟩
abbrev main_v106 : Ref sig .tc := ⟨.hbm, 134, rfl⟩
abbrev main_cst_13 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_14 : Ref sig .tc := ⟨.hbm, 153, rfl⟩
abbrev main_v124 : Ref sig .tc := ⟨.hbm, 154, rfl⟩
abbrev main_v125 : Ref sig .tc := ⟨.hbm, 155, rfl⟩
abbrev main_cst_15 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩

abbrev nD : Nat := 1
abbrev τ : Topo := Topo.v7x

variable {F : FTy → Type} [FloatOps F]
-- ==== NsaIn.lean ====
abbrev S16x4x8x256x256 : Shape := ⟨5, ![16, 4, 8, 256, 256]⟩
abbrev S1024x1024 : Shape := ⟨2, ![1024, 1024]⟩
abbrev S16x1024x1 : Shape := ⟨3, ![16, 1024, 1]⟩
abbrev S16x1024x2048 : Shape := ⟨3, ![16, 1024, 2048]⟩
abbrev S1024 : Shape := ⟨1, ![1024]⟩
abbrev S1024x3648 : Shape := ⟨2, ![1024, 3648]⟩
abbrev S64 : Shape := ⟨1, ![64]⟩
abbrev S16x8x2048 : Shape := ⟨3, ![16, 8, 2048]⟩
abbrev S1024x1 : Shape := ⟨2, ![1024, 1]⟩
abbrev S3648x1024 : Shape := ⟨2, ![3648, 1024]⟩
abbrev S64x1 : Shape := ⟨2, ![64, 1]⟩
abbrev S16x4x8x256x80 : Shape := ⟨5, ![16, 4, 8, 256, 80]⟩
abbrev S16x4x8x256x64 : Shape := ⟨5, ![16, 4, 8, 256, 64]⟩
abbrev S16x4x8x80x256 : Shape := ⟨5, ![16, 4, 8, 80, 256]⟩
abbrev S16x4x8x16x256 : Shape := ⟨5, ![16, 4, 8, 16, 256]⟩
abbrev S1x4x2x256x256 : Shape := ⟨5, ![1, 4, 2, 256, 256]⟩
abbrev S1x1024x1 : Shape := ⟨3, ![1, 1024, 1]⟩
abbrev S1x1024x512 : Shape := ⟨3, ![1, 1024, 512]⟩
abbrev S1x8x512 : Shape := ⟨3, ![1, 8, 512]⟩
abbrev S1x4x2x256x80 : Shape := ⟨5, ![1, 4, 2, 256, 80]⟩
abbrev S1x4x2x256x64 : Shape := ⟨5, ![1, 4, 2, 256, 64]⟩
abbrev S1x4x2x80x256 : Shape := ⟨5, ![1, 4, 2, 80, 256]⟩
abbrev S1x4x2x16x256 : Shape := ⟨5, ![1, 4, 2, 16, 256]⟩
abbrev S256x256 : Shape := ⟨2, ![256, 256]⟩
abbrev S1x1x1x256x256 : Shape := ⟨5, ![1, 1, 1, 256, 256]⟩
abbrev S1x256x256 : Shape := ⟨3, ![1, 256, 256]⟩
abbrev S1x256x1 : Shape := ⟨3, ![1, 256, 1]⟩
abbrev S256x1 : Shape := ⟨2, ![256, 1]⟩
abbrev S1024x512 : Shape := ⟨2, ![1024, 512]⟩
abbrev S512 : Shape := ⟨1, ![512]⟩
abbrev S1x512 : Shape := ⟨2, ![1, 512]⟩
abbrev S8x512 : Shape := ⟨2, ![8, 512]⟩
abbrev S256x1024 : Shape := ⟨2, ![256, 1024]⟩
abbrev S256x512 : Shape := ⟨2, ![256, 512]⟩
abbrev S64x512 : Shape := ⟨2, ![64, 512]⟩
abbrev S48x512 : Shape := ⟨2, ![48, 512]⟩
abbrev S64x256 : Shape := ⟨2, ![64, 256]⟩
abbrev S1x1x1x64x256 : Shape := ⟨5, ![1, 1, 1, 64, 256]⟩
abbrev S128x256 : Shape := ⟨2, ![128, 256]⟩
abbrev S256x128 : Shape := ⟨2, ![256, 128]⟩
abbrev S256x80 : Shape := ⟨2, ![256, 80]⟩
abbrev S1x1x1x256x80 : Shape := ⟨5, ![1, 1, 1, 256, 80]⟩
abbrev S256x64 : Shape := ⟨2, ![256, 64]⟩
abbrev S1x1x1x256x64 : Shape := ⟨5, ![1, 1, 1, 256, 64]⟩
abbrev S16x256 : Shape := ⟨2, ![16, 256]⟩
abbrev S80x256 : Shape := ⟨2, ![80, 256]⟩
abbrev S1x1x1x80x256 : Shape := ⟨5, ![1, 1, 1, 80, 256]⟩
abbrev S64x1024 : Shape := ⟨2, ![64, 1024]⟩
abbrev S16x512 : Shape := ⟨2, ![16, 512]⟩
abbrev S1x1x1x16x256 : Shape := ⟨5, ![1, 1, 1, 16, 256]⟩

abbrev nBuf : Space → Nat
  | .hbm => 33
  | .vmem => 41
  | .smem => 0
  | _ => 0

abbrev bufTy : (tb : Table) → Fin (tcTables nBuf tb) → BufTy
  | .hbm, ⟨0, _⟩ => ⟨S16x4x8x256x256, .bf16⟩
  | .hbm, ⟨1, _⟩ => ⟨S1024x1024, .f32⟩
  | .hbm, ⟨2, _⟩ => ⟨S16x1024x1, .f32⟩
  | .hbm, ⟨3, _⟩ => ⟨S16x1024x2048, .f32⟩
  | .hbm, ⟨4, _⟩ => ⟨S1024, .f32⟩
  | .hbm, ⟨5, _⟩ => ⟨S16x1024x1, .f32⟩
  | .hbm, ⟨6, _⟩ => ⟨S16x1024x1, .f32⟩
  | .hbm, ⟨7, _⟩ => ⟨S1024x3648, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S16x8x2048, .f32⟩
  | .hbm, ⟨13, _⟩ => ⟨S16x8x2048, .f32⟩
  | .hbm, ⟨14, _⟩ => ⟨S1024x1024, .f32⟩
  | .hbm, ⟨15, _⟩ => ⟨S1024x1024, .bf16⟩
  | .hbm, ⟨16, _⟩ => ⟨S1024x1, .f32⟩
  | .hbm, ⟨17, _⟩ => ⟨S3648x1024, .f32⟩
  | .hbm, ⟨18, _⟩ => ⟨S3648x1024, .bf16⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S64x1, .f32⟩
  | .hbm, ⟨23, _⟩ => ⟨S16x4x8x256x256, .bf16⟩
  | .hbm, ⟨24, _⟩ => ⟨S16x4x8x256x80, .bf16⟩
  | .hbm, ⟨25, _⟩ => ⟨S16x4x8x256x64, .bf16⟩
  | .hbm, ⟨26, _⟩ => ⟨S16x4x8x256x64, .f32⟩
  | .hbm, ⟨27, _⟩ => ⟨S16x4x8x256x64, .f32⟩
  | .hbm, ⟨28, _⟩ => ⟨S16x4x8x80x256, .bf16⟩
  | .hbm, ⟨29, _⟩ => ⟨S16x4x8x80x256, .bf16⟩
  | .hbm, ⟨30, _⟩ => ⟨S16x4x8x16x256, .f32⟩
  | .hbm, ⟨31, _⟩ => ⟨S16x4x8x256x256, .f32⟩
  | .hbm, ⟨32, _⟩ => ⟨S16x1024x2048, .f32⟩
  | .local _ .vmem, ⟨0, _⟩ => ⟨S1x4x2x256x256, .bf16⟩
  | .local _ .vmem, ⟨1, _⟩ => ⟨S1x4x2x256x256, .bf16⟩
  | .local _ .vmem, ⟨2, _⟩ => ⟨S1024x1024, .bf16⟩
  | .local _ .vmem, ⟨3, _⟩ => ⟨S1x1024x1, .f32⟩
  | .local _ .vmem, ⟨4, _⟩ => ⟨S1x1024x1, .f32⟩
  | .local _ .vmem, ⟨5, _⟩ => ⟨S1x1024x512, .f32⟩
  | .local _ .vmem, ⟨6, _⟩ => ⟨S1x1024x512, .f32⟩
  | .local _ .vmem, ⟨7, _⟩ => ⟨S1024x1, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S3648x1024, .bf16⟩
  | .local _ .vmem, ⟨13, _⟩ => ⟨S64x1, .f32⟩
  | .local _ .vmem, ⟨14, _⟩ => ⟨S64x1, .f32⟩
  | .local _ .vmem, ⟨15, _⟩ => ⟨S64x1, .f32⟩
  | .local _ .vmem, ⟨16, _⟩ => ⟨S64x1, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S1x8x512, .f32⟩
  | .local _ .vmem, ⟨21, _⟩ => ⟨S1x4x2x256x256, .bf16⟩
  | .local _ .vmem, ⟨22, _⟩ => ⟨S1x4x2x256x256, .bf16⟩
  | .local _ .vmem, ⟨23, _⟩ => ⟨S1x4x2x256x80, .bf16⟩
  | .local _ .vmem, ⟨24, _⟩ => ⟨S1x4x2x256x80, .bf16⟩
  | .local _ .vmem, ⟨25, _⟩ => ⟨S1x4x2x256x64, .bf16⟩
  | .local _ .vmem, ⟨26, _⟩ => ⟨S1x4x2x256x64, .bf16⟩
  | .local _ .vmem, ⟨27, _⟩ => ⟨S1x4x2x256x64, .f32⟩
  | .local _ .vmem, ⟨28, _⟩ => ⟨S1x4x2x256x64, .f32⟩
  | .local _ .vmem, ⟨29, _⟩ => ⟨S1x4x2x256x64, .f32⟩
  | .local _ .vmem, ⟨30, _⟩ => ⟨S1x4x2x256x64, .f32⟩
  | .local _ .vmem, ⟨31, _⟩ => ⟨S1x4x2x80x256, .bf16⟩
  | .local _ .vmem, ⟨32, _⟩ => ⟨S1x4x2x80x256, .bf16⟩
  | .local _ .vmem, ⟨33, _⟩ => ⟨S1x4x2x80x256, .bf16⟩
  | .local _ .vmem, ⟨34, _⟩ => ⟨S1x4x2x80x256, .bf16⟩
  | .local _ .vmem, ⟨35, _⟩ => ⟨S1x4x2x16x256, .f32⟩
  | .local _ .vmem, ⟨36, _⟩ => ⟨S1x4x2x16x256, .f32⟩
  | .local _ .vmem, ⟨37, _⟩ => ⟨S1x4x2x256x256, .f32⟩
  | .local _ .vmem, ⟨38, _⟩ => ⟨S1x4x2x256x256, .f32⟩
  | .local _ .vmem, ⟨39, _⟩ => ⟨S1x1024x512, .f32⟩
  | .local _ .vmem, ⟨40, _⟩ => ⟨S1x1024x512, .f32⟩
  | _, _ => ⟨S16x4x8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v9_4 : Ref sig .tc := ⟨.hbm, 27, rfl⟩
abbrev main_v9_5 : Ref sig .tc := ⟨.hbm, 28, rfl⟩
abbrev main_v9_6 : Ref sig .tc := ⟨.hbm, 29, rfl⟩
abbrev main_v9_7 : Ref sig .tc := ⟨.hbm, 30, rfl⟩
abbrev main_v9_8 : Ref sig .tc := ⟨.hbm, 31, rfl⟩
abbrev main_v9_9 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_20 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_21 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_22 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x2x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S3648x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x2x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x2x256x80 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x2x256x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x2x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x2x256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x2x80x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x2x80x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x2x16x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x4x2x256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1024x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== NsaInRefIdeal.lean ====
abbrev S16x4x8x256x256 : Shape := ⟨5, ![16, 4, 8, 256, 256]⟩
abbrev S1024x1024 : Shape := ⟨2, ![1024, 1024]⟩
abbrev S16x1024x1 : Shape := ⟨3, ![16, 1024, 1]⟩
abbrev S16x1024x2048 : Shape := ⟨3, ![16, 1024, 2048]⟩
abbrev S1024 : Shape := ⟨1, ![1024]⟩
abbrev S1024x3648 : Shape := ⟨2, ![1024, 3648]⟩
abbrev S64 : Shape := ⟨1, ![64]⟩
abbrev S16x8x2048 : Shape := ⟨3, ![16, 8, 2048]⟩
abbrev S16x2048x1024 : Shape := ⟨3, ![16, 2048, 1024]⟩
abbrev S16x8x256x4x256 : Shape := ⟨5, ![16, 8, 256, 4, 256]⟩
abbrev S16x1x1024 : Shape := ⟨3, ![16, 1, 1024]⟩
abbrev S16x2048x8 : Shape := ⟨3, ![16, 2048, 8]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3648 : Shape := ⟨3, ![16, 2048, 3648]⟩
abbrev S16x2048x256 : Shape := ⟨3, ![16, 2048, 256]⟩
abbrev S16x2048x64 : Shape := ⟨3, ![16, 2048, 64]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x1x8 : Shape := ⟨4, ![16, 2048, 1, 8]⟩
abbrev S16x2048x16x8 : Shape := ⟨4, ![16, 2048, 16, 8]⟩
abbrev S16x2048x16x48 : Shape := ⟨4, ![16, 2048, 16, 48]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x4x8 : Shape := ⟨4, ![16, 2048, 4, 8]⟩
abbrev S16x2048x4x48 : Shape := ⟨4, ![16, 2048, 4, 48]⟩
abbrev S4x16 : Shape := ⟨2, ![4, 16]⟩
abbrev S1x1x4x1x1x16 : Shape := ⟨6, ![1, 1, 4, 1, 1, 16]⟩
abbrev S16x8x4x64x4x16 : Shape := ⟨6, ![16, 8, 4, 64, 4, 16]⟩
abbrev S16x2048x4x16 : Shape := ⟨4, ![16, 2048, 4, 16]⟩
abbrev S16x2048x4x80 : Shape := ⟨4, ![16, 2048, 4, 80]⟩
abbrev S16x2048x4x15 : Shape := ⟨4, ![16, 2048, 4, 15]⟩
abbrev S1x1x64 : Shape := ⟨3, ![1, 1, 64]⟩
abbrev S16x8x256x4x80 : Shape := ⟨5, ![16, 8, 256, 4, 80]⟩
abbrev S16x4x8x256x80 : Shape := ⟨5, ![16, 4, 8, 256, 80]⟩
abbrev S16x8x256x4x64 : Shape := ⟨5, ![16, 8, 256, 4, 64]⟩
abbrev S16x4x8x256x64 : Shape := ⟨5, ![16, 4, 8, 256, 64]⟩
abbrev S16x2048x320 : Shape := ⟨3, ![16, 2048, 320]⟩
abbrev S16x4x8x80x256 : Shape := ⟨5, ![16, 4, 8, 80, 256]⟩
abbrev S16x8x256x4x16 : Shape := ⟨5, ![16, 8, 256, 4, 16]⟩
abbrev S16x4x8x16x256 : Shape := ⟨5, ![16, 4, 8, 16, 256]⟩

abbrev nBuf : Space → Nat
  | .hbm => 230
  | .vmem => 0
  | .smem => 0
  | _ => 0

abbrev hbmTy0_0 (i : Nat) : BufTy := match i % 128 with
  | 0 => ⟨S16x4x8x256x256, .bf16⟩
  | 1 => ⟨S1024x1024, .f32⟩
  | 2 => ⟨S16x1024x1, .f32⟩
  | 3 => ⟨S16x1024x2048, .f32⟩
  | 4 => ⟨S1024, .f32⟩
  | 5 => ⟨S16x1024x1, .f32⟩
  | 6 => ⟨S16x1024x1, .f32⟩
  | 7 => ⟨S1024x3648, .f32⟩
  | 8 => ⟨S64, .f32⟩
  | 9 => ⟨S64, .f32⟩
  | 10 => ⟨S64, .f32⟩
  | 11 => ⟨S64, .f32⟩
  | 12 => ⟨S16x8x2048, .f32⟩
  | 13 => ⟨S16x8x2048, .f32⟩
  | 14 => ⟨S16x2048x1024, .f32⟩
  | 15 => ⟨S16x4x8x256x256, .f32⟩
  | 16 => ⟨S16x8x256x4x256, .f32⟩
  | 17 => ⟨S16x2048x1024, .f32⟩
  | 18 => ⟨S16x2048x1024, .f32⟩
  | 19 => ⟨S16x1x1024, .f32⟩
  | 20 => ⟨S16x2048x1024, .f32⟩
  | 21 => ⟨S16x2048x1024, .f32⟩
  | 22 => ⟨S16x2048x1024, .f32⟩
  | 23 => ⟨S16x2048x8, .f32⟩
  | 24 => ⟨S16x2048x8, .f32⟩
  | 25 => ⟨S16x2048x1024, .f32⟩
  | 26 => ⟨S_, .f32⟩
  | 27 => ⟨S16x2048, .f32⟩
  | 28 => ⟨S16x2048x1, .f32⟩
  | 29 => ⟨S_, .f32⟩
  | 30 => ⟨S16x2048x1, .f32⟩
  | 31 => ⟨S16x2048x1, .f32⟩
  | 32 => ⟨S_, .f32⟩
  | 33 => ⟨S16x2048x1, .f32⟩
  | 34 => ⟨S16x2048x1, .f32⟩
  | 35 => ⟨S16x2048x1, .f32⟩
  | 36 => ⟨S16x2048x1024, .f32⟩
  | 37 => ⟨S16x2048x1024, .f32⟩
  | 38 => ⟨S1x1x1024, .f32⟩
  | 39 => ⟨S16x2048x1024, .f32⟩
  | 40 => ⟨S16x2048x1024, .f32⟩
  | 41 => ⟨S16x1x1024, .f32⟩
  | 42 => ⟨S_, .f32⟩
  | 43 => ⟨S16x1x1024, .f32⟩
  | 44 => ⟨S16x1x1024, .f32⟩
  | 45 => ⟨S16x2048x1024, .f32⟩
  | 46 => ⟨S16x2048x1024, .f32⟩
  | 47 => ⟨S16x1x1024, .f32⟩
  | 48 => ⟨S16x2048x1024, .f32⟩
  | 49 => ⟨S16x2048x1024, .f32⟩
  | 50 => ⟨S16x2048x3648, .f32⟩
  | 51 => ⟨S16x2048x1024, .f32⟩
  | 52 => ⟨S16x2048x256, .f32⟩
  | 53 => ⟨S16x2048x256, .f32⟩
  | 54 => ⟨S16x2048x256, .f32⟩
  | 55 => ⟨S16x2048x256, .f32⟩
  | 56 => ⟨S16x2048x256, .f32⟩
  | 57 => ⟨S16x2048x256, .f32⟩
  | 58 => ⟨S16x2048x64, .f32⟩
  | 59 => ⟨S16x2048x1024, .f32⟩
  | 60 => ⟨S16x2048x16x64, .f32⟩
  | 61 => ⟨S16x2048x16x64, .f32⟩
  | 62 => ⟨S_, .f32⟩
  | 63 => ⟨S16x2048x16, .f32⟩
  | 64 => ⟨S16x2048x16x1, .f32⟩
  | 65 => ⟨S_, .f32⟩
  | 66 => ⟨S16x2048x16x1, .f32⟩
  | 67 => ⟨S16x2048x16x1, .f32⟩
  | 68 => ⟨S_, .f32⟩
  | 69 => ⟨S16x2048x16x1, .f32⟩
  | 70 => ⟨S16x2048x16x1, .f32⟩
  | 71 => ⟨S16x2048x16x1, .f32⟩
  | 72 => ⟨S16x2048x16x64, .f32⟩
  | 73 => ⟨S16x2048x16x64, .f32⟩
  | 74 => ⟨S1x1x1x64, .f32⟩
  | 75 => ⟨S16x2048x16x64, .f32⟩
  | 76 => ⟨S16x2048x16x64, .f32⟩
  | 77 => ⟨S16x2048x1x8, .f32⟩
  | 78 => ⟨S16x2048x1x8, .f32⟩
  | 79 => ⟨S16x2048x16x8, .f32⟩
  | 80 => ⟨S16x2048x16x8, .f32⟩
  | 81 => ⟨S16x2048x16x48, .f32⟩
  | 82 => ⟨S16x2048x16x8, .f32⟩
  | 83 => ⟨S16x2048x16x8, .f32⟩
  | 84 => ⟨S16x2048x16x8, .f32⟩
  | 85 => ⟨S16x2048x16x8, .f32⟩
  | 86 => ⟨S16x2048x16x8, .f32⟩
  | 87 => ⟨S16x2048x16x8, .f32⟩
  | 88 => ⟨S16x2048x16x8, .f32⟩
  | 89 => ⟨S16x2048x16x8, .f32⟩
  | 90 => ⟨S16x2048x16x8, .f32⟩
  | 91 => ⟨S16x2048x16x8, .f32⟩
  | 92 => ⟨S16x2048x16x64, .f32⟩
  | 93 => ⟨S_, .f32⟩
  | 94 => ⟨S16x2048x16x64, .f32⟩
  | 95 => ⟨S16x2048x16x64, .f32⟩
  | 96 => ⟨S16x2048x4x64, .f32⟩
  | 97 => ⟨S16x2048x4x64, .f32⟩
  | 98 => ⟨S_, .f32⟩
  | 99 => ⟨S16x2048x4, .f32⟩
  | 100 => ⟨S16x2048x4x1, .f32⟩
  | 101 => ⟨S_, .f32⟩
  | 102 => ⟨S16x2048x4x1, .f32⟩
  | 103 => ⟨S16x2048x4x1, .f32⟩
  | 104 => ⟨S_, .f32⟩
  | 105 => ⟨S16x2048x4x1, .f32⟩
  | 106 => ⟨S16x2048x4x1, .f32⟩
  | 107 => ⟨S16x2048x4x1, .f32⟩
  | 108 => ⟨S16x2048x4x64, .f32⟩
  | 109 => ⟨S16x2048x4x64, .f32⟩
  | 110 => ⟨S1x1x1x64, .f32⟩
  | 111 => ⟨S16x2048x4x64, .f32⟩
  | 112 => ⟨S16x2048x4x64, .f32⟩
  | 113 => ⟨S16x2048x1x8, .f32⟩
  | 114 => ⟨S16x2048x1x8, .f32⟩
  | 115 => ⟨S16x2048x4x8, .f32⟩
  | 116 => ⟨S16x2048x4x8, .f32⟩
  | 117 => ⟨S16x2048x4x48, .f32⟩
  | 118 => ⟨S16x2048x4x8, .f32⟩
  | 119 => ⟨S16x2048x4x8, .f32⟩
  | 120 => ⟨S16x2048x4x8, .f32⟩
  | 121 => ⟨S16x2048x4x8, .f32⟩
  | 122 => ⟨S16x2048x4x8, .f32⟩
  | 123 => ⟨S16x2048x4x8, .f32⟩
  | 124 => ⟨S16x2048x4x8, .f32⟩
  | 125 => ⟨S16x2048x4x8, .f32⟩
  | 126 => ⟨S16x2048x4x8, .f32⟩
  | 127 => ⟨S16x2048x4x8, .f32⟩
  | _ => ⟨S16x4x8x256x256, .bf16⟩

abbrev hbmTy0_1 (i : Nat) : BufTy := match i % 128 with
  | 0 => ⟨S16x2048x4x64, .f32⟩
  | 1 => ⟨S16x2048x4x64, .f32⟩
  | 2 => ⟨S16x2048x4x64, .f32⟩
  | 3 => ⟨S_, .f32⟩
  | 4 => ⟨S16x2048x4, .f32⟩
  | 5 => ⟨S16x2048x4x1, .f32⟩
  | 6 => ⟨S_, .f32⟩
  | 7 => ⟨S16x2048x4x1, .f32⟩
  | 8 => ⟨S16x2048x4x1, .f32⟩
  | 9 => ⟨S_, .f32⟩
  | 10 => ⟨S16x2048x4x1, .f32⟩
  | 11 => ⟨S16x2048x4x1, .f32⟩
  | 12 => ⟨S16x2048x4x1, .f32⟩
  | 13 => ⟨S16x2048x4x64, .f32⟩
  | 14 => ⟨S16x2048x4x64, .f32⟩
  | 15 => ⟨S1x1x1x64, .f32⟩
  | 16 => ⟨S16x2048x4x64, .f32⟩
  | 17 => ⟨S16x2048x4x64, .f32⟩
  | 18 => ⟨S16x2048x1x8, .f32⟩
  | 19 => ⟨S16x2048x1x8, .f32⟩
  | 20 => ⟨S16x2048x4x8, .f32⟩
  | 21 => ⟨S16x2048x4x8, .f32⟩
  | 22 => ⟨S16x2048x4x48, .f32⟩
  | 23 => ⟨S16x2048x4x8, .f32⟩
  | 24 => ⟨S16x2048x4x8, .f32⟩
  | 25 => ⟨S16x2048x4x8, .f32⟩
  | 26 => ⟨S16x2048x4x8, .f32⟩
  | 27 => ⟨S16x2048x4x8, .f32⟩
  | 28 => ⟨S16x2048x4x8, .f32⟩
  | 29 => ⟨S16x2048x4x8, .f32⟩
  | 30 => ⟨S16x2048x4x8, .f32⟩
  | 31 => ⟨S16x2048x4x8, .f32⟩
  | 32 => ⟨S16x2048x4x8, .f32⟩
  | 33 => ⟨S16x2048x4x64, .f32⟩
  | 34 => ⟨S4x16, .i32⟩
  | 35 => ⟨S4x16, .i32⟩
  | 36 => ⟨S_, .i32⟩
  | 37 => ⟨S4x16, .i32⟩
  | 38 => ⟨S4x16, .i32⟩
  | 39 => ⟨S4x16, .i1⟩
  | 40 => ⟨S4x16, .f32⟩
  | 41 => ⟨S1x1x4x1x1x16, .f32⟩
  | 42 => ⟨S16x8x4x64x4x16, .f32⟩
  | 43 => ⟨S16x2048x4x16, .f32⟩
  | 44 => ⟨S16x2048x4x80, .f32⟩
  | 45 => ⟨S_, .f32⟩
  | 46 => ⟨S16x2048x4x1, .f32⟩
  | 47 => ⟨S_, .f32⟩
  | 48 => ⟨S16x2048x4x15, .f32⟩
  | 49 => ⟨S16x2048x4x64, .f32⟩
  | 50 => ⟨S16x2048x4x80, .f32⟩
  | 51 => ⟨S16x2048x4x64, .f32⟩
  | 52 => ⟨S16x2048x4x80, .f32⟩
  | 53 => ⟨S1x1x64, .f32⟩
  | 54 => ⟨S16x2048x64, .f32⟩
  | 55 => ⟨S16x2048x64, .f32⟩
  | 56 => ⟨S16x2048x64, .f32⟩
  | 57 => ⟨S16x2048x64, .f32⟩
  | 58 => ⟨S_, .f32⟩
  | 59 => ⟨S16x2048x64, .f32⟩
  | 60 => ⟨S16x2048x64, .f32⟩
  | 61 => ⟨S_, .f32⟩
  | 62 => ⟨S16x2048x64, .f32⟩
  | 63 => ⟨S16x2048x64, .f32⟩
  | 64 => ⟨S16x2048x1024, .f32⟩
  | 65 => ⟨S16x8x256x4x256, .f32⟩
  | 66 => ⟨S16x4x8x256x256, .f32⟩
  | 67 => ⟨S16x4x8x256x256, .bf16⟩
  | 68 => ⟨S16x8x256x4x80, .f32⟩
  | 69 => ⟨S16x4x8x256x80, .f32⟩
  | 70 => ⟨S16x4x8x256x80, .bf16⟩
  | 71 => ⟨S16x8x256x4x64, .f32⟩
  | 72 => ⟨S16x4x8x256x64, .f32⟩
  | 73 => ⟨S16x4x8x256x64, .bf16⟩
  | 74 => ⟨S16x2048x4x64, .f32⟩
  | 75 => ⟨S16x8x256x4x64, .f32⟩
  | 76 => ⟨S16x4x8x256x64, .f32⟩
  | 77 => ⟨S16x2048x4x64, .f32⟩
  | 78 => ⟨S16x8x256x4x64, .f32⟩
  | 79 => ⟨S16x4x8x256x64, .f32⟩
  | 80 => ⟨S16x2048x320, .f32⟩
  | 81 => ⟨S16x8x256x4x80, .f32⟩
  | 82 => ⟨S16x4x8x80x256, .f32⟩
  | 83 => ⟨S16x4x8x80x256, .bf16⟩
  | 84 => ⟨S16x2048x320, .f32⟩
  | 85 => ⟨S16x8x256x4x80, .f32⟩
  | 86 => ⟨S16x4x8x80x256, .f32⟩
  | 87 => ⟨S16x4x8x80x256, .bf16⟩
  | 88 => ⟨S16x8x256x4x16, .f32⟩
  | 89 => ⟨S16x4x8x16x256, .f32⟩
  | 90 => ⟨S16x2048x1024, .f32⟩
  | 91 => ⟨S16x2048x1024, .f32⟩
  | 92 => ⟨S_, .f32⟩
  | 93 => ⟨S16x2048x1024, .f32⟩
  | 94 => ⟨S16x2048x1024, .f32⟩
  | 95 => ⟨S_, .f32⟩
  | 96 => ⟨S16x2048x1024, .f32⟩
  | 97 => ⟨S16x2048x1024, .f32⟩
  | 98 => ⟨S16x2048x1024, .f32⟩
  | 99 => ⟨S16x8x256x4x256, .f32⟩
  | 100 => ⟨S16x4x8x256x256, .f32⟩
  | 101 => ⟨S16x1024x2048, .f32⟩
  | _ => ⟨S16x4x8x256x256, .bf16⟩

abbrev hbmTy (i : Nat) : BufTy := match i / 128 with
  | 0 => hbmTy0_0 i
  | 1 => hbmTy0_1 i
  | _ => ⟨S16x4x8x256x256, .bf16⟩

abbrev bufTy : (tb : Table) → Fin (tcTables nBuf tb) → BufTy
  | .hbm, ⟨i, _⟩ => hbmTy i
  | _, _ => ⟨S16x4x8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_6 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_7 : Ref sig .tc := ⟨.hbm, 98, rfl⟩
abbrev main_v76 : Ref sig .tc := ⟨.hbm, 99, rfl⟩
abbrev main_v77 : Ref sig .tc := ⟨.hbm, 100, rfl⟩
abbrev main_cst_8 : Ref sig .tc := ⟨.hbm, 101, rfl⟩
abbrev main_v78 : Ref sig .tc := ⟨.hbm, 102, rfl⟩
abbrev main_v79 : Ref sig .tc := ⟨.hbm, 103, rfl⟩
abbrev main_cst_9 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_10 : Ref sig .tc := ⟨.hbm, 131, rfl⟩
abbrev main_v106 : Ref sig .tc := ⟨.hbm, 132, rfl⟩
abbrev main_v107 : Ref sig .tc := ⟨.hbm, 133, rfl⟩
abbrev main_cst_11 : Ref sig .tc := ⟨.hbm, 134, rfl⟩
abbrev main_v108 : Ref sig .tc := ⟨.hbm, 135, rfl⟩
abbrev main_v109 : Ref sig .tc := ⟨.hbm, 136, rfl⟩
abbrev main_cst_12 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_c : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_13 : Ref sig .tc := ⟨.hbm, 173, rfl⟩
abbrev main_v144 : Ref sig .tc := ⟨.hbm, 174, rfl⟩
abbrev main_cst_14 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_15 : Ref sig .tc := ⟨.hbm, 186, rfl⟩
abbrev main_v155 : Ref sig .tc := ⟨.hbm, 187, rfl⟩
abbrev main_v156 : Ref sig .tc := ⟨.hbm, 188, rfl⟩
abbrev main_cst_16 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_cst_17 : Ref sig .tc := ⟨.hbm, 220, rfl⟩
abbrev main_v187 : Ref sig .tc := ⟨.hbm, 221, rfl⟩
abbrev main_v188 : Ref sig .tc := ⟨.hbm, 222, rfl⟩
abbrev main_cst_18 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩

abbrev nD : Nat := 1
abbrev τ : Topo := Topo.v7x

variable {F : FTy → Type} [FloatOps F]
-- ==== NsaFirst.lean ====
abbrev S16x2048x1024 : Shape := ⟨3, ![16, 2048, 1024]⟩
abbrev S1024 : Shape := ⟨1, ![1024]⟩
abbrev S16x1024x1 : Shape := ⟨3, ![16, 1024, 1]⟩
abbrev S1024x3648 : Shape := ⟨2, ![1024, 3648]⟩
abbrev S64 : Shape := ⟨1, ![64]⟩
abbrev S16x8x2048 : Shape := ⟨3, ![16, 8, 2048]⟩
abbrev S1024x1 : Shape := ⟨2, ![1024, 1]⟩
abbrev S3648x1024 : Shape := ⟨2, ![3648, 1024]⟩
abbrev S64x1 : Shape := ⟨2, ![64, 1]⟩
abbrev S16x4x8x256x256 : Shape := ⟨5, ![16, 4, 8, 256, 256]⟩
abbrev S16x4x8x256x80 : Shape := ⟨5, ![16, 4, 8, 256, 80]⟩
abbrev S16x4x8x256x64 : Shape := ⟨5, ![16, 4, 8, 256, 64]⟩
abbrev S16x4x8x80x256 : Shape := ⟨5, ![16, 4, 8, 80, 256]⟩
abbrev S16x4x8x16x256 : Shape := ⟨5, ![16, 4, 8, 16, 256]⟩
abbrev S16x1024x2048 : Shape := ⟨3, ![16, 1024, 2048]⟩
abbrev S1x512x1024 : Shape := ⟨3, ![1, 512, 1024]⟩
abbrev S1x1024x1 : Shape := ⟨3, ![1, 1024, 1]⟩
abbrev S1x8x512 : Shape := ⟨3, ![1, 8, 512]⟩
abbrev S1x4x2x256x256 : Shape := ⟨5, ![1, 4, 2, 256, 256]⟩
abbrev S1x4x2x256x80 : Shape := ⟨5, ![1, 4, 2, 256, 80]⟩
abbrev S1x4x2x256x64 : Shape := ⟨5, ![1, 4, 2, 256, 64]⟩
abbrev S1x4x2x80x256 : Shape := ⟨5, ![1, 4, 2, 80, 256]⟩
abbrev S1x4x2x16x256 : Shape := ⟨5, ![1, 4, 2, 16, 256]⟩
abbrev S1x1024x512 : Shape := ⟨3, ![1, 1024, 512]⟩
abbrev S512x1024 : Shape := ⟨2, ![512, 1024]⟩
abbrev S1024x512 : Shape := ⟨2, ![1024, 512]⟩
abbrev S512 : Shape := ⟨1, ![512]⟩
abbrev S1x512 : Shape := ⟨2, ![1, 512]⟩
abbrev S8x512 : Shape := ⟨2, ![8, 512]⟩
abbrev S256x1024 : Shape := ⟨2, ![256, 1024]⟩
abbrev S256x512 : Shape := ⟨2, ![256, 512]⟩
abbrev S64x512 : Shape := ⟨2, ![64, 512]⟩
abbrev S48x512 : Shape := ⟨2, ![48, 512]⟩
abbrev S64x256 : Shape := ⟨2, ![64, 256]⟩
abbrev S1x1x1x64x256 : Shape := ⟨5, ![1, 1, 1, 64, 256]⟩
abbrev S128x256 : Shape := ⟨2, ![128, 256]⟩
abbrev S256x128 : Shape := ⟨2, ![256, 128]⟩
abbrev S256x80 : Shape := ⟨2, ![256, 80]⟩
abbrev S1x1x1x256x80 : Shape := ⟨5, ![1, 1, 1, 256, 80]⟩
abbrev S256x64 : Shape := ⟨2, ![256, 64]⟩
abbrev S1x1x1x256x64 : Shape := ⟨5, ![1, 1, 1, 256, 64]⟩
abbrev S16x256 : Shape := ⟨2, ![16, 256]⟩
abbrev S80x256 : Shape := ⟨2, ![80, 256]⟩
abbrev S1x1x1x80x256 : Shape := ⟨5, ![1, 1, 1, 80, 256]⟩
abbrev S64x1024 : Shape := ⟨2, ![64, 1024]⟩
abbrev S16x512 : Shape := ⟨2, ![16, 512]⟩
abbrev S1x1x1x16x256 : Shape := ⟨5, ![1, 1, 1, 16, 256]⟩
abbrev S256x256 : Shape := ⟨2, ![256, 256]⟩
abbrev S1x1x1x256x256 : Shape := ⟨5, ![1, 1, 1, 256, 256]⟩

abbrev nBuf : Space → Nat
  | .hbm => 28
  | .vmem => 36
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1024x1, .f32⟩
  | .hbm, ⟨3, _⟩ => ⟨S16x1024x1, .f32⟩
  | .hbm, ⟨4, _⟩ => ⟨S1024x3648, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S16x8x2048, .f32⟩
  | .hbm, ⟨10, _⟩ => ⟨S16x8x2048, .f32⟩
  | .hbm, ⟨11, _⟩ => ⟨S1024x1, .f32⟩
  | .hbm, ⟨12, _⟩ => ⟨S3648x1024, .f32⟩
  | .hbm, ⟨13, _⟩ => ⟨S3648x1024, .bf16⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S16x4x8x256x256, .bf16⟩
  | .hbm, ⟨19, _⟩ => ⟨S16x4x8x256x80, .bf16⟩
  | .hbm, ⟨20, _⟩ => ⟨S16x4x8x256x64, .bf16⟩
  | .hbm, ⟨21, _⟩ => ⟨S16x4x8x256x64, .f32⟩
  | .hbm, ⟨22, _⟩ => ⟨S16x4x8x256x64, .f32⟩
  | .hbm, ⟨23, _⟩ => ⟨S16x4x8x80x256, .bf16⟩
  | .hbm, ⟨24, _⟩ => ⟨S16x4x8x80x256, .bf16⟩
  | .hbm, ⟨25, _⟩ => ⟨S16x4x8x16x256, .f32⟩
  | .hbm, ⟨26, _⟩ => ⟨S16x4x8x256x256, .f32⟩
  | .hbm, ⟨27, _⟩ => ⟨S16x1024x2048, .f32⟩
  | .local _ .vmem, ⟨0, _⟩ => ⟨S1x512x1024, .f32⟩
  | .local _ .vmem, ⟨1, _⟩ => ⟨S1x512x1024, .f32⟩
  | .local _ .vmem, ⟨2, _⟩ => ⟨S1024x1, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S3648x1024, .bf16⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | .local _ .vmem, ⟨12, _⟩ => ⟨S1x8x512, .f32⟩
  | .local _ .vmem, ⟨13, _⟩ => ⟨S1x8x512, .f32⟩
  | .local _ .vmem, ⟨14, _⟩ => ⟨S1x8x512, .f32⟩
  | .local _ .vmem, ⟨15, _⟩ => ⟨S1x8x512, .f32⟩
  | .local _ .vmem, ⟨16, _⟩ => ⟨S1x4x2x256x256, .bf16⟩
  | .local _ .vmem, ⟨17, _⟩ => ⟨S1x4x2x256x256, .bf16⟩
  | .local _ .vmem, ⟨18, _⟩ => ⟨S1x4x2x256x80, .bf16⟩
  | .local _ .vmem, ⟨19, _⟩ => ⟨S1x4x2x256x80, .bf16⟩
  | .local _ .vmem, ⟨20, _⟩ => ⟨S1x4x2x256x64, .bf16⟩
  | .local _ .vmem, ⟨21, _⟩ => ⟨S1x4x2x256x64, .bf16⟩
  | .local _ .vmem, ⟨22, _⟩ => ⟨S1x4x2x256x64, .f32⟩
  | .local _ .vmem, ⟨23, _⟩ => ⟨S1x4x2x256x64, .f32⟩
  | .local _ .vmem, ⟨24, _⟩ => ⟨S1x4x2x256x64, .f32⟩
  | .local _ .vmem, ⟨25, _⟩ => ⟨S1x4x2x256x64, .f32⟩
  | .local _ .vmem, ⟨26, _⟩ => ⟨S1x4x2x80x256, .bf16⟩
  | .local _ .vmem, ⟨27, _⟩ => ⟨S1x4x2x80x256, .bf16⟩
  | .local _ .vmem, ⟨28, _⟩ => ⟨S1x4x2x80x256, .bf16⟩
  | .local _ .vmem, ⟨29, _⟩ => ⟨S1x4x2x80x256, .bf16⟩
  | .local _ .vmem, ⟨30, _⟩ => ⟨S1x4x2x16x256, .f32⟩
  | .local _ .vmem, ⟨31, _⟩ => ⟨S1x4x2x16x256, .f32⟩
  | .local _ .vmem, ⟨32, _⟩ => ⟨S1x4x2x256x256, .f32⟩
  | .local _ .vmem, ⟨33, _⟩ => ⟨S1x4x2x256x256, .f32⟩
  | .local _ .vmem, ⟨34, _⟩ => ⟨S1x1024x512, .f32⟩
  | .local _ .vmem, ⟨35, _⟩ => ⟨S1x1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev main_v7_7 : Ref sig .tc := ⟨.hbm, 25, rfl⟩
abbrev main_v7_8 : Ref sig .tc := ⟨.hbm, 26, rfl⟩
abbrev main_v7_9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3648x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x2x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x2x256x80 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x2x256x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x2x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x2x256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x2x80x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x2x80x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x2x16x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x2x256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== NsaFirstRefIdeal.lean ====
abbrev S16x2048x1024 : Shape := ⟨3, ![16, 2048, 1024]⟩
abbrev S1024 : Shape := ⟨1, ![1024]⟩
abbrev S16x1024x1 : Shape := ⟨3, ![16, 1024, 1]⟩
abbrev S1024x3648 : Shape := ⟨2, ![1024, 3648]⟩
abbrev S64 : Shape := ⟨1, ![64]⟩
abbrev S16x8x2048 : Shape := ⟨3, ![16, 8, 2048]⟩
abbrev S16x2048x8 : Shape := ⟨3, ![16, 2048, 8]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x3648 : Shape := ⟨3, ![16, 2048, 3648]⟩
abbrev S16x2048x256 : Shape := ⟨3, ![16, 2048, 256]⟩
abbrev S16x2048x64 : Shape := ⟨3, ![16, 2048, 64]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x1x8 : Shape := ⟨4, ![16, 2048, 1, 8]⟩
abbrev S16x2048x16x8 : Shape := ⟨4, ![16, 2048, 16, 8]⟩
abbrev S16x2048x16x48 : Shape := ⟨4, ![16, 2048, 16, 48]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x4x8 : Shape := ⟨4, ![16, 2048, 4, 8]⟩
abbrev S16x2048x4x48 : Shape := ⟨4, ![16, 2048, 4, 48]⟩
abbrev S4x16 : Shape := ⟨2, ![4, 16]⟩
abbrev S1x1x4x1x1x16 : Shape := ⟨6, ![1, 1, 4, 1, 1, 16]⟩
abbrev S16x8x4x64x4x16 : Shape := ⟨6, ![16, 8, 4, 64, 4, 16]⟩
abbrev S16x2048x4x16 : Shape := ⟨4, ![16, 2048, 4, 16]⟩
abbrev S16x2048x4x80 : Shape := ⟨4, ![16, 2048, 4, 80]⟩
abbrev S16x2048x4x15 : Shape := ⟨4, ![16, 2048, 4, 15]⟩
abbrev S1x1x64 : Shape := ⟨3, ![1, 1, 64]⟩
abbrev S16x8x256x4x256 : Shape := ⟨5, ![16, 8, 256, 4, 256]⟩
abbrev S16x4x8x256x256 : Shape := ⟨5, ![16, 4, 8, 256, 256]⟩
abbrev S16x8x256x4x80 : Shape := ⟨5, ![16, 8, 256, 4, 80]⟩
abbrev S16x4x8x256x80 : Shape := ⟨5, ![16, 4, 8, 256, 80]⟩
abbrev S16x8x256x4x64 : Shape := ⟨5, ![16, 8, 256, 4, 64]⟩
abbrev S16x4x8x256x64 : Shape := ⟨5, ![16, 4, 8, 256, 64]⟩
abbrev S16x2048x320 : Shape := ⟨3, ![16, 2048, 320]⟩
abbrev S16x4x8x80x256 : Shape := ⟨5, ![16, 4, 8, 80, 256]⟩
abbrev S16x8x256x4x16 : Shape := ⟨5, ![16, 8, 256, 4, 16]⟩
abbrev S16x4x8x16x256 : Shape := ⟨5, ![16, 4, 8, 16, 256]⟩
abbrev S16x1024x2048 : Shape := ⟨3, ![16, 1024, 2048]⟩

abbrev nBuf : Space → Nat
  | .hbm => 218
  | .vmem => 0
  | .smem => 0
  | _ => 0

abbrev hbmTy0_0 (i : Nat) : BufTy := match i % 128 with
  | 0 => ⟨S16x2048x1024, .f32⟩
  | 1 => ⟨S1024, .f32⟩
  | 2 => ⟨S16x1024x1, .f32⟩
  | 3 => ⟨S16x1024x1, .f32⟩
  | 4 => ⟨S1024x3648, .f32⟩
  | 5 => ⟨S64, .f32⟩
  | 6 => ⟨S64, .f32⟩
  | 7 => ⟨S64, .f32⟩
  | 8 => ⟨S64, .f32⟩
  | 9 => ⟨S16x8x2048, .f32⟩
  | 10 => ⟨S16x8x2048, .f32⟩
  | 11 => ⟨S16x2048x8, .f32⟩
  | 12 => ⟨S16x2048x8, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S_, .f32⟩
  | 21 => ⟨S16x2048x1, .f32⟩
  | 22 => ⟨S16x2048x1, .f32⟩
  | 23 => ⟨S16x2048x1, .f32⟩
  | 24 => ⟨S16x2048x1024, .f32⟩
  | 25 => ⟨S16x2048x1024, .f32⟩
  | 26 => ⟨S1x1x1024, .f32⟩
  | 27 => ⟨S16x2048x1024, .f32⟩
  | 28 => ⟨S16x2048x1024, .f32⟩
  | 29 => ⟨S16x1x1024, .f32⟩
  | 30 => ⟨S_, .f32⟩
  | 31 => ⟨S16x1x1024, .f32⟩
  | 32 => ⟨S16x1x1024, .f32⟩
  | 33 => ⟨S16x2048x1024, .f32⟩
  | 34 => ⟨S16x2048x1024, .f32⟩
  | 35 => ⟨S16x1x1024, .f32⟩
  | 36 => ⟨S16x2048x1024, .f32⟩
  | 37 => ⟨S16x2048x1024, .f32⟩
  | 38 => ⟨S16x2048x3648, .f32⟩
  | 39 => ⟨S16x2048x1024, .f32⟩
  | 40 => ⟨S16x2048x256, .f32⟩
  | 41 => ⟨S16x2048x256, .f32⟩
  | 42 => ⟨S16x2048x256, .f32⟩
  | 43 => ⟨S16x2048x256, .f32⟩
  | 44 => ⟨S16x2048x256, .f32⟩
  | 45 => ⟨S16x2048x256, .f32⟩
  | 46 => ⟨S16x2048x64, .f32⟩
  | 47 => ⟨S16x2048x1024, .f32⟩
  | 48 => ⟨S16x2048x16x64, .f32⟩
  | 49 => ⟨S16x2048x16x64, .f32⟩
  | 50 => ⟨S_, .f32⟩
  | 51 => ⟨S16x2048x16, .f32⟩
  | 52 => ⟨S16x2048x16x1, .f32⟩
  | 53 => ⟨S_, .f32⟩
  | 54 => ⟨S16x2048x16x1, .f32⟩
  | 55 => ⟨S16x2048x16x1, .f32⟩
  | 56 => ⟨S_, .f32⟩
  | 57 => ⟨S16x2048x16x1, .f32⟩
  | 58 => ⟨S16x2048x16x1, .f32⟩
  | 59 => ⟨S16x2048x16x1, .f32⟩
  | 60 => ⟨S16x2048x16x64, .f32⟩
  | 61 => ⟨S16x2048x16x64, .f32⟩
  | 62 => ⟨S1x1x1x64, .f32⟩
  | 63 => ⟨S16x2048x16x64, .f32⟩
  | 64 => ⟨S16x2048x16x64, .f32⟩
  | 65 => ⟨S16x2048x1x8, .f32⟩
  | 66 => ⟨S16x2048x1x8, .f32⟩
  | 67 => ⟨S16x2048x16x8, .f32⟩
  | 68 => ⟨S16x2048x16x8, .f32⟩
  | 69 => ⟨S16x2048x16x48, .f32⟩
  | 70 => ⟨S16x2048x16x8, .f32⟩
  | 71 => ⟨S16x2048x16x8, .f32⟩
  | 72 => ⟨S16x2048x16x8, .f32⟩
  | 73 => ⟨S16x2048x16x8, .f32⟩
  | 74 => ⟨S16x2048x16x8, .f32⟩
  | 75 => ⟨S16x2048x16x8, .f32⟩
  | 76 => ⟨S16x2048x16x8, .f32⟩
  | 77 => ⟨S16x2048x16x8, .f32⟩
  | 78 => ⟨S16x2048x16x8, .f32⟩
  | 79 => ⟨S16x2048x16x8, .f32⟩
  | 80 => ⟨S16x2048x16x64, .f32⟩
  | 81 => ⟨S_, .f32⟩
  | 82 => ⟨S16x2048x16x64, .f32⟩
  | 83 => ⟨S16x2048x16x64, .f32⟩
  | 84 => ⟨S16x2048x4x64, .f32⟩
  | 85 => ⟨S16x2048x4x64, .f32⟩
  | 86 => ⟨S_, .f32⟩
  | 87 => ⟨S16x2048x4, .f32⟩
  | 88 => ⟨S16x2048x4x1, .f32⟩
  | 89 => ⟨S_, .f32⟩
  | 90 => ⟨S16x2048x4x1, .f32⟩
  | 91 => ⟨S16x2048x4x1, .f32⟩
  | 92 => ⟨S_, .f32⟩
  | 93 => ⟨S16x2048x4x1, .f32⟩
  | 94 => ⟨S16x2048x4x1, .f32⟩
  | 95 => ⟨S16x2048x4x1, .f32⟩
  | 96 => ⟨S16x2048x4x64, .f32⟩
  | 97 => ⟨S16x2048x4x64, .f32⟩
  | 98 => ⟨S1x1x1x64, .f32⟩
  | 99 => ⟨S16x2048x4x64, .f32⟩
  | 100 => ⟨S16x2048x4x64, .f32⟩
  | 101 => ⟨S16x2048x1x8, .f32⟩
  | 102 => ⟨S16x2048x1x8, .f32⟩
  | 103 => ⟨S16x2048x4x8, .f32⟩
  | 104 => ⟨S16x2048x4x8, .f32⟩
  | 105 => ⟨S16x2048x4x48, .f32⟩
  | 106 => ⟨S16x2048x4x8, .f32⟩
  | 107 => ⟨S16x2048x4x8, .f32⟩
  | 108 => ⟨S16x2048x4x8, .f32⟩
  | 109 => ⟨S16x2048x4x8, .f32⟩
  | 110 => ⟨S16x2048x4x8, .f32⟩
  | 111 => ⟨S16x2048x4x8, .f32⟩
  | 112 => ⟨S16x2048x4x8, .f32⟩
  | 113 => ⟨S16x2048x4x8, .f32⟩
  | 114 => ⟨S16x2048x4x8, .f32⟩
  | 115 => ⟨S16x2048x4x8, .f32⟩
  | 116 => ⟨S16x2048x4x64, .f32⟩
  | 117 => ⟨S16x2048x4x64, .f32⟩
  | 118 => ⟨S16x2048x4x64, .f32⟩
  | 119 => ⟨S_, .f32⟩
  | 120 => ⟨S16x2048x4, .f32⟩
  | 121 => ⟨S16x2048x4x1, .f32⟩
  | 122 => ⟨S_, .f32⟩
  | 123 => ⟨S16x2048x4x1, .f32⟩
  | 124 => ⟨S16x2048x4x1, .f32⟩
  | 125 => ⟨S_, .f32⟩
  | 126 => ⟨S16x2048x4x1, .f32⟩
  | 127 => ⟨S16x2048x4x1, .f32⟩
  | _ => ⟨S16x2048x1024, .f32⟩

abbrev hbmTy0_1 (i : Nat) : BufTy := match i % 128 with
  | 0 => ⟨S16x2048x4x1, .f32⟩
  | 1 => ⟨S16x2048x4x64, .f32⟩
  | 2 => ⟨S16x2048x4x64, .f32⟩
  | 3 => ⟨S1x1x1x64, .f32⟩
  | 4 => ⟨S16x2048x4x64, .f32⟩
  | 5 => ⟨S16x2048x4x64, .f32⟩
  | 6 => ⟨S16x2048x1x8, .f32⟩
  | 7 => ⟨S16x2048x1x8, .f32⟩
  | 8 => ⟨S16x2048x4x8, .f32⟩
  | 9 => ⟨S16x2048x4x8, .f32⟩
  | 10 => ⟨S16x2048x4x48, .f32⟩
  | 11 => ⟨S16x2048x4x8, .f32⟩
  | 12 => ⟨S16x2048x4x8, .f32⟩
  | 13 => ⟨S16x2048x4x8, .f32⟩
  | 14 => ⟨S16x2048x4x8, .f32⟩
  | 15 => ⟨S16x2048x4x8, .f32⟩
  | 16 => ⟨S16x2048x4x8, .f32⟩
  | 17 => ⟨S16x2048x4x8, .f32⟩
  | 18 => ⟨S16x2048x4x8, .f32⟩
  | 19 => ⟨S16x2048x4x8, .f32⟩
  | 20 => ⟨S16x2048x4x8, .f32⟩
  | 21 => ⟨S16x2048x4x64, .f32⟩
  | 22 => ⟨S4x16, .i32⟩
  | 23 => ⟨S4x16, .i32⟩
  | 24 => ⟨S_, .i32⟩
  | 25 => ⟨S4x16, .i32⟩
  | 26 => ⟨S4x16, .i32⟩
  | 27 => ⟨S4x16, .i1⟩
  | 28 => ⟨S4x16, .f32⟩
  | 29 => ⟨S1x1x4x1x1x16, .f32⟩
  | 30 => ⟨S16x8x4x64x4x16, .f32⟩
  | 31 => ⟨S16x2048x4x16, .f32⟩
  | 32 => ⟨S16x2048x4x80, .f32⟩
  | 33 => ⟨S_, .f32⟩
  | 34 => ⟨S16x2048x4x1, .f32⟩
  | 35 => ⟨S_, .f32⟩
  | 36 => ⟨S16x2048x4x15, .f32⟩
  | 37 => ⟨S16x2048x4x64, .f32⟩
  | 38 => ⟨S16x2048x4x80, .f32⟩
  | 39 => ⟨S16x2048x4x64, .f32⟩
  | 40 => ⟨S16x2048x4x80, .f32⟩
  | 41 => ⟨S1x1x64, .f32⟩
  | 42 => ⟨S16x2048x64, .f32⟩
  | 43 => ⟨S16x2048x64, .f32⟩
  | 44 => ⟨S16x2048x64, .f32⟩
  | 45 => ⟨S16x2048x64, .f32⟩
  | 46 => ⟨S_, .f32⟩
  | 47 => ⟨S16x2048x64, .f32⟩
  | 48 => ⟨S16x2048x64, .f32⟩
  | 49 => ⟨S_, .f32⟩
  | 50 => ⟨S16x2048x64, .f32⟩
  | 51 => ⟨S16x2048x64, .f32⟩
  | 52 => ⟨S16x2048x1024, .f32⟩
  | 53 => ⟨S16x8x256x4x256, .f32⟩
  | 54 => ⟨S16x4x8x256x256, .f32⟩
  | 55 => ⟨S16x4x8x256x256, .bf16⟩
  | 56 => ⟨S16x8x256x4x80, .f32⟩
  | 57 => ⟨S16x4x8x256x80, .f32⟩
  | 58 => ⟨S16x4x8x256x80, .bf16⟩
  | 59 => ⟨S16x8x256x4x64, .f32⟩
  | 60 => ⟨S16x4x8x256x64, .f32⟩
  | 61 => ⟨S16x4x8x256x64, .bf16⟩
  | 62 => ⟨S16x2048x4x64, .f32⟩
  | 63 => ⟨S16x8x256x4x64, .f32⟩
  | 64 => ⟨S16x4x8x256x64, .f32⟩
  | 65 => ⟨S16x2048x4x64, .f32⟩
  | 66 => ⟨S16x8x256x4x64, .f32⟩
  | 67 => ⟨S16x4x8x256x64, .f32⟩
  | 68 => ⟨S16x2048x320, .f32⟩
  | 69 => ⟨S16x8x256x4x80, .f32⟩
  | 70 => ⟨S16x4x8x80x256, .f32⟩
  | 71 => ⟨S16x4x8x80x256, .bf16⟩
  | 72 => ⟨S16x2048x320, .f32⟩
  | 73 => ⟨S16x8x256x4x80, .f32⟩
  | 74 => ⟨S16x4x8x80x256, .f32⟩
  | 75 => ⟨S16x4x8x80x256, .bf16⟩
  | 76 => ⟨S16x8x256x4x16, .f32⟩
  | 77 => ⟨S16x4x8x16x256, .f32⟩
  | 78 => ⟨S16x2048x1024, .f32⟩
  | 79 => ⟨S16x2048x1024, .f32⟩
  | 80 => ⟨S_, .f32⟩
  | 81 => ⟨S16x2048x1024, .f32⟩
  | 82 => ⟨S16x2048x1024, .f32⟩
  | 83 => ⟨S_, .f32⟩
  | 84 => ⟨S16x2048x1024, .f32⟩
  | 85 => ⟨S16x2048x1024, .f32⟩
  | 86 => ⟨S16x2048x1024, .f32⟩
  | 87 => ⟨S16x8x256x4x256, .f32⟩
  | 88 => ⟨S16x4x8x256x256, .f32⟩
  | 89 => ⟨S16x1024x2048, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_cst_8 : Ref sig .tc := ⟨.hbm, 89, rfl⟩
abbrev main_v69 : Ref sig .tc := ⟨.hbm, 90, rfl⟩
abbrev main_v70 : Ref sig .tc := ⟨.hbm, 91, rfl⟩
abbrev main_cst_9 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_10 : Ref sig .tc := ⟨.hbm, 119, rfl⟩
abbrev main_v97 : Ref sig .tc := ⟨.hbm, 120, rfl⟩
abbrev main_v98 : Ref sig .tc := ⟨.hbm, 121, rfl⟩
abbrev main_cst_11 : Ref sig .tc := ⟨.hbm, 122, rfl⟩
abbrev main_v99 : Ref sig .tc := ⟨.hbm, 123, rfl⟩
abbrev main_v100 : Ref sig .tc := ⟨.hbm, 124, rfl⟩
abbrev main_cst_12 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_c : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_13 : Ref sig .tc := ⟨.hbm, 161, rfl⟩
abbrev main_v135 : Ref sig .tc := ⟨.hbm, 162, rfl⟩
abbrev main_cst_14 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_15 : Ref sig .tc := ⟨.hbm, 174, rfl⟩
abbrev main_v146 : Ref sig .tc := ⟨.hbm, 175, rfl⟩
abbrev main_v147 : Ref sig .tc := ⟨.hbm, 176, rfl⟩
abbrev main_cst_16 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_cst_17 : Ref sig .tc := ⟨.hbm, 208, rfl⟩
abbrev main_v178 : Ref sig .tc := ⟨.hbm, 209, rfl⟩
abbrev main_v179 : Ref sig .tc := ⟨.hbm, 210, rfl⟩
abbrev main_cst_18 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩

abbrev nD : Nat := 1
abbrev τ : Topo := Topo.v7x

variable {F : FTy → Type} [FloatOps F]
-- ==== Proof.OutBlock.lean ====
/-
  Hand-written. THE OUT-PROJECTION, ONE BLOCK: what the body of the output-projection call leaves in its 512 × 1024
  output block, as one formula in the four input blocks — the residual plus the gate times the full 1024-deep product.
  The body writes the block as eight 256 × 256 tiles; one lemma reads a tile, and serves all eight.
-/
module

public import proofs.«01_k».proof.Proof.Gen.OutProjIdeal.Value
public import Idealize.ShloMosaic.Lib.Pipeline.Value
public import Idealize.ShloMosaic.Lib.Pointwise

@[expose] public section

noncomputable section

namespace Cert.Proof.Out

open Idealize.ShloMosaic Idealize.ShloMosaic.TcCoe Idealize.SL.Sem
open Cert.OutProjIdeal Cert.OutProjIdeal.Gen

/-- A sum over 1024 terms is the four sums over its 256-term quarters, added in order. -/
theorem sum_quarters (h : Fin 1024 → EReal) :
    ∑ f, h f = (∑ k : Fin 256, h ⟨k.val, by omega⟩) + (∑ k : Fin 256, h ⟨256 + k.val, by omega⟩)
      + (∑ k : Fin 256, h ⟨512 + k.val, by omega⟩) + ∑ k : Fin 256, h ⟨768 + k.val, by omega⟩ := by
  have e1 := Fin.sum_univ_add (a := 768) (b := 256) h
  have e2 := Fin.sum_univ_add (a := 512) (b := 256) (fun i : Fin (512 + 256) => h ⟨i.val, by omega⟩)
  have e3 := Fin.sum_univ_add (a := 256) (b := 256) (fun i : Fin (256 + 256) => h ⟨i.val, by omega⟩)
  exact e1.trans (congrArg (· + _) (e2.trans (congrArg (· + _) e3)))

/-- One 256 × 256 tile of the body's result, at local row `a` (a token) and column `b` (a feature): the residual, plus
    the gate times the four 256-deep products. -/
theorem tile_apply (w0 w1 w2 w3 : Vec Ideal S256x256 .bf16) (z0 z1 z2 z3 : Vec Ideal S1x1x1x256x256 .bf16)
    (x : Vec Ideal S1x256x256 .f32) (g : Vec Ideal S1x256x1 .f32) (o : Fin 1) (a b : Fin 256) :
    k0_pay3 (k0_pay2 w0 z0 w1 z1 w2 z2 w3 z3) x g (ix3 o a b)
      = x (ix3 0 b a) + g (ix3 0 b 0) * ((∑ k, w0 (ix2 b k) * z0 (ix5 0 0 0 k a)) + (∑ k, w1 (ix2 b k) * z1 (ix5 0 0 0 k a))
          + (∑ k, w2 (ix2 b k) * z2 (ix5 0 0 0 k a)) + ∑ k, w3 (ix2 b k) * z3 (ix5 0 0 0 k a)) := by
  pointwise [k0_pay3, k0_pay2]

/-- What the body leaves at index `y` of its output block: token `y 1`, feature `y 2`. -/
def block (x0 : Vec Ideal S1x4x2x256x256 .bf16) (x1 : Vec Ideal S1024x1024 .bf16) (x2 : Vec Ideal S1x1024x512 .f32)
    (x3 : Vec Ideal S1x1024x1 .f32) (t : Fin 512) (d : Fin 1024) : EReal :=
  x2 (ix3 0 d t) + x3 (ix3 0 d 0) * ∑ f : Fin 1024, x1 (ix2 d f)
    * x0 (ix5 0 ⟨f.val / 256, by omega⟩ ⟨t.val / 256, by omega⟩ ⟨f.val % 256, by omega⟩ ⟨t.val % 256, by omega⟩)

/-- The tile at rows from `T` and columns from `R` (`T` a multiple of 256), with its operands loaded where the body loads
    them, is `block` there. -/
theorem tile_eq_block (x0 : Vec Ideal S1x4x2x256x256 .bf16) (x1 : Vec Ideal S1024x1024 .bf16) (x2 : Vec Ideal S1x1024x512 .f32)
    (x3 : Vec Ideal S1x1024x1 .f32) (R T s : Nat) (hR : R + 256 ≤ 1024) (hs : s < 2) (hT : T = 256 * s)
    (i0 : ∀ a, (![R, 0] : Fin 2 → Nat) a + S256x256.size a ≤ S1024x1024.size a)
    (i1 : ∀ a, (![R, 256] : Fin 2 → Nat) a + S256x256.size a ≤ S1024x1024.size a)
    (i2 : ∀ a, (![R, 512] : Fin 2 → Nat) a + S256x256.size a ≤ S1024x1024.size a)
    (i3 : ∀ a, (![R, 768] : Fin 2 → Nat) a + S256x256.size a ≤ S1024x1024.size a)
    (j0 : ∀ a, (![0, 0, s, 0, 0] : Fin 5 → Nat) a + S1x1x1x256x256.size a ≤ S1x4x2x256x256.size a)
    (j1 : ∀ a, (![0, 1, s, 0, 0] : Fin 5 → Nat) a + S1x1x1x256x256.size a ≤ S1x4x2x256x256.size a)
    (j2 : ∀ a, (![0, 2, s, 0, 0] : Fin 5 → Nat) a + S1x1x1x256x256.size a ≤ S1x4x2x256x256.size a)
    (j3 : ∀ a, (![0, 3, s, 0, 0] : Fin 5 → Nat) a + S1x1x1x256x256.size a ≤ S1x4x2x256x256.size a)
    (ix : ∀ a, (![0, R, T] : Fin 3 → Nat) a + S1x256x256.size a ≤ S1x1024x512.size a)
    (ig : ∀ a, (![0, R, 0] : Fin 3 → Nat) a + S1x256x1.size a ≤ S1x1024x1.size a)
    (io : ∀ a, (![0, T, R] : Fin 3 → Nat) a + S1x256x256.size a ≤ S1x512x1024.size a)
    (z : S1x256x256.Idx) :
    k0_pay3 (k0_pay2 (View.ld x1 (Rect.unit (s := S1024x1024) ![R, 0] S256x256.size i0)) (View.ld x0 (Rect.unit (s := S1x4x2x256x256) ![0, 0, s, 0, 0] S1x1x1x256x256.size j0))
        (View.ld x1 (Rect.unit (s := S1024x1024) ![R, 256] S256x256.size i1)) (View.ld x0 (Rect.unit (s := S1x4x2x256x256) ![0, 1, s, 0, 0] S1x1x1x256x256.size j1))
        (View.ld x1 (Rect.unit (s := S1024x1024) ![R, 512] S256x256.size i2)) (View.ld x0 (Rect.unit (s := S1x4x2x256x256) ![0, 2, s, 0, 0] S1x1x1x256x256.size j2))
        (View.ld x1 (Rect.unit (s := S1024x1024) ![R, 768] S256x256.size i3)) (View.ld x0 (Rect.unit (s := S1x4x2x256x256) ![0, 3, s, 0, 0] S1x1x1x256x256.size j3)))
      (View.ld x2 (Rect.unit (s := S1x1024x512) ![0, R, T] S1x256x256.size ix)) (View.ld x3 (Rect.unit (s := S1x1024x1) ![0, R, 0] S1x256x1.size ig)) z
      = (fun y : S1x512x1024.Idx => block x0 x1 x2 x3 (y 1) (y 2)) ((Rect.unit (s := S1x512x1024) ![0, T, R] S1x256x256.size io).emb z) := by
  subst hT
  obtain ⟨o, a, b, rfl⟩ : ∃ o a b, z = ix3 o a b := ⟨_, _, _, eq_ix3 z⟩
  have ho : o = 0 := Fin.ext (by omega)
  subst ho
  rw [tile_apply]
  simp only [block, sum_quarters]
  have ha := a.isLt
  have hb := b.isLt
  refine congr (congrArg _ ?_) (congr (congrArg _ ?_) (congr (congrArg _ (congr (congrArg _ (congr (congrArg _ ?_) ?_)) ?_)) ?_))
  · refine congrArg x2 (funext fun c => Fin.ext ?_)
    match c with
    | ⟨0, _⟩ => rfl
    | ⟨1, _⟩ => rfl
    | ⟨2, _⟩ => rfl
  · refine congrArg x3 (funext fun c => Fin.ext ?_)
    match c with
    | ⟨0, _⟩ => rfl
    | ⟨1, _⟩ => rfl
    | ⟨2, _⟩ => rfl
  all_goals
    refine Finset.sum_congr rfl fun k _ => ?_
    have hk := k.isLt
    refine congr (congrArg _ (congrArg x1 (funext fun c => Fin.ext ?_))) (congrArg x0 (funext fun c => Fin.ext ?_))
    · match c with
      | ⟨0, _⟩ => rfl
      | ⟨1, _⟩ => first | (show 0 + 1 * k.val = k.val; omega) | (show 256 + 1 * k.val = 256 + k.val; omega) | (show 512 + 1 * k.val = 512 + k.val; omega) | (show 768 + 1 * k.val = 768 + k.val; omega)
    · match c with
      | ⟨0, _⟩ => rfl
      | ⟨1, _⟩ => first | (show 0 + 1 * 0 = k.val / 256; omega) | (show 1 + 1 * 0 = (256 + k.val) / 256; omega) | (show 2 + 1 * 0 = (512 + k.val) / 256; omega) | (show 3 + 1 * 0 = (768 + k.val) / 256; omega)
      | ⟨2, _⟩ => show s + 1 * 0 = (256 * s + 1 * a.val) / 256; omega
      | ⟨3, _⟩ => first | (show 0 + 1 * k.val = k.val % 256; omega) | (show 0 + 1 * k.val = (256 + k.val) % 256; omega) | (show 0 + 1 * k.val = (512 + k.val) % 256; omega) | (show 0 + 1 * k.val = (768 + k.val) % 256; omega)
      | ⟨4, _⟩ => show 0 + 1 * a.val = (256 * s + 1 * a.val) % 256; omega

/-- The body's whole output block, index by index. -/
theorem out_apply (x0 : Vec Ideal S1x4x2x256x256 .bf16) (x1 : Vec Ideal S1024x1024 .bf16) (x2 : Vec Ideal S1x1024x512 .f32)
    (x3 : Vec Ideal S1x1024x1 .f32) (y : S1x512x1024.Idx) : out0_4 x0 x1 x2 x3 y = block x0 x1 x2 x3 (y 1) (y 2) := by
  unfold out0_4
  refine View.canon_apply_of_pieces (Val := Elt Ideal) (e := .f32) (fun y : S1x512x1024.Idx => block x0 x1 x2 x3 (y 1) (y 2)) _ ?_ y (cover0_4 _ _ _ _ _ _ _ _ y)
  intro p hp
  simp only [List.mem_cons, List.not_mem_nil, or_false] at hp
  rcases hp with rfl | rfl | rfl | rfl | rfl | rfl | rfl | rfl
  · exact tile_eq_block x0 x1 x2 x3 768 256 1 (by omega) (by omega) rfl _ _ _ _ _ _ _ _ _ _ inb_S1x512x1024_S1x256x256_0_256_768
  · exact tile_eq_block x0 x1 x2 x3 512 256 1 (by omega) (by omega) rfl _ _ _ _ _ _ _ _ _ _ inb_S1x512x1024_S1x256x256_0_256_512
  · exact tile_eq_block x0 x1 x2 x3 256 256 1 (by omega) (by omega) rfl _ _ _ _ _ _ _ _ _ _ inb_S1x512x1024_S1x256x256_0_256_256
  · exact tile_eq_block x0 x1 x2 x3 0 256 1 (by omega) (by omega) rfl _ _ _ _ _ _ _ _ _ _ inb_S1x512x1024_S1x256x256_0_256_0
  · exact tile_eq_block x0 x1 x2 x3 768 0 0 (by omega) (by omega) rfl _ _ _ _ _ _ _ _ _ _ inb_S1x512x1024_S1x256x256_0_0_768
  · exact tile_eq_block x0 x1 x2 x3 512 0 0 (by omega) (by omega) rfl _ _ _ _ _ _ _ _ _ _ inb_S1x512x1024_S1x256x256_0_0_512
  · exact tile_eq_block x0 x1 x2 x3 256 0 0 (by omega) (by omega) rfl _ _ _ _ _ _ _ _ _ _ inb_S1x512x1024_S1x256x256_0_0_256
  · exact tile_eq_block x0 x1 x2 x3 0 0 0 (by omega) (by omega) rfl _ _ _ _ _ _ _ _ _ _ inb_S1x512x1024_S1x256x256_0_0_0

end Cert.Proof.Out

end
-- ==== Proof.OutValue.lean ====
/-
  Hand-written. THE OUT-PROJECTION, THE WHOLE ARRAYS: the kernel's result array and the reference's are the same
  function of the four arguments — the residual plus the gate times the output projection —, and the claims about the
  call follow from the two runs.
-/
module

public import proofs.«01_k».proof.Defs
public import proofs.«01_k».proof.Proof.OutBlock
public import proofs.«01_k».proof.Proof.Gen.OutProj.Frame
public import proofs.«01_k».proof.Proof.Gen.OutRefIdeal.Run
public import proofs.«01_k».proof.Proof.Gen.OutRefIdeal.Read
public import Idealize.ShloMosaic.Lib.Quiescent

@[expose] public section

noncomputable section

namespace Cert.Proof.Out

open Idealize.ShloMosaic Idealize.ShloMosaic.TcCoe Idealize.SL.Sem
open Idealize.ShloMosaic.Pipeline (Dat Window)
open Cert.OutProjIdeal Cert.OutProjIdeal.Gen

variable (m : (ℓ : Loc nD τ sig) → Buf (Elt Ideal) ℓ) (ρ : Dev nD → PrngReg)

/-- The output projection with its residual: for sequence `i 0`, token `i 1`, feature `i 2`. The mixer's output is laid
    out in 256-wide heads and 256-token tiles, feature-major. -/
def out (oz : Vec Ideal S16x4x8x256x256 .bf16) (w : Vec Ideal S1024x1024 .f32) (g : Vec Ideal S16x1024x1 .f32)
    (x : Vec Ideal S16x1024x2048 .f32) (i : S16x2048x1024.Idx) : EReal :=
  x (ix3 (i 0) (i 2) (i 1)) + g (ix3 (i 0) (i 2) 0) * ∑ f : Fin 1024, w (ix2 f (i 2))
    * oz (ix5 (i 0) ⟨f.val / 256, by omega⟩ ⟨(i 1).val / 256, by have : (i 1).val < 2048 := (i 1).isLt; omega⟩ ⟨f.val % 256, by omega⟩
        ⟨(i 1).val % 256, by omega⟩)

/-- The weights the region reads: the host's transpose of the argument. -/
theorem V_weights (c : Dev nD) (p q : Fin 1024) :
    (V m c main_v1 : Vec Ideal S1024x1024 .bf16) (ix2 p q) = (m ((c : Thread nD τ).loc main_arg1) : Vec Ideal S1024x1024 .f32) (ix2 q p) := by
  have e : (V m c main_v1 : Vec Ideal S1024x1024 .bf16)
      = truncf .bf16 (transpose S1024x1024 [1, 0] (m ((c : Thread nD τ).loc main_arg1)) transposes_S1024x1024_S1024x1024_1_0 : FVec Ideal S1024x1024 .f32) bitsLt_bf16_f32 := by
    unfold V; after_results <;> rfl
  rw [e]
  pointwise

/-- The blocks' places: point `t` is sequence `t / 4`, token block `t % 4`. -/
theorem places : ∀ t : Fin grid0.N,
    win0_0.index t = ![t.val / 4, 0, t.val % 4, 0, 0] ∧ win0_1.index t = ![0, 0] ∧ win0_2.index t = ![t.val / 4, 0, t.val % 4]
      ∧ win0_3.index t = ![t.val / 4, 0, 0] ∧ win0_4.index t = ![t.val / 4, t.val % 4, 0] := by
  decide +kernel

/-- What point `t` writes back is its block of `out`. -/
theorem flushed_out (c : Dev nD) (t : Fin cfg0.N) :
    (dats m 0 c).flushed 4 t = ((cfg0.win 4).blk t).view.read (Elt Ideal)
      (out (m ((c : Thread nD τ).loc main_arg0)) (m ((c : Thread nD τ).loc main_arg1)) (m ((c : Thread nD τ).loc main_arg2)) (m ((c : Thread nD τ).loc main_arg3))) := by
  obtain ⟨p0, p1, p2, p3, p4⟩ := places t
  rw [Value.flushed4]
  funext y
  refine (out_apply (iblk m c 0 t) (iblk m c 1 t) (iblk m c 2 t) (iblk m c 3 t) y).trans ?_
  have hN : t.val < 64 := t.isLt
  have h1 : (y 1 : Nat) < 512 := (y 1).isLt
  have h2 : (y 2 : Nat) < 1024 := (y 2).isLt
  have h0 : (y 0 : Nat) < 1 := (y 0).isLt
  have e2 (d : Fin 1024) (s : Fin 512) : iblk m c 2 t (ix3 0 d s)
      = (m ((c : Thread nD τ).loc main_arg3) : Vec Ideal S16x1024x2048 .f32) (ix3 ⟨t.val / 4, by omega⟩ d ⟨t.val % 4 * 512 + s.val, by omega⟩) := by
    show V m c main_arg3 ((win0_2.rect t).emb (ix3 0 d s)) = _
    rw [V_main_arg3]
    refine congrArg _ (funext fun a => Fin.ext ?_)
    rw [Window.rect_emb_val win0_2 t _ _ rfl, p2]
    match a with
    | ⟨0, _⟩ => show t.val / 4 * 1 + 0 = _; rw [Nat.mul_one]; rfl
    | ⟨1, _⟩ => show 0 * 1024 + d.val = d.val; omega
    | ⟨2, _⟩ => rfl
  have e3 (d : Fin 1024) : iblk m c 3 t (ix3 0 d 0)
      = (m ((c : Thread nD τ).loc main_arg2) : Vec Ideal S16x1024x1 .f32) (ix3 ⟨t.val / 4, by omega⟩ d 0) := by
    show V m c main_arg2 ((win0_3.rect t).emb (ix3 0 d 0)) = _
    rw [V_main_arg2]
    refine congrArg _ (funext fun a => Fin.ext ?_)
    rw [Window.rect_emb_val win0_3 t _ _ rfl, p3]
    match a with
    | ⟨0, _⟩ => show t.val / 4 * 1 + 0 = _; rw [Nat.mul_one]; rfl
    | ⟨1, _⟩ => show 0 * 1024 + d.val = d.val; omega
    | ⟨2, _⟩ => rfl
  have e1 (d f : Fin 1024) : iblk m c 1 t (ix2 d f)
      = (m ((c : Thread nD τ).loc main_arg1) : Vec Ideal S1024x1024 .f32) (ix2 f d) := by
    refine Eq.trans ?_ (V_weights m c d f)
    show V m c main_v1 ((win0_1.rect t).emb (ix2 d f)) = _
    refine congrArg _ (funext fun a => Fin.ext ?_)
    rw [Window.rect_emb_val win0_1 t _ _ rfl, p1]
    match a with
    | ⟨0, _⟩ => show 0 * 1024 + d.val = d.val; omega
    | ⟨1, _⟩ => show 0 * 1024 + f.val = f.val; omega
  have e0 (h : Fin 4) (s : Fin 2) (k a' : Fin 256) : iblk m c 0 t (ix5 0 h s k a')
      = (m ((c : Thread nD τ).loc main_arg0) : Vec Ideal S16x4x8x256x256 .bf16) (ix5 ⟨t.val / 4, by omega⟩ h ⟨t.val % 4 * 2 + s.val, by omega⟩ k a') := by
    show V m c main_arg0 ((win0_0.rect t).emb (ix5 0 h s k a')) = _
    rw [V_main_arg0]
    refine congrArg _ (funext fun a => Fin.ext ?_)
    rw [Window.rect_emb_val win0_0 t _ _ rfl, p0]
    match a with
    | ⟨0, _⟩ => show t.val / 4 * 1 + 0 = _; rw [Nat.mul_one]; rfl
    | ⟨1, _⟩ => show 0 * 4 + h.val = h.val; omega
    | ⟨2, _⟩ => rfl
    | ⟨3, _⟩ => show 0 * 256 + k.val = k.val; omega
    | ⟨4, _⟩ => show 0 * 256 + a'.val = a'.val; omega
  rw [View.read_apply]
  show block _ _ _ _ (y 1) (y 2) = out _ _ _ _ ((win0_4.rect t).emb y)
  have ey : (win0_4.rect t).emb y = ix3 ⟨t.val / 4, by omega⟩ ⟨t.val % 4 * 512 + (y 1).val, by omega⟩ ⟨(y 2).val, h2⟩ := by
    funext a
    refine Fin.ext ?_
    rw [Window.rect_emb_val win0_4 t _ _ rfl, p4]
    match a with
    | ⟨0, _⟩ => show t.val / 4 * 1 + (y 0).val = t.val / 4; omega
    | ⟨1, _⟩ => rfl
    | ⟨2, _⟩ => show 0 * 1024 + (y 2).val = (y 2).val; omega
  rw [ey]
  unfold block out
  refine congr (congrArg _ (e2 _ _)) (congr (congrArg _ (e3 _)) (Finset.sum_congr rfl fun f _ => ?_))
  refine congr (congrArg _ (e1 _ _)) ((e0 _ _ _ _).trans (congrArg _ (funext fun a => Fin.ext ?_)))
  match a with
  | ⟨0, _⟩ => rfl
  | ⟨1, _⟩ => rfl
  | ⟨2, _⟩ => show t.val % 4 * 2 + (y 1).val / 256 = (t.val % 4 * 512 + (y 1).val) / 256; omega
  | ⟨3, _⟩ => rfl
  | ⟨4, _⟩ => show (y 1).val % 256 = (t.val % 4 * 512 + (y 1).val) % 256; omega

/-- Every index of the result array lies in the block of some point. -/
theorem cover (i : S16x2048x1024.Idx) : ∃ t : Fin cfg0.N, (cfg0.win 4).flush t = true ∧ i ∈ ((cfg0.win 4).blk t).view.set := by
  have h0 : (i 0 : Nat) < 16 := (i 0).isLt
  have h1 : (i 1 : Nat) < 2048 := (i 1).isLt
  have h2 : (i 2 : Nat) < 1024 := (i 2).isLt
  have hN : cfg0.N = 64 := N_0
  let t : Fin cfg0.N := ⟨(i 0).val * 4 + (i 1).val / 512, by omega⟩
  refine ⟨t, flush0_4 t, ?_⟩
  obtain ⟨-, -, -, -, p4⟩ := places t
  have ei : (win0_4.rect t).emb (ix3 0 ⟨(i 1).val % 512, by omega⟩ ⟨(i 2).val, h2⟩ : S1x512x1024.Idx) = i := by
    funext a
    refine Fin.ext ?_
    rw [Window.rect_emb_val win0_4 t _ _ rfl, p4]
    match a with
    | ⟨0, _⟩ => show ((i 0).val * 4 + (i 1).val / 512) / 4 * 1 + 0 = (i 0).val; omega
    | ⟨1, _⟩ => show ((i 0).val * 4 + (i 1).val / 512) % 4 * 512 + (i 1).val % 512 = (i 1).val; omega
    | ⟨2, _⟩ => show 0 * 1024 + (i 2).val = (i 2).val; omega
  have := ((cfg0.win 4).blk t).view.emb_mem_set (ix3 0 ⟨(i 1).val % 512, by omega⟩ ⟨(i 2).val, h2⟩ : S1x512x1024.Idx)
  exact ei ▸ this

/-- The kernel's result array is `out` of the arguments. -/
theorem kernel_out (c : Dev nD) : (dats m 0 c).arrAt 4 cfg0.N
    = out (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_out m c t) cover

open Cert.OutRefIdeal.Read in
/-- The reference's result is `out` of the arguments. -/
theorem reference_out (oz : Vec Ideal S16x4x8x256x256 .bf16) (w : Vec Ideal S1024x1024 .f32) (g : Vec Ideal S16x1024x1 .f32)
    (x : Vec Ideal S16x1024x2048 .f32) : val_main_v8 (F := Ideal) oz w g x = out oz w g x := by
  funext i
  obtain ⟨b, t, d, rfl⟩ : ∃ b t d, i = ix3 b t d := ⟨_, _, _, eq_ix3 i⟩
  have hb := b.isLt
  have ht := t.isLt
  have hd := d.isLt
  rw [val_main_v8_apply, val_main_v7_apply, val_main_v6_apply, val_main_v5_apply, val_main_v4_apply, val_main_v0_apply]
  show _ + _ * _ = _
  unfold out
  refine congr (congrArg _ (congrArg x (funext fun a => Fin.ext ?_))) (congr (congrArg _ (congrArg g (funext fun a => Fin.ext ?_))) (Finset.sum_congr rfl fun f _ => ?_))
  · match a with
    | ⟨0, _⟩ => rfl
    | ⟨1, _⟩ => rfl
    | ⟨2, _⟩ => rfl
  · match a with
    | ⟨0, _⟩ => show ((b.val * 1 + 0) * 1024 + d.val) / 1024 = b.val; omega
    | ⟨1, _⟩ => show ((b.val * 1 + 0) * 1024 + d.val) / 1 % 1024 = d.val; omega
    | ⟨2, _⟩ => rfl
  · have hf := f.isLt
    rw [val_main_v3_apply, val_main_v2_apply, val_main_v1_apply, mul_comm]
    refine congr (congrArg _ (congrArg w (funext fun a => Fin.ext ?_))) (congrArg oz (funext fun a => Fin.ext ?_))
    · match a with
      | ⟨0, _⟩ => rfl
      | ⟨1, _⟩ => rfl
    · match a with
      | ⟨0, _⟩ => show ((b.val * 2048 + t.val) * 1024 + f.val) / 2097152 = b.val; omega
      | ⟨1, _⟩ => show ((b.val * 2048 + t.val) * 1024 + f.val) / 256 % 4 = f.val / 256; omega
      | ⟨2, _⟩ => show ((b.val * 2048 + t.val) * 1024 + f.val) / 262144 % 8 = t.val / 256; omega
      | ⟨3, _⟩ => show ((b.val * 2048 + t.val) * 1024 + f.val) % 256 = f.val % 256; omega
      | ⟨4, _⟩ => show ((b.val * 2048 + t.val) * 1024 + f.val) / 1024 % 256 = t.val % 256; omega

/-- The reference's frame: its run ends with the arguments unchanged, and it has no counters. -/
theorem frame_reference : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The kernel's value is the reference's. -/
theorem algebraic : Cert.algebraic_OutProjIdeal_OutRefIdeal := by
  intro m ρ m' ρ' _ hagree
  refine ⟨fun c => out (m ((c : Thread nD τ).loc main_arg0)) (m ((c : Thread nD τ).loc main_arg1)) (m ((c : Thread nD τ).loc main_arg2)) (m ((c : Thread nD τ).loc main_arg3)), ?_, ?_⟩
  · exact (θ_run Cert.OutProjIdeal.defs _ _).mono (fun _ h c => ⟨(h c).1.trans (kernel_out m c), (h c).2⟩) (Value.run_blocks m ρ)
  · refine (θ_run Cert.OutRefIdeal.defs _ _).mono (fun _ h c => ⟨(h c).1.trans ?_, (h c).2⟩) (Cert.OutRefIdeal.Value.run (F := Ideal) m' ρ')
    obtain ⟨a0, a1, a2, a3⟩ := hagree c
    rw [a0, a1, a2, a3]
    exact (Cert.OutRefIdeal.Read.val_main_v8_eq _ _ _ _).trans (reference_out _ _ _ _)

end Cert.Proof.Out

end
-- ==== Proof.Tiles.lean ====
/-
  Hand-written. THE INPUT PROJECTIONS' TILES: the vectors that the bodies of the two input-projection calls store, each
  written once over a projected block, and read at an index — the per-head norm with the rotary embedding, the key
  chunks with their extra columns, the value chunks with their row of ones, the block means of the keys. The functions
  on one column (`nrm`, `rope`) name no kernel; the references are read into them too.
-/
module

public import Idealize.ShloMosaic.Lib.Pipeline.Value
public import Idealize.ShloMosaic.Lib.Pointwise
public import Idealize.ShloMosaic.Lib.WholeRead
public import Idealize.ShloMosaic.Lib.KernelVsHost

@[expose] public section

noncomputable section

namespace Cert.Proof.Tiles

open Idealize.ShloMosaic Idealize.ShloMosaic.TcCoe

abbrev V256x512 : Shape := ⟨2, ![256, 512]⟩
abbrev V64x512 : Shape := ⟨2, ![64, 512]⟩
abbrev V48x512 : Shape := ⟨2, ![48, 512]⟩
abbrev V8x512 : Shape := ⟨2, ![8, 512]⟩
abbrev V1x512 : Shape := ⟨2, ![1, 512]⟩
abbrev V512 : Shape := ⟨1, ![512]⟩
abbrev V64x1 : Shape := ⟨2, ![64, 1]⟩
abbrev V64x256 : Shape := ⟨2, ![64, 256]⟩
abbrev V16x256 : Shape := ⟨2, ![16, 256]⟩
abbrev V80x256 : Shape := ⟨2, ![80, 256]⟩
abbrev V128x256 : Shape := ⟨2, ![128, 256]⟩
abbrev V256x128 : Shape := ⟨2, ![256, 128]⟩
abbrev V256x80 : Shape := ⟨2, ![256, 80]⟩
abbrev V256x256 : Shape := ⟨2, ![256, 256]⟩
abbrev V64 : Shape := ⟨1, ![64]⟩
abbrev V64x128 : Shape := ⟨2, ![64, 128]⟩
abbrev B64x256 : Shape := ⟨5, ![1, 1, 1, 64, 256]⟩
abbrev B256x80 : Shape := ⟨5, ![1, 1, 1, 256, 80]⟩
abbrev B80x256 : Shape := ⟨5, ![1, 1, 1, 80, 256]⟩
abbrev B256x256 : Shape := ⟨5, ![1, 1, 1, 256, 256]⟩
abbrev B64x128 : Shape := ⟨4, ![1, 1, 64, 128]⟩

/-- The number of entries of a head, the small constant of the norm, and the queries' scale, as the kernel's words. -/
def c64 : EReal := Ideal.ofBits .f32 0x42800000#32
def eps : EReal := Ideal.ofBits .f32 0x358637BD#32
def qs : EReal := Ideal.ofBits .f32 0x3E38AA3B#32
def c256 : EReal := Ideal.ofBits .f32 0x43800000#32

/-- The norm of one head's column: every entry over the root of the mean square, times its weight. -/
def nrm (A g : Fin 64 → EReal) (j : Fin 64) : EReal :=
  A j * Ideal.rsqrt (Ideal.div (∑ i, A i * A i) c64 + eps) * g j

/-- The rotary embedding of one head's column: entries 0–7 and 8–15 are rotated into each other, the rest stays. -/
def rope (N : Fin 64 → EReal) (c s : Fin 8 → EReal) (j : Fin 64) : EReal :=
  if h : j.val < 8 then N j * c ⟨j.val, h⟩ - N ⟨8 + j.val, by omega⟩ * s ⟨j.val, h⟩
  else if h : j.val - 8 < 8 then N j * c ⟨j.val - 8, h⟩ + N ⟨j.val - 8, by omega⟩ * s ⟨j.val - 8, h⟩
  else N j

theorem rope_congr {N N' : Fin 64 → EReal} {c c' s s' : Fin 8 → EReal} {j j' : Fin 64} (hN : ∀ i, N i = N' i) (hc : ∀ k, c k = c' k)
    (hs : ∀ k, s k = s' k) (hj : j.val = j'.val) : rope N c s j = rope N' c' s' j' := by
  obtain rfl : N = N' := funext hN
  obtain rfl : c = c' := funext hc
  obtain rfl : s = s' := funext hs
  obtain rfl : j = j' := Fin.ext hj
  rfl

theorem nrm_congr {A A' g g' : Fin 64 → EReal} (hA : ∀ i, A i = A' i) (hg : ∀ k, g k = g' k) (j : Fin 64) : nrm A g j = nrm A' g' j := by
  obtain rfl : A = A' := funext hA
  obtain rfl : g = g' := funext hg
  rfl

theorem cat_rope : Shape.Concatenates [V8x512, V8x512, V48x512] V64x512 0 := by decide

/-- One head of a projected block, from row `R` on, normed and rotated. -/
def head (Y : FVec Ideal V256x512 .f32) (R : Nat) (hR : V256x512.Slices ![R, 0] V64x512) (g : Vec Ideal V64x1 .f32)
    (c s : FVec Ideal V8x512 .f32) : FVec Ideal V64x512 .f32 :=
  let A : FVec Ideal V64x512 .f32 := extractStridedSlice V64x512 ![R, 0] Y hR
  let m : FVec Ideal V512 .f32 := multiReduction .add [0] V512 (mulf A A) 0x00000000#32 (by decide) (.inl rfl) rfl
  let d : FVec Ideal V1x512 .f32 := divf (shapeCast V1x512 m (by decide)) (broadcast V1x512 (Scalar.ofBits .f32 0x42800000#32))
  let r : FVec Ideal V1x512 .f32 := rsqrt (addf d (broadcast V1x512 (Scalar.ofBits .f32 0x358637BD#32)))
  let n : FVec Ideal V64x512 .f32 := mulf (mulf A (broadcastTo V64x512 r (by decide))) (broadcastTo V64x512 (shapeCast V64x1 g (by decide) : FVec Ideal V64x1 .f32) (by decide))
  let a : FVec Ideal V8x512 .f32 := extractStridedSlice V8x512 ![0, 0] n (by decide)
  let b : FVec Ideal V8x512 .f32 := extractStridedSlice V8x512 ![8, 0] n (by decide)
  let e : FVec Ideal V48x512 .f32 := extractStridedSlice V48x512 ![16, 0] n (by decide)
  concatenate V64x512 0 [⟨V8x512, subf (mulf a c) (mulf b s)⟩, ⟨V8x512, addf (mulf b c) (mulf a s)⟩, ⟨V48x512, e⟩] cat_rope

theorem head_apply (Y : FVec Ideal V256x512 .f32) (R : Nat) (hR) (h : R + 64 ≤ 256) (g : Vec Ideal V64x1 .f32)
    (c s : FVec Ideal V8x512 .f32) (a : Fin 64) (t : Fin 512) :
    head Y R hR g c s (ix2 a t) = rope (nrm (fun j => Y (ix2 ⟨R + j.val, by omega⟩ t)) (fun j => g (ix2 j 0)))
      (fun k => c (ix2 k t)) (fun k => s (ix2 k t)) a := by
  have ha := a.isLt
  unfold head
  pointwise
  simp only [rope, nrm, c64, eps]
  by_cases h1 : a.val < 8
  · simp only [h1, ↓reduceDIte]
  · by_cases h2 : a.val - 8 < 8
    · simp only [h1, h2, ↓reduceDIte, show 8 + (a.val - 8) = a.val by omega]
    · simp only [h1, h2, ↓reduceDIte, show 16 + (a.val - 8 - 8) = a.val by omega]

/-- A tile of the queries: a head of a projected block, scaled, at the 256 tokens from `L` on. -/
def queryTile (Y : FVec Ideal V256x512 .f32) (R : Nat) (hR : V256x512.Slices ![R, 0] V64x512) (L : Nat) (hL : V64x512.Slices ![0, L] V64x256)
    (g : Vec Ideal V64x1 .f32) (c s : FVec Ideal V8x512 .f32) : FVec Ideal B64x256 .bf16 :=
  let q : FVec Ideal V64x512 .bf16 := truncf .bf16 (mulf (head Y R hR g c s) (broadcast V64x512 (Scalar.ofBits .f32 0x3E38AA3B#32))) (by decide)
  shapeCast B64x256 (extractStridedSlice V64x256 ![0, L] q hL : FVec Ideal V64x256 .bf16) (by decide)

theorem queryTile_apply (Y : FVec Ideal V256x512 .f32) (R : Nat) (hR) (h : R + 64 ≤ 256) (L : Nat) (hL) (h' : L + 256 ≤ 512) (g : Vec Ideal V64x1 .f32)
    (c s : FVec Ideal V8x512 .f32) (o o' o'' : Fin 1) (a : Fin 64) (t : Fin 256) :
    queryTile Y R hR L hL g c s (ix5 o o' o'' a t)
      = rope (nrm (fun j => Y (ix2 ⟨R + j.val, by omega⟩ ⟨L + t.val, by omega⟩)) (fun j => g (ix2 j 0)))
          (fun k => c (ix2 k ⟨L + t.val, by omega⟩)) (fun k => s (ix2 k ⟨L + t.val, by omega⟩)) a * qs := by
  unfold queryTile
  pointwise [head_apply Y R hR h]
  rfl

theorem cat_key : Shape.Concatenates [V64x256, V64x256] V128x256 0 := by decide

/-- A tile of the keys: a head of a projected block at the 256 tokens from `L` on, token by token, with sixteen of the
    rows of `I` beside it. -/
def keyTile (Y : FVec Ideal V256x512 .f32) (R : Nat) (hR : V256x512.Slices ![R, 0] V64x512) (L : Nat) (hL : V64x512.Slices ![0, L] V64x256)
    (g : Vec Ideal V64x1 .f32) (c s : FVec Ideal V8x512 .f32) (I : FVec Ideal V64x256 .f32) : FVec Ideal B256x80 .bf16 :=
  let k : FVec Ideal V64x256 .f32 := extractStridedSlice V64x256 ![0, L] (head Y R hR g c s) hL
  let u : FVec Ideal V128x256 .f32 := concatenate V128x256 0 [⟨V64x256, k⟩, ⟨V64x256, I⟩] cat_key
  let w : FVec Ideal V256x128 .f32 := transpose V256x128 [1, 0] u (by decide)
  let v : FVec Ideal V256x80 .f32 := extractStridedSlice V256x80 ![0, 0] w (by decide)
  shapeCast B256x80 (truncf .bf16 v (by decide) : FVec Ideal V256x80 .bf16) (by decide)

theorem keyTile_apply (Y : FVec Ideal V256x512 .f32) (R : Nat) (hR) (h : R + 64 ≤ 256) (L : Nat) (hL) (h' : L + 256 ≤ 512) (g : Vec Ideal V64x1 .f32)
    (c s : FVec Ideal V8x512 .f32) (I : FVec Ideal V64x256 .f32) (o o' o'' : Fin 1) (t : Fin 256) (a : Fin 80) :
    keyTile Y R hR L hL g c s I (ix5 o o' o'' t a)
      = if ha : a.val < 64 then
          rope (nrm (fun j => Y (ix2 ⟨R + j.val, by omega⟩ ⟨L + t.val, by omega⟩)) (fun j => g (ix2 j 0)))
            (fun k => c (ix2 k ⟨L + t.val, by omega⟩)) (fun k => s (ix2 k ⟨L + t.val, by omega⟩)) ⟨a.val, ha⟩
        else I (ix2 ⟨a.val - 64, by omega⟩ t) := by
  unfold keyTile
  pointwise [head_apply Y R hR h]

theorem cat_value : Shape.Concatenates [V64x256, V16x256] V80x256 0 := by decide

/-- A tile of the values: sixty-four rows of a projected block from `R` on, at the 256 tokens from `L` on, over the rows of `I`. -/
def valueTile (Y : FVec Ideal V256x512 .bf16) (R L : Nat) (hRL : V256x512.Slices ![R, L] V64x256) (I : FVec Ideal V16x256 .bf16) :
    FVec Ideal B80x256 .bf16 :=
  let v : FVec Ideal V64x256 .bf16 := extractStridedSlice V64x256 ![R, L] Y hRL
  shapeCast B80x256 (concatenate V80x256 0 [⟨V64x256, v⟩, ⟨V16x256, I⟩] cat_value : FVec Ideal V80x256 .bf16) (by decide)

theorem valueTile_apply (Y : FVec Ideal V256x512 .bf16) (R L : Nat) (hRL) (h : R + 64 ≤ 256) (h' : L + 256 ≤ 512) (I : FVec Ideal V16x256 .bf16)
    (o o' o'' : Fin 1) (a : Fin 80) (t : Fin 256) :
    valueTile Y R L hRL I (ix5 o o' o'' a t)
      = if ha : a.val < 64 then Y (ix2 ⟨R + a.val, by omega⟩ ⟨L + t.val, by omega⟩) else I (ix2 ⟨a.val - 64, by omega⟩ t) := by
  unfold valueTile
  pointwise

/-- A tile of a projected block kept as it is: 256 rows at the 256 tokens from `L` on. -/
def plainTile (Z : FVec Ideal V256x512 .f32) (L : Nat) (hL : V256x512.Slices ![0, L] V256x256) : FVec Ideal B256x256 .f32 :=
  shapeCast B256x256 (extractStridedSlice V256x256 ![0, L] Z hL : FVec Ideal V256x256 .f32) (by decide)

theorem plainTile_apply (Z : FVec Ideal V256x512 .f32) (L : Nat) (hL) (h' : L + 256 ≤ 512) (o o' o'' : Fin 1) (a t : Fin 256) :
    plainTile Z L hL (ix5 o o' o'' a t) = Z (ix2 a ⟨L + t.val, by omega⟩) := by
  unfold plainTile
  pointwise

/-- The mean of a head's keys over the 256 tokens from `L` on. -/
def keyMean (K : FVec Ideal V64x512 .f32) (L : Nat) (hL : V64x512.Slices ![0, L] V64x256) : FVec Ideal V64x1 .f32 :=
  let k : FVec Ideal V64x256 .f32 := extractStridedSlice V64x256 ![0, L] K hL
  let m : FVec Ideal V64 .f32 := multiReduction .add [1] V64 k 0x00000000#32 (by decide) (.inl rfl) rfl
  divf (shapeCast V64x1 m (by decide)) (broadcast V64x1 (Scalar.ofBits .f32 0x43800000#32))

theorem keyMean_apply (K : FVec Ideal V64x512 .f32) (L : Nat) (hL) (h' : L + 256 ≤ 512) (a : Fin 64) (o : Fin 1) :
    keyMean K L hL (ix2 a o) = Ideal.div (∑ t : Fin 256, K (ix2 a ⟨L + t.val, by omega⟩)) c256 := by
  unfold keyMean
  pointwise
  rfl

/-- The two block means of a head's keys, in lanes 0 and 1 of a row of zeros. -/
def meanTile (K : FVec Ideal V64x512 .f32) : FVec Ideal B64x128 .f32 :=
  let n : IVec V64x128 32 := iota .tc V64x128 32 [1] (by decide)
  let z : FVec Ideal V64x128 .f32 := broadcast V64x128 (Scalar.ofBits .f32 0x00000000#32)
  let a : FVec Ideal V64x1 .f32 := shapeCast V64x1 (keyMean K 0 (by decide)) (by decide)
  let b : FVec Ideal V64x1 .f32 := shapeCast V64x1 (keyMean K 256 (by decide)) (by decide)
  let u : FVec Ideal V64x128 .f32 := select (cmpi .eq n (broadcast V64x128 0#32)) (broadcastTo V64x128 a (by decide)) z
  let w : FVec Ideal V64x128 .f32 := select (cmpi .eq n (broadcast V64x128 1#32)) (broadcastTo V64x128 b (by decide)) u
  shapeCast B64x128 w (by decide)

theorem meanTile_apply (K : FVec Ideal V64x512 .f32) (o o' : Fin 1) (a : Fin 64) (l : Fin 128) :
    meanTile K (ix4 o o' a l) = if h : l.val < 2 then Ideal.div (∑ t : Fin 256, K (ix2 a ⟨256 * l.val + t.val, by omega⟩)) c256 else 0 := by
  unfold meanTile
  pointwise [keyMean_apply K]
  have e0 : ∀ l : Fin 128, IntOp.cmpi .eq (BitVec.ofNat 32 l.val) 0#32 = if l.val = 0 then 1#1 else 0#1 := by decide +kernel
  have e1 : ∀ l : Fin 128, IntOp.cmpi .eq (BitVec.ofNat 32 l.val) 1#32 = if l.val = 1 then 1#1 else 0#1 := by decide +kernel
  rw [e0, e1]
  by_cases h0 : l.val = 0
  · rw [if_neg (by omega), if_pos h0, dif_pos (by omega)]
    simp only [h0, Nat.mul_zero, Nat.zero_add]; rfl
  · by_cases h1 : l.val = 1
    · rw [if_pos h1, dif_pos (by omega)]
      simp only [h1, Nat.mul_one]; rfl
    · rw [if_neg h0, if_neg h1, dif_neg (by omega)]; rfl

/-! ## The functions of one token -/

/-- The number of features, as the kernel's word. -/
def c1024 : EReal := Ideal.ofBits .f32 0x44800000#32

/-- The residual stream at one token: the stream before, plus the gate times the output projection `w` of `oz`. -/
def resid (oz : Fin 1024 → EReal) (w : Fin 1024 → Fin 1024 → EReal) (g x : Fin 1024 → EReal) (d : Fin 1024) : EReal :=
  x d + g d * ∑ f, w d f * oz f

/-- The modulated norm of one token's features. -/
def normed (x ng sc sh : Fin 1024 → EReal) (d : Fin 1024) : EReal :=
  x d * Ideal.rsqrt (Ideal.div (∑ i, x i * x i) c1024 + eps) * ng d * (1 + sc d) + sh d

/-- The queries of one token: entry `r` of the four heads of group `G`. -/
def qAt (p : Fin 1024 → EReal) (g : Fin 64 → EReal) (c s : Fin 8 → EReal) (G : Fin 4) (r : Fin 256) : EReal :=
  rope (nrm (fun j => p ⟨256 * G.val + r.val / 64 * 64 + j.val, by omega⟩) g) c s ⟨r.val % 64, by omega⟩ * qs

/-- A key head of one token, with `ind` beside it. -/
def kAt (p : Fin 256 → EReal) (g : Fin 64 → EReal) (c s : Fin 8 → EReal) (ind : Fin 16 → EReal) (G : Fin 4) (a : Fin 80) : EReal :=
  if h : a.val < 64 then rope (nrm (fun j => p ⟨64 * G.val + j.val, by omega⟩) g) c s ⟨a.val, h⟩
  else ind ⟨a.val - 64, by omega⟩

/-- A value head of one token, over a one and zeros. -/
def vAt (p : Fin 256 → EReal) (G : Fin 4) (a : Fin 80) : EReal :=
  if h : a.val < 64 then p ⟨64 * G.val + a.val, by omega⟩ else if a.val = 64 then 1 else 0

/-- The gate branch of one token: `z` times its logistic. -/
def zAt (p : Fin 1024 → EReal) (G : Fin 4) (r : Fin 256) : EReal :=
  p ⟨256 * G.val + r.val, by omega⟩ * Ideal.logistic (p ⟨256 * G.val + r.val, by omega⟩)

/-- The two block means of a key entry over 512 tokens, in lanes 0 and 1. -/
def kmAt (p : Fin 256 → Fin 512 → EReal) (g : Fin 64 → EReal) (c s : Fin 8 → Fin 512 → EReal) (r : Fin 256) (l : Fin 128) : EReal :=
  if h : l.val < 2 then
    Ideal.div (∑ t : Fin 256, rope (nrm (fun j => p ⟨r.val / 64 * 64 + j.val, by omega⟩ ⟨256 * l.val + t.val, by omega⟩) g)
      (fun k => c k ⟨256 * l.val + t.val, by omega⟩) (fun k => s k ⟨256 * l.val + t.val, by omega⟩) ⟨r.val % 64, by omega⟩) c256
  else 0

/-- A sum over 1024 terms is the four sums over its 256-term quarters, added in order. -/
theorem sum_quarters (h : Fin 1024 → EReal) :
    ∑ f, h f = (∑ k : Fin 256, h ⟨k.val, by omega⟩) + (∑ k : Fin 256, h ⟨256 + k.val, by omega⟩)
      + (∑ k : Fin 256, h ⟨512 + k.val, by omega⟩) + ∑ k : Fin 256, h ⟨768 + k.val, by omega⟩ := by
  have e1 := Fin.sum_univ_add (a := 768) (b := 256) h
  have e2 := Fin.sum_univ_add (a := 512) (b := 256) (fun i : Fin (512 + 256) => h ⟨i.val, by omega⟩)
  have e3 := Fin.sum_univ_add (a := 256) (b := 256) (fun i : Fin (256 + 256) => h ⟨i.val, by omega⟩)
  exact e1.trans (congrArg (· + _) (e2.trans (congrArg (· + _) e3)))

/-! ## The stages before the projections -/

abbrev V1x256x1 : Shape := ⟨3, ![1, 256, 1]⟩
abbrev V256x1 : Shape := ⟨2, ![256, 1]⟩
abbrev V1x256x256 : Shape := ⟨3, ![1, 256, 256]⟩
abbrev V1024x512 : Shape := ⟨2, ![1024, 512]⟩
abbrev V1x1024x512 : Shape := ⟨3, ![1, 1024, 512]⟩
abbrev V1x1024x1 : Shape := ⟨3, ![1, 1024, 1]⟩
abbrev V1024x1 : Shape := ⟨2, ![1024, 1]⟩
abbrev V256x1024 : Shape := ⟨2, ![256, 1024]⟩
abbrev V64x1024 : Shape := ⟨2, ![64, 1024]⟩
abbrev V1024x1024 : Shape := ⟨2, ![1024, 1024]⟩
abbrev V1x4x2x256x256 : Shape := ⟨5, ![1, 4, 2, 256, 256]⟩

def dot256 : DotDims V256x256 V256x256 V256x256 where
  lhsContracting := [1]
  rhsContracting := [0]
  lhsNonContracting := [0]
  rhsNonContracting := [1]
  lhsBatch := []
  rhsBatch := []
  wf := by decide

def dotW : DotDims V256x1024 V1024x512 V256x512 where
  lhsContracting := [1]
  rhsContracting := [0]
  lhsNonContracting := [0]
  rhsNonContracting := [1]
  lhsBatch := []
  rhsBatch := []
  wf := by decide

/-- A 256 × 256 tile of the residual stream, feature-major. -/
def residTile (w0 : Vec Ideal V256x256 .bf16) (z0 : Vec Ideal B256x256 .bf16) (w1 : Vec Ideal V256x256 .bf16) (z1 : Vec Ideal B256x256 .bf16)
    (w2 : Vec Ideal V256x256 .bf16) (z2 : Vec Ideal B256x256 .bf16) (w3 : Vec Ideal V256x256 .bf16) (z3 : Vec Ideal B256x256 .bf16)
    (x : Vec Ideal V1x256x256 .f32) (g : Vec Ideal V1x256x1 .f32) : FVec Ideal V1x256x256 .f32 :=
  let pr (w : Vec Ideal V256x256 .bf16) (z : Vec Ideal B256x256 .bf16) : FVec Ideal V256x256 .f32 :=
    matmul dot256 none (shapeCast V256x256 w (by decide) : FVec Ideal V256x256 .bf16) (shapeCast V256x256 z (by decide) : FVec Ideal V256x256 .bf16) (constant V256x256 .f32 0x00000000#32)
  let s : FVec Ideal V256x256 .f32 := addf (addf (addf (pr w0 z0) (pr w1 z1)) (pr w2 z2)) (pr w3 z3)
  let xx : FVec Ideal V256x256 .f32 := shapeCast V256x256 x (by decide)
  let gg : FVec Ideal V256x1 .f32 := shapeCast V256x1 g (by decide)
  shapeCast V1x256x256 (addf xx (mulf (broadcastTo V256x256 gg (by decide)) s)) (by decide)

theorem residTile_apply (w0 w1 w2 w3 : Vec Ideal V256x256 .bf16) (z0 z1 z2 z3 : Vec Ideal B256x256 .bf16)
    (x : Vec Ideal V1x256x256 .f32) (g : Vec Ideal V1x256x1 .f32) (o : Fin 1) (a b : Fin 256) :
    residTile w0 z0 w1 z1 w2 z2 w3 z3 x g (ix3 o a b)
      = x (ix3 0 a b) + g (ix3 0 a 0) * ((∑ k, w0 (ix2 a k) * z0 (ix5 0 0 0 k b)) + (∑ k, w1 (ix2 a k) * z1 (ix5 0 0 0 k b))
          + (∑ k, w2 (ix2 a k) * z2 (ix5 0 0 0 k b)) + ∑ k, w3 (ix2 a k) * z3 (ix5 0 0 0 k b)) := by
  pointwise [residTile, dot256]

/-- The modulated norm of a block of 512 tokens. -/
def normTile (x : Vec Ideal V1x1024x512 .f32) (ng : Vec Ideal V1024x1 .f32) (sc sh : Vec Ideal V1x1024x1 .f32) : FVec Ideal V1024x512 .bf16 :=
  let A : FVec Ideal V1024x512 .f32 := shapeCast V1024x512 x (by decide)
  let m : FVec Ideal V512 .f32 := multiReduction .add [0] V512 (mulf A A) 0x00000000#32 (by decide) (.inl rfl) rfl
  let d : FVec Ideal V1x512 .f32 := divf (shapeCast V1x512 m (by decide)) (broadcast V1x512 (Scalar.ofBits .f32 0x44800000#32))
  let r : FVec Ideal V1x512 .f32 := rsqrt (addf d (broadcast V1x512 (Scalar.ofBits .f32 0x358637BD#32)))
  let n : FVec Ideal V1024x512 .f32 := mulf (mulf A (broadcastTo V1024x512 r (by decide))) (broadcastTo V1024x512 (shapeCast V1024x1 ng (by decide) : FVec Ideal V1024x1 .f32) (by decide))
  let u : FVec Ideal V1024x1 .f32 := addf (broadcast V1024x1 (Scalar.ofBits .f32 0x3F800000#32)) (shapeCast V1024x1 sc (by decide))
  let v : FVec Ideal V1024x512 .f32 := mulf n (broadcastTo V1024x512 u (by decide))
  truncf .bf16 (addf v (broadcastTo V1024x512 (shapeCast V1024x1 sh (by decide) : FVec Ideal V1024x1 .f32) (by decide))) (by decide)

theorem normTile_apply (x : Vec Ideal V1x1024x512 .f32) (ng : Vec Ideal V1024x1 .f32) (sc sh : Vec Ideal V1x1024x1 .f32) (d : Fin 1024) (t : Fin 512) :
    normTile x ng sc sh (ix2 d t) = normed (fun i => x (ix3 0 i t)) (fun i => ng (ix2 i 0)) (fun i => sc (ix3 0 i 0)) (fun i => sh (ix3 0 i 0)) d := by
  unfold normTile
  pointwise
  rfl

/-- 256 projected rows of a normed block. -/
def proj (h : FVec Ideal V1024x512 .bf16) (w : Vec Ideal V256x1024 .bf16) : FVec Ideal V256x512 .f32 :=
  matmul dotW none (shapeCast V256x1024 w (by decide) : FVec Ideal V256x1024 .bf16) h (constant V256x512 .f32 0x00000000#32)

theorem proj_apply (h : FVec Ideal V1024x512 .bf16) (w : Vec Ideal V256x1024 .bf16) (a : Fin 256) (t : Fin 512) :
    proj h w (ix2 a t) = ∑ d, w (ix2 a d) * h (ix2 d t) := by
  pointwise [proj, dotW]

/-- A projected block times its logistic. -/
def siluTile (h : FVec Ideal V1024x512 .bf16) (w : Vec Ideal V256x1024 .bf16) : FVec Ideal V256x512 .f32 :=
  mulf (proj h w) (logistic (proj h w))

theorem siluTile_apply (h : FVec Ideal V1024x512 .bf16) (w : Vec Ideal V256x1024 .bf16) (a : Fin 256) (t : Fin 512) :
    siluTile h w (ix2 a t) = (∑ d, w (ix2 a d) * h (ix2 d t)) * Ideal.logistic (∑ d, w (ix2 a d) * h (ix2 d t)) := by
  unfold siluTile
  pointwise [proj_apply h w]

/-! ## Loads -/

section Loads
variable {sig : RefSig} {κ : Kind} {sp : Space}

theorem load2 {e : EltTy} {P Q p q : Nat} {m : Memref sig κ sp ⟨2, ![P, Q]⟩ e} (h : m.IsWhole) (X : Vec Ideal ⟨2, ![P, Q]⟩ e) (R C : Nat)
    (inb : ∀ a, (![R, C] : Fin 2 → Nat) a + (⟨2, ![p, q]⟩ : Shape).size a ≤ (⟨2, ![P, Q]⟩ : Shape).size a) (a : Fin p) (b : Fin q) (hR : R + p ≤ P) (hC : C + q ≤ Q) :
    View.readAt (Elt Ideal) m.view (Rect.unit (s := ⟨2, ![P, Q]⟩) ![R, C] (⟨2, ![p, q]⟩ : Shape).size inb).toLoadRect (h.unread X) (ix2 a b)
      = X (ix2 ⟨R + a.val, by omega⟩ ⟨C + b.val, by omega⟩) := by
  refine (h.readAt_unread X _ _).trans (congrArg X (funext fun c => Fin.ext ?_))
  match c with
  | ⟨0, _⟩ => show R + 1 * a.val = R + a.val; omega
  | ⟨1, _⟩ => show C + 1 * b.val = C + b.val; omega

theorem load3 {e : EltTy} {N P Q p q : Nat} {m : Memref sig κ sp ⟨3, ![N, P, Q]⟩ e} (h : m.IsWhole) (X : Vec Ideal ⟨3, ![N, P, Q]⟩ e) (R C : Nat)
    (inb : ∀ a, (![0, R, C] : Fin 3 → Nat) a + (⟨3, ![N, p, q]⟩ : Shape).size a ≤ (⟨3, ![N, P, Q]⟩ : Shape).size a) (o : Fin N) (a : Fin p) (b : Fin q) (hR : R + p ≤ P) (hC : C + q ≤ Q) :
    View.readAt (Elt Ideal) m.view (Rect.unit (s := ⟨3, ![N, P, Q]⟩) ![0, R, C] (⟨3, ![N, p, q]⟩ : Shape).size inb).toLoadRect (h.unread X) (ix3 o a b)
      = X (ix3 o ⟨R + a.val, by omega⟩ ⟨C + b.val, by omega⟩) := by
  refine (h.readAt_unread X _ _).trans (congrArg X (funext fun c => Fin.ext ?_))
  match c with
  | ⟨0, _⟩ => show 0 + 1 * o.val = o.val; omega
  | ⟨1, _⟩ => show R + 1 * a.val = R + a.val; omega
  | ⟨2, _⟩ => show C + 1 * b.val = C + b.val; omega

theorem load5 {e : EltTy} {m : Memref sig κ sp V1x4x2x256x256 e} (h : m.IsWhole) (X : Vec Ideal V1x4x2x256x256 e) (R C : Nat)
    (inb : ∀ a, (![0, R, C, 0, 0] : Fin 5 → Nat) a + B256x256.size a ≤ V1x4x2x256x256.size a) (a : Fin 256) (b : Fin 256) (hR : R < 4) (hC : C < 2) :
    View.readAt (Elt Ideal) m.view (Rect.unit (s := V1x4x2x256x256) ![0, R, C, 0, 0] B256x256.size inb).toLoadRect (h.unread X) (ix5 0 0 0 a b)
      = X (ix5 0 ⟨R, hR⟩ ⟨C, hC⟩ a b) := by
  refine (h.readAt_unread X _ _).trans (congrArg X (funext fun c => Fin.ext ?_))
  match c with
  | ⟨0, _⟩ => rfl
  | ⟨1, _⟩ => show R + 1 * 0 = R; omega
  | ⟨2, _⟩ => show C + 1 * 0 = C; omega
  | ⟨3, _⟩ => show 0 + 1 * a.val = a.val; omega
  | ⟨4, _⟩ => show 0 + 1 * b.val = b.val; omega

end Loads

end Cert.Proof.Tiles

end
-- ==== Proof.Pieces.lean ====
/-
  Hand-written. THE INPUT PROJECTIONS' PIECES: each tile that the bodies store, as the piece of its output block — the
  block's entries are the functions of one token in Tiles.lean, at the token's columns.
-/
module

public import proofs.«01_k».proof.Proof.Tiles

@[expose] public section

noncomputable section

namespace Cert.Proof.Tiles

open Idealize.ShloMosaic Idealize.ShloMosaic.TcCoe

abbrev V1x4x2x256x80 : Shape := ⟨5, ![1, 4, 2, 256, 80]⟩
abbrev V1x4x2x80x256 : Shape := ⟨5, ![1, 4, 2, 80, 256]⟩
abbrev V1x1x256x128 : Shape := ⟨4, ![1, 1, 256, 128]⟩

/-- Token `t` of the residual stream's block. -/
def xAt (x0 : Vec Ideal V1x4x2x256x256 .bf16) (x1 : Vec Ideal V1024x1024 .bf16) (x2 : Vec Ideal V1x1024x1 .f32) (x3 : Vec Ideal V1x1024x512 .f32)
    (t : Fin 512) : Fin 1024 → EReal :=
  resid (fun f => x0 (ix5 0 ⟨f.val / 256, by omega⟩ ⟨t.val / 256, by omega⟩ ⟨f.val % 256, by omega⟩ ⟨t.val % 256, by omega⟩))
    (fun d f => x1 (ix2 d f)) (fun d => x2 (ix3 0 d 0)) (fun d => x3 (ix3 0 d t))

/-- Token `t` of the normed block. -/
def hAt (X : Fin 512 → Fin 1024 → EReal) (x4 : Vec Ideal V1024x1 .f32) (x5 x6 : Vec Ideal V1x1024x1 .f32) (t : Fin 512) : Fin 1024 → EReal :=
  normed (X t) (fun d => x4 (ix2 d 0)) (fun d => x5 (ix3 0 d 0)) (fun d => x6 (ix3 0 d 0))

/-- Projected rows of token `t`. -/
def pAt {n : Nat} (x7 : Vec Ideal ⟨2, ![n, 1024]⟩ .bf16) (H : Fin 512 → Fin 1024 → EReal) (t : Fin 512) (r : Fin n) : EReal :=
  ∑ d, x7 (ix2 r d) * H t d

/-- `k` consecutive projected rows from `o` on. -/
def rows {n : Nat} (P : Fin n → EReal) (o k : Nat) (h : o + k ≤ n) (i : Fin k) : EReal := P ⟨o + i.val, by omega⟩

/-- A word that is one or zero, as a number. -/
theorem word_if (p : Prop) [Decidable p] : (FloatOps.sitofp .f32 (if p then 1#32 else 0#32 : BitVec 32) : Ideal .f32) = if p then 1 else 0 := by
  split
  · show (((1#32 : BitVec 32).toInt : ℝ) : EReal) = 1
    norm_num
  · show (((0#32 : BitVec 32).toInt : ℝ) : EReal) = 0
    norm_num

/-! ## The residual stream -/

section
variable {sig : RefSig} {κ : Kind} {sp : Space} {m0 : Memref sig κ sp V1x4x2x256x256 .bf16} {m1 : Memref sig κ sp V1024x1024 .bf16}
  {m2 : Memref sig κ sp V1x1024x1 .f32} {m3 : Memref sig κ sp V1x1024x512 .f32}

theorem resid_piece (h0 : m0.IsWhole) (h1 : m1.IsWhole) (h2 : m2.IsWhole) (h3 : m3.IsWhole)
    (x0 : Vec Ideal V1x4x2x256x256 .bf16) (x1 : Vec Ideal V1024x1024 .bf16) (x2 : Vec Ideal V1x1024x1 .f32) (x3 : Vec Ideal V1x1024x512 .f32)
    (R T s : Nat) (hR : R + 256 ≤ 1024) (hs : s < 2) (hT : T = 256 * s)
    (i0 : ∀ a, (![R, 0] : Fin 2 → Nat) a + V256x256.size a ≤ V1024x1024.size a)
    (i1 : ∀ a, (![R, 256] : Fin 2 → Nat) a + V256x256.size a ≤ V1024x1024.size a)
    (i2 : ∀ a, (![R, 512] : Fin 2 → Nat) a + V256x256.size a ≤ V1024x1024.size a)
    (i3 : ∀ a, (![R, 768] : Fin 2 → Nat) a + V256x256.size a ≤ V1024x1024.size a)
    (j0 : ∀ a, (![0, 0, s, 0, 0] : Fin 5 → Nat) a + B256x256.size a ≤ V1x4x2x256x256.size a)
    (j1 : ∀ a, (![0, 1, s, 0, 0] : Fin 5 → Nat) a + B256x256.size a ≤ V1x4x2x256x256.size a)
    (j2 : ∀ a, (![0, 2, s, 0, 0] : Fin 5 → Nat) a + B256x256.size a ≤ V1x4x2x256x256.size a)
    (j3 : ∀ a, (![0, 3, s, 0, 0] : Fin 5 → Nat) a + B256x256.size a ≤ V1x4x2x256x256.size a)
    (ix : ∀ a, (![0, R, T] : Fin 3 → Nat) a + V1x256x256.size a ≤ V1x1024x512.size a)
    (ig : ∀ a, (![0, R, 0] : Fin 3 → Nat) a + V1x256x1.size a ≤ V1x1024x1.size a)
    (io : ∀ a, (![0, R, T] : Fin 3 → Nat) a + V1x256x256.size a ≤ V1x1024x512.size a)
    (z : V1x256x256.Idx) :
    residTile
        (View.readAt (Elt Ideal) m1.view (Rect.unit (s := V1024x1024) ![R, 0] V256x256.size i0).toLoadRect (h1.unread x1))
        (View.readAt (Elt Ideal) m0.view (Rect.unit (s := V1x4x2x256x256) ![0, 0, s, 0, 0] B256x256.size j0).toLoadRect (h0.unread x0))
        (View.readAt (Elt Ideal) m1.view (Rect.unit (s := V1024x1024) ![R, 256] V256x256.size i1).toLoadRect (h1.unread x1))
        (View.readAt (Elt Ideal) m0.view (Rect.unit (s := V1x4x2x256x256) ![0, 1, s, 0, 0] B256x256.size j1).toLoadRect (h0.unread x0))
        (View.readAt (Elt Ideal) m1.view (Rect.unit (s := V1024x1024) ![R, 512] V256x256.size i2).toLoadRect (h1.unread x1))
        (View.readAt (Elt Ideal) m0.view (Rect.unit (s := V1x4x2x256x256) ![0, 2, s, 0, 0] B256x256.size j2).toLoadRect (h0.unread x0))
        (View.readAt (Elt Ideal) m1.view (Rect.unit (s := V1024x1024) ![R, 768] V256x256.size i3).toLoadRect (h1.unread x1))
        (View.readAt (Elt Ideal) m0.view (Rect.unit (s := V1x4x2x256x256) ![0, 3, s, 0, 0] B256x256.size j3).toLoadRect (h0.unread x0))
        (View.readAt (Elt Ideal) m3.view (Rect.unit (s := V1x1024x512) ![0, R, T] V1x256x256.size ix).toLoadRect (h3.unread x3))
        (View.readAt (Elt Ideal) m2.view (Rect.unit (s := V1x1024x1) ![0, R, 0] V1x256x1.size ig).toLoadRect (h2.unread x2)) z
      = (fun y : V1x1024x512.Idx => xAt x0 x1 x2 x3 (y 2) (y 1)) ((Rect.unit (s := V1x1024x512) ![0, R, T] V1x256x256.size io).emb z) := by
  subst hT
  obtain ⟨o, a, b, rfl⟩ : ∃ o a b, z = ix3 o a b := ⟨_, _, _, eq_ix3 z⟩
  have ha := a.isLt
  have hb := b.isLt
  rw [residTile_apply]
  simp only [load2 h1 x1 R _ _ _ _ (by omega) (show 0 + 256 ≤ 1024 by omega), load2 h1 x1 R 256 _ _ _ (by omega) (show 256 + 256 ≤ 1024 by omega), load2 h1 x1 R 512 _ _ _ (by omega) (show 512 + 256 ≤ 1024 by omega),
    load2 h1 x1 R 768 _ _ _ (by omega) (show 768 + 256 ≤ 1024 by omega), load5 h0 x0 0 s _ _ _ (by omega) hs, load5 h0 x0 1 s _ _ _ (by omega) hs, load5 h0 x0 2 s _ _ _ (by omega) hs,
    load5 h0 x0 3 s _ _ _ (by omega) hs, load3 h2 x2 R 0 _ _ _ _ hR (show 0 + 1 ≤ 1 by omega), load3 h3 x3 R (256 * s) _ _ _ _ hR (show 256 * s + 256 ≤ 512 by omega)]
  have e1 : (((Rect.unit (s := V1x1024x512) ![0, R, 256 * s] V1x256x256.size io).emb (ix3 o a b)) 1).val = R + a.val := by
    show R + 1 * a.val = _; omega
  have e2 : (((Rect.unit (s := V1x1024x512) ![0, R, 256 * s] V1x256x256.size io).emb (ix3 o a b)) 2).val = 256 * s + b.val := by
    show 256 * s + 1 * b.val = _; omega
  generalize (Rect.unit (s := V1x1024x512) ![0, R, 256 * s] V1x256x256.size io).emb (ix3 o a b) = y at e1 e2
  have f1 : y 1 = (⟨R + a.val, by omega⟩ : Fin 1024) := Fin.ext e1
  have f2 : y 2 = (⟨256 * s + b.val, by omega⟩ : Fin 512) := Fin.ext e2
  show _ = xAt x0 x1 x2 x3 (y 2) (y 1)
  rw [f1, f2]
  simp only [xAt, resid, sum_quarters]
  refine congr (congrArg _ rfl) (congr (congrArg _ rfl) (congr (congrArg _ (congr (congrArg _ (congr (congrArg _ ?_) ?_)) ?_)) ?_))
  all_goals
    refine Finset.sum_congr rfl fun k _ => ?_
    have hk := k.isLt
    refine congr (congrArg _ (congrArg x1 (funext fun c => Fin.ext ?_))) (congrArg x0 (funext fun c => Fin.ext ?_))
    · match c with
      | ⟨0, _⟩ => rfl
      | ⟨1, _⟩ => first | rfl | (show 0 + k.val = k.val; omega)
    · match c with
      | ⟨0, _⟩ => rfl
      | ⟨1, _⟩ => first | (show 0 = k.val / 256; omega) | (show 1 = (256 + k.val) / 256; omega) | (show 2 = (512 + k.val) / 256; omega) | (show 3 = (768 + k.val) / 256; omega)
      | ⟨2, _⟩ => show s = (256 * s + b.val) / 256; omega
      | ⟨3, _⟩ => first | (show k.val = k.val % 256; omega) | (show k.val = (256 + k.val) % 256; omega) | (show k.val = (512 + k.val) % 256; omega) | (show k.val = (768 + k.val) % 256; omega)
      | ⟨4, _⟩ => show b.val = (256 * s + b.val) % 256; omega

variable {m4 : Memref sig κ sp V1024x1 .f32} {m5 m6 : Memref sig κ sp V1x1024x1 .f32}

/-- The normed block, over any vector that holds the residual stream. -/
theorem norm_block (h4 : m4.IsWhole) (h5 : m5.IsWhole) (h6 : m6.IsWhole) (x4 : Vec Ideal V1024x1 .f32) (x5 x6 : Vec Ideal V1x1024x1 .f32)
    (x : Vec Ideal V1x1024x512 .f32) (X : Fin 512 → Fin 1024 → EReal) (hX : ∀ d t, x (ix3 0 d t) = X t d)
    (i4 : ∀ a, (![0, 0] : Fin 2 → Nat) a + V1024x1.size a ≤ V1024x1.size a)
    (i5 : ∀ a, (![0, 0, 0] : Fin 3 → Nat) a + V1x1024x1.size a ≤ V1x1024x1.size a)
    (i6 : ∀ a, (![0, 0, 0] : Fin 3 → Nat) a + V1x1024x1.size a ≤ V1x1024x1.size a) (d : Fin 1024) (t : Fin 512) :
    normTile x
        (View.readAt (Elt Ideal) m4.view (Rect.unit (s := V1024x1) ![0, 0] V1024x1.size i4).toLoadRect (h4.unread x4))
        (View.readAt (Elt Ideal) m5.view (Rect.unit (s := V1x1024x1) ![0, 0, 0] V1x1024x1.size i5).toLoadRect (h5.unread x5))
        (View.readAt (Elt Ideal) m6.view (Rect.unit (s := V1x1024x1) ![0, 0, 0] V1x1024x1.size i6).toLoadRect (h6.unread x6)) (ix2 d t)
      = hAt X x4 x5 x6 t d := by
  rw [normTile_apply]
  simp only [load2 h4 x4 0 0 _ _ _ (show 0 + 1024 ≤ 1024 by omega) (show 0 + 1 ≤ 1 by omega), load3 h5 x5 0 0 _ _ _ _ (show 0 + 1024 ≤ 1024 by omega) (show 0 + 1 ≤ 1 by omega),
    load3 h6 x6 0 0 _ _ _ _ (show 0 + 1024 ≤ 1024 by omega) (show 0 + 1 ≤ 1 by omega), hX, Nat.zero_add]
  rfl

variable {n : Nat} {m7 : Memref sig κ sp ⟨2, ![n, 1024]⟩ .bf16}

/-- 256 projected rows from `R` on, over any vector that holds the normed block. -/
theorem proj_block (h7 : m7.IsWhole) (x7 : Vec Ideal ⟨2, ![n, 1024]⟩ .bf16) (h : FVec Ideal V1024x512 .bf16) (H : Fin 512 → Fin 1024 → EReal)
    (hH : ∀ d t, h (ix2 d t) = H t d) (R : Nat) (i7 : ∀ a, (![R, 0] : Fin 2 → Nat) a + V256x1024.size a ≤ (⟨2, ![n, 1024]⟩ : Shape).size a)
    (hR : R + 256 ≤ n) (a : Fin 256) (t : Fin 512) :
    proj h (View.readAt (Elt Ideal) m7.view (Rect.unit (s := ⟨2, ![n, 1024]⟩) ![R, 0] V256x1024.size i7).toLoadRect (h7.unread x7)) (ix2 a t)
      = rows (pAt x7 H t) R 256 hR a := by
  rw [proj_apply]
  simp only [load2 h7 x7 R 0 _ _ _ hR (show 0 + 1024 ≤ 1024 by omega), hH, Nat.zero_add]
  rfl

theorem silu_block (h7 : m7.IsWhole) (x7 : Vec Ideal ⟨2, ![n, 1024]⟩ .bf16) (h : FVec Ideal V1024x512 .bf16) (H : Fin 512 → Fin 1024 → EReal)
    (hH : ∀ d t, h (ix2 d t) = H t d) (R : Nat) (i7 : ∀ a, (![R, 0] : Fin 2 → Nat) a + V256x1024.size a ≤ (⟨2, ![n, 1024]⟩ : Shape).size a)
    (hR : R + 256 ≤ n) (a : Fin 256) (t : Fin 512) :
    siluTile h (View.readAt (Elt Ideal) m7.view (Rect.unit (s := ⟨2, ![n, 1024]⟩) ![R, 0] V256x1024.size i7).toLoadRect (h7.unread x7)) (ix2 a t)
      = rows (pAt x7 H t) R 256 hR a * Ideal.logistic (rows (pAt x7 H t) R 256 hR a) := by
  rw [siluTile_apply]
  simp only [load2 h7 x7 R 0 _ _ _ hR (show 0 + 1024 ≤ 1024 by omega), hH, Nat.zero_add]
  rfl

end

/-! ## The pieces -/

theorem query_piece (P : Fin 512 → Fin 1024 → EReal) (gg : Fin 64 → EReal) (cc ss : Fin 512 → Fin 8 → EReal) (G : Fin 4) (S R L : Nat) (hS : S < 2) (hL' : L = 256 * S)
    (hR' : R % 64 = 0) (hR'' : R + 64 ≤ 256) (io : ∀ a, (![0, G.val, S, R, 0] : Fin 5 → Nat) a + B64x256.size a ≤ V1x4x2x256x256.size a)
    (Y : FVec Ideal V256x512 .f32) (hR : V256x512.Slices ![R, 0] V64x512) (hL : V64x512.Slices ![0, L] V64x256)
    (g : Vec Ideal V64x1 .f32) (c s : FVec Ideal V8x512 .f32)
    (hY : ∀ a t, Y (ix2 a t) = P t ⟨256 * G.val + a.val, by omega⟩) (hg : ∀ j, g (ix2 j 0) = gg j) (hc : ∀ k t, c (ix2 k t) = cc t k) (hs : ∀ k t, s (ix2 k t) = ss t k)
    (z : B64x256.Idx) :
    queryTile Y R hR L hL g c s z
      = (fun y : V1x4x2x256x256.Idx =>
          let t : Fin 512 := ⟨256 * (y 2).val + (y 4).val, by have := (y 2).isLt; have := (y 4).isLt; simp at *; omega⟩
          qAt (P t) gg (cc t) (ss t) (y 1) (y 3)) ((Rect.unit (s := V1x4x2x256x256) ![0, G.val, S, R, 0] B64x256.size io).emb z) := by
  subst hL'
  obtain ⟨o, o', o'', a, b, rfl⟩ : ∃ o o' o'' a b, z = ix5 o o' o'' a b := ⟨_, _, _, _, _, eq_ix5 z⟩
  have ha := a.isLt
  have hb := b.isLt
  rw [queryTile_apply _ _ _ hR'' _ _ (by omega)]
  simp only [hY, hg, hc, hs]
  have e1 : (((Rect.unit (s := V1x4x2x256x256) ![0, G.val, S, R, 0] B64x256.size io).emb (ix5 o o' o'' a b)) 1).val = G.val := by
    show G.val + 1 * o'.val = _; omega
  have e2 : (((Rect.unit (s := V1x4x2x256x256) ![0, G.val, S, R, 0] B64x256.size io).emb (ix5 o o' o'' a b)) 2).val = S := by
    show S + 1 * o''.val = _; omega
  have e3 : (((Rect.unit (s := V1x4x2x256x256) ![0, G.val, S, R, 0] B64x256.size io).emb (ix5 o o' o'' a b)) 3).val = R + a.val := by
    show R + 1 * a.val = _; omega
  have e4 : (((Rect.unit (s := V1x4x2x256x256) ![0, G.val, S, R, 0] B64x256.size io).emb (ix5 o o' o'' a b)) 4).val = b.val := by
    show 0 + 1 * b.val = _; omega
  generalize (Rect.unit (s := V1x4x2x256x256) ![0, G.val, S, R, 0] B64x256.size io).emb (ix5 o o' o'' a b) = y at e1 e2 e3 e4
  have et : ∀ h h', (⟨256 * S + b.val, h⟩ : Fin 512) = ⟨256 * (y 2).val + (y 4).val, h'⟩ := fun _ _ => Fin.ext (by simp only [e2, e4])
  dsimp only [qAt]
  refine congrArg (· * qs) (rope_congr (fun i => nrm_congr (fun j => ?_) (fun _ => rfl) i) (fun k => ?_) (fun k => ?_) ?_)
  · exact congr (congrArg P (et _ _)) (Fin.ext (show 256 * G.val + (R + j.val) = 256 * (y 1).val + (y 3).val / 64 * 64 + j.val by omega))
  · exact congrFun (congrArg cc (et _ _)) k
  · exact congrFun (congrArg ss (et _ _)) k
  · show a.val = (y 3).val % 64; omega

theorem key_piece (P : Fin 512 → Fin 256 → EReal) (gg : Fin 64 → EReal) (cc ss : Fin 512 → Fin 8 → EReal) (ind : Fin 256 → Fin 16 → EReal) (G : Fin 4) (S R L : Nat)
    (hS : S < 2) (hL' : L = 256 * S) (hR' : R = 64 * G.val) (io : ∀ a, (![0, G.val, S, 0, 0] : Fin 5 → Nat) a + B256x80.size a ≤ V1x4x2x256x80.size a)
    (Y : FVec Ideal V256x512 .f32) (hR : V256x512.Slices ![R, 0] V64x512) (hL : V64x512.Slices ![0, L] V64x256)
    (g : Vec Ideal V64x1 .f32) (c s : FVec Ideal V8x512 .f32) (I : FVec Ideal V64x256 .f32)
    (hY : ∀ a t, Y (ix2 a t) = P t a) (hg : ∀ j, g (ix2 j 0) = gg j) (hc : ∀ k t, c (ix2 k t) = cc t k) (hs : ∀ k t, s (ix2 k t) = ss t k)
    (hI : ∀ (a : Fin 16) t, I (ix2 ⟨a.val, by omega⟩ t) = ind t a) (z : B256x80.Idx) :
    keyTile Y R hR L hL g c s I z
      = (fun y : V1x4x2x256x80.Idx =>
          let t : Fin 512 := ⟨256 * (y 2).val + (y 3).val, by have := (y 2).isLt; have := (y 3).isLt; simp at *; omega⟩
          kAt (P t) gg (cc t) (ss t) (ind (y 3)) (y 1) (y 4)) ((Rect.unit (s := V1x4x2x256x80) ![0, G.val, S, 0, 0] B256x80.size io).emb z) := by
  subst hL'
  obtain ⟨o, o', o'', b, a, rfl⟩ : ∃ o o' o'' b a, z = ix5 o o' o'' b a := ⟨_, _, _, _, _, eq_ix5 z⟩
  have ha := a.isLt
  have hb := b.isLt
  rw [keyTile_apply _ _ _ (by omega) _ _ (by omega)]
  simp only [hY, hg, hc, hs]
  have e1 : (((Rect.unit (s := V1x4x2x256x80) ![0, G.val, S, 0, 0] B256x80.size io).emb (ix5 o o' o'' b a)) 1).val = G.val := by
    show G.val + 1 * o'.val = _; omega
  have e2 : (((Rect.unit (s := V1x4x2x256x80) ![0, G.val, S, 0, 0] B256x80.size io).emb (ix5 o o' o'' b a)) 2).val = S := by
    show S + 1 * o''.val = _; omega
  have e3 : (((Rect.unit (s := V1x4x2x256x80) ![0, G.val, S, 0, 0] B256x80.size io).emb (ix5 o o' o'' b a)) 3).val = b.val := by
    show 0 + 1 * b.val = _; omega
  have e4 : (((Rect.unit (s := V1x4x2x256x80) ![0, G.val, S, 0, 0] B256x80.size io).emb (ix5 o o' o'' b a)) 4).val = a.val := by
    show 0 + 1 * a.val = _; omega
  generalize (Rect.unit (s := V1x4x2x256x80) ![0, G.val, S, 0, 0] B256x80.size io).emb (ix5 o o' o'' b a) = y at e1 e2 e3 e4
  have et : ∀ h h', (⟨256 * S + b.val, h⟩ : Fin 512) = ⟨256 * (y 2).val + (y 3).val, h'⟩ := fun _ _ => Fin.ext (by simp only [e2, e3])
  have e4' : y 4 = a := Fin.ext e4
  have e3' : y 3 = b := Fin.ext e3
  dsimp only [kAt]
  by_cases h : a.val < 64
  · rw [dif_pos h, dif_pos (by omega)]
    refine rope_congr (fun i => nrm_congr (fun j => ?_) (fun _ => rfl) i) (fun k => ?_) (fun k => ?_) ?_
    · exact congr (congrArg P (et _ _)) (Fin.ext (show R + j.val = 64 * (y 1).val + j.val by omega))
    · exact congrFun (congrArg cc (et _ _)) k
    · exact congrFun (congrArg ss (et _ _)) k
    · exact e4.symm
  · rw [dif_neg h, dif_neg (by omega)]
    refine (hI ⟨a.val - 64, by omega⟩ b).trans ?_
    rw [e3']
    exact congrArg (ind b) (Fin.ext (show a.val - 64 = (y 4).val - 64 by omega))

theorem value_piece (P : Fin 512 → Fin 256 → EReal) (G : Fin 4) (S R L : Nat)
    (hS : S < 2) (hL' : L = 256 * S) (hR' : R = 64 * G.val) (io : ∀ a, (![0, G.val, S, 0, 0] : Fin 5 → Nat) a + B80x256.size a ≤ V1x4x2x80x256.size a)
    (Y : FVec Ideal V256x512 .bf16) (hRL : V256x512.Slices ![R, L] V64x256) (I : FVec Ideal V16x256 .bf16)
    (hY : ∀ a t, Y (ix2 a t) = P t a) (hI : ∀ a t, I (ix2 a t) = if a.val = 0 then 1 else 0) (z : B80x256.Idx) :
    valueTile Y R L hRL I z
      = (fun y : V1x4x2x80x256.Idx =>
          let t : Fin 512 := ⟨256 * (y 2).val + (y 4).val, by have := (y 2).isLt; have := (y 4).isLt; simp at *; omega⟩
          vAt (P t) (y 1) (y 3)) ((Rect.unit (s := V1x4x2x80x256) ![0, G.val, S, 0, 0] B80x256.size io).emb z) := by
  subst hL'
  obtain ⟨o, o', o'', a, b, rfl⟩ : ∃ o o' o'' a b, z = ix5 o o' o'' a b := ⟨_, _, _, _, _, eq_ix5 z⟩
  have ha := a.isLt
  have hb := b.isLt
  rw [valueTile_apply _ _ _ _ (by omega) (by omega)]
  simp only [hY, hI]
  have e1 : (((Rect.unit (s := V1x4x2x80x256) ![0, G.val, S, 0, 0] B80x256.size io).emb (ix5 o o' o'' a b)) 1).val = G.val := by
    show G.val + 1 * o'.val = _; omega
  have e2 : (((Rect.unit (s := V1x4x2x80x256) ![0, G.val, S, 0, 0] B80x256.size io).emb (ix5 o o' o'' a b)) 2).val = S := by
    show S + 1 * o''.val = _; omega
  have e3 : (((Rect.unit (s := V1x4x2x80x256) ![0, G.val, S, 0, 0] B80x256.size io).emb (ix5 o o' o'' a b)) 3).val = a.val := by
    show 0 + 1 * a.val = _; omega
  have e4 : (((Rect.unit (s := V1x4x2x80x256) ![0, G.val, S, 0, 0] B80x256.size io).emb (ix5 o o' o'' a b)) 4).val = b.val := by
    show 0 + 1 * b.val = _; omega
  generalize (Rect.unit (s := V1x4x2x80x256) ![0, G.val, S, 0, 0] B80x256.size io).emb (ix5 o o' o'' a b) = y at e1 e2 e3 e4
  have et : ∀ h h', (⟨256 * S + b.val, h⟩ : Fin 512) = ⟨256 * (y 2).val + (y 4).val, h'⟩ := fun _ _ => Fin.ext (by simp only [e2, e4])
  dsimp only [vAt]
  by_cases h : a.val < 64
  · rw [dif_pos h, dif_pos (by omega)]
    exact congr (congrArg P (et _ _)) (Fin.ext (show R + a.val = 64 * (y 1).val + (y 3).val by omega))
  · rw [dif_neg h, dif_neg (by omega)]
    by_cases h' : a.val = 64
    · rw [if_pos (by omega), if_pos (by omega)]
    · rw [if_neg (by omega), if_neg (by omega)]

theorem plain_piece (F : Fin 512 → Fin 4 → Fin 256 → EReal) (G : Fin 4) (S L : Nat)
    (hS : S < 2) (hL' : L = 256 * S) (io : ∀ a, (![0, G.val, S, 0, 0] : Fin 5 → Nat) a + B256x256.size a ≤ V1x4x2x256x256.size a)
    (Z : FVec Ideal V256x512 .f32) (hL : V256x512.Slices ![0, L] V256x256) (hZ : ∀ a t, Z (ix2 a t) = F t G a) (z : B256x256.Idx) :
    plainTile Z L hL z
      = (fun y : V1x4x2x256x256.Idx =>
          let t : Fin 512 := ⟨256 * (y 2).val + (y 4).val, by have := (y 2).isLt; have := (y 4).isLt; simp at *; omega⟩
          F t (y 1) (y 3)) ((Rect.unit (s := V1x4x2x256x256) ![0, G.val, S, 0, 0] B256x256.size io).emb z) := by
  subst hL'
  obtain ⟨o, o', o'', a, b, rfl⟩ : ∃ o o' o'' a b, z = ix5 o o' o'' a b := ⟨_, _, _, _, _, eq_ix5 z⟩
  have ha := a.isLt
  have hb := b.isLt
  rw [plainTile_apply _ _ _ (by omega), hZ]
  have e1 : (((Rect.unit (s := V1x4x2x256x256) ![0, G.val, S, 0, 0] B256x256.size io).emb (ix5 o o' o'' a b)) 1).val = G.val := by
    show G.val + 1 * o'.val = _; omega
  have e2 : (((Rect.unit (s := V1x4x2x256x256) ![0, G.val, S, 0, 0] B256x256.size io).emb (ix5 o o' o'' a b)) 2).val = S := by
    show S + 1 * o''.val = _; omega
  have e3 : (((Rect.unit (s := V1x4x2x256x256) ![0, G.val, S, 0, 0] B256x256.size io).emb (ix5 o o' o'' a b)) 3).val = a.val := by
    show 0 + 1 * a.val = _; omega
  have e4 : (((Rect.unit (s := V1x4x2x256x256) ![0, G.val, S, 0, 0] B256x256.size io).emb (ix5 o o' o'' a b)) 4).val = b.val := by
    show 0 + 1 * b.val = _; omega
  generalize (Rect.unit (s := V1x4x2x256x256) ![0, G.val, S, 0, 0] B256x256.size io).emb (ix5 o o' o'' a b) = y at e1 e2 e3 e4
  have e1' : y 1 = G := Fin.ext e1
  have e3' : y 3 = a := Fin.ext e3
  dsimp only
  rw [e1', e3']
  exact congrFun (congrFun (congrArg F (Fin.ext (by simp only [e2, e4]))) _) _

theorem mean_piece (P : Fin 512 → Fin 256 → EReal) (gg : Fin 64 → EReal) (cc ss : Fin 512 → Fin 8 → EReal) (R : Nat) (hR' : R % 64 = 0) (hR'' : R + 64 ≤ 256)
    (io : ∀ a, (![0, 0, R, 0] : Fin 4 → Nat) a + B64x128.size a ≤ V1x1x256x128.size a)
    (Y : FVec Ideal V256x512 .f32) (hR : V256x512.Slices ![R, 0] V64x512) (g : Vec Ideal V64x1 .f32) (c s : FVec Ideal V8x512 .f32)
    (hY : ∀ a t, Y (ix2 a t) = P t a) (hg : ∀ j, g (ix2 j 0) = gg j) (hc : ∀ k t, c (ix2 k t) = cc t k) (hs : ∀ k t, s (ix2 k t) = ss t k)
    (z : B64x128.Idx) :
    meanTile (head Y R hR g c s) z
      = (fun y : V1x1x256x128.Idx => kmAt (fun r t => P t r) gg (fun k t => cc t k) (fun k t => ss t k) (y 2) (y 3))
          ((Rect.unit (s := V1x1x256x128) ![0, 0, R, 0] B64x128.size io).emb z) := by
  obtain ⟨o, o', a, l, rfl⟩ : ∃ o o' a l, z = ix4 o o' a l := ⟨_, _, _, _, eq_ix4 z⟩
  have ha := a.isLt
  have hl := l.isLt
  rw [meanTile_apply]
  simp only [head_apply _ _ _ hR'', hY, hg, hc, hs]
  have e2 : (((Rect.unit (s := V1x1x256x128) ![0, 0, R, 0] B64x128.size io).emb (ix4 o o' a l)) 2).val = R + a.val := by
    show R + 1 * a.val = _; omega
  have e3 : (((Rect.unit (s := V1x1x256x128) ![0, 0, R, 0] B64x128.size io).emb (ix4 o o' a l)) 3).val = l.val := by
    show 0 + 1 * l.val = _; omega
  generalize (Rect.unit (s := V1x1x256x128) ![0, 0, R, 0] B64x128.size io).emb (ix4 o o' a l) = y at e2 e3
  have e3' : y 3 = l := Fin.ext e3
  dsimp only [kmAt]
  by_cases h : l.val < 2
  · rw [dif_pos h, dif_pos (by omega)]
    refine congrArg (Ideal.div · c256) (Finset.sum_congr rfl fun t _ => ?_)
    have ht := t.isLt
    have et : ∀ h h', (⟨256 * l.val + t.val, h⟩ : Fin 512) = ⟨256 * (y 3).val + t.val, h'⟩ := fun _ _ => Fin.ext (by simp only [e3])
    refine rope_congr (fun i => nrm_congr (fun j => ?_) (fun _ => rfl) i) (fun k => ?_) (fun k => ?_) ?_
    · exact congr (congrArg P (et _ _)) (Fin.ext (show R + j.val = (y 2).val / 64 * 64 + j.val by omega))
    · exact congrFun (congrArg cc (et _ _)) k
    · exact congrFun (congrArg ss (et _ _)) k
    · show a.val = (y 2).val % 64; omega
  · rw [dif_neg h, dif_neg (by omega)]

end Cert.Proof.Tiles

end
-- ==== Proof.MobaBlock.lean ====
/-
  Hand-written. THE MoBA INPUT PROJECTION, ONE BLOCK: what the body of the call leaves in its six output blocks, each as
  one formula in the twelve input blocks. The body stores tile by tile; every tile is one of the pieces in Pieces.lean.
-/
module

public import proofs.«01_k».proof.Proof.Gen.MobaInIdeal.Value
public import proofs.«01_k».proof.Proof.Pieces
public import Idealize.ShloMosaic.Lib.Pipeline.Value
public import Idealize.ShloMosaic.Lib.Pointwise

@[expose] public section

noncomputable section

namespace Cert.Proof.MobaIn

open Idealize.ShloMosaic Idealize.ShloMosaic.TcCoe Idealize.SL.Sem
open Cert.MobaInIdeal Cert.MobaInIdeal.Gen Cert.Proof.Tiles

section Blocks
variable (c : Dev nD) (i : grid0.Coords)
  (arg2 : Memref sig .tc .vmem S1x4x2x256x256 .bf16) (harg2 : arg2.IsWhole)
  (arg3 : Memref sig .tc .vmem S1024x1024 .bf16) (harg3 : arg3.IsWhole)
  (arg4 : Memref sig .tc .vmem S1x1024x1 .f32) (harg4 : arg4.IsWhole)
  (arg5 : Memref sig .tc .vmem S1x1024x512 .f32) (harg5 : arg5.IsWhole)
  (arg6 : Memref sig .tc .vmem S1024x1 .f32) (harg6 : arg6.IsWhole)
  (arg7 : Memref sig .tc .vmem S1x1024x1 .f32) (harg7 : arg7.IsWhole)
  (arg8 : Memref sig .tc .vmem S1x1024x1 .f32) (harg8 : arg8.IsWhole)
  (arg9 : Memref sig .tc .vmem S2560x1024 .bf16) (harg9 : arg9.IsWhole)
  (arg10 : Memref sig .tc .vmem S64x1 .f32) (harg10 : arg10.IsWhole)
  (arg11 : Memref sig .tc .vmem S64x1 .f32) (harg11 : arg11.IsWhole)
  (arg12 : Memref sig .tc .vmem S1x8x512 .f32) (harg12 : arg12.IsWhole)
  (arg13 : Memref sig .tc .vmem S1x8x512 .f32) (harg13 : arg13.IsWhole)
  (arg14 : Memref sig .tc .vmem S1x4x2x256x256 .bf16) (harg14 : arg14.IsWhole)
  (arg15 : Memref sig .tc .vmem S1x4x2x256x80 .bf16) (harg15 : arg15.IsWhole)
  (arg16 : Memref sig .tc .vmem S1x1x256x128 .f32) (harg16 : arg16.IsWhole)
  (arg17 : Memref sig .tc .vmem S1x4x2x80x256 .bf16) (harg17 : arg17.IsWhole)
  (arg18 : Memref sig .tc .vmem S1x4x2x256x256 .f32) (harg18 : arg18.IsWhole)
  (arg19 : Memref sig .tc .vmem S1x1024x512 .f32) (harg19 : arg19.IsWhole)
  (x0 : Vec Ideal S1x4x2x256x256 .bf16) (x1 : Vec Ideal S1024x1024 .bf16) (x2 : Vec Ideal S1x1024x1 .f32) (x3 : Vec Ideal S1x1024x512 .f32) (x4 : Vec Ideal S1024x1 .f32) (x5 : Vec Ideal S1x1024x1 .f32) (x6 : Vec Ideal S1x1024x1 .f32) (x7 : Vec Ideal S2560x1024 .bf16) (x8 : Vec Ideal S64x1 .f32) (x9 : Vec Ideal S64x1 .f32) (x10 : Vec Ideal S1x8x512 .f32) (x11 : Vec Ideal S1x8x512 .f32)

/-- The twelve input blocks' projected rows, token by token. -/
def P (x0 : Vec Ideal S1x4x2x256x256 .bf16) (x1 : Vec Ideal S1024x1024 .bf16) (x2 : Vec Ideal S1x1024x1 .f32) (x3 : Vec Ideal S1x1024x512 .f32)
    (x4 : Vec Ideal S1024x1 .f32) (x5 x6 : Vec Ideal S1x1024x1 .f32) (x7 : Vec Ideal S2560x1024 .bf16) : Fin 512 → Fin 2560 → EReal :=
  pAt x7 (hAt (xAt x0 x1 x2 x3) x4 x5 x6)

/-- The stores of the residual stream's block. -/
theorem pieces17 : ∀ p ∈ kernelRun0_A.sl.H17_8 (F := Ideal) c arg2 harg2 arg3 harg3 arg4 harg4 arg5 harg5 x0 x1 x2 x3,
    ∀ z : p.1.shape.Idx, p.2 z = (fun y : S1x1024x512.Idx => xAt x0 x1 x2 x3 (y 2) (y 1)) (p.1.emb z) := by
  dsimp only [kernelRun0_A.sl.H17_8]
  intro p hp
  simp only [List.mem_cons, List.not_mem_nil, or_false] at hp
  rcases hp with rfl | rfl | rfl | rfl | rfl | rfl | rfl | rfl
  · exact resid_piece harg2 harg3 harg4 harg5 x0 x1 x2 x3 768 256 1 (by omega) (by omega) rfl _ _ _ _ _ _ _ _ _ _ inb_S1x1024x512_S1x256x256_0_768_256
  · exact resid_piece harg2 harg3 harg4 harg5 x0 x1 x2 x3 512 256 1 (by omega) (by omega) rfl _ _ _ _ _ _ _ _ _ _ inb_S1x1024x512_S1x256x256_0_512_256
  · exact resid_piece harg2 harg3 harg4 harg5 x0 x1 x2 x3 256 256 1 (by omega) (by omega) rfl _ _ _ _ _ _ _ _ _ _ inb_S1x1024x512_S1x256x256_0_256_256
  · exact resid_piece harg2 harg3 harg4 harg5 x0 x1 x2 x3 0 256 1 (by omega) (by omega) rfl _ _ _ _ _ _ _ _ _ _ inb_S1x1024x512_S1x256x256_0_0_256
  · exact resid_piece harg2 harg3 harg4 harg5 x0 x1 x2 x3 768 0 0 (by omega) (by omega) rfl _ _ _ _ _ _ _ _ _ _ inb_S1x1024x512_S1x256x256_0_768_0
  · exact resid_piece harg2 harg3 harg4 harg5 x0 x1 x2 x3 512 0 0 (by omega) (by omega) rfl _ _ _ _ _ _ _ _ _ _ inb_S1x1024x512_S1x256x256_0_512_0
  · exact resid_piece harg2 harg3 harg4 harg5 x0 x1 x2 x3 256 0 0 (by omega) (by omega) rfl _ _ _ _ _ _ _ _ _ _ inb_S1x1024x512_S1x256x256_0_256_0
  · exact resid_piece harg2 harg3 harg4 harg5 x0 x1 x2 x3 0 0 0 (by omega) (by omega) rfl _ _ _ _ _ _ _ _ _ _ inb_S1x1024x512_S1x256x256_0_0_0

/-- The stores fill the block. -/
theorem cover17 (y : S1x1024x512.Idx) :
    ∃ pc ∈ kernelRun0_A.sl.H17_8 (F := Ideal) c arg2 harg2 arg3 harg3 arg4 harg4 arg5 harg5 x0 x1 x2 x3, y ∈ pc.1.set :=
  View.cover_of_tiledL (kernelRun0_A.sl.H17_8 (F := Ideal) c arg2 harg2 arg3 harg3 arg4 harg4 arg5 harg5 x0 x1 x2 x3) S1x256x256.size (by sl_kernel_rfl) y

/-- The residual stream's block as the stores leave it. -/
theorem canon17 (y : S1x1024x512.Idx) : View.canon (kernelRun0_A.sl.H17_8 (F := Ideal) c arg2 harg2 arg3 harg3 arg4 harg4 arg5 harg5 x0 x1 x2 x3) y = xAt x0 x1 x2 x3 (y 2) (y 1) :=
  View.canon_apply_of_pieces (Val := Elt Ideal) (e := .f32) (fun y : S1x1024x512.Idx => xAt x0 x1 x2 x3 (y 2) (y 1)) _ (pieces17 c arg2 harg2 arg3 harg3 arg4 harg4 arg5 harg5 x0 x1 x2 x3) y (cover17 c arg2 harg2 arg3 harg3 arg4 harg4 arg5 harg5 x0 x1 x2 x3 y)

/-- The residual stream's block. -/
theorem out17_apply (y : S1x1024x512.Idx) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = xAt x0 x1 x2 x3 (y 2) (y 1) := by
  unfold out0_A_17
  rw [View.read_writes_junk_eq_canon]
  exact canon17 c arg2 harg2 arg3 harg3 arg4 harg4 arg5 harg5 x0 x1 x2 x3 y

/-- The block the norm reads back. -/
theorem v264_apply (d : Fin 1024) (t : Fin 512) :
    kernelRun0_A.sl.v264 (F := Ideal) c arg2 harg2 arg3 harg3 arg4 harg4 arg5 harg5 arg19 x0 x1 x2 x3 (ix3 0 d t) = xAt x0 x1 x2 x3 t d := by
  unfold kernelRun0_A.sl.v264
  rw [View.readCov_eq_canon']
  refine (canon17 c arg2 harg2 arg3 harg3 arg4 harg4 arg5 harg5 x0 x1 x2 x3 _).trans ?_
  exact congr (congrArg _ (Fin.ext (show 0 + 1 * t.val = t.val by omega))) (Fin.ext (show 0 + 1 * d.val = d.val by omega))

/-- The normed block. -/
theorem r10_apply (d : Fin 1024) (t : Fin 512) :
    kernelRun0_A.sl.r_10 (F := Ideal) c arg2 harg2 arg3 harg3 arg4 harg4 arg5 harg5 arg6 harg6 arg7 harg7 arg8 harg8 arg19 x0 x1 x2 x3 x4 x5 x6 (ix2 d t)
      = hAt (xAt x0 x1 x2 x3) x4 x5 x6 t d :=
  norm_block harg6 harg7 harg8 x4 x5 x6 _ _ (fun d t => v264_apply c arg2 harg2 arg3 harg3 arg4 harg4 arg5 harg5 arg19 x0 x1 x2 x3 d t) _ _ _ d t

/-- The cosines, the sines, the norms' weights, as the body reads them. -/
theorem r11_apply (k : Fin 8) (t : Fin 512) : kernelRun0_A.sl.r_11 (F := Ideal) c arg12 harg12 x10 (ix2 k t) = x10 (ix3 0 k t) := by
  refine Eq.trans (b := View.readAt (Elt Ideal) arg12.view (Rect.unit (s := S1x8x512) ![0, 0, 0] S1x8x512.size inb_S1x8x512_S1x8x512_0_0_0).toLoadRect (harg12.unread x10) (ix3 0 k t)) ?_ ?_
  · unfold kernelRun0_A.sl.r_11
    pointwise [k0_pay21]
  · rw [load3 harg12 x10 0 0 _ _ _ _ (show 0 + 8 ≤ 8 by omega) (show 0 + 512 ≤ 512 by omega)]
    simp only [Nat.zero_add]

theorem r12_apply (k : Fin 8) (t : Fin 512) : kernelRun0_A.sl.r_12 (F := Ideal) c arg13 harg13 x11 (ix2 k t) = x11 (ix3 0 k t) :=
  r11_apply c arg13 harg13 x11 k t

theorem col_apply {m8 : Memref sig .tc .vmem S64x1 .f32} (h8 : m8.IsWhole) (x8 : Vec Ideal S64x1 .f32) (inb) (j : Fin 64) :
    View.readAt (Elt Ideal) m8.view (Rect.unit (s := S64x1) ![0, 0] S64x1.size inb).toLoadRect (h8.unread x8) (ix2 j 0) = x8 (ix2 j 0) := by
  rw [load2 h8 x8 0 0 _ _ _ (show 0 + 64 ≤ 64 by omega) (show 0 + 1 ≤ 1 by omega)]
  simp only [Nat.zero_add]

theorem r13_apply (a : Fin 256) (t : Fin 512) : kernelRun0_A.sl.r_13 (F := Ideal) c arg2 harg2 arg3 harg3 arg4 harg4 arg5 harg5 arg6 harg6 arg7 harg7 arg8 harg8 arg9 harg9 arg19 x0 x1 x2 x3 x4 x5 x6 x7 (ix2 a t) = rows (P x0 x1 x2 x3 x4 x5 x6 x7 t) 0 256 (by omega) a :=
  proj_block harg9 x7 _ _ (fun d t => r10_apply c arg2 harg2 arg3 harg3 arg4 harg4 arg5 harg5 arg6 harg6 arg7 harg7 arg8 harg8 arg19 x0 x1 x2 x3 x4 x5 x6 d t) 0 _ (by omega) a t

theorem r22_apply (a : Fin 256) (t : Fin 512) : kernelRun0_A.sl.r_22 (F := Ideal) c arg2 harg2 arg3 harg3 arg4 harg4 arg5 harg5 arg6 harg6 arg7 harg7 arg8 harg8 arg9 harg9 arg19 x0 x1 x2 x3 x4 x5 x6 x7 (ix2 a t) = rows (P x0 x1 x2 x3 x4 x5 x6 x7 t) 256 256 (by omega) a :=
  proj_block harg9 x7 _ _ (fun d t => r10_apply c arg2 harg2 arg3 harg3 arg4 harg4 arg5 harg5 arg6 harg6 arg7 harg7 arg8 harg8 arg19 x0 x1 x2 x3 x4 x5 x6 d t) 256 _ (by omega) a t

theorem r33_apply (a : Fin 256) (t : Fin 512) : kernelRun0_A.sl.r_33 (F := Ideal) c arg2 harg2 arg3 harg3 arg4 harg4 arg5 harg5 arg6 harg6 arg7 harg7 arg8 harg8 arg9 harg9 arg19 x0 x1 x2 x3 x4 x5 x6 x7 (ix2 a t) = rows (P x0 x1 x2 x3 x4 x5 x6 x7 t) 512 256 (by omega) a :=
  proj_block harg9 x7 _ _ (fun d t => r10_apply c arg2 harg2 arg3 harg3 arg4 harg4 arg5 harg5 arg6 harg6 arg7 harg7 arg8 harg8 arg19 x0 x1 x2 x3 x4 x5 x6 d t) 512 _ (by omega) a t

theorem r39_apply (a : Fin 256) (t : Fin 512) : kernelRun0_A.sl.r_39 (F := Ideal) c arg2 harg2 arg3 harg3 arg4 harg4 arg5 harg5 arg6 harg6 arg7 harg7 arg8 harg8 arg9 harg9 arg19 x0 x1 x2 x3 x4 x5 x6 x7 (ix2 a t) = rows (P x0 x1 x2 x3 x4 x5 x6 x7 t) 768 256 (by omega) a :=
  proj_block harg9 x7 _ _ (fun d t => r10_apply c arg2 harg2 arg3 harg3 arg4 harg4 arg5 harg5 arg6 harg6 arg7 harg7 arg8 harg8 arg19 x0 x1 x2 x3 x4 x5 x6 d t) 768 _ (by omega) a t

theorem r46_apply (a : Fin 256) (t : Fin 512) : kernelRun0_A.sl.r_46 (F := Ideal) c arg2 harg2 arg3 harg3 arg4 harg4 arg5 harg5 arg6 harg6 arg7 harg7 arg8 harg8 arg9 harg9 arg19 x0 x1 x2 x3 x4 x5 x6 x7 (ix2 a t) = rows (P x0 x1 x2 x3 x4 x5 x6 x7 t) 1024 256 (by omega) a :=
  proj_block harg9 x7 _ _ (fun d t => r10_apply c arg2 harg2 arg3 harg3 arg4 harg4 arg5 harg5 arg6 harg6 arg7 harg7 arg8 harg8 arg19 x0 x1 x2 x3 x4 x5 x6 d t) 1024 _ (by omega) a t

theorem r61_apply (a : Fin 256) (t : Fin 512) : kernelRun0_A.sl.r_61 (F := Ideal) c arg2 harg2 arg3 harg3 arg4 harg4 arg5 harg5 arg6 harg6 arg7 harg7 arg8 harg8 arg9 harg9 arg19 x0 x1 x2 x3 x4 x5 x6 x7 (ix2 a t) = rows (P x0 x1 x2 x3 x4 x5 x6 x7 t) 1280 256 (by omega) a :=
  proj_block harg9 x7 _ _ (fun d t => r10_apply c arg2 harg2 arg3 harg3 arg4 harg4 arg5 harg5 arg6 harg6 arg7 harg7 arg8 harg8 arg19 x0 x1 x2 x3 x4 x5 x6 d t) 1280 _ (by omega) a t

theorem q_rows (p : Fin 512 → Fin 2560 → EReal) (Y : FVec Ideal V256x512 .f32) (G : Fin 4) (R : Nat) (hR : R = 256 * G.val)
    (hY : ∀ a t, Y (ix2 a t) = rows (p t) R 256 (by omega) a) (a : Fin 256) (t : Fin 512) :
    Y (ix2 a t) = rows (p t) 0 1024 (by omega) ⟨256 * G.val + a.val, by omega⟩ :=
  (hY a t).trans (congrArg (p t) (Fin.ext (show R + a.val = 0 + (256 * G.val + a.val) by omega)))

/-- The queries' block. -/
def Q : S1x4x2x256x256.Idx → EReal := fun y =>
  let t : Fin 512 := ⟨256 * (y 2).val + (y 4).val, by have := (y 2).isLt; have := (y 4).isLt; simp at *; omega⟩
  qAt (rows (P x0 x1 x2 x3 x4 x5 x6 x7 t) 0 1024 (by omega)) (fun j => x8 (ix2 j 0)) (fun k => x10 (ix3 0 k t)) (fun k => x11 (ix3 0 k t)) (y 1) (y 3)

/-- One stored tile of the queries. -/
theorem q_piece (G : Fin 4) (S R L : Nat) (hS : S < 2) (hL' : L = 256 * S) (hR' : R % 64 = 0) (hR'' : R + 64 ≤ 256) (io) (Y : FVec Ideal V256x512 .f32) (hR hL inb)
    (B : Nat) (hB : B = 256 * G.val) (hY : ∀ a t, Y (ix2 a t) = rows (P x0 x1 x2 x3 x4 x5 x6 x7 t) B 256 (by omega) a) (z : B64x256.Idx) :
    queryTile Y R hR L hL (View.readAt (Elt Ideal) arg10.view (Rect.unit (s := S64x1) ![0, 0] S64x1.size inb).toLoadRect (harg10.unread x8))
        (kernelRun0_A.sl.r_11 c arg12 harg12 x10) (kernelRun0_A.sl.r_12 c arg13 harg13 x11) z
      = Q x0 x1 x2 x3 x4 x5 x6 x7 x8 x10 x11 ((Rect.unit (s := V1x4x2x256x256) ![0, G.val, S, R, 0] B64x256.size io).emb z) :=
  query_piece (fun t => rows (P x0 x1 x2 x3 x4 x5 x6 x7 t) 0 1024 (by omega)) (fun j => x8 (ix2 j 0)) (fun t k => x10 (ix3 0 k t)) (fun t k => x11 (ix3 0 k t)) G S R L
    hS hL' hR' hR'' io Y hR hL _ _ _ (q_rows _ Y G B hB hY) (fun j => col_apply harg10 x8 _ j) (fun k t => r11_apply c arg12 harg12 x10 k t)
    (fun k t => r12_apply c arg13 harg13 x11 k t) z

set_option maxHeartbeats 2000000 in
theorem out12_apply (y : S1x4x2x256x256.Idx) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = Q x0 x1 x2 x3 x4 x5 x6 x7 x8 x10 x11 y := by
  unfold out0_A_12
  rw [View.read_writes_junk_eq_canon]
  refine View.canon_apply_of_pieces (Val := Elt Ideal) (e := .bf16) (Q x0 x1 x2 x3 x4 x5 x6 x7 x8 x10 x11) _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  have h0 := r13_apply c arg2 harg2 arg3 harg3 arg4 harg4 arg5 harg5 arg6 harg6 arg7 harg7 arg8 harg8 arg9 harg9 arg19 x0 x1 x2 x3 x4 x5 x6 x7
  have h1 := r22_apply c arg2 harg2 arg3 harg3 arg4 harg4 arg5 harg5 arg6 harg6 arg7 harg7 arg8 harg8 arg9 harg9 arg19 x0 x1 x2 x3 x4 x5 x6 x7
  have h2 := r33_apply c arg2 harg2 arg3 harg3 arg4 harg4 arg5 harg5 arg6 harg6 arg7 harg7 arg8 harg8 arg9 harg9 arg19 x0 x1 x2 x3 x4 x5 x6 x7
  have h3 := r39_apply c arg2 harg2 arg3 harg3 arg4 harg4 arg5 harg5 arg6 harg6 arg7 harg7 arg8 harg8 arg9 harg9 arg19 x0 x1 x2 x3 x4 x5 x6 x7
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (q_piece c arg10 harg10 arg12 harg12 arg13 harg13 x0 x1 x2 x3 x4 x5 x6 x7 x8 x10 x11 3 1 192 256 (by omega) rfl rfl (by omega) inb_S1x4x2x256x256_S1x1x1x64x256_0_3_1_192_0 _ (by decide) (by decide) inb_S64x1_S64x1_0_0 768 rfl h3 :)
  · exact (q_piece c arg10 harg10 arg12 harg12 arg13 harg13 x0 x1 x2 x3 x4 x5 x6 x7 x8 x10 x11 3 0 192 0 (by omega) rfl rfl (by omega) inb_S1x4x2x256x256_S1x1x1x64x256_0_3_0_192_0 _ (by decide) (by decide) inb_S64x1_S64x1_0_0 768 rfl h3 :)
  · exact (q_piece c arg10 harg10 arg12 harg12 arg13 harg13 x0 x1 x2 x3 x4 x5 x6 x7 x8 x10 x11 3 1 128 256 (by omega) rfl rfl (by omega) inb_S1x4x2x256x256_S1x1x1x64x256_0_3_1_128_0 _ (by decide) (by decide) inb_S64x1_S64x1_0_0 768 rfl h3 :)
  · exact (q_piece c arg10 harg10 arg12 harg12 arg13 harg13 x0 x1 x2 x3 x4 x5 x6 x7 x8 x10 x11 3 0 128 0 (by omega) rfl rfl (by omega) inb_S1x4x2x256x256_S1x1x1x64x256_0_3_0_128_0 _ (by decide) (by decide) inb_S64x1_S64x1_0_0 768 rfl h3 :)
  · exact (q_piece c arg10 harg10 arg12 harg12 arg13 harg13 x0 x1 x2 x3 x4 x5 x6 x7 x8 x10 x11 3 1 64 256 (by omega) rfl rfl (by omega) inb_S1x4x2x256x256_S1x1x1x64x256_0_3_1_64_0 _ (by decide) (by decide) inb_S64x1_S64x1_0_0 768 rfl h3 :)
  · exact (q_piece c arg10 harg10 arg12 harg12 arg13 harg13 x0 x1 x2 x3 x4 x5 x6 x7 x8 x10 x11 3 0 64 0 (by omega) rfl rfl (by omega) inb_S1x4x2x256x256_S1x1x1x64x256_0_3_0_64_0 _ (by decide) (by decide) inb_S64x1_S64x1_0_0 768 rfl h3 :)
  · exact (q_piece c arg10 harg10 arg12 harg12 arg13 harg13 x0 x1 x2 x3 x4 x5 x6 x7 x8 x10 x11 3 1 0 256 (by omega) rfl rfl (by omega) inb_S1x4x2x256x256_S1x1x1x64x256_0_3_1_0_0 _ (by decide) (by decide) inb_S64x1_S64x1_0_0 768 rfl h3 :)
  · exact (q_piece c arg10 harg10 arg12 harg12 arg13 harg13 x0 x1 x2 x3 x4 x5 x6 x7 x8 x10 x11 3 0 0 0 (by omega) rfl rfl (by omega) inb_S1x4x2x256x256_S1x1x1x64x256_0_3_0_0_0 _ (by decide) (by decide) inb_S64x1_S64x1_0_0 768 rfl h3 :)
  · exact (q_piece c arg10 harg10 arg12 harg12 arg13 harg13 x0 x1 x2 x3 x4 x5 x6 x7 x8 x10 x11 2 1 192 256 (by omega) rfl rfl (by omega) inb_S1x4x2x256x256_S1x1x1x64x256_0_2_1_192_0 _ (by decide) (by decide) inb_S64x1_S64x1_0_0 512 rfl h2 :)
  · exact (q_piece c arg10 harg10 arg12 harg12 arg13 harg13 x0 x1 x2 x3 x4 x5 x6 x7 x8 x10 x11 2 0 192 0 (by omega) rfl rfl (by omega) inb_S1x4x2x256x256_S1x1x1x64x256_0_2_0_192_0 _ (by decide) (by decide) inb_S64x1_S64x1_0_0 512 rfl h2 :)
  · exact (q_piece c arg10 harg10 arg12 harg12 arg13 harg13 x0 x1 x2 x3 x4 x5 x6 x7 x8 x10 x11 2 1 128 256 (by omega) rfl rfl (by omega) inb_S1x4x2x256x256_S1x1x1x64x256_0_2_1_128_0 _ (by decide) (by decide) inb_S64x1_S64x1_0_0 512 rfl h2 :)
  · exact (q_piece c arg10 harg10 arg12 harg12 arg13 harg13 x0 x1 x2 x3 x4 x5 x6 x7 x8 x10 x11 2 0 128 0 (by omega) rfl rfl (by omega) inb_S1x4x2x256x256_S1x1x1x64x256_0_2_0_128_0 _ (by decide) (by decide) inb_S64x1_S64x1_0_0 512 rfl h2 :)
  · exact (q_piece c arg10 harg10 arg12 harg12 arg13 harg13 x0 x1 x2 x3 x4 x5 x6 x7 x8 x10 x11 2 1 64 256 (by omega) rfl rfl (by omega) inb_S1x4x2x256x256_S1x1x1x64x256_0_2_1_64_0 _ (by decide) (by decide) inb_S64x1_S64x1_0_0 512 rfl h2 :)
  · exact (q_piece c arg10 harg10 arg12 harg12 arg13 harg13 x0 x1 x2 x3 x4 x5 x6 x7 x8 x10 x11 2 0 64 0 (by omega) rfl rfl (by omega) inb_S1x4x2x256x256_S1x1x1x64x256_0_2_0_64_0 _ (by decide) (by decide) inb_S64x1_S64x1_0_0 512 rfl h2 :)
  · exact (q_piece c arg10 harg10 arg12 harg12 arg13 harg13 x0 x1 x2 x3 x4 x5 x6 x7 x8 x10 x11 2 1 0 256 (by omega) rfl rfl (by omega) inb_S1x4x2x256x256_S1x1x1x64x256_0_2_1_0_0 _ (by decide) (by decide) inb_S64x1_S64x1_0_0 512 rfl h2 :)
  · exact (q_piece c arg10 harg10 arg12 harg12 arg13 harg13 x0 x1 x2 x3 x4 x5 x6 x7 x8 x10 x11 2 0 0 0 (by omega) rfl rfl (by omega) inb_S1x4x2x256x256_S1x1x1x64x256_0_2_0_0_0 _ (by decide) (by decide) inb_S64x1_S64x1_0_0 512 rfl h2 :)
  · exact (q_piece c arg10 harg10 arg12 harg12 arg13 harg13 x0 x1 x2 x3 x4 x5 x6 x7 x8 x10 x11 1 1 192 256 (by omega) rfl rfl (by omega) inb_S1x4x2x256x256_S1x1x1x64x256_0_1_1_192_0 _ (by decide) (by decide) inb_S64x1_S64x1_0_0 256 rfl h1 :)
  · exact (q_piece c arg10 harg10 arg12 harg12 arg13 harg13 x0 x1 x2 x3 x4 x5 x6 x7 x8 x10 x11 1 0 192 0 (by omega) rfl rfl (by omega) inb_S1x4x2x256x256_S1x1x1x64x256_0_1_0_192_0 _ (by decide) (by decide) inb_S64x1_S64x1_0_0 256 rfl h1 :)
  · exact (q_piece c arg10 harg10 arg12 harg12 arg13 harg13 x0 x1 x2 x3 x4 x5 x6 x7 x8 x10 x11 1 1 128 256 (by omega) rfl rfl (by omega) inb_S1x4x2x256x256_S1x1x1x64x256_0_1_1_128_0 _ (by decide) (by decide) inb_S64x1_S64x1_0_0 256 rfl h1 :)
  · exact (q_piece c arg10 harg10 arg12 harg12 arg13 harg13 x0 x1 x2 x3 x4 x5 x6 x7 x8 x10 x11 1 0 128 0 (by omega) rfl rfl (by omega) inb_S1x4x2x256x256_S1x1x1x64x256_0_1_0_128_0 _ (by decide) (by decide) inb_S64x1_S64x1_0_0 256 rfl h1 :)
  · exact (q_piece c arg10 harg10 arg12 harg12 arg13 harg13 x0 x1 x2 x3 x4 x5 x6 x7 x8 x10 x11 1 1 64 256 (by omega) rfl rfl (by omega) inb_S1x4x2x256x256_S1x1x1x64x256_0_1_1_64_0 _ (by decide) (by decide) inb_S64x1_S64x1_0_0 256 rfl h1 :)
  · exact (q_piece c arg10 harg10 arg12 harg12 arg13 harg13 x0 x1 x2 x3 x4 x5 x6 x7 x8 x10 x11 1 0 64 0 (by omega) rfl rfl (by omega) inb_S1x4x2x256x256_S1x1x1x64x256_0_1_0_64_0 _ (by decide) (by decide) inb_S64x1_S64x1_0_0 256 rfl h1 :)
  · exact (q_piece c arg10 harg10 arg12 harg12 arg13 harg13 x0 x1 x2 x3 x4 x5 x6 x7 x8 x10 x11 1 1 0 256 (by omega) rfl rfl (by omega) inb_S1x4x2x256x256_S1x1x1x64x256_0_1_1_0_0 _ (by decide) (by decide) inb_S64x1_S64x1_0_0 256 rfl h1 :)
  · exact (q_piece c arg10 harg10 arg12 harg12 arg13 harg13 x0 x1 x2 x3 x4 x5 x6 x7 x8 x10 x11 1 0 0 0 (by omega) rfl rfl (by omega) inb_S1x4x2x256x256_S1x1x1x64x256_0_1_0_0_0 _ (by decide) (by decide) inb_S64x1_S64x1_0_0 256 rfl h1 :)
  · exact (q_piece c arg10 harg10 arg12 harg12 arg13 harg13 x0 x1 x2 x3 x4 x5 x6 x7 x8 x10 x11 0 1 192 256 (by omega) rfl rfl (by omega) inb_S1x4x2x256x256_S1x1x1x64x256_0_0_1_192_0 _ (by decide) (by decide) inb_S64x1_S64x1_0_0 0 rfl h0 :)
  · exact (q_piece c arg10 harg10 arg12 harg12 arg13 harg13 x0 x1 x2 x3 x4 x5 x6 x7 x8 x10 x11 0 0 192 0 (by omega) rfl rfl (by omega) inb_S1x4x2x256x256_S1x1x1x64x256_0_0_0_192_0 _ (by decide) (by decide) inb_S64x1_S64x1_0_0 0 rfl h0 :)
  · exact (q_piece c arg10 harg10 arg12 harg12 arg13 harg13 x0 x1 x2 x3 x4 x5 x6 x7 x8 x10 x11 0 1 128 256 (by omega) rfl rfl (by omega) inb_S1x4x2x256x256_S1x1x1x64x256_0_0_1_128_0 _ (by decide) (by decide) inb_S64x1_S64x1_0_0 0 rfl h0 :)
  · exact (q_piece c arg10 harg10 arg12 harg12 arg13 harg13 x0 x1 x2 x3 x4 x5 x6 x7 x8 x10 x11 0 0 128 0 (by omega) rfl rfl (by omega) inb_S1x4x2x256x256_S1x1x1x64x256_0_0_0_128_0 _ (by decide) (by decide) inb_S64x1_S64x1_0_0 0 rfl h0 :)
  · exact (q_piece c arg10 harg10 arg12 harg12 arg13 harg13 x0 x1 x2 x3 x4 x5 x6 x7 x8 x10 x11 0 1 64 256 (by omega) rfl rfl (by omega) inb_S1x4x2x256x256_S1x1x1x64x256_0_0_1_64_0 _ (by decide) (by decide) inb_S64x1_S64x1_0_0 0 rfl h0 :)
  · exact (q_piece c arg10 harg10 arg12 harg12 arg13 harg13 x0 x1 x2 x3 x4 x5 x6 x7 x8 x10 x11 0 0 64 0 (by omega) rfl rfl (by omega) inb_S1x4x2x256x256_S1x1x1x64x256_0_0_0_64_0 _ (by decide) (by decide) inb_S64x1_S64x1_0_0 0 rfl h0 :)
  · exact (q_piece c arg10 harg10 arg12 harg12 arg13 harg13 x0 x1 x2 x3 x4 x5 x6 x7 x8 x10 x11 0 1 0 256 (by omega) rfl rfl (by omega) inb_S1x4x2x256x256_S1x1x1x64x256_0_0_1_0_0 _ (by decide) (by decide) inb_S64x1_S64x1_0_0 0 rfl h0 :)
  · exact (q_piece c arg10 harg10 arg12 harg12 arg13 harg13 x0 x1 x2 x3 x4 x5 x6 x7 x8 x10 x11 0 0 0 0 (by omega) rfl rfl (by omega) inb_S1x4x2x256x256_S1x1x1x64x256_0_0_0_0_0 _ (by decide) (by decide) inb_S64x1_S64x1_0_0 0 rfl h0 :)

/-- The rows beside the keys: a row of ones, then zeros. -/
theorem ones_key (a : Fin 16) (t : Fin 256) : k0_pay107 (F := Ideal) (ix2 ⟨a.val, by omega⟩ t) = if a.val = 0 then 1 else 0 := by
  have e : ∀ t : Fin 256, Scalar.select
      (IntOp.andi (IntOp.cmpi .ne (IntOp.subi (BitVec.setWidth 32 (IntOp.cmpi .sgt (BitVec.ofNat 32 t.val) 0#32)) (BitVec.setWidth 32 (IntOp.cmpi .slt (BitVec.ofNat 32 t.val) 0#32)))
        (Scalar.subi (Scalar.extui (Scalar.cmpi .sgt 256#32 0#32)) (Scalar.extui (Scalar.cmpi .slt 256#32 0#32))))
        (IntOp.cmpi .ne (IntOp.remsi ArithUnit.vector (BitVec.ofNat 32 t.val) 256#32) 0#32))
      (IntOp.subi (IntOp.divsi ArithUnit.vector (BitVec.ofNat 32 t.val) 256#32) 1#32) (IntOp.divsi ArithUnit.vector (BitVec.ofNat 32 t.val) 256#32) = 0#32 := by decide +kernel
  have f : ∀ a : Fin 16, BitVec.setWidth 32 (IntOp.cmpi .eq 0#32 (BitVec.ofNat 32 a.val)) = if a.val = 0 then 1#32 else 0#32 := by decide +kernel
  pointwise [k0_pay107]
  rw [e, f]
  exact word_if _

theorem ones_value (a : Fin 16) (t : Fin 256) : k0_pay144 (F := Ideal) (ix2 a t) = if a.val = 0 then 1 else 0 := by
  have f : ∀ a : Fin 16, BitVec.setWidth 32 (IntOp.cmpi .eq (BitVec.ofNat 32 a.val) 0#32) = if a.val = 0 then 1#32 else 0#32 := by decide +kernel
  pointwise [k0_pay144]
  rw [f]
  exact word_if _

/-- The keys' block. -/
def K : S1x4x2x256x80.Idx → EReal := fun y =>
  let t : Fin 512 := ⟨256 * (y 2).val + (y 3).val, by have := (y 2).isLt; have := (y 3).isLt; simp at *; omega⟩
  kAt (rows (P x0 x1 x2 x3 x4 x5 x6 x7 t) 1024 256 (by omega)) (fun j => x9 (ix2 j 0)) (fun k => x10 (ix3 0 k t)) (fun k => x11 (ix3 0 k t)) (fun a => if a.val = 0 then 1 else 0) (y 1) (y 4)

/-- One stored tile of the keys. -/
theorem k_piece (G : Fin 4) (S R L : Nat) (hS : S < 2) (hL' : L = 256 * S) (hR' : R = 64 * G.val) (io hR hL inb) (z : B256x80.Idx) :
    keyTile (kernelRun0_A.sl.r_46 (F := Ideal) c arg2 harg2 arg3 harg3 arg4 harg4 arg5 harg5 arg6 harg6 arg7 harg7 arg8 harg8 arg9 harg9 arg19 x0 x1 x2 x3 x4 x5 x6 x7) R hR L hL (View.readAt (Elt Ideal) arg11.view (Rect.unit (s := S64x1) ![0, 0] S64x1.size inb).toLoadRect (harg11.unread x9))
        (kernelRun0_A.sl.r_11 c arg12 harg12 x10) (kernelRun0_A.sl.r_12 c arg13 harg13 x11) k0_pay107 z
      = K x0 x1 x2 x3 x4 x5 x6 x7 x9 x10 x11 ((Rect.unit (s := V1x4x2x256x80) ![0, G.val, S, 0, 0] B256x80.size io).emb z) :=
  key_piece (fun t => rows (P x0 x1 x2 x3 x4 x5 x6 x7 t) 1024 256 (by omega)) (fun j => x9 (ix2 j 0)) (fun t k => x10 (ix3 0 k t)) (fun t k => x11 (ix3 0 k t)) (fun _ a => if a.val = 0 then 1 else 0) G S R L
    hS hL' hR' io _ hR hL _ _ _ _ (r46_apply c arg2 harg2 arg3 harg3 arg4 harg4 arg5 harg5 arg6 harg6 arg7 harg7 arg8 harg8 arg9 harg9 arg19 x0 x1 x2 x3 x4 x5 x6 x7) (fun j => col_apply harg11 x9 _ j) (fun k t => r11_apply c arg12 harg12 x10 k t)
    (fun k t => r12_apply c arg13 harg13 x11 k t) ones_key z

set_option maxHeartbeats 2000000 in
theorem out13_apply (y : S1x4x2x256x80.Idx) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = K x0 x1 x2 x3 x4 x5 x6 x7 x9 x10 x11 y := by
  unfold out0_A_13
  rw [View.read_writes_junk_eq_canon]
  refine View.canon_apply_of_pieces (Val := Elt Ideal) (e := .bf16) (K x0 x1 x2 x3 x4 x5 x6 x7 x9 x10 x11) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  intro p hp
  simp only [List.mem_cons, List.not_mem_nil, or_false] at hp
  rcases hp with rfl | rfl | rfl | rfl | rfl | rfl | rfl | rfl
  · exact (k_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 3 1 192 256 (by omega) rfl rfl inb_S1x4x2x256x80_S1x1x1x256x80_0_3_1_0_0 (by decide) (by decide) inb_S64x1_S64x1_0_0 :)
  · exact (k_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 3 0 192 0 (by omega) rfl rfl inb_S1x4x2x256x80_S1x1x1x256x80_0_3_0_0_0 (by decide) (by decide) inb_S64x1_S64x1_0_0 :)
  · exact (k_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 2 1 128 256 (by omega) rfl rfl inb_S1x4x2x256x80_S1x1x1x256x80_0_2_1_0_0 (by decide) (by decide) inb_S64x1_S64x1_0_0 :)
  · exact (k_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 2 0 128 0 (by omega) rfl rfl inb_S1x4x2x256x80_S1x1x1x256x80_0_2_0_0_0 (by decide) (by decide) inb_S64x1_S64x1_0_0 :)
  · exact (k_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 1 1 64 256 (by omega) rfl rfl inb_S1x4x2x256x80_S1x1x1x256x80_0_1_1_0_0 (by decide) (by decide) inb_S64x1_S64x1_0_0 :)
  · exact (k_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 1 0 64 0 (by omega) rfl rfl inb_S1x4x2x256x80_S1x1x1x256x80_0_1_0_0_0 (by decide) (by decide) inb_S64x1_S64x1_0_0 :)
  · exact (k_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 0 1 0 256 (by omega) rfl rfl inb_S1x4x2x256x80_S1x1x1x256x80_0_0_1_0_0 (by decide) (by decide) inb_S64x1_S64x1_0_0 :)
  · exact (k_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 0 0 0 0 (by omega) rfl rfl inb_S1x4x2x256x80_S1x1x1x256x80_0_0_0_0_0 (by decide) (by decide) inb_S64x1_S64x1_0_0 :)

/-- The key means' block. -/
def KM : S1x1x256x128.Idx → EReal := fun y =>
  kmAt (fun r t => rows (P x0 x1 x2 x3 x4 x5 x6 x7 t) 1024 256 (by omega) r) (fun j => x9 (ix2 j 0)) (fun k t => x10 (ix3 0 k t)) (fun k t => x11 (ix3 0 k t)) (y 2) (y 3)

/-- One stored tile of the key means. -/
theorem km_piece (R : Nat) (hR' : R % 64 = 0) (hR'' : R + 64 ≤ 256) (io hR inb) (z : B64x128.Idx) :
    meanTile (head (kernelRun0_A.sl.r_46 (F := Ideal) c arg2 harg2 arg3 harg3 arg4 harg4 arg5 harg5 arg6 harg6 arg7 harg7 arg8 harg8 arg9 harg9 arg19 x0 x1 x2 x3 x4 x5 x6 x7) R hR (View.readAt (Elt Ideal) arg11.view (Rect.unit (s := S64x1) ![0, 0] S64x1.size inb).toLoadRect (harg11.unread x9))
        (kernelRun0_A.sl.r_11 c arg12 harg12 x10) (kernelRun0_A.sl.r_12 c arg13 harg13 x11)) z
      = KM x0 x1 x2 x3 x4 x5 x6 x7 x9 x10 x11 ((Rect.unit (s := V1x1x256x128) ![0, 0, R, 0] B64x128.size io).emb z) :=
  mean_piece (fun t => rows (P x0 x1 x2 x3 x4 x5 x6 x7 t) 1024 256 (by omega)) (fun j => x9 (ix2 j 0)) (fun t k => x10 (ix3 0 k t)) (fun t k => x11 (ix3 0 k t)) R
    hR' hR'' io _ hR _ _ _ (r46_apply c arg2 harg2 arg3 harg3 arg4 harg4 arg5 harg5 arg6 harg6 arg7 harg7 arg8 harg8 arg9 harg9 arg19 x0 x1 x2 x3 x4 x5 x6 x7) (fun j => col_apply harg11 x9 _ j) (fun k t => r11_apply c arg12 harg12 x10 k t)
    (fun k t => r12_apply c arg13 harg13 x11 k t) z

set_option maxHeartbeats 2000000 in
theorem out14_apply (y : S1x1x256x128.Idx) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = KM x0 x1 x2 x3 x4 x5 x6 x7 x9 x10 x11 y := by
  unfold out0_A_14
  rw [View.read_writes_junk_eq_canon]
  refine View.canon_apply_of_pieces (Val := Elt Ideal) (e := .f32) (KM x0 x1 x2 x3 x4 x5 x6 x7 x9 x10 x11) _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  intro p hp
  simp only [List.mem_cons, List.not_mem_nil, or_false] at hp
  rcases hp with rfl | rfl | rfl | rfl
  · exact (km_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 192 rfl (by omega) inb_S1x1x256x128_S1x1x64x128_0_0_192_0 (by decide) inb_S64x1_S64x1_0_0 :)
  · exact (km_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 128 rfl (by omega) inb_S1x1x256x128_S1x1x64x128_0_0_128_0 (by decide) inb_S64x1_S64x1_0_0 :)
  · exact (km_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 64 rfl (by omega) inb_S1x1x256x128_S1x1x64x128_0_0_64_0 (by decide) inb_S64x1_S64x1_0_0 :)
  · exact (km_piece c arg2 harg2 arg3 harg3 arg4 harg4 arg5 harg5 arg6 harg6 arg7 harg7 arg8 harg8 arg9 harg9 arg11 harg11 arg12 harg12 arg13 harg13 arg19 x0 x1 x2 x3 x4 x5 x6 x7 x9 x10 x11 0 rfl (by omega) inb_S1x1x256x128_S1x1x64x128_0_0_0_0 (by decide) inb_S64x1_S64x1_0_0 :)

/-- The values' block. -/
def V : S1x4x2x80x256.Idx → EReal := fun y =>
  let t : Fin 512 := ⟨256 * (y 2).val + (y 4).val, by have := (y 2).isLt; have := (y 4).isLt; simp at *; omega⟩
  vAt (rows (P x0 x1 x2 x3 x4 x5 x6 x7 t) 1280 256 (by omega)) (y 1) (y 3)

/-- One stored tile of the values. -/
theorem v_piece (G : Fin 4) (S R L : Nat) (hS : S < 2) (hL' : L = 256 * S) (hR' : R = 64 * G.val) (io hRL) (z : B80x256.Idx) :
    valueTile (kernelRun0_A.sl.r_61 (F := Ideal) c arg2 harg2 arg3 harg3 arg4 harg4 arg5 harg5 arg6 harg6 arg7 harg7 arg8 harg8 arg9 harg9 arg19 x0 x1 x2 x3 x4 x5 x6 x7) R L hRL k0_pay144 z
      = V x0 x1 x2 x3 x4 x5 x6 x7 ((Rect.unit (s := V1x4x2x80x256) ![0, G.val, S, 0, 0] B80x256.size io).emb z) :=
  value_piece (fun t => rows (P x0 x1 x2 x3 x4 x5 x6 x7 t) 1280 256 (by omega)) G S R L hS hL' hR' io _ hRL _ (r61_apply c arg2 harg2 arg3 harg3 arg4 harg4 arg5 harg5 arg6 harg6 arg7 harg7 arg8 harg8 arg9 harg9 arg19 x0 x1 x2 x3 x4 x5 x6 x7) ones_value z

set_option maxHeartbeats 2000000 in
theorem out15_apply (y : S1x4x2x80x256.Idx) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = V x0 x1 x2 x3 x4 x5 x6 x7 y := by
  unfold out0_A_15
  rw [View.read_writes_junk_eq_canon]
  refine View.canon_apply_of_pieces (Val := Elt Ideal) (e := .bf16) (V x0 x1 x2 x3 x4 x5 x6 x7) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  intro p hp
  simp only [List.mem_cons, List.not_mem_nil, or_false] at hp
  rcases hp with rfl | rfl | rfl | rfl | rfl | rfl | rfl | rfl
  · exact (v_piece c arg2 harg2 arg3 harg3 arg4 harg4 arg5 harg5 arg6 harg6 arg7 harg7 arg8 harg8 arg9 harg9 arg19 x0 x1 x2 x3 x4 x5 x6 x7 3 1 192 256 (by omega) rfl rfl inb_S1x4x2x80x256_S1x1x1x80x256_0_3_1_0_0 (by decide) :)
  · exact (v_piece c arg2 harg2 arg3 harg3 arg4 harg4 arg5 harg5 arg6 harg6 arg7 harg7 arg8 harg8 arg9 harg9 arg19 x0 x1 x2 x3 x4 x5 x6 x7 3 0 192 0 (by omega) rfl rfl inb_S1x4x2x80x256_S1x1x1x80x256_0_3_0_0_0 (by decide) :)
  · exact (v_piece c arg2 harg2 arg3 harg3 arg4 harg4 arg5 harg5 arg6 harg6 arg7 harg7 arg8 harg8 arg9 harg9 arg19 x0 x1 x2 x3 x4 x5 x6 x7 2 1 128 256 (by omega) rfl rfl inb_S1x4x2x80x256_S1x1x1x80x256_0_2_1_0_0 (by decide) :)
  · exact (v_piece c arg2 harg2 arg3 harg3 arg4 harg4 arg5 harg5 arg6 harg6 arg7 harg7 arg8 harg8 arg9 harg9 arg19 x0 x1 x2 x3 x4 x5 x6 x7 2 0 128 0 (by omega) rfl rfl inb_S1x4x2x80x256_S1x1x1x80x256_0_2_0_0_0 (by decide) :)
  · exact (v_piece c arg2 harg2 arg3 harg3 arg4 harg4 arg5 harg5 arg6 harg6 arg7 harg7 arg8 harg8 arg9 harg9 arg19 x0 x1 x2 x3 x4 x5 x6 x7 1 1 64 256 (by omega) rfl rfl inb_S1x4x2x80x256_S1x1x1x80x256_0_1_1_0_0 (by decide) :)
  · exact (v_piece c arg2 harg2 arg3 harg3 arg4 harg4 arg5 harg5 arg6 harg6 arg7 harg7 arg8 harg8 arg9 harg9 arg19 x0 x1 x2 x3 x4 x5 x6 x7 1 0 64 0 (by omega) rfl rfl inb_S1x4x2x80x256_S1x1x1x80x256_0_1_0_0_0 (by decide) :)
  · exact (v_piece c arg2 harg2 arg3 harg3 arg4 harg4 arg5 harg5 arg6 harg6 arg7 harg7 arg8 harg8 arg9 harg9 arg19 x0 x1 x2 x3 x4 x5 x6 x7 0 1 0 256 (by omega) rfl rfl inb_S1x4x2x80x256_S1x1x1x80x256_0_0_1_0_0 (by decide) :)
  · exact (v_piece c arg2 harg2 arg3 harg3 arg4 harg4 arg5 harg5 arg6 harg6 arg7 harg7 arg8 harg8 arg9 harg9 arg19 x0 x1 x2 x3 x4 x5 x6 x7 0 0 0 0 (by omega) rfl rfl inb_S1x4x2x80x256_S1x1x1x80x256_0_0_0_0_0 (by decide) :)

/-- The gate branch's block. -/
def Z : S1x4x2x256x256.Idx → EReal := fun y =>
  let t : Fin 512 := ⟨256 * (y 2).val + (y 4).val, by have := (y 2).isLt; have := (y 4).isLt; simp at *; omega⟩
  zAt (rows (P x0 x1 x2 x3 x4 x5 x6 x7 t) 1536 1024 (by omega)) (y 1) (y 3)

/-- One stored tile of the gate branch. -/
theorem z_piece (G : Fin 4) (S R L : Nat) (hS : S < 2) (hL' : L = 256 * S) (hR' : R = 1536 + 256 * G.val) (io hL inb) (z : B256x256.Idx) :
    plainTile (siluTile (kernelRun0_A.sl.r_10 (F := Ideal) c arg2 harg2 arg3 harg3 arg4 harg4 arg5 harg5 arg6 harg6 arg7 harg7 arg8 harg8 arg19 x0 x1 x2 x3 x4 x5 x6) (View.readAt (Elt Ideal) arg9.view (Rect.unit (s := S2560x1024) ![R, 0] V256x1024.size inb).toLoadRect (harg9.unread x7))) L hL z
      = Z x0 x1 x2 x3 x4 x5 x6 x7 ((Rect.unit (s := V1x4x2x256x256) ![0, G.val, S, 0, 0] B256x256.size io).emb z) :=
  plain_piece (fun t => zAt (rows (P x0 x1 x2 x3 x4 x5 x6 x7 t) 1536 1024 (by omega))) G S L hS hL' io _ hL
    (fun a t => by
      rw [silu_block harg9 x7 _ _ (fun d t => r10_apply c arg2 harg2 arg3 harg3 arg4 harg4 arg5 harg5 arg6 harg6 arg7 harg7 arg8 harg8 arg19 x0 x1 x2 x3 x4 x5 x6 d t) R _ (by omega) a t]
      have e : rows (pAt x7 (hAt (xAt x0 x1 x2 x3) x4 x5 x6) t) R 256 (by omega) a = rows (P x0 x1 x2 x3 x4 x5 x6 x7 t) 1536 1024 (by omega) ⟨256 * G.val + a.val, by omega⟩ :=
        congrArg (P x0 x1 x2 x3 x4 x5 x6 x7 t) (Fin.ext (show R + a.val = 1536 + (256 * G.val + a.val) by omega))
      rw [e]
      rfl) z

set_option maxHeartbeats 2000000 in
theorem out16_apply (y : S1x4x2x256x256.Idx) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y = Z x0 x1 x2 x3 x4 x5 x6 x7 y := by
  unfold out0_A_16
  rw [View.read_writes_junk_eq_canon]
  refine View.canon_apply_of_pieces (Val := Elt Ideal) (e := .f32) (Z x0 x1 x2 x3 x4 x5 x6 x7) _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 y)
  unfold kernelRun0_A
  dsimp only
  intro p hp
  simp only [List.mem_cons, List.not_mem_nil, or_false] at hp
  rcases hp with rfl | rfl | rfl | rfl | rfl | rfl | rfl | rfl
  · exact (z_piece c arg2 harg2 arg3 harg3 arg4 harg4 arg5 harg5 arg6 harg6 arg7 harg7 arg8 harg8 arg9 harg9 arg19 x0 x1 x2 x3 x4 x5 x6 x7 3 1 2304 256 (by omega) rfl rfl inb_S1x4x2x256x256_S1x1x1x256x256_0_3_1_0_0 (by decide) inb_S2560x1024_S256x1024_2304_0 :)
  · exact (z_piece c arg2 harg2 arg3 harg3 arg4 harg4 arg5 harg5 arg6 harg6 arg7 harg7 arg8 harg8 arg9 harg9 arg19 x0 x1 x2 x3 x4 x5 x6 x7 3 0 2304 0 (by omega) rfl rfl inb_S1x4x2x256x256_S1x1x1x256x256_0_3_0_0_0 (by decide) inb_S2560x1024_S256x1024_2304_0 :)
  · exact (z_piece c arg2 harg2 arg3 harg3 arg4 harg4 arg5 harg5 arg6 harg6 arg7 harg7 arg8 harg8 arg9 harg9 arg19 x0 x1 x2 x3 x4 x5 x6 x7 2 1 2048 256 (by omega) rfl rfl inb_S1x4x2x256x256_S1x1x1x256x256_0_2_1_0_0 (by decide) inb_S2560x1024_S256x1024_2048_0 :)
  · exact (z_piece c arg2 harg2 arg3 harg3 arg4 harg4 arg5 harg5 arg6 harg6 arg7 harg7 arg8 harg8 arg9 harg9 arg19 x0 x1 x2 x3 x4 x5 x6 x7 2 0 2048 0 (by omega) rfl rfl inb_S1x4x2x256x256_S1x1x1x256x256_0_2_0_0_0 (by decide) inb_S2560x1024_S256x1024_2048_0 :)
  · exact (z_piece c arg2 harg2 arg3 harg3 arg4 harg4 arg5 harg5 arg6 harg6 arg7 harg7 arg8 harg8 arg9 harg9 arg19 x0 x1 x2 x3 x4 x5 x6 x7 1 1 1792 256 (by omega) rfl rfl inb_S1x4x2x256x256_S1x1x1x256x256_0_1_1_0_0 (by decide) inb_S2560x1024_S256x1024_1792_0 :)
  · exact (z_piece c arg2 harg2 arg3 harg3 arg4 harg4 arg5 harg5 arg6 harg6 arg7 harg7 arg8 harg8 arg9 harg9 arg19 x0 x1 x2 x3 x4 x5 x6 x7 1 0 1792 0 (by omega) rfl rfl inb_S1x4x2x256x256_S1x1x1x256x256_0_1_0_0_0 (by decide) inb_S2560x1024_S256x1024_1792_0 :)
  · exact (z_piece c arg2 harg2 arg3 harg3 arg4 harg4 arg5 harg5 arg6 harg6 arg7 harg7 arg8 harg8 arg9 harg9 arg19 x0 x1 x2 x3 x4 x5 x6 x7 0 1 1536 256 (by omega) rfl rfl inb_S1x4x2x256x256_S1x1x1x256x256_0_0_1_0_0 (by decide) inb_S2560x1024_S256x1024_1536_0 :)
  · exact (z_piece c arg2 harg2 arg3 harg3 arg4 harg4 arg5 harg5 arg6 harg6 arg7 harg7 arg8 harg8 arg9 harg9 arg19 x0 x1 x2 x3 x4 x5 x6 x7 0 0 1536 0 (by omega) rfl rfl inb_S1x4x2x256x256_S1x1x1x256x256_0_0_0_0_0 (by decide) inb_S2560x1024_S256x1024_1536_0 :)
end Blocks

end Cert.Proof.MobaIn

end
-- ==== Proof.Tokens.lean ====
/-
  Hand-written. THE INPUT PROJECTIONS, TOKEN BY TOKEN: the residual stream, its modulated norm and the projection at a
  token of a whole array; the references' host terms read into them, and the blocks of a grid point as 512 tokens of a
  sequence.
-/
module

public import proofs.«01_k».proof.Proof.Pieces

@[expose] public section

noncomputable section

namespace Cert.Proof.Tiles

open Idealize.ShloMosaic Idealize.ShloMosaic.TcCoe

abbrev W16x4x8x256x256 : Shape := ⟨5, ![16, 4, 8, 256, 256]⟩
abbrev W16x1024x1 : Shape := ⟨3, ![16, 1024, 1]⟩
abbrev W16x1024x2048 : Shape := ⟨3, ![16, 1024, 2048]⟩
abbrev W16x8x2048 : Shape := ⟨3, ![16, 8, 2048]⟩
abbrev W1024 : Shape := ⟨1, ![1024]⟩
abbrev W16x2048x1024 : Shape := ⟨3, ![16, 2048, 1024]⟩
abbrev W16x8x256x4x256 : Shape := ⟨5, ![16, 8, 256, 4, 256]⟩
abbrev W16x1x1024 : Shape := ⟨3, ![16, 1, 1024]⟩
abbrev W1x1x1024 : Shape := ⟨3, ![1, 1, 1024]⟩
abbrev W16x2048 : Shape := ⟨2, ![16, 2048]⟩
abbrev W16x2048x1 : Shape := ⟨3, ![16, 2048, 1]⟩
abbrev W0 : Shape := ⟨0, ![]⟩
abbrev W16x2048x8 : Shape := ⟨3, ![16, 2048, 8]⟩
abbrev W16x2048x1x8 : Shape := ⟨4, ![16, 2048, 1, 8]⟩
abbrev W1x1x1x64 : Shape := ⟨4, ![1, 1, 1, 64]⟩
abbrev W16x2048x16x64 : Shape := ⟨4, ![16, 2048, 16, 64]⟩
abbrev W16x2048x16x1 : Shape := ⟨4, ![16, 2048, 16, 1]⟩
abbrev W16x2048x16x8 : Shape := ⟨4, ![16, 2048, 16, 8]⟩
abbrev W16x2048x16x48 : Shape := ⟨4, ![16, 2048, 16, 48]⟩
abbrev W16x2048x16 : Shape := ⟨3, ![16, 2048, 16]⟩
abbrev W16x2048x4x64 : Shape := ⟨4, ![16, 2048, 4, 64]⟩
abbrev W16x2048x4x1 : Shape := ⟨4, ![16, 2048, 4, 1]⟩
abbrev W16x2048x4x8 : Shape := ⟨4, ![16, 2048, 4, 8]⟩
abbrev W16x2048x4x48 : Shape := ⟨4, ![16, 2048, 4, 48]⟩
abbrev W16x2048x4 : Shape := ⟨3, ![16, 2048, 4]⟩

/-! ## A token of the whole arrays -/

/-- The residual stream at token `T` of sequence `b`. The mixer's output is laid out in 256-wide heads and 256-token
    tiles, feature-major. -/
def tokX (oz : Vec Ideal W16x4x8x256x256 .bf16) (w : Vec Ideal V1024x1024 .f32) (g : Vec Ideal W16x1024x1 .f32) (x : Vec Ideal W16x1024x2048 .f32)
    (b : Fin 16) (T : Fin 2048) : Fin 1024 → EReal :=
  resid (fun f => oz (ix5 b ⟨f.val / 256, by omega⟩ ⟨T.val / 256, by omega⟩ ⟨f.val % 256, by omega⟩ ⟨T.val % 256, by omega⟩))
    (fun d f => w (ix2 f d)) (fun d => g (ix3 b d 0)) (fun d => x (ix3 b d T))

/-- Its modulated norm. -/
def tokH (X : Fin 16 → Fin 2048 → Fin 1024 → EReal) (ng : Vec Ideal W1024 .f32) (sc sh : Vec Ideal W16x1024x1 .f32)
    (b : Fin 16) (T : Fin 2048) : Fin 1024 → EReal :=
  normed (X b T) (fun d => ng (ix1 d)) (fun d => sc (ix3 b d 0)) (fun d => sh (ix3 b d 0))

/-- Its projection. -/
def tokP {n : Nat} (wi : Vec Ideal ⟨2, ![1024, n]⟩ .f32) (H : Fin 16 → Fin 2048 → Fin 1024 → EReal) (b : Fin 16) (T : Fin 2048) (r : Fin n) : EReal :=
  ∑ d, wi (ix2 d r) * H b T d

/-! ## The references' terms -/

def dotX : DotDims W16x2048x1024 V1024x1024 W16x2048x1024 where
  lhsContracting := [2]
  rhsContracting := [0]
  lhsNonContracting := [0, 1]
  rhsNonContracting := [1]
  lhsBatch := []
  rhsBatch := []
  wf := by decide

/-- The residual stream, as the references compute it. -/
def hostX (oz : Vec Ideal W16x4x8x256x256 .bf16) (w : Vec Ideal V1024x1024 .f32) (g : Vec Ideal W16x1024x1 .f32) (x : Vec Ideal W16x1024x2048 .f32) :
    FVec Ideal W16x2048x1024 .f32 :=
  let o : FVec Ideal W16x8x256x4x256 .f32 := transpose W16x8x256x4x256 [0, 2, 4, 1, 3] (extf .f32 oz (show FTy.bf16.bits < FTy.f32.bits by decide) : FVec Ideal W16x4x8x256x256 .f32) (by decide)
  let a : FVec Ideal W16x2048x1024 .f32 := Host.dotGeneral (φ₂ := .f32) dotX none (shapeCast W16x2048x1024 o (by decide) : FVec Ideal W16x2048x1024 .f32) w
  let u : FVec Ideal W16x2048x1024 .f32 := broadcastInDim W16x2048x1024 ![0, 1, 2] (by decide) (shapeCast W16x1x1024 g (by decide))
  addf (transpose W16x2048x1024 [0, 2, 1] x (by decide)) (mulf u a)

theorem hostX_apply (oz : Vec Ideal W16x4x8x256x256 .bf16) (w : Vec Ideal V1024x1024 .f32) (g : Vec Ideal W16x1024x1 .f32) (x : Vec Ideal W16x1024x2048 .f32)
    (b : Fin 16) (T : Fin 2048) (d : Fin 1024) : hostX oz w g x (ix3 b T d) = tokX oz w g x b T d := by
  unfold hostX
  pointwise [dotX]
  exact congrArg _ (congrArg _ (Finset.sum_congr rfl fun f _ => mul_comm _ _))

theorem red_norm : W16x2048x1024.ReducesTo [2] W16x2048 := by decide
theorem red_heads16 : W16x2048x16x64.ReducesTo [3] W16x2048x16 := by decide
theorem red_heads4 : W16x2048x4x64.ReducesTo [3] W16x2048x4 := by decide
theorem cat_heads16 : Shape.Concatenates [W16x2048x16x8, W16x2048x16x8, W16x2048x16x48] W16x2048x16x64 3 := by decide
theorem cat_heads4 : Shape.Concatenates [W16x2048x4x8, W16x2048x4x8, W16x2048x4x48] W16x2048x4x64 3 := by decide

/-- The modulated norm, as the references compute it. -/
def hostH (X : FVec Ideal W16x2048x1024 .f32) (ng : Vec Ideal W1024 .f32) (sc sh : Vec Ideal W16x1024x1 .f32) : FVec Ideal W16x2048x1024 .f32 :=
  let s : FVec Ideal W16x2048 .f32 := Host.reduceAdd (mulf X X) (constant W0 .f32 0x00000000#32) red_norm (by decide)
  let m : FVec Ideal W16x2048x1 .f32 := Host.divf (broadcastInDim W16x2048x1 ![0, 1] (by decide) s) (broadcastInDim W16x2048x1 ![] (by decide) (constant W0 .f32 0x44800000#32 : FVec Ideal W0 .f32))
  let r : FVec Ideal W16x2048x1 .f32 := Host.rsqrt (addf m (broadcastInDim W16x2048x1 ![] (by decide) (constant W0 .f32 0x358637BD#32 : FVec Ideal W0 .f32)))
  let n : FVec Ideal W16x2048x1024 .f32 := mulf X (broadcastInDim W16x2048x1024 ![0, 1, 2] (by decide) r)
  let g : FVec Ideal W16x2048x1024 .f32 := broadcastInDim W16x2048x1024 ![0, 1, 2] (by decide) (broadcastInDim W1x1x1024 ![2] (by decide) ng)
  let c : FVec Ideal W16x1x1024 .f32 := addf (broadcastInDim W16x1x1024 ![] (by decide) (constant W0 .f32 0x3F800000#32 : FVec Ideal W0 .f32)) (shapeCast W16x1x1024 sc (by decide))
  let v : FVec Ideal W16x2048x1024 .f32 := mulf (mulf n g) (broadcastInDim W16x2048x1024 ![0, 1, 2] (by decide) c)
  addf v (broadcastInDim W16x2048x1024 ![0, 1, 2] (by decide) (shapeCast W16x1x1024 sh (by decide)))

theorem hostH_apply (X : FVec Ideal W16x2048x1024 .f32) (ng : Vec Ideal W1024 .f32) (sc sh : Vec Ideal W16x1024x1 .f32)
    (b : Fin 16) (T : Fin 2048) (d : Fin 1024) : hostH X ng sc sh (ix3 b T d) = tokH (fun b T d => X (ix3 b T d)) ng sc sh b T d := by
  unfold hostH
  pointwise
  rfl

/-- Sixteen heads, normed and rotated, as the references compute them. -/
def hostHeads16 (Y : FVec Ideal W16x2048x16x64 .f32) (g : Vec Ideal V64 .f32) (c s : Vec Ideal W16x8x2048 .f32) : FVec Ideal W16x2048x16x64 .f32 :=
  let t : FVec Ideal W16x2048x16 .f32 := Host.reduceAdd (mulf Y Y) (constant W0 .f32 0x00000000#32) red_heads16 (by decide)
  let m : FVec Ideal W16x2048x16x1 .f32 := Host.divf (broadcastInDim W16x2048x16x1 ![0, 1, 2] (by decide) t) (broadcastInDim W16x2048x16x1 ![] (by decide) (constant W0 .f32 0x42800000#32 : FVec Ideal W0 .f32))
  let r : FVec Ideal W16x2048x16x1 .f32 := Host.rsqrt (addf m (broadcastInDim W16x2048x16x1 ![] (by decide) (constant W0 .f32 0x358637BD#32 : FVec Ideal W0 .f32)))
  let v : FVec Ideal W16x2048x16x64 .f32 := mulf Y (broadcastInDim W16x2048x16x64 ![0, 1, 2, 3] (by decide) r)
  let n : FVec Ideal W16x2048x16x64 .f32 := mulf v (broadcastInDim W16x2048x16x64 ![0, 1, 2, 3] (by decide) (broadcastInDim W1x1x1x64 ![3] (by decide) g))
  let cc : FVec Ideal W16x2048x16x8 .f32 := broadcastInDim W16x2048x16x8 ![0, 1, 2, 3] (by decide) (broadcastInDim W16x2048x1x8 ![0, 1, 3] (by decide) (transpose W16x2048x8 [0, 2, 1] c (by decide)))
  let ss : FVec Ideal W16x2048x16x8 .f32 := broadcastInDim W16x2048x16x8 ![0, 1, 2, 3] (by decide) (broadcastInDim W16x2048x1x8 ![0, 1, 3] (by decide) (transpose W16x2048x8 [0, 2, 1] s (by decide)))
  let a : FVec Ideal W16x2048x16x8 .f32 := extractStridedSlice W16x2048x16x8 ![0, 0, 0, 0] n (by decide)
  let b : FVec Ideal W16x2048x16x8 .f32 := extractStridedSlice W16x2048x16x8 ![0, 0, 0, 8] n (by decide)
  let e : FVec Ideal W16x2048x16x48 .f32 := extractStridedSlice W16x2048x16x48 ![0, 0, 0, 16] n (by decide)
  concatenate W16x2048x16x64 3 [⟨W16x2048x16x8, subf (mulf a cc) (mulf b ss)⟩, ⟨W16x2048x16x8, addf (mulf b cc) (mulf a ss)⟩, ⟨W16x2048x16x48, e⟩] cat_heads16

theorem hostHeads16_apply (Y : FVec Ideal W16x2048x16x64 .f32) (g : Vec Ideal V64 .f32) (c s : Vec Ideal W16x8x2048 .f32)
    (b : Fin 16) (T : Fin 2048) (h : Fin 16) (a : Fin 64) :
    hostHeads16 Y g c s (ix4 b T h a) = rope (nrm (fun j => Y (ix4 b T h j)) (fun j => g (ix1 j))) (fun k => c (ix3 b k T)) (fun k => s (ix3 b k T)) a := by
  have ha := a.isLt
  unfold hostHeads16
  pointwise
  simp only [rope, nrm, c64, eps]
  by_cases h1 : a.val < 8
  · simp only [h1, ↓reduceDIte]
  · by_cases h2 : a.val - 8 < 8
    · simp only [h1, h2, ↓reduceDIte, show 8 + (a.val - 8) = a.val by omega]
    · simp only [h1, h2, ↓reduceDIte, show 16 + (a.val - 8 - 8) = a.val by omega]

/-- Four heads, normed and rotated, as the references compute them. -/
def hostHeads4 (Y : FVec Ideal W16x2048x4x64 .f32) (g : Vec Ideal V64 .f32) (c s : Vec Ideal W16x8x2048 .f32) : FVec Ideal W16x2048x4x64 .f32 :=
  let t : FVec Ideal W16x2048x4 .f32 := Host.reduceAdd (mulf Y Y) (constant W0 .f32 0x00000000#32) red_heads4 (by decide)
  let m : FVec Ideal W16x2048x4x1 .f32 := Host.divf (broadcastInDim W16x2048x4x1 ![0, 1, 2] (by decide) t) (broadcastInDim W16x2048x4x1 ![] (by decide) (constant W0 .f32 0x42800000#32 : FVec Ideal W0 .f32))
  let r : FVec Ideal W16x2048x4x1 .f32 := Host.rsqrt (addf m (broadcastInDim W16x2048x4x1 ![] (by decide) (constant W0 .f32 0x358637BD#32 : FVec Ideal W0 .f32)))
  let v : FVec Ideal W16x2048x4x64 .f32 := mulf Y (broadcastInDim W16x2048x4x64 ![0, 1, 2, 3] (by decide) r)
  let n : FVec Ideal W16x2048x4x64 .f32 := mulf v (broadcastInDim W16x2048x4x64 ![0, 1, 2, 3] (by decide) (broadcastInDim W1x1x1x64 ![3] (by decide) g))
  let cc : FVec Ideal W16x2048x4x8 .f32 := broadcastInDim W16x2048x4x8 ![0, 1, 2, 3] (by decide) (broadcastInDim W16x2048x1x8 ![0, 1, 3] (by decide) (transpose W16x2048x8 [0, 2, 1] c (by decide)))
  let ss : FVec Ideal W16x2048x4x8 .f32 := broadcastInDim W16x2048x4x8 ![0, 1, 2, 3] (by decide) (broadcastInDim W16x2048x1x8 ![0, 1, 3] (by decide) (transpose W16x2048x8 [0, 2, 1] s (by decide)))
  let a : FVec Ideal W16x2048x4x8 .f32 := extractStridedSlice W16x2048x4x8 ![0, 0, 0, 0] n (by decide)
  let b : FVec Ideal W16x2048x4x8 .f32 := extractStridedSlice W16x2048x4x8 ![0, 0, 0, 8] n (by decide)
  let e : FVec Ideal W16x2048x4x48 .f32 := extractStridedSlice W16x2048x4x48 ![0, 0, 0, 16] n (by decide)
  concatenate W16x2048x4x64 3 [⟨W16x2048x4x8, subf (mulf a cc) (mulf b ss)⟩, ⟨W16x2048x4x8, addf (mulf b cc) (mulf a ss)⟩, ⟨W16x2048x4x48, e⟩] cat_heads4

theorem hostHeads4_apply (Y : FVec Ideal W16x2048x4x64 .f32) (g : Vec Ideal V64 .f32) (c s : Vec Ideal W16x8x2048 .f32)
    (b : Fin 16) (T : Fin 2048) (h : Fin 4) (a : Fin 64) :
    hostHeads4 Y g c s (ix4 b T h a) = rope (nrm (fun j => Y (ix4 b T h j)) (fun j => g (ix1 j))) (fun k => c (ix3 b k T)) (fun k => s (ix3 b k T)) a := by
  have ha := a.isLt
  unfold hostHeads4
  pointwise
  simp only [rope, nrm, c64, eps]
  by_cases h1 : a.val < 8
  · simp only [h1, ↓reduceDIte]
  · by_cases h2 : a.val - 8 < 8
    · simp only [h1, h2, ↓reduceDIte, show 8 + (a.val - 8) = a.val by omega]
    · simp only [h1, h2, ↓reduceDIte, show 16 + (a.val - 8 - 8) = a.val by omega]

/-! ## The references' layouts -/

abbrev W16x2048x4x80 : Shape := ⟨4, ![16, 2048, 4, 80]⟩
abbrev W16x2048x320 : Shape := ⟨3, ![16, 2048, 320]⟩
abbrev W16x2048x256 : Shape := ⟨3, ![16, 2048, 256]⟩
abbrev W16x8x256x4x80 : Shape := ⟨5, ![16, 8, 256, 4, 80]⟩
abbrev W16x4x8x80x256 : Shape := ⟨5, ![16, 4, 8, 80, 256]⟩
abbrev W16x4x8x256x80 : Shape := ⟨5, ![16, 4, 8, 256, 80]⟩
abbrev W16x2048x4x15 : Shape := ⟨4, ![16, 2048, 4, 15]⟩

theorem slice_idx {n k o : Nat} (h : (⟨3, ![16, 2048, n]⟩ : Shape).Slices ![0, 0, o] ⟨3, ![16, 2048, k]⟩) (ho : o + k ≤ n)
    (P : FVec Ideal ⟨3, ![16, 2048, n]⟩ .f32) (b : Fin 16) (T : Fin 2048) (r : Fin k) :
    (extractStridedSlice ⟨3, ![16, 2048, k]⟩ ![0, 0, o] P h : FVec Ideal ⟨3, ![16, 2048, k]⟩ .f32) (ix3 b T r) = P (ix3 b T ⟨o + r.val, by omega⟩) := by
  refine congrArg P (funext fun a => ?_)
  match a with
  | ⟨0, _⟩ => exact Fin.ext (Nat.zero_add _)
  | ⟨1, _⟩ => exact Fin.ext (Nat.zero_add _)
  | ⟨2, _⟩ => rfl

/-- 1024 projected rows as sixteen heads. -/
def hostSlice16 {n : Nat} (P : FVec Ideal ⟨3, ![16, 2048, n]⟩ .f32) (o : Nat) (h : (⟨3, ![16, 2048, n]⟩ : Shape).Slices ![0, 0, o] W16x2048x1024) :
    FVec Ideal W16x2048x16x64 .f32 :=
  shapeCast W16x2048x16x64 (extractStridedSlice W16x2048x1024 ![0, 0, o] P h : FVec Ideal W16x2048x1024 .f32) (by decide)

theorem hostSlice16_apply {n : Nat} (P : FVec Ideal ⟨3, ![16, 2048, n]⟩ .f32) (o : Nat) (h) (ho : o + 1024 ≤ n)
    (b : Fin 16) (T : Fin 2048) (k : Fin 16) (j : Fin 64) :
    hostSlice16 P o h (ix4 b T k j) = P (ix3 b T ⟨o + (k.val * 64 + j.val), by omega⟩) := by
  unfold hostSlice16
  pointwise [slice_idx h ho P]

/-- 256 projected rows as four heads. -/
def hostSlice4 {n : Nat} (P : FVec Ideal ⟨3, ![16, 2048, n]⟩ .f32) (o : Nat) (h : (⟨3, ![16, 2048, n]⟩ : Shape).Slices ![0, 0, o] W16x2048x256) :
    FVec Ideal W16x2048x4x64 .f32 :=
  shapeCast W16x2048x4x64 (extractStridedSlice W16x2048x256 ![0, 0, o] P h : FVec Ideal W16x2048x256 .f32) (by decide)

theorem hostSlice4_apply {n : Nat} (P : FVec Ideal ⟨3, ![16, 2048, n]⟩ .f32) (o : Nat) (h) (ho : o + 256 ≤ n)
    (b : Fin 16) (T : Fin 2048) (k : Fin 4) (j : Fin 64) :
    hostSlice4 P o h (ix4 b T k j) = P (ix3 b T ⟨o + (k.val * 64 + j.val), by omega⟩) := by
  unfold hostSlice4
  pointwise [slice_idx h ho P]

/-- Token-major rows as tiles: 256 rows by 256 tokens. -/
def hostTiles (Y : FVec Ideal W16x2048x1024 .f32) : FVec Ideal W16x4x8x256x256 .f32 :=
  transpose W16x4x8x256x256 [0, 3, 1, 4, 2] (shapeCast W16x8x256x4x256 Y (by decide) : FVec Ideal W16x8x256x4x256 .f32) (by decide)

theorem hostTiles_apply (Y : FVec Ideal W16x2048x1024 .f32) (b : Fin 16) (G : Fin 4) (i : Fin 8) (r t : Fin 256) :
    hostTiles Y (ix5 b G i r t) = Y (ix3 b ⟨i.val * 256 + t.val, by omega⟩ ⟨G.val * 256 + r.val, by omega⟩) := by
  unfold hostTiles
  pointwise

/-- Token-major heads as tiles of 80 rows. -/
def hostTiles80 (Y : FVec Ideal W16x2048x4x80 .f32) : FVec Ideal W16x4x8x80x256 .f32 :=
  transpose W16x4x8x80x256 [0, 3, 1, 4, 2]
    (shapeCast W16x8x256x4x80 (shapeCast W16x2048x320 Y (by decide) : FVec Ideal W16x2048x320 .f32) (by decide) : FVec Ideal W16x8x256x4x80 .f32) (by decide)

theorem hostTiles80_apply (Y : FVec Ideal W16x2048x4x80 .f32) (b : Fin 16) (G : Fin 4) (i : Fin 8) (r : Fin 80) (t : Fin 256) :
    hostTiles80 Y (ix5 b G i r t) = Y (ix4 b ⟨i.val * 256 + t.val, by omega⟩ G r) := by
  unfold hostTiles80
  pointwise

/-- Token-major heads as chunks of 256 tokens. -/
def hostChunks80 (Y : FVec Ideal W16x2048x4x80 .f32) : FVec Ideal W16x4x8x256x80 .f32 :=
  transpose W16x4x8x256x80 [0, 3, 1, 2, 4] (shapeCast W16x8x256x4x80 Y (by decide) : FVec Ideal W16x8x256x4x80 .f32) (by decide)

theorem hostChunks80_apply (Y : FVec Ideal W16x2048x4x80 .f32) (b : Fin 16) (G : Fin 4) (i : Fin 8) (t : Fin 256) (r : Fin 80) :
    hostChunks80 Y (ix5 b G i t r) = Y (ix4 b ⟨i.val * 256 + t.val, by omega⟩ G r) := by
  unfold hostChunks80
  pointwise

theorem cat_ones : Shape.Concatenates [W16x2048x4x64, W16x2048x4x1, W16x2048x4x15] W16x2048x4x80 3 := by decide

/-- Heads with a one and fifteen zeros beside them. -/
def hostOnes (Y : FVec Ideal W16x2048x4x64 .f32) : FVec Ideal W16x2048x4x80 .f32 :=
  let u : FVec Ideal W16x2048x4x1 .f32 := broadcastInDim W16x2048x4x1 ![] (by decide) (constant W0 .f32 0x3F800000#32 : FVec Ideal W0 .f32)
  let z : FVec Ideal W16x2048x4x15 .f32 := broadcastInDim W16x2048x4x15 ![] (by decide) (constant W0 .f32 0x00000000#32 : FVec Ideal W0 .f32)
  concatenate W16x2048x4x80 3 [⟨W16x2048x4x64, Y⟩, ⟨W16x2048x4x1, u⟩, ⟨W16x2048x4x15, z⟩] cat_ones

theorem hostOnes_apply (Y : FVec Ideal W16x2048x4x64 .f32) (b : Fin 16) (T : Fin 2048) (G : Fin 4) (a : Fin 80) :
    hostOnes Y (ix4 b T G a) = if h : a.val < 64 then Y (ix4 b T G ⟨a.val, h⟩) else if a.val = 64 then 1 else 0 := by
  unfold hostOnes
  pointwise
  by_cases h : a.val < 64
  · rw [dif_pos h, dif_pos h]
  · rw [dif_neg h, dif_neg h]
    by_cases h' : a.val = 64
    · rw [dif_pos (by omega), if_pos h']
    · rw [dif_neg (by omega), if_neg h']

/-- 1024 projected rows times their logistic. -/
def hostSilu {n : Nat} (P : FVec Ideal ⟨3, ![16, 2048, n]⟩ .f32) (o : Nat) (h : (⟨3, ![16, 2048, n]⟩ : Shape).Slices ![0, 0, o] W16x2048x1024) :
    FVec Ideal W16x2048x1024 .f32 :=
  let z : FVec Ideal W16x2048x1024 .f32 := extractStridedSlice W16x2048x1024 ![0, 0, o] P h
  let u : FVec Ideal W16x2048x1024 .f32 := broadcastInDim W16x2048x1024 ![] (by decide) (constant W0 .f32 0x3F800000#32 : FVec Ideal W0 .f32)
  mulf z (Host.divf u (addf u (Host.exp (Host.negf z))))

theorem hostSilu_apply {n : Nat} (P : FVec Ideal ⟨3, ![16, 2048, n]⟩ .f32) (o : Nat) (h) (ho : o + 1024 ≤ n) (b : Fin 16) (T : Fin 2048) (r : Fin 1024) :
    hostSilu P o h (ix3 b T r) = P (ix3 b T ⟨o + r.val, by omega⟩) * Ideal.logistic (P (ix3 b T ⟨o + r.val, by omega⟩)) := by
  unfold hostSilu
  pointwise [slice_idx h ho P]
  rfl

abbrev W16x4x2x256x4x64 : Shape := ⟨6, ![16, 4, 2, 256, 4, 64]⟩
abbrev W16x4x2x4x64 : Shape := ⟨5, ![16, 4, 2, 4, 64]⟩
abbrev W16x4x4x64x2 : Shape := ⟨5, ![16, 4, 4, 64, 2]⟩
abbrev W16x4x256x2 : Shape := ⟨4, ![16, 4, 256, 2]⟩
abbrev W16x4x256x128 : Shape := ⟨4, ![16, 4, 256, 128]⟩

theorem red_means : W16x4x2x256x4x64.ReducesTo [3] W16x4x2x4x64 := by decide
/-- The sum over the 256 tokens of a block. -/
theorem sum_means (K : FVec Ideal W16x2048x4x64 .f32) (h) (b : Fin 16) (s : Fin 4) (l : Fin 2) (G : Fin 4) (j : Fin 64) :
    Ideal.hostReduceAdd red_means (shapeCast W16x4x2x256x4x64 K h : FVec Ideal W16x4x2x256x4x64 .f32) 0 (ix5 b s l G j)
      = ∑ t : Fin 256, K (ix4 b ⟨s.val * 512 + l.val * 256 + t.val, by omega⟩ G j) := by
  rw [Ideal.hostReduceAdd_single red_means (by decide), zero_add]
  refine Finset.sum_congr rfl fun t _ => ?_
  have e : (Shape.Reduces.lift (by decide : W16x4x2x256x4x64.Reduces [3] W16x4x2x4x64) (ix5 b s l G j) t : W16x4x2x256x4x64.Idx) = ix6 b s l t G j :=
    funext fun a => Fin.ext (by match a with | ⟨0, _⟩ => rfl | ⟨1, _⟩ => rfl | ⟨2, _⟩ => rfl | ⟨3, _⟩ => rfl | ⟨4, _⟩ => rfl | ⟨5, _⟩ => rfl)
  rw [e]
  pointwise

theorem pads_means : W16x4x256x2.Pads ![0, 0, 0, 0] ![0, 0, 0, 126] ![0, 0, 0, 0] W16x4x256x128 := by decide

/-- The means of the keys over blocks of 256 tokens, two to a row of 128 lanes, zeros after them. -/
def hostMeans (K : FVec Ideal W16x2048x4x64 .f32) (z : FVec Ideal W0 .f32) : FVec Ideal W16x4x256x128 .f32 :=
  let a : FVec Ideal W16x4x2x4x64 .f32 := Host.reduceAdd (shapeCast W16x4x2x256x4x64 K (by decide) : FVec Ideal W16x4x2x256x4x64 .f32) (constant W0 .f32 0x00000000#32) red_means (by decide)
  let m : FVec Ideal W16x4x2x4x64 .f32 := Host.divf a (broadcastInDim W16x4x2x4x64 ![] (by decide) (constant W0 .f32 0x43800000#32 : FVec Ideal W0 .f32))
  let u : FVec Ideal W16x4x256x2 .f32 := shapeCast W16x4x256x2 (transpose W16x4x4x64x2 [0, 1, 3, 4, 2] m (by decide) : FVec Ideal W16x4x4x64x2 .f32) (by decide)
  pad W16x4x256x128 ![0, 0, 0, 0] ![0, 0, 0, 126] ![0, 0, 0, 0] u z pads_means (by decide)

theorem hostMeans_apply (K : FVec Ideal W16x2048x4x64 .f32) (z : FVec Ideal W0 .f32) (hz : ∀ i, z i = 0) (b : Fin 16) (s : Fin 4) (r : Fin 256) (l : Fin 128) :
    hostMeans K z (ix4 b s r l) = if h : l.val < 2 then
      Ideal.div (∑ t : Fin 256, K (ix4 b ⟨s.val * 512 + (256 * l.val + t.val), by omega⟩ ⟨r.val / 64, by omega⟩ ⟨r.val % 64, by omega⟩)) c256 else 0 := by
  unfold hostMeans
  pointwise [sum_means]
  split
  · refine congrArg (Ideal.div · _) (Finset.sum_congr rfl fun t _ => congrArg (fun T => K (ix4 b T ⟨r.val / 64, by omega⟩ ⟨r.val % 64, by omega⟩)) (Fin.ext ?_))
    show s.val * 512 + l.val * 256 + t.val = s.val * 512 + (256 * l.val + t.val)
    omega
  · exact hz _

/-! ## The calls' results, token by token -/

/-- Token `t` of the `s`-th 512 tokens. -/
def tok (s : Fin 4) (t : Fin 512) : Fin 2048 := ⟨s.val * 512 + t.val, by omega⟩

/-- Token `t` of the `i`-th 256 tokens. -/
def tok' (i : Fin 8) (t : Fin 256) : Fin 2048 := ⟨i.val * 256 + t.val, by omega⟩

/-- Tile `s'` of the `s`-th pair of tiles. -/
def tile (s : Fin 4) (s' : Fin 2) : Fin 8 := ⟨s.val * 2 + s'.val, by omega⟩

theorem tok_val (s : Fin 4) (t : Fin 512) : (tok s t).val = s.val * 512 + t.val := rfl
theorem tok'_val (i : Fin 8) (t : Fin 256) : (tok' i t).val = i.val * 256 + t.val := rfl
theorem tile_val (s : Fin 4) (s' : Fin 2) : (tile s s').val = s.val * 2 + s'.val := rfl

theorem tok_eq (s : Fin 4) (s' : Fin 2) (t : Fin 256) (h : 256 * s'.val + t.val < 512) : tok s ⟨256 * s'.val + t.val, h⟩ = tok' (tile s s') t :=
  Fin.ext (by show s.val * 512 + (256 * s'.val + t.val) = (s.val * 2 + s'.val) * 256 + t.val; omega)

section
variable (p : Fin 16 → Fin 2048 → Fin 1024 → EReal) (p' : Fin 16 → Fin 2048 → Fin 256 → EReal) (g : Vec Ideal V64 .f32) (c s : Vec Ideal W16x8x2048 .f32)
  (ind : Fin 2048 → Fin 16 → EReal)

/-- The four kinds of entries that depend on one token, at token `T` of sequence `b`. -/
def tokQ (b : Fin 16) (T : Fin 2048) (G : Fin 4) (r : Fin 256) : EReal :=
  qAt (p b T) (fun j => g (ix1 j)) (fun k => c (ix3 b k T)) (fun k => s (ix3 b k T)) G r

def tokK (b : Fin 16) (T : Fin 2048) (G : Fin 4) (a : Fin 80) : EReal :=
  kAt (p' b T) (fun j => g (ix1 j)) (fun k => c (ix3 b k T)) (fun k => s (ix3 b k T)) (ind T) G a

def tokV (b : Fin 16) (T : Fin 2048) (G : Fin 4) (a : Fin 80) : EReal := vAt (p' b T) G a

def tokZ (b : Fin 16) (T : Fin 2048) (G : Fin 4) (r : Fin 256) : EReal := zAt (p b T) G r

/-- The queries: a tile holds the four heads of a group, entry by entry, at 256 tokens. -/
def arrQ : W16x4x8x256x256.Idx → EReal := fun i => tokQ p g c s (i 0) (tok' (i 2) (i 4)) (i 1) (i 3)

/-- The keys: a chunk holds 256 tokens of one head, with the indicator's entries beside them. -/
def arrK : W16x4x8x256x80.Idx → EReal := fun i => tokK p' g c s ind (i 0) (tok' (i 2) (i 3)) (i 1) (i 4)

/-- The block means of the keys. -/
def arrM : W16x4x256x128.Idx → EReal := fun i =>
  kmAt (fun r t => p' (i 0) (tok (i 1) t) r) (fun j => g (ix1 j)) (fun k t => c (ix3 (i 0) k (tok (i 1) t))) (fun k t => s (ix3 (i 0) k (tok (i 1) t))) (i 2) (i 3)

/-- The values: a tile holds one head at 256 tokens, over a row of ones and rows of zeros. -/
def arrV : W16x4x8x80x256.Idx → EReal := fun i => tokV p' (i 0) (tok' (i 2) (i 4)) (i 1) (i 3)

/-- The gate branch. -/
def arrZ : W16x4x8x256x256.Idx → EReal := fun i => tokZ p (i 0) (tok' (i 2) (i 4)) (i 1) (i 3)

/-- The residual stream, feature-major. -/
def arrX (X : Fin 16 → Fin 2048 → Fin 1024 → EReal) : W16x1024x2048.Idx → EReal := fun i => X (i 0) (i 2) (i 1)

end

/-! ## The blocks of a grid point -/

section
variable {x0 : Vec Ideal V1x4x2x256x256 .bf16} {x1 : Vec Ideal V1024x1024 .bf16} {x2 : Vec Ideal V1x1024x1 .f32} {x3 : Vec Ideal V1x1024x512 .f32}
  {oz : Vec Ideal W16x4x8x256x256 .bf16} {w : Vec Ideal V1024x1024 .f32} {g : Vec Ideal W16x1024x1 .f32} {x : Vec Ideal W16x1024x2048 .f32} {b : Fin 16} {s : Fin 4}

theorem xAt_eq (e0 : ∀ h s' k a, x0 (ix5 0 h s' k a) = oz (ix5 b h (tile s s') k a)) (e1 : ∀ d f, x1 (ix2 d f) = w (ix2 f d))
    (e2 : ∀ d, x2 (ix3 0 d 0) = g (ix3 b d 0)) (e3 : ∀ d t, x3 (ix3 0 d t) = x (ix3 b d (tok s t))) (t : Fin 512) :
    xAt x0 x1 x2 x3 t = tokX oz w g x b (tok s t) := by
  funext d
  have ht := t.isLt
  have h1 : (⟨(tok s t).val / 256, by omega⟩ : Fin 8) = tile s ⟨t.val / 256, by omega⟩ := Fin.ext (by show (s.val * 512 + t.val) / 256 = s.val * 2 + t.val / 256; omega)
  have h2 : (⟨(tok s t).val % 256, by omega⟩ : Fin 256) = ⟨t.val % 256, by omega⟩ := Fin.ext (by show (s.val * 512 + t.val) % 256 = t.val % 256; omega)
  simp only [xAt, tokX, resid, e0, e1, e2, e3, h1, h2]

variable {x4 : Vec Ideal V1024x1 .f32} {x5 x6 : Vec Ideal V1x1024x1 .f32} {ng : Vec Ideal W1024 .f32} {sc sh : Vec Ideal W16x1024x1 .f32}
  {X : Fin 512 → Fin 1024 → EReal} {X' : Fin 16 → Fin 2048 → Fin 1024 → EReal}

theorem hAt_eq (hX : ∀ t, X t = X' b (tok s t)) (e4 : ∀ d, x4 (ix2 d 0) = ng (ix1 d)) (e5 : ∀ d, x5 (ix3 0 d 0) = sc (ix3 b d 0))
    (e6 : ∀ d, x6 (ix3 0 d 0) = sh (ix3 b d 0)) (t : Fin 512) : hAt X x4 x5 x6 t = tokH X' ng sc sh b (tok s t) := by
  simp only [hAt, tokH, hX, e4, e5, e6]

theorem pAt_eq {n : Nat} {x7 : Vec Ideal ⟨2, ![n, 1024]⟩ .bf16} {wi : Vec Ideal ⟨2, ![1024, n]⟩ .f32} (hX : ∀ t, X t = X' b (tok s t))
    (e7 : ∀ r d, x7 (ix2 r d) = wi (ix2 d r)) (t : Fin 512) : pAt x7 X t = tokP wi X' b (tok s t) := by
  funext r
  simp only [pAt, tokP, hX, e7]

end

end Cert.Proof.Tiles

end
-- ==== Proof.MobaValue.lean ====
/-
  Hand-written. THE MoBA INPUT PROJECTION, THE WHOLE ARRAYS: the kernel's six result arrays as functions of one token
  of the twelve arguments.
-/
module

public import proofs.«01_k».proof.Proof.MobaBlock
public import proofs.«01_k».proof.Proof.Tokens
public import Idealize.ShloMosaic.Lib.Pipeline.ValueKit.Geometry

@[expose] public section

noncomputable section

namespace Cert.Proof.MobaIn

open Idealize.ShloMosaic Idealize.ShloMosaic.TcCoe Idealize.SL.Sem
open Idealize.ShloMosaic.Pipeline (Dat Window)
open Cert.MobaInIdeal Cert.MobaInIdeal.Gen Cert.Proof.Tiles

/-- The residual stream, the normed stream and the projected rows at a token. -/
def X (a0 : Vec Ideal S16x4x8x256x256 .bf16) (a1 : Vec Ideal S1024x1024 .f32) (a2 : Vec Ideal S16x1024x1 .f32) (a3 : Vec Ideal S16x1024x2048 .f32) :
    Fin 16 → Fin 2048 → Fin 1024 → EReal := tokX a0 a1 a2 a3

def PP (a0 : Vec Ideal S16x4x8x256x256 .bf16) (a1 : Vec Ideal S1024x1024 .f32) (a2 : Vec Ideal S16x1024x1 .f32) (a3 : Vec Ideal S16x1024x2048 .f32)
    (a4 : Vec Ideal S1024 .f32) (a5 a6 : Vec Ideal S16x1024x1 .f32) (a7 : Vec Ideal S1024x2560 .f32) : Fin 16 → Fin 2048 → Fin 2560 → EReal :=
  tokP a7 (tokH (X a0 a1 a2 a3) a4 a5 a6)

section Kernel
variable (m : (ℓ : Loc nD τ sig) → Buf (Elt Ideal) ℓ)

/-- The blocks' places: point `t` is sequence `t / 4`, token block `t % 4`. -/
theorem places : ∀ t : Fin grid0.N,
    (win0_0.index t = ![t.val / 4, 0, t.val % 4, 0, 0] ∧ win0_1.index t = ![0, 0] ∧ win0_2.index t = ![t.val / 4, 0, 0]
      ∧ win0_3.index t = ![t.val / 4, 0, t.val % 4] ∧ win0_4.index t = ![0, 0] ∧ win0_5.index t = ![t.val / 4, 0, 0]
      ∧ win0_6.index t = ![t.val / 4, 0, 0] ∧ win0_7.index t = ![0, 0] ∧ win0_8.index t = ![0, 0] ∧ win0_9.index t = ![0, 0]
      ∧ win0_10.index t = ![t.val / 4, 0, t.val % 4] ∧ win0_11.index t = ![t.val / 4, 0, t.val % 4])
    ∧ win0_12.index t = ![t.val / 4, 0, t.val % 4, 0, 0] ∧ win0_13.index t = ![t.val / 4, 0, t.val % 4, 0, 0]
      ∧ win0_14.index t = ![t.val / 4, t.val % 4, 0, 0] ∧ win0_15.index t = ![t.val / 4, 0, t.val % 4, 0, 0]
      ∧ win0_16.index t = ![t.val / 4, 0, t.val % 4, 0, 0] ∧ win0_17.index t = ![t.val / 4, 0, t.val % 4] := by
  decide +kernel

def seq (t : Fin cfg0.N) : Fin 16 := ⟨t.val / 4, by have h : t.val < 64 := t.isLt; omega⟩
def part (t : Fin cfg0.N) : Fin 4 := ⟨t.val % 4, by omega⟩
theorem seq_val (t : Fin cfg0.N) : (seq t).val = t.val / 4 := rfl
theorem part_val (t : Fin cfg0.N) : (part t).val = t.val % 4 := rfl

section Arrays
variable (c : Dev nD)
abbrev A0 : Vec Ideal S16x4x8x256x256 .bf16 := m ((c : Thread nD τ).loc main_arg0)
abbrev A1 : Vec Ideal S1024x1024 .f32 := m ((c : Thread nD τ).loc main_arg1)
abbrev A2 : Vec Ideal S16x1024x1 .f32 := m ((c : Thread nD τ).loc main_arg2)
abbrev A3 : Vec Ideal S16x1024x2048 .f32 := m ((c : Thread nD τ).loc main_arg3)
abbrev A4 : Vec Ideal S1024 .f32 := m ((c : Thread nD τ).loc main_arg4)
abbrev A5 : Vec Ideal S16x1024x1 .f32 := m ((c : Thread nD τ).loc main_arg5)
abbrev A6 : Vec Ideal S16x1024x1 .f32 := m ((c : Thread nD τ).loc main_arg6)
abbrev A7 : Vec Ideal S1024x2560 .f32 := m ((c : Thread nD τ).loc main_arg7)
abbrev A8 : Vec Ideal S64 .f32 := m ((c : Thread nD τ).loc main_arg8)
abbrev A9 : Vec Ideal S64 .f32 := m ((c : Thread nD τ).loc main_arg9)
abbrev A10 : Vec Ideal S16x8x2048 .f32 := m ((c : Thread nD τ).loc main_arg10)
abbrev A11 : Vec Ideal S16x8x2048 .f32 := m ((c : Thread nD τ).loc main_arg11)
end Arrays

/-! ## The arrays the host lays out -/

theorem V_v1 (c : Dev nD) (p q : Fin 1024) : (Gen.V m c main_v1 : Vec Ideal S1024x1024 .bf16) (ix2 p q) = A1 m c (ix2 q p) := by
  have e : (Gen.V m c main_v1 : Vec Ideal S1024x1024 .bf16)
      = truncf .bf16 (transpose S1024x1024 [1, 0] (A1 m c) transposes_S1024x1024_S1024x1024_1_0 : FVec Ideal S1024x1024 .f32) bitsLt_bf16_f32 := by
    unfold Gen.V; after_results <;> rfl
  rw [e]
  pointwise

theorem V_v2 (c : Dev nD) (p : Fin 1024) : (Gen.V m c main_v2 : Vec Ideal S1024x1 .f32) (ix2 p 0) = A4 m c (ix1 p) := by
  have e : (Gen.V m c main_v2 : Vec Ideal S1024x1 .f32) = shapeCast S1024x1 (A4 m c) shapeCasts_S1024_S1024x1 := by
    unfold Gen.V; after_results <;> rfl
  rw [e]
  pointwise

theorem V_v4 (c : Dev nD) (p : Fin 2560) (q : Fin 1024) : (Gen.V m c main_v4 : Vec Ideal S2560x1024 .bf16) (ix2 p q) = A7 m c (ix2 q p) := by
  have e : (Gen.V m c main_v4 : Vec Ideal S2560x1024 .bf16)
      = truncf .bf16 (transpose S2560x1024 [1, 0] (A7 m c) transposes_S1024x2560_S2560x1024_1_0 : FVec Ideal S2560x1024 .f32) bitsLt_bf16_f32 := by
    unfold Gen.V; after_results <;> rfl
  rw [e]
  pointwise

theorem V_v5 (c : Dev nD) (p : Fin 64) : (Gen.V m c main_v5 : Vec Ideal S64x1 .f32) (ix2 p 0) = A8 m c (ix1 p) := by
  have e : (Gen.V m c main_v5 : Vec Ideal S64x1 .f32) = shapeCast S64x1 (A8 m c) shapeCasts_S64_S64x1 := by
    unfold Gen.V; after_results <;> rfl
  rw [e]
  pointwise

theorem V_v6 (c : Dev nD) (p : Fin 64) : (Gen.V m c main_v6 : Vec Ideal S64x1 .f32) (ix2 p 0) = A9 m c (ix1 p) := by
  have e : (Gen.V m c main_v6 : Vec Ideal S64x1 .f32) = shapeCast S64x1 (A9 m c) shapeCasts_S64_S64x1 := by
    unfold Gen.V; after_results <;> rfl
  rw [e]
  pointwise

/-! ## The blocks, as parts of the arrays -/

variable (c : Dev nD) (t : Fin cfg0.N)

theorem e0 (h : Fin 4) (s' : Fin 2) (k a : Fin 256) : iblk m c 0 t (ix5 0 h s' k a) = A0 m c (ix5 (seq t) h (tile (part t) s') k a) := by
  obtain ⟨⟨p, -⟩, -⟩ := places t
  blk_simp [iblk]
  rw [V_main_arg0]
  refine congrArg _ ?_
  blk_ext [p, seq_val, part_val, tok_val, tile_val]

theorem e1 (d f : Fin 1024) : iblk m c 1 t (ix2 d f) = A1 m c (ix2 f d) := by
  obtain ⟨⟨-, p, -⟩, -⟩ := places t
  refine Eq.trans ?_ (V_v1 m c d f)
  blk_simp [iblk]
  refine congrArg _ ?_
  blk_ext [p]

theorem e2 (d : Fin 1024) : iblk m c 2 t (ix3 0 d 0) = A2 m c (ix3 (seq t) d 0) := by
  obtain ⟨⟨-, -, p, -⟩, -⟩ := places t
  blk_simp [iblk]
  rw [V_main_arg2]
  refine congrArg _ ?_
  blk_ext [p, seq_val, part_val, tok_val, tile_val]

theorem e3 (d : Fin 1024) (s : Fin 512) : iblk m c 3 t (ix3 0 d s) = A3 m c (ix3 (seq t) d (tok (part t) s)) := by
  obtain ⟨⟨-, -, -, p, -⟩, -⟩ := places t
  blk_simp [iblk]
  rw [V_main_arg3]
  refine congrArg _ ?_
  blk_ext [p, seq_val, part_val, tok_val, tile_val]

theorem e4 (d : Fin 1024) : iblk m c 4 t (ix2 d 0) = A4 m c (ix1 d) := by
  obtain ⟨⟨-, -, -, -, p, -⟩, -⟩ := places t
  refine Eq.trans ?_ (V_v2 m c d)
  blk_simp [iblk]
  refine congrArg _ ?_
  blk_ext [p]

theorem e5 (d : Fin 1024) : iblk m c 5 t (ix3 0 d 0) = A5 m c (ix3 (seq t) d 0) := by
  obtain ⟨⟨-, -, -, -, -, p, -⟩, -⟩ := places t
  blk_simp [iblk]
  rw [V_main_arg5]
  refine congrArg _ ?_
  blk_ext [p, seq_val, part_val, tok_val, tile_val]

theorem e6 (d : Fin 1024) : iblk m c 6 t (ix3 0 d 0) = A6 m c (ix3 (seq t) d 0) := by
  obtain ⟨⟨-, -, -, -, -, -, p, -⟩, -⟩ := places t
  blk_simp [iblk]
  rw [V_main_arg6]
  refine congrArg _ ?_
  blk_ext [p, seq_val, part_val, tok_val, tile_val]

theorem e7 (r : Fin 2560) (d : Fin 1024) : iblk m c 7 t (ix2 r d) = A7 m c (ix2 d r) := by
  obtain ⟨⟨-, -, -, -, -, -, -, p, -⟩, -⟩ := places t
  refine Eq.trans ?_ (V_v4 m c r d)
  blk_simp [iblk]
  refine congrArg _ ?_
  blk_ext [p]

theorem e8 (j : Fin 64) : iblk m c 8 t (ix2 j 0) = A8 m c (ix1 j) := by
  obtain ⟨⟨-, -, -, -, -, -, -, -, p, -⟩, -⟩ := places t
  refine Eq.trans ?_ (V_v5 m c j)
  blk_simp [iblk]
  refine congrArg _ ?_
  blk_ext [p]

theorem e9 (j : Fin 64) : iblk m c 9 t (ix2 j 0) = A9 m c (ix1 j) := by
  obtain ⟨⟨-, -, -, -, -, -, -, -, -, p, -⟩, -⟩ := places t
  refine Eq.trans ?_ (V_v6 m c j)
  blk_simp [iblk]
  refine congrArg _ ?_
  blk_ext [p]

theorem e10 (k : Fin 8) (s : Fin 512) : iblk m c 10 t (ix3 0 k s) = A10 m c (ix3 (seq t) k (tok (part t) s)) := by
  obtain ⟨⟨-, -, -, -, -, -, -, -, -, -, p, -⟩, -⟩ := places t
  blk_simp [iblk]
  rw [V_main_arg10]
  refine congrArg _ ?_
  blk_ext [p, seq_val, part_val, tok_val, tile_val]

theorem e11 (k : Fin 8) (s : Fin 512) : iblk m c 11 t (ix3 0 k s) = A11 m c (ix3 (seq t) k (tok (part t) s)) := by
  obtain ⟨⟨-, -, -, -, -, -, -, -, -, -, -, p⟩, -⟩ := places t
  blk_simp [iblk]
  rw [V_main_arg11]
  refine congrArg _ ?_
  blk_ext [p, seq_val, part_val, tok_val, tile_val]

/-- The block's residual stream and projected rows are the sequence's, at the block's tokens. -/
theorem block_X (s : Fin 512) : xAt (iblk m c 0 t) (iblk m c 1 t) (iblk m c 2 t) (iblk m c 3 t) s
    = X (A0 m c) (A1 m c) (A2 m c) (A3 m c) (seq t) (tok (part t) s) :=
  xAt_eq (e0 m c t) (e1 m c t) (e2 m c t) (e3 m c t) s

theorem block_P (s : Fin 512) : P (iblk m c 0 t) (iblk m c 1 t) (iblk m c 2 t) (iblk m c 3 t) (iblk m c 4 t) (iblk m c 5 t) (iblk m c 6 t) (iblk m c 7 t) s
    = PP (A0 m c) (A1 m c) (A2 m c) (A3 m c) (A4 m c) (A5 m c) (A6 m c) (A7 m c) (seq t) (tok (part t) s) :=
  pAt_eq (hAt_eq (block_X m c t) (e4 m c t) (e5 m c t) (e6 m c t)) (e7 m c t) s

/-- `k` projected rows from `o` on, at every token. -/
abbrev rowsOf (o k : Nat) (h : o + k ≤ 2560) : Fin 16 → Fin 2048 → Fin k → EReal := fun b T =>
  rows (PP (A0 m c) (A1 m c) (A2 m c) (A3 m c) (A4 m c) (A5 m c) (A6 m c) (A7 m c) b T) o k h

/-- What the kernel leaves in its six result arrays: the queries, -/
theorem kernel_q : (dats m 0 c).arrAt 12 cfg0.N = arrQ (rowsOf m c 0 1024 (by omega)) (A8 m c) (A10 m c) (A11 m c) := by
  refine (dats m 0 c).arrAt_eq_of_covers 12 _ (by decide +kernel) fun t _ y => ?_
  have p := (places t).2
  refine (congrFun (Value.flushed12_A m c t) y).trans ?_
  refine (out12_apply c _ _ _ _ _ _ _ _ _ _ _ _ _ _ _ _ _ _ _ _ _ _ _ _ _ _ _ _ _ _ _ _ _ _ _ _ _ _ _ _ _ _ _ _ _ _ _ _ _ _).trans ?_
  obtain ⟨o, G, s', r, t', rfl⟩ : ∃ (o : Fin 1) (G : Fin 4) (s' : Fin 2) (r : Fin 256) (t' : Fin 256), y = (ix5 o G s' r t' : S1x4x2x256x256.Idx) := ⟨_, _, _, _, _, eq_ix5 _⟩
  have ey : ((cfg0.win 12).blk t).view.emb (ix5 o G s' r t' : S1x4x2x256x256.Idx) = (ix5 (seq t) G (tile (part t) s') r t' : S16x4x8x256x256.Idx) := by
    blk_ext [p, seq_val, part_val, tok_val, tile_val]
  refine Eq.trans ?_ (congrArg _ ey.symm)
  show Q _ _ _ _ _ _ _ _ _ _ _ (ix5 o G s' r t') = _
  simp only [Q, block_P, e8, e10, e11]
  exact congrArg (tokQ (rowsOf m c 0 1024 (by omega)) (A8 m c) (A10 m c) (A11 m c) (seq t) · G r) (tok_eq (part t) s' t' (by omega))

/-- the keys, -/
theorem kernel_k : (dats m 0 c).arrAt 13 cfg0.N = arrK (rowsOf m c 1024 256 (by omega)) (A9 m c) (A10 m c) (A11 m c) (fun _ a => if a.val = 0 then 1 else 0) := by
  refine (dats m 0 c).arrAt_eq_of_covers 13 _ (by decide +kernel) fun t _ y => ?_
  have p := (places t).2
  refine (congrFun (Value.flushed13_A m c t) y).trans ?_
  refine (out13_apply c _ _ _ _ _ _ _ _ _ _ _ _ _ _ _ _ _ _ _ _ _ _ _ _ _ _ _ _ _ _ _ _ _ _ _ _ _ _ _ _ _ _ _ _ _ _ _ _ _ _).trans ?_
  obtain ⟨o, G, s', t', a, rfl⟩ : ∃ (o : Fin 1) (G : Fin 4) (s' : Fin 2) (t' : Fin 256) (a : Fin 80), y = (ix5 o G s' t' a : S1x4x2x256x80.Idx) := ⟨_, _, _, _, _, eq_ix5 _⟩
  have ey : ((cfg0.win 13).blk t).view.emb (ix5 o G s' t' a : S1x4x2x256x80.Idx) = (ix5 (seq t) G (tile (part t) s') t' a : S16x4x8x256x80.Idx) := by
    blk_ext [p, seq_val, part_val, tok_val, tile_val]
  refine Eq.trans ?_ (congrArg _ ey.symm)
  show K _ _ _ _ _ _ _ _ _ _ _ (ix5 o G s' t' a) = _
  simp only [K, block_P, e9, e10, e11]
  exact congrArg (tokK (rowsOf m c 1024 256 (by omega)) (A9 m c) (A10 m c) (A11 m c) (fun _ a => if a.val = 0 then 1 else 0) (seq t) · G a) (tok_eq (part t) s' t' (by omega))

/-- their block means, -/
theorem kernel_km : (dats m 0 c).arrAt 14 cfg0.N = arrM (rowsOf m c 1024 256 (by omega)) (A9 m c) (A10 m c) (A11 m c) := by
  refine (dats m 0 c).arrAt_eq_of_covers 14 _ (by decide +kernel) fun t _ y => ?_
  have p := (places t).2
  refine (congrFun (Value.flushed14_A m c t) y).trans ?_
  refine (out14_apply c _ _ _ _ _ _ _ _ _ _ _ _ _ _ _ _ _ _ _ _ _ _ _ _ _ _ _ _ _ _ _ _ _ _ _ _ _ _ _ _ _ _ _ _ _ _ _ _ _ _).trans ?_
  obtain ⟨o, o', r, l, rfl⟩ : ∃ (o o' : Fin 1) (r : Fin 256) (l : Fin 128), y = (ix4 o o' r l : S1x1x256x128.Idx) := ⟨_, _, _, _, eq_ix4 _⟩
  have ey : ((cfg0.win 14).blk t).view.emb (ix4 o o' r l : S1x1x256x128.Idx) = (ix4 (seq t) (part t) r l : S16x4x256x128.Idx) := by
    blk_ext [p, seq_val, part_val, tok_val, tile_val]
  refine Eq.trans ?_ (congrArg _ ey.symm)
  show KM _ _ _ _ _ _ _ _ _ _ _ (ix4 o o' r l) = _
  simp only [KM, block_P, e9, e10, e11]
  exact rfl

/-- the values, -/
theorem kernel_v : (dats m 0 c).arrAt 15 cfg0.N = arrV (rowsOf m c 1280 256 (by omega)) := by
  refine (dats m 0 c).arrAt_eq_of_covers 15 _ (by decide +kernel) fun t _ y => ?_
  have p := (places t).2
  refine (congrFun (Value.flushed15_A m c t) y).trans ?_
  refine (out15_apply c _ _ _ _ _ _ _ _ _ _ _ _ _ _ _ _ _ _ _ _ _ _ _ _ _ _ _ _ _ _ _ _ _ _ _ _ _ _ _ _ _ _ _ _ _ _ _ _ _ _).trans ?_
  obtain ⟨o, G, s', a, t', rfl⟩ : ∃ (o : Fin 1) (G : Fin 4) (s' : Fin 2) (a : Fin 80) (t' : Fin 256), y = (ix5 o G s' a t' : S1x4x2x80x256.Idx) := ⟨_, _, _, _, _, eq_ix5 _⟩
  have ey : ((cfg0.win 15).blk t).view.emb (ix5 o G s' a t' : S1x4x2x80x256.Idx) = (ix5 (seq t) G (tile (part t) s') a t' : S16x4x8x80x256.Idx) := by
    blk_ext [p, seq_val, part_val, tok_val, tile_val]
  refine Eq.trans ?_ (congrArg _ ey.symm)
  show V _ _ _ _ _ _ _ _ (ix5 o G s' a t') = _
  simp only [V, block_P]
  exact congrArg (tokV (rowsOf m c 1280 256 (by omega)) (seq t) · G a) (tok_eq (part t) s' t' (by omega))

/-- the gate branch -/
theorem kernel_z : (dats m 0 c).arrAt 16 cfg0.N = arrZ (rowsOf m c 1536 1024 (by omega)) := by
  refine (dats m 0 c).arrAt_eq_of_covers 16 _ (by decide +kernel) fun t _ y => ?_
  have p := (places t).2
  refine (congrFun (Value.flushed16_A m c t) y).trans ?_
  refine (out16_apply c _ _ _ _ _ _ _ _ _ _ _ _ _ _ _ _ _ _ _ _ _ _ _ _ _ _ _ _ _ _ _ _ _ _ _ _ _ _ _ _ _ _ _ _ _ _ _ _ _ _).trans ?_
  obtain ⟨o, G, s', r, t', rfl⟩ : ∃ (o : Fin 1) (G : Fin 4) (s' : Fin 2) (r : Fin 256) (t' : Fin 256), y = (ix5 o G s' r t' : S1x4x2x256x256.Idx) := ⟨_, _, _, _, _, eq_ix5 _⟩
  have ey : ((cfg0.win 16).blk t).view.emb (ix5 o G s' r t' : S1x4x2x256x256.Idx) = (ix5 (seq t) G (tile (part t) s') r t' : S16x4x8x256x256.Idx) := by
    blk_ext [p, seq_val, part_val, tok_val, tile_val]
  refine Eq.trans ?_ (congrArg _ ey.symm)
  show Z _ _ _ _ _ _ _ _ (ix5 o G s' r t') = _
  simp only [Z, block_P]
  exact congrArg (tokZ (rowsOf m c 1536 1024 (by omega)) (seq t) · G r) (tok_eq (part t) s' t' (by omega))

/-- and the residual stream. -/
theorem kernel_x : (dats m 0 c).arrAt 17 cfg0.N = arrX (X (A0 m c) (A1 m c) (A2 m c) (A3 m c)) := by
  refine (dats m 0 c).arrAt_eq_of_covers 17 _ (by decide +kernel) fun t _ y => ?_
  have p := (places t).2
  refine (congrFun (Value.flushed17_A m c t) y).trans ?_
  refine (out17_apply c _ _ _ _ _ _ _ _ _ _ _ _ _ _ _ _ _ _ _ _ _ _ _ _ _ _ _ _ _ _ _ _ _ _ _ _ _ _ _ _ _ _ _ _ _ _ _ _ _ _).trans ?_
  obtain ⟨o, d, s, rfl⟩ : ∃ (o : Fin 1) (d : Fin 1024) (s : Fin 512), y = (ix3 o d s : S1x1024x512.Idx) := ⟨_, _, _, eq_ix3 _⟩
  have ey : ((cfg0.win 17).blk t).view.emb (ix3 o d s : S1x1024x512.Idx) = (ix3 (seq t) d (tok (part t) s) : S16x1024x2048.Idx) := by
    blk_ext [p, seq_val, part_val, tok_val, tile_val]
  refine Eq.trans ?_ (congrArg _ ey.symm)
  exact congrFun (block_X m c t s) d

end Kernel

end Cert.Proof.MobaIn

end
-- ==== Proof.RefTokens.lean ====
/-
  Hand-written. THE INPUT PROJECTIONS' REFERENCES: the arrays that the references compute from their projected rows,
  as the functions of one token in Tokens.lean.
-/
module

public import proofs.«01_k».proof.Proof.Tokens

@[expose] public section

noncomputable section

namespace Cert.Proof.Tiles

open Idealize.ShloMosaic Idealize.ShloMosaic.TcCoe

section
variable {n : Nat} (P : FVec Ideal ⟨3, ![16, 2048, n]⟩ .f32) {p : Fin 16 → Fin 2048 → Fin n → EReal} (o : Nat) (g : Vec Ideal V64 .f32)
  (c s : Vec Ideal W16x8x2048 .f32)

/-- Sixteen heads, scaled, as tiles. -/
def hostQ (Y : FVec Ideal W16x2048x16x64 .f32) : FVec Ideal W16x4x8x256x256 .bf16 :=
  let u : FVec Ideal W16x2048x16x64 .f32 := broadcastInDim W16x2048x16x64 ![] (by decide) (constant W0 .f32 0x3E38AA3B#32 : FVec Ideal W0 .f32)
  truncf .bf16 (hostTiles (shapeCast W16x2048x1024 (mulf Y u) (by decide))) (by decide)

theorem hostQ_apply (Y : FVec Ideal W16x2048x16x64 .f32) (b : Fin 16) (G : Fin 4) (i : Fin 8) (r t : Fin 256) :
    hostQ Y (ix5 b G i r t) = Y (ix4 b (tok' i t) ⟨(G.val * 256 + r.val) / 64, by omega⟩ ⟨(G.val * 256 + r.val) % 64, by omega⟩) * qs := by
  unfold hostQ
  pointwise [hostTiles_apply]
  rfl

theorem hostQ_eq (h) (ho : o + 1024 ≤ n) (hp : ∀ b T r, P (ix3 b T r) = p b T r) :
    hostQ (hostHeads16 (hostSlice16 P o h) g c s) = arrQ (fun b T => rows (p b T) o 1024 ho) g c s := by
  funext y
  obtain ⟨b, G, i, r, t, rfl⟩ : ∃ (b : Fin 16) (G : Fin 4) (i : Fin 8) (r t : Fin 256), y = (ix5 b G i r t : W16x4x8x256x256.Idx) := ⟨_, _, _, _, _, eq_ix5 y⟩
  have hr := r.isLt
  rw [hostQ_apply, hostHeads16_apply]
  refine congrArg (· * qs) (rope_congr (fun j => nrm_congr (fun j => ?_) (fun _ => rfl) j) (fun _ => rfl) (fun _ => rfl) ?_)
  · rw [hostSlice16_apply P o h ho, hp]
    refine congrArg (p b (tok' i t)) (Fin.ext ?_)
    show o + ((G.val * 256 + r.val) / 64 * 64 + j.val) = o + (256 * G.val + r.val / 64 * 64 + j.val)
    omega
  · show (G.val * 256 + r.val) % 64 = r.val % 64
    omega

/-- Four heads with a one beside them, as chunks. -/
theorem hostK_eq (h) (ho : o + 256 ≤ n) (hp : ∀ b T r, P (ix3 b T r) = p b T r) (hb : FTy.bf16.bits < FTy.f32.bits) :
    (truncf .bf16 (hostChunks80 (hostOnes (hostHeads4 (hostSlice4 P o h) g c s))) hb : FVec Ideal W16x4x8x256x80 .bf16)
      = arrK (fun b T => rows (p b T) o 256 ho) g c s (fun _ a => if a.val = 0 then 1 else 0) := by
  funext y
  obtain ⟨b, G, i, t, a, rfl⟩ : ∃ (b : Fin 16) (G : Fin 4) (i : Fin 8) (t : Fin 256) (a : Fin 80), y = (ix5 b G i t a : W16x4x8x256x80.Idx) := ⟨_, _, _, _, _, eq_ix5 y⟩
  have ha := a.isLt
  refine (hostChunks80_apply (hostOnes (hostHeads4 (hostSlice4 P o h) g c s)) b G i t a).trans ?_
  rw [hostOnes_apply]
  show _ = tokK (fun b T => rows (p b T) o 256 ho) g c s (fun _ a => if a.val = 0 then 1 else 0) b (tok' i t) G a
  unfold tokK kAt
  split
  · rw [hostHeads4_apply]
    refine rope_congr (fun j => nrm_congr (fun j => ?_) (fun _ => rfl) j) (fun _ => rfl) (fun _ => rfl) rfl
    rw [hostSlice4_apply P o h ho, hp]
    refine congrArg (p b (tok' i t)) (Fin.ext ?_)
    show o + (G.val * 64 + j.val) = o + (64 * G.val + j.val)
    omega
  · exact if_congr (by show a.val = 64 ↔ a.val - 64 = 0; omega) rfl rfl

/-- Their block means. -/
theorem hostM_eq (h) (ho : o + 256 ≤ n) (hp : ∀ b T r, P (ix3 b T r) = p b T r) (z : FVec Ideal W0 .f32) (hz : ∀ i, z i = 0) :
    hostMeans (hostHeads4 (hostSlice4 P o h) g c s) z = arrM (fun b T => rows (p b T) o 256 ho) g c s := by
  funext y
  obtain ⟨b, S, r, l, rfl⟩ : ∃ (b : Fin 16) (S : Fin 4) (r : Fin 256) (l : Fin 128), y = (ix4 b S r l : W16x4x256x128.Idx) := ⟨_, _, _, _, eq_ix4 y⟩
  have hr := r.isLt
  rw [hostMeans_apply _ z hz]
  show _ = kmAt _ _ _ _ r l
  unfold kmAt
  split
  · refine congrArg (Ideal.div · c256) (Finset.sum_congr rfl fun t _ => ?_)
    rw [hostHeads4_apply]
    refine rope_congr (fun j => nrm_congr (fun j => ?_) (fun _ => rfl) j) (fun _ => rfl) (fun _ => rfl) rfl
    rw [hostSlice4_apply P o h ho, hp]
    refine congrArg (p b _) (Fin.ext ?_)
    show o + (r.val / 64 * 64 + j.val) = o + (r.val / 64 * 64 + j.val)
    rfl
  · rfl

/-- Four plain heads with a one below them, as tiles. -/
theorem hostV_eq (h) (ho : o + 256 ≤ n) (hp : ∀ b T r, P (ix3 b T r) = p b T r) (hb : FTy.bf16.bits < FTy.f32.bits) :
    (truncf .bf16 (hostTiles80 (hostOnes (hostSlice4 P o h))) hb : FVec Ideal W16x4x8x80x256 .bf16) = arrV (fun b T => rows (p b T) o 256 ho) := by
  funext y
  obtain ⟨b, G, i, a, t, rfl⟩ : ∃ (b : Fin 16) (G : Fin 4) (i : Fin 8) (a : Fin 80) (t : Fin 256), y = (ix5 b G i a t : W16x4x8x80x256.Idx) := ⟨_, _, _, _, _, eq_ix5 y⟩
  refine (hostTiles80_apply (hostOnes (hostSlice4 P o h)) b G i a t).trans ?_
  rw [hostOnes_apply]
  show _ = tokV (fun b T => rows (p b T) o 256 ho) b (tok' i t) G a
  unfold tokV vAt
  split
  · rw [hostSlice4_apply P o h ho, hp]
    refine congrArg (p b (tok' i t)) (Fin.ext ?_)
    show o + (G.val * 64 + a.val) = o + (64 * G.val + a.val)
    omega
  · rfl

/-- The gate branch, as tiles. -/
theorem hostZ_eq (h) (ho : o + 1024 ≤ n) (hp : ∀ b T r, P (ix3 b T r) = p b T r) :
    hostTiles (hostSilu P o h) = arrZ (fun b T => rows (p b T) o 1024 ho) := by
  funext y
  obtain ⟨b, G, i, r, t, rfl⟩ : ∃ (b : Fin 16) (G : Fin 4) (i : Fin 8) (r t : Fin 256), y = (ix5 b G i r t : W16x4x8x256x256.Idx) := ⟨_, _, _, _, _, eq_ix5 y⟩
  rw [hostTiles_apply, hostSilu_apply P o h ho, hp]
  have e : (⟨o + (G.val * 256 + r.val), by omega⟩ : Fin n) = ⟨o + (256 * G.val + r.val), by omega⟩ := Fin.ext (by show o + (G.val * 256 + r.val) = o + (256 * G.val + r.val); omega)
  show p b (tok' i t) ⟨o + (G.val * 256 + r.val), _⟩ * Ideal.logistic (p b (tok' i t) ⟨o + (G.val * 256 + r.val), _⟩) = _
  rw [e]
  rfl

/-- The residual stream, feature-major. -/
theorem hostX_eq (oz : Vec Ideal W16x4x8x256x256 .bf16) (w : Vec Ideal V1024x1024 .f32) (g : Vec Ideal W16x1024x1 .f32) (x : Vec Ideal W16x1024x2048 .f32)
    (h : W16x2048x1024.Transposes [0, 2, 1] W16x1024x2048) :
    (transpose W16x1024x2048 [0, 2, 1] (hostX oz w g x) h : FVec Ideal W16x1024x2048 .f32) = arrX (tokX oz w g x) := by
  funext y
  obtain ⟨b, d, T, rfl⟩ : ∃ (b : Fin 16) (d : Fin 1024) (T : Fin 2048), y = (ix3 b d T : W16x1024x2048.Idx) := ⟨_, _, _, eq_ix3 y⟩
  pointwise [hostX_apply]
  rfl

/-- The normed stream over the residual stream. -/
theorem hostH_eq (oz : Vec Ideal W16x4x8x256x256 .bf16) (w : Vec Ideal V1024x1024 .f32) (g' : Vec Ideal W16x1024x1 .f32) (x : Vec Ideal W16x1024x2048 .f32)
    (ng : Vec Ideal W1024 .f32) (sc sh : Vec Ideal W16x1024x1 .f32) (b : Fin 16) (T : Fin 2048) (d : Fin 1024) :
    hostH (hostX oz w g' x) ng sc sh (ix3 b T d) = tokH (tokX oz w g' x) ng sc sh b T d := by
  rw [hostH_apply]
  exact congrArg (fun X => tokH X ng sc sh b T d) (funext fun b => funext fun T => funext fun d => hostX_apply oz w g' x b T d)

end

end Cert.Proof.Tiles

end
-- ==== Proof.MobaRef.lean ====
/-
  Hand-written. THE INPUT PROJECTION'S VALUE, THE REFERENCE: its six results are the arrays that the kernel's are, and with
  that the claims about the two programs.
-/
module

public import proofs.«01_k».proof.Defs
public import proofs.«01_k».proof.Proof.MobaValue
public import proofs.«01_k».proof.Proof.RefTokens
public import proofs.«01_k».proof.Proof.Gen.MobaIn.Frame
public import proofs.«01_k».proof.Proof.Gen.MobaInRefIdeal.Run
public import proofs.«01_k».proof.Proof.Gen.MobaInRefIdeal.Read
public import Idealize.ShloMosaic.Lib.Quiescent

@[expose] public section

noncomputable section

namespace Cert.Proof.MobaIn

open Idealize.ShloMosaic Idealize.ShloMosaic.TcCoe Idealize.SL.Sem
open Cert.MobaInIdeal Cert.MobaInIdeal.Gen Cert.Proof.Tiles

section
open Cert.MobaInRefIdeal.Read

variable (x0 : Vec Ideal W16x4x8x256x256 .bf16) (x1 : Vec Ideal V1024x1024 .f32) (x2 : Vec Ideal W16x1024x1 .f32) (x3 : Vec Ideal W16x1024x2048 .f32)
  (x4 : Vec Ideal W1024 .f32) (x5 x6 : Vec Ideal W16x1024x1 .f32) (x7 : Vec Ideal S1024x2560 .f32) (x8 x9 : Vec Ideal V64 .f32) (x10 x11 : Vec Ideal W16x8x2048 .f32)

theorem v31_ix (b : Fin 16) (T : Fin 2048) (d : Fin 1024) :
    val_main_v31 (F := Ideal) x0 x1 x2 x3 x4 x5 x6 (ix3 b T d) = tokH (X x0 x1 x2 x3) x4 x5 x6 b T d :=
  hostH_eq x0 x1 x2 x3 x4 x5 x6 b T d

theorem v32_ix (b : Fin 16) (T : Fin 2048) (r : Fin 2560) :
    val_main_v32 (F := Ideal) x0 x1 x2 x3 x4 x5 x6 x7 (ix3 b T r) = PP x0 x1 x2 x3 x4 x5 x6 x7 b T r := by
  unfold val_main_v32
  pointwise [v31_ix]
  exact Finset.sum_congr rfl fun f _ => mul_comm _ _

theorem reference_q : val_main_v116 (F := Ideal) x0 x1 x2 x3 x4 x5 x6 x7 x8 x10 x11
    = arrQ (fun b T => rows (PP x0 x1 x2 x3 x4 x5 x6 x7 b T) 0 1024 (by decide)) x8 x10 x11 :=
  hostQ_eq (val_main_v32 (F := Ideal) x0 x1 x2 x3 x4 x5 x6 x7) 0 x8 x10 x11 (by decide) (by decide) (v32_ix x0 x1 x2 x3 x4 x5 x6 x7)

theorem reference_k : val_main_v117 (F := Ideal) x0 x1 x2 x3 x4 x5 x6 x7 x9 x10 x11
    = arrK (fun b T => rows (PP x0 x1 x2 x3 x4 x5 x6 x7 b T) 1024 256 (by decide)) x9 x10 x11 (fun _ a => if a.val = 0 then 1 else 0) :=
  hostK_eq (val_main_v32 (F := Ideal) x0 x1 x2 x3 x4 x5 x6 x7) 1024 x9 x10 x11 (by decide) (by decide) (v32_ix x0 x1 x2 x3 x4 x5 x6 x7) (by decide)

theorem pad_zero (i : W0.Idx) : (val_main_call0_v0 (F := Ideal)) i = 0 := by
  show ((((0#32 : BitVec 32).toInt : ℝ)) : EReal) = 0
  norm_num

theorem reference_km : val_main_v105 (F := Ideal) x0 x1 x2 x3 x4 x5 x6 x7 x9 x10 x11
    = arrM (fun b T => rows (PP x0 x1 x2 x3 x4 x5 x6 x7 b T) 1024 256 (by decide)) x9 x10 x11 :=
  hostM_eq (val_main_v32 (F := Ideal) x0 x1 x2 x3 x4 x5 x6 x7) 1024 x9 x10 x11 (by decide) (by decide) (v32_ix x0 x1 x2 x3 x4 x5 x6 x7)
    (val_main_call0_v0 (F := Ideal)) pad_zero

theorem reference_v : val_main_v121 (F := Ideal) x0 x1 x2 x3 x4 x5 x6 x7
    = arrV (fun b T => rows (PP x0 x1 x2 x3 x4 x5 x6 x7 b T) 1280 256 (by decide)) :=
  hostV_eq (val_main_v32 (F := Ideal) x0 x1 x2 x3 x4 x5 x6 x7) 1280 (by decide) (by decide) (v32_ix x0 x1 x2 x3 x4 x5 x6 x7) (by decide)

theorem reference_z : val_main_v130 (F := Ideal) x0 x1 x2 x3 x4 x5 x6 x7
    = arrZ (fun b T => rows (PP x0 x1 x2 x3 x4 x5 x6 x7 b T) 1536 1024 (by decide)) :=
  hostZ_eq (val_main_v32 (F := Ideal) x0 x1 x2 x3 x4 x5 x6 x7) 1536 (by decide) (by decide) (v32_ix x0 x1 x2 x3 x4 x5 x6 x7)

theorem reference_x : val_main_v131 (F := Ideal) x0 x1 x2 x3 = arrX (X x0 x1 x2 x3) :=
  hostX_eq x0 x1 x2 x3 (by decide)

end

/-- The reference's frame: its run ends with the arguments unchanged, and it has no counters. -/
theorem frame_reference : Cert.quiescent_MobaInRefIdeal := fun m ρ _ =>
  (θ_run Cert.MobaInRefIdeal.defs _ _).mono (fun r h => ⟨fun c => (h c).2.2.2.2.2.2, sem_eq_zero_of_no_sems (by decide) r.2⟩)
    (Cert.MobaInRefIdeal.Value.run (F := Ideal) m ρ)

/-- The kernel's values are the reference's. -/
theorem algebraic : Cert.algebraic_MobaInIdeal_MobaInRefIdeal := by
  intro m ρ m' ρ' _ hagree
  refine ⟨fun c => arrQ (rowsOf m c 0 1024 (by decide)) (A8 m c) (A10 m c) (A11 m c),
    fun c => arrK (rowsOf m c 1024 256 (by decide)) (A9 m c) (A10 m c) (A11 m c) (fun _ a => if a.val = 0 then 1 else 0),
    fun c => arrM (rowsOf m c 1024 256 (by decide)) (A9 m c) (A10 m c) (A11 m c),
    fun c => arrV (rowsOf m c 1280 256 (by decide)),
    fun c => arrZ (rowsOf m c 1536 1024 (by decide)),
    fun c => arrX (X (A0 m c) (A1 m c) (A2 m c) (A3 m c)), ?_, ?_⟩
  · exact (θ_run Cert.MobaInIdeal.defs _ _).mono (fun _ h c => ⟨(h c).1.trans (kernel_q m c), (h c).2.1.trans (kernel_k m c),
      (h c).2.2.1.trans (kernel_km m c), (h c).2.2.2.1.trans (kernel_v m c), (h c).2.2.2.2.1.trans (kernel_z m c),
      (h c).2.2.2.2.2.1.trans (kernel_x m c), (h c).2.2.2.2.2.2⟩) (Value.run_blocks m ρ)
  · refine (θ_run Cert.MobaInRefIdeal.defs _ _).mono (fun _ h c => ?_) (Cert.MobaInRefIdeal.Value.run (F := Ideal) m' ρ')
    obtain ⟨a0, a1, a2, a3, a4, a5, a6, a7, a8, a9, a10, a11⟩ := hagree c
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩
    · refine ((Cert.MobaInRefIdeal.Read.val_main_v116_eq m' c).trans ?_)
      rw [a0, a1, a2, a3, a4, a5, a6, a7, a8, a10, a11]
      exact reference_q _ _ _ _ _ _ _ _ _ _ _
    · refine ((Cert.MobaInRefIdeal.Read.val_main_v117_eq m' c).trans ?_)
      rw [a0, a1, a2, a3, a4, a5, a6, a7, a9, a10, a11]
      exact reference_k _ _ _ _ _ _ _ _ _ _ _
    · refine ((Cert.MobaInRefIdeal.Read.val_main_v105_eq m' c).trans ?_)
      rw [a0, a1, a2, a3, a4, a5, a6, a7, a9, a10, a11]
      exact reference_km _ _ _ _ _ _ _ _ _ _ _
    · refine ((Cert.MobaInRefIdeal.Read.val_main_v121_eq m' c).trans ?_)
      rw [a0, a1, a2, a3, a4, a5, a6, a7]
      exact reference_v _ _ _ _ _ _ _ _
    · refine ((Cert.MobaInRefIdeal.Read.val_main_v130_eq m' c).trans ?_)
      rw [a0, a1, a2, a3, a4, a5, a6, a7]
      exact reference_z _ _ _ _ _ _ _ _
    · rw [a0, a1, a2, a3]
      exact (Cert.MobaInRefIdeal.Read.val_main_v131_eq _ _ _ _).trans (reference_x _ _ _ _)

end Cert.Proof.MobaIn

end
-- ==== Proof.NsaTiles.lean ====
/-
  Hand-written. THE NSA INPUT PROJECTION'S OWN TILES: what the NSA call stores beside the tiles that it shares with the
  MoBA call — the window keys without extra columns, the plain heads token by token, and the gates.
-/
module

public import proofs.«01_k».proof.Proof.Pieces

@[expose] public section

noncomputable section

namespace Cert.Proof.Tiles

open Idealize.ShloMosaic Idealize.ShloMosaic.TcCoe

abbrev V256x64 : Shape := ⟨2, ![256, 64]⟩
abbrev B256x64 : Shape := ⟨5, ![1, 1, 1, 256, 64]⟩
abbrev V16x512 : Shape := ⟨2, ![16, 512]⟩
abbrev B16x256 : Shape := ⟨5, ![1, 1, 1, 16, 256]⟩
abbrev V1x4x2x256x64 : Shape := ⟨5, ![1, 4, 2, 256, 64]⟩
abbrev V1x4x2x16x256 : Shape := ⟨5, ![1, 4, 2, 16, 256]⟩

/-! ## The functions of one token -/

/-- A window-key head of one token. -/
def wAt (p : Fin 256 → EReal) (g : Fin 64 → EReal) (c s : Fin 8 → EReal) (G : Fin 4) (a : Fin 64) : EReal :=
  rope (nrm (fun j => p ⟨64 * G.val + j.val, by omega⟩) g) c s a

/-- A plain head of one token. -/
def cAt (p : Fin 256 → EReal) (G : Fin 4) (a : Fin 64) : EReal := p ⟨64 * G.val + a.val, by omega⟩

/-- The gates of one token: sixteen to a group. -/
def gAt (p bias : Fin 64 → EReal) (G : Fin 4) (r : Fin 16) : EReal :=
  Ideal.logistic (p ⟨16 * G.val + r.val, by omega⟩ + bias ⟨16 * G.val + r.val, by omega⟩)

/-! ## The tiles -/

/-- A tile of the window keys: a head of a projected block at the 256 tokens from `L` on, token by token. -/
def chunkTile (Y : FVec Ideal V256x512 .f32) (R : Nat) (hR : V256x512.Slices ![R, 0] V64x512) (L : Nat) (hL : V64x512.Slices ![0, L] V64x256)
    (g : Vec Ideal V64x1 .f32) (c s : FVec Ideal V8x512 .f32) : FVec Ideal B256x64 .bf16 :=
  let k : FVec Ideal V64x256 .f32 := extractStridedSlice V64x256 ![0, L] (head Y R hR g c s) hL
  let w : FVec Ideal V256x64 .f32 := transpose V256x64 [1, 0] k (by decide)
  shapeCast B256x64 (truncf .bf16 w (by decide) : FVec Ideal V256x64 .bf16) (by decide)

theorem chunkTile_apply (Y : FVec Ideal V256x512 .f32) (R : Nat) (hR) (h : R + 64 ≤ 256) (L : Nat) (hL) (h' : L + 256 ≤ 512) (g : Vec Ideal V64x1 .f32)
    (c s : FVec Ideal V8x512 .f32) (o o' o'' : Fin 1) (t : Fin 256) (a : Fin 64) :
    chunkTile Y R hR L hL g c s (ix5 o o' o'' t a)
      = rope (nrm (fun j => Y (ix2 ⟨R + j.val, by omega⟩ ⟨L + t.val, by omega⟩)) (fun j => g (ix2 j 0)))
          (fun k => c (ix2 k ⟨L + t.val, by omega⟩)) (fun k => s (ix2 k ⟨L + t.val, by omega⟩)) a := by
  unfold chunkTile
  pointwise [head_apply Y R hR h]

/-- A tile of a plain head: sixty-four rows of a projected block from `R` on, at the 256 tokens from `L` on, token by token. -/
def rawTile (Y : FVec Ideal V256x512 .f32) (R L : Nat) (hRL : V256x512.Slices ![R, L] V64x256) : FVec Ideal B256x64 .f32 :=
  let k : FVec Ideal V64x256 .f32 := extractStridedSlice V64x256 ![R, L] Y hRL
  shapeCast B256x64 (transpose V256x64 [1, 0] k (by decide) : FVec Ideal V256x64 .f32) (by decide)

theorem rawTile_apply (Y : FVec Ideal V256x512 .f32) (R L : Nat) (hRL) (h : R + 64 ≤ 256) (h' : L + 256 ≤ 512) (o o' o'' : Fin 1) (t : Fin 256) (a : Fin 64) :
    rawTile Y R L hRL (ix5 o o' o'' t a) = Y (ix2 ⟨R + a.val, by omega⟩ ⟨L + t.val, by omega⟩) := by
  unfold rawTile
  pointwise

def dot64 : DotDims V64x1024 V1024x512 V64x512 where
  lhsContracting := [1]
  rhsContracting := [0]
  lhsNonContracting := [0]
  rhsNonContracting := [1]
  lhsBatch := []
  rhsBatch := []
  wf := by decide

/-- The 64 rows of gates over a normed block. -/
def gates (h : FVec Ideal V1024x512 .bf16) (w : Vec Ideal V64x1024 .bf16) (bias : Vec Ideal V64x1 .f32) : FVec Ideal V64x512 .f32 :=
  let p : FVec Ideal V64x512 .f32 := matmul dot64 none (shapeCast V64x1024 w (by decide) : FVec Ideal V64x1024 .bf16) h (constant V64x512 .f32 0x00000000#32)
  logistic (addf p (broadcastTo V64x512 (shapeCast V64x1 bias (by decide) : FVec Ideal V64x1 .f32) (by decide)))

theorem gates_apply (h : FVec Ideal V1024x512 .bf16) (w : Vec Ideal V64x1024 .bf16) (bias : Vec Ideal V64x1 .f32) (a : Fin 64) (t : Fin 512) :
    gates h w bias (ix2 a t) = Ideal.logistic ((∑ d, w (ix2 a d) * h (ix2 d t)) + bias (ix2 a 0)) := by
  pointwise [gates, dot64]

/-- A tile of the gates: sixteen rows from `R` on, at the 256 tokens from `L` on. -/
def gateTile (Z : FVec Ideal V64x512 .f32) (R : Nat) (hR : V64x512.Slices ![R, 0] V16x512) (L : Nat) (hL : V16x512.Slices ![0, L] V16x256) :
    FVec Ideal B16x256 .f32 :=
  let z : FVec Ideal V16x512 .f32 := extractStridedSlice V16x512 ![R, 0] Z hR
  shapeCast B16x256 (extractStridedSlice V16x256 ![0, L] z hL : FVec Ideal V16x256 .f32) (by decide)

theorem gateTile_apply (Z : FVec Ideal V64x512 .f32) (R : Nat) (hR) (h : R + 16 ≤ 64) (L : Nat) (hL) (h' : L + 256 ≤ 512) (o o' o'' : Fin 1) (a : Fin 16) (t : Fin 256) :
    gateTile Z R hR L hL (ix5 o o' o'' a t) = Z (ix2 ⟨R + a.val, by omega⟩ ⟨L + t.val, by omega⟩) := by
  unfold gateTile
  pointwise

/-! ## The pieces -/

section
variable {sig : RefSig} {κ : Kind} {sp : Space} {n : Nat} {m7 : Memref sig κ sp ⟨2, ![n, 1024]⟩ .bf16} {m11 : Memref sig κ sp V64x1 .f32}

theorem gate_block (h7 : m7.IsWhole) (h11 : m11.IsWhole) (x7 : Vec Ideal ⟨2, ![n, 1024]⟩ .bf16) (x11 : Vec Ideal V64x1 .f32) (h : FVec Ideal V1024x512 .bf16)
    (H : Fin 512 → Fin 1024 → EReal) (hH : ∀ d t, h (ix2 d t) = H t d) (R : Nat)
    (i7 : ∀ a, (![R, 0] : Fin 2 → Nat) a + V64x1024.size a ≤ (⟨2, ![n, 1024]⟩ : Shape).size a)
    (i11 : ∀ a, (![0, 0] : Fin 2 → Nat) a + V64x1.size a ≤ V64x1.size a) (hR : R + 64 ≤ n) (a : Fin 64) (t : Fin 512) :
    gates h (View.readAt (Elt Ideal) m7.view (Rect.unit (s := ⟨2, ![n, 1024]⟩) ![R, 0] V64x1024.size i7).toLoadRect (h7.unread x7))
        (View.readAt (Elt Ideal) m11.view (Rect.unit (s := V64x1) ![0, 0] V64x1.size i11).toLoadRect (h11.unread x11)) (ix2 a t)
      = Ideal.logistic (rows (pAt x7 H t) R 64 hR a + x11 (ix2 a 0)) := by
  rw [gates_apply]
  simp only [load2 h7 x7 R 0 _ _ _ hR (show 0 + 1024 ≤ 1024 by omega), load2 h11 x11 0 0 _ _ _ (show 0 + 64 ≤ 64 by omega) (show 0 + 1 ≤ 1 by omega), hH, Nat.zero_add]
  rfl

end

theorem chunk_piece (P : Fin 512 → Fin 256 → EReal) (gg : Fin 64 → EReal) (cc ss : Fin 512 → Fin 8 → EReal) (G : Fin 4) (S R L : Nat)
    (hS : S < 2) (hL' : L = 256 * S) (hR' : R = 64 * G.val) (io : ∀ a, (![0, G.val, S, 0, 0] : Fin 5 → Nat) a + B256x64.size a ≤ V1x4x2x256x64.size a)
    (Y : FVec Ideal V256x512 .f32) (hR : V256x512.Slices ![R, 0] V64x512) (hL : V64x512.Slices ![0, L] V64x256)
    (g : Vec Ideal V64x1 .f32) (c s : FVec Ideal V8x512 .f32)
    (hY : ∀ a t, Y (ix2 a t) = P t a) (hg : ∀ j, g (ix2 j 0) = gg j) (hc : ∀ k t, c (ix2 k t) = cc t k) (hs : ∀ k t, s (ix2 k t) = ss t k)
    (z : B256x64.Idx) :
    chunkTile Y R hR L hL g c s z
      = (fun y : V1x4x2x256x64.Idx =>
          let t : Fin 512 := ⟨256 * (y 2).val + (y 3).val, by have := (y 2).isLt; have := (y 3).isLt; simp at *; omega⟩
          wAt (P t) gg (cc t) (ss t) (y 1) (y 4)) ((Rect.unit (s := V1x4x2x256x64) ![0, G.val, S, 0, 0] B256x64.size io).emb z) := by
  subst hL'
  obtain ⟨o, o', o'', b, a, rfl⟩ : ∃ o o' o'' b a, z = ix5 o o' o'' b a := ⟨_, _, _, _, _, eq_ix5 z⟩
  have ha := a.isLt
  have hb := b.isLt
  rw [chunkTile_apply _ _ _ (by omega) _ _ (by omega)]
  simp only [hY, hg, hc, hs]
  have e1 : (((Rect.unit (s := V1x4x2x256x64) ![0, G.val, S, 0, 0] B256x64.size io).emb (ix5 o o' o'' b a)) 1).val = G.val := by
    show G.val + 1 * o'.val = _; omega
  have e2 : (((Rect.unit (s := V1x4x2x256x64) ![0, G.val, S, 0, 0] B256x64.size io).emb (ix5 o o' o'' b a)) 2).val = S := by
    show S + 1 * o''.val = _; omega
  have e3 : (((Rect.unit (s := V1x4x2x256x64) ![0, G.val, S, 0, 0] B256x64.size io).emb (ix5 o o' o'' b a)) 3).val = b.val := by
    show 0 + 1 * b.val = _; omega
  have e4 : (((Rect.unit (s := V1x4x2x256x64) ![0, G.val, S, 0, 0] B256x64.size io).emb (ix5 o o' o'' b a)) 4).val = a.val := by
    show 0 + 1 * a.val = _; omega
  generalize (Rect.unit (s := V1x4x2x256x64) ![0, G.val, S, 0, 0] B256x64.size io).emb (ix5 o o' o'' b a) = y at e1 e2 e3 e4
  have et : ∀ h h', (⟨256 * S + b.val, h⟩ : Fin 512) = ⟨256 * (y 2).val + (y 3).val, h'⟩ := fun _ _ => Fin.ext (by simp only [e2, e3])
  dsimp only [wAt]
  refine rope_congr (fun i => nrm_congr (fun j => ?_) (fun _ => rfl) i) (fun k => ?_) (fun k => ?_) ?_
  · exact congr (congrArg P (et _ _)) (Fin.ext (show R + j.val = 64 * (y 1).val + j.val by omega))
  · exact congrFun (congrArg cc (et _ _)) k
  · exact congrFun (congrArg ss (et _ _)) k
  · exact e4.symm

theorem raw_piece (P : Fin 512 → Fin 256 → EReal) (G : Fin 4) (S R L : Nat)
    (hS : S < 2) (hL' : L = 256 * S) (hR' : R = 64 * G.val) (io : ∀ a, (![0, G.val, S, 0, 0] : Fin 5 → Nat) a + B256x64.size a ≤ V1x4x2x256x64.size a)
    (Y : FVec Ideal V256x512 .f32) (hRL : V256x512.Slices ![R, L] V64x256) (hY : ∀ a t, Y (ix2 a t) = P t a) (z : B256x64.Idx) :
    rawTile Y R L hRL z
      = (fun y : V1x4x2x256x64.Idx =>
          let t : Fin 512 := ⟨256 * (y 2).val + (y 3).val, by have := (y 2).isLt; have := (y 3).isLt; simp at *; omega⟩
          cAt (P t) (y 1) (y 4)) ((Rect.unit (s := V1x4x2x256x64) ![0, G.val, S, 0, 0] B256x64.size io).emb z) := by
  subst hL'
  obtain ⟨o, o', o'', b, a, rfl⟩ : ∃ o o' o'' b a, z = ix5 o o' o'' b a := ⟨_, _, _, _, _, eq_ix5 z⟩
  have ha := a.isLt
  have hb := b.isLt
  rw [rawTile_apply _ _ _ _ (by omega) (by omega), hY]
  have e1 : (((Rect.unit (s := V1x4x2x256x64) ![0, G.val, S, 0, 0] B256x64.size io).emb (ix5 o o' o'' b a)) 1).val = G.val := by
    show G.val + 1 * o'.val = _; omega
  have e2 : (((Rect.unit (s := V1x4x2x256x64) ![0, G.val, S, 0, 0] B256x64.size io).emb (ix5 o o' o'' b a)) 2).val = S := by
    show S + 1 * o''.val = _; omega
  have e3 : (((Rect.unit (s := V1x4x2x256x64) ![0, G.val, S, 0, 0] B256x64.size io).emb (ix5 o o' o'' b a)) 3).val = b.val := by
    show 0 + 1 * b.val = _; omega
  have e4 : (((Rect.unit (s := V1x4x2x256x64) ![0, G.val, S, 0, 0] B256x64.size io).emb (ix5 o o' o'' b a)) 4).val = a.val := by
    show 0 + 1 * a.val = _; omega
  generalize (Rect.unit (s := V1x4x2x256x64) ![0, G.val, S, 0, 0] B256x64.size io).emb (ix5 o o' o'' b a) = y at e1 e2 e3 e4
  have et : ∀ h h', (⟨256 * S + b.val, h⟩ : Fin 512) = ⟨256 * (y 2).val + (y 3).val, h'⟩ := fun _ _ => Fin.ext (by simp only [e2, e3])
  dsimp only [cAt]
  exact congr (congrArg P (et _ _)) (Fin.ext (show R + a.val = 64 * (y 1).val + (y 4).val by omega))

theorem gate_piece (F : Fin 512 → Fin 4 → Fin 16 → EReal) (G : Fin 4) (S R L : Nat)
    (hS : S < 2) (hL' : L = 256 * S) (hR' : R = 16 * G.val) (io : ∀ a, (![0, G.val, S, 0, 0] : Fin 5 → Nat) a + B16x256.size a ≤ V1x4x2x16x256.size a)
    (Z : FVec Ideal V64x512 .f32) (hR : V64x512.Slices ![R, 0] V16x512) (hL : V16x512.Slices ![0, L] V16x256)
    (hZ : ∀ (a : Fin 16) t, Z (ix2 ⟨R + a.val, by omega⟩ t) = F t G a) (z : B16x256.Idx) :
    gateTile Z R hR L hL z
      = (fun y : V1x4x2x16x256.Idx =>
          let t : Fin 512 := ⟨256 * (y 2).val + (y 4).val, by have := (y 2).isLt; have := (y 4).isLt; simp at *; omega⟩
          F t (y 1) (y 3)) ((Rect.unit (s := V1x4x2x16x256) ![0, G.val, S, 0, 0] B16x256.size io).emb z) := by
  subst hL'
  obtain ⟨o, o', o'', a, b, rfl⟩ : ∃ o o' o'' a b, z = ix5 o o' o'' a b := ⟨_, _, _, _, _, eq_ix5 z⟩
  have ha := a.isLt
  have hb := b.isLt
  rw [gateTile_apply _ _ _ (by omega) _ _ (by omega), hZ]
  have e1 : (((Rect.unit (s := V1x4x2x16x256) ![0, G.val, S, 0, 0] B16x256.size io).emb (ix5 o o' o'' a b)) 1).val = G.val := by
    show G.val + 1 * o'.val = _; omega
  have e2 : (((Rect.unit (s := V1x4x2x16x256) ![0, G.val, S, 0, 0] B16x256.size io).emb (ix5 o o' o'' a b)) 2).val = S := by
    show S + 1 * o''.val = _; omega
  have e3 : (((Rect.unit (s := V1x4x2x16x256) ![0, G.val, S, 0, 0] B16x256.size io).emb (ix5 o o' o'' a b)) 3).val = a.val := by
    show 0 + 1 * a.val = _; omega
  have e4 : (((Rect.unit (s := V1x4x2x16x256) ![0, G.val, S, 0, 0] B16x256.size io).emb (ix5 o o' o'' a b)) 4).val = b.val := by
    show 0 + 1 * b.val = _; omega
  generalize (Rect.unit (s := V1x4x2x16x256) ![0, G.val, S, 0, 0] B16x256.size io).emb (ix5 o o' o'' a b) = y at e1 e2 e3 e4
  have e1' : y 1 = G := Fin.ext e1
  have e3' : y 3 = a := Fin.ext e3
  dsimp only
  rw [e1', e3']
  exact congrFun (congrFun (congrArg F (Fin.ext (by simp only [e2, e4]))) _) _

end Cert.Proof.Tiles

end
-- ==== Proof.NsaBlock.lean ====
/-
  Hand-written. THE NSA INPUT PROJECTION, ONE BLOCK: what the body of the call leaves in its ten output blocks, each as
  one formula in the fourteen input blocks. The body stores tile by tile; every tile is one of the pieces in Pieces.lean
  and NsaTiles.lean.
-/
module

public import proofs.«01_k».proof.Proof.Gen.NsaInIdeal.Value
public import proofs.«01_k».proof.Proof.NsaTiles
public import Idealize.ShloMosaic.Lib.Pipeline.Value
public import Idealize.ShloMosaic.Lib.Pointwise

@[expose] public section

noncomputable section

namespace Cert.Proof.NsaIn

open Idealize.ShloMosaic Idealize.ShloMosaic.TcCoe Idealize.SL.Sem
open Cert.NsaInIdeal Cert.NsaInIdeal.Gen Cert.Proof.Tiles

section Blocks
variable (c : Dev nD) (i : grid0.Coords)
  (arg2 : Memref sig .tc .vmem S1x4x2x256x256 .bf16) (harg2 : arg2.IsWhole)
  (arg3 : Memref sig .tc .vmem S1024x1024 .bf16) (harg3 : arg3.IsWhole)
  (arg4 : Memref sig .tc .vmem S1x1024x1 .f32) (harg4 : arg4.IsWhole)
  (arg5 : Memref sig .tc .vmem S1x1024x512 .f32) (harg5 : arg5.IsWhole)
  (arg6 : Memref sig .tc .vmem S1024x1 .f32) (harg6 : arg6.IsWhole)
  (arg7 : Memref sig .tc .vmem S1x1024x1 .f32) (harg7 : arg7.IsWhole)
  (arg8 : Memref sig .tc .vmem S1x1024x1 .f32) (harg8 : arg8.IsWhole)
  (arg9 : Memref sig .tc .vmem S3648x1024 .bf16) (harg9 : arg9.IsWhole)
  (arg10 : Memref sig .tc .vmem S64x1 .f32) (harg10 : arg10.IsWhole)
  (arg11 : Memref sig .tc .vmem S64x1 .f32) (harg11 : arg11.IsWhole)
  (arg12 : Memref sig .tc .vmem S64x1 .f32) (harg12 : arg12.IsWhole)
  (arg13 : Memref sig .tc .vmem S64x1 .f32) (harg13 : arg13.IsWhole)
  (arg14 : Memref sig .tc .vmem S1x8x512 .f32) (harg14 : arg14.IsWhole)
  (arg15 : Memref sig .tc .vmem S1x8x512 .f32) (harg15 : arg15.IsWhole)
  (arg16 : Memref sig .tc .vmem S1x4x2x256x256 .bf16) (harg16 : arg16.IsWhole)
  (arg17 : Memref sig .tc .vmem S1x4x2x256x80 .bf16) (harg17 : arg17.IsWhole)
  (arg18 : Memref sig .tc .vmem S1x4x2x256x64 .bf16) (harg18 : arg18.IsWhole)
  (arg19 : Memref sig .tc .vmem S1x4x2x256x64 .f32) (harg19 : arg19.IsWhole)
  (arg20 : Memref sig .tc .vmem S1x4x2x256x64 .f32) (harg20 : arg20.IsWhole)
  (arg21 : Memref sig .tc .vmem S1x4x2x80x256 .bf16) (harg21 : arg21.IsWhole)
  (arg22 : Memref sig .tc .vmem S1x4x2x80x256 .bf16) (harg22 : arg22.IsWhole)
  (arg23 : Memref sig .tc .vmem S1x4x2x16x256 .f32) (harg23 : arg23.IsWhole)
  (arg24 : Memref sig .tc .vmem S1x4x2x256x256 .f32) (harg24 : arg24.IsWhole)
  (arg25 : Memref sig .tc .vmem S1x1024x512 .f32) (harg25 : arg25.IsWhole)
  (x0 : Vec Ideal S1x4x2x256x256 .bf16) (x1 : Vec Ideal S1024x1024 .bf16) (x2 : Vec Ideal S1x1024x1 .f32) (x3 : Vec Ideal S1x1024x512 .f32) (x4 : Vec Ideal S1024x1 .f32) (x5 : Vec Ideal S1x1024x1 .f32) (x6 : Vec Ideal S1x1024x1 .f32) (x7 : Vec Ideal S3648x1024 .bf16) (x8 : Vec Ideal S64x1 .f32) (x9 : Vec Ideal S64x1 .f32) (x10 : Vec Ideal S64x1 .f32) (x11 : Vec Ideal S64x1 .f32) (x12 : Vec Ideal S1x8x512 .f32) (x13 : Vec Ideal S1x8x512 .f32)

/-- The input blocks' projected rows, token by token. -/
def P (x0 : Vec Ideal S1x4x2x256x256 .bf16) (x1 : Vec Ideal S1024x1024 .bf16) (x2 : Vec Ideal S1x1024x1 .f32) (x3 : Vec Ideal S1x1024x512 .f32)
    (x4 : Vec Ideal S1024x1 .f32) (x5 x6 : Vec Ideal S1x1024x1 .f32) (x7 : Vec Ideal S3648x1024 .bf16) : Fin 512 → Fin 3648 → EReal :=
  pAt x7 (hAt (xAt x0 x1 x2 x3) x4 x5 x6)

/-- The stores of the residual stream's block. -/
theorem pieces23 : ∀ p ∈ kernelRun0_A.sl.H23_8 (F := Ideal) c arg2 harg2 arg3 harg3 arg4 harg4 arg5 harg5 x0 x1 x2 x3,
    ∀ z : p.1.shape.Idx, p.2 z = (fun y : S1x1024x512.Idx => xAt x0 x1 x2 x3 (y 2) (y 1)) (p.1.emb z) := by
  dsimp only [kernelRun0_A.sl.H23_8]
  intro p hp
  simp only [List.mem_cons, List.not_mem_nil, or_false] at hp
  rcases hp with rfl | rfl | rfl | rfl | rfl | rfl | rfl | rfl
  · exact resid_piece harg2 harg3 harg4 harg5 x0 x1 x2 x3 768 256 1 (by omega) (by omega) rfl _ _ _ _ _ _ _ _ _ _ inb_S1x1024x512_S1x256x256_0_768_256
  · exact resid_piece harg2 harg3 harg4 harg5 x0 x1 x2 x3 512 256 1 (by omega) (by omega) rfl _ _ _ _ _ _ _ _ _ _ inb_S1x1024x512_S1x256x256_0_512_256
  · exact resid_piece harg2 harg3 harg4 harg5 x0 x1 x2 x3 256 256 1 (by omega) (by omega) rfl _ _ _ _ _ _ _ _ _ _ inb_S1x1024x512_S1x256x256_0_256_256
  · exact resid_piece harg2 harg3 harg4 harg5 x0 x1 x2 x3 0 256 1 (by omega) (by omega) rfl _ _ _ _ _ _ _ _ _ _ inb_S1x1024x512_S1x256x256_0_0_256
  · exact resid_piece harg2 harg3 harg4 harg5 x0 x1 x2 x3 768 0 0 (by omega) (by omega) rfl _ _ _ _ _ _ _ _ _ _ inb_S1x1024x512_S1x256x256_0_768_0
  · exact resid_piece harg2 harg3 harg4 harg5 x0 x1 x2 x3 512 0 0 (by omega) (by omega) rfl _ _ _ _ _ _ _ _ _ _ inb_S1x1024x512_S1x256x256_0_512_0
  · exact resid_piece harg2 harg3 harg4 harg5 x0 x1 x2 x3 256 0 0 (by omega) (by omega) rfl _ _ _ _ _ _ _ _ _ _ inb_S1x1024x512_S1x256x256_0_256_0
  · exact resid_piece harg2 harg3 harg4 harg5 x0 x1 x2 x3 0 0 0 (by omega) (by omega) rfl _ _ _ _ _ _ _ _ _ _ inb_S1x1024x512_S1x256x256_0_0_0

/-- The stores fill the block. -/
theorem cover23 (y : S1x1024x512.Idx) : ∃ pc ∈ kernelRun0_A.sl.H23_8 (F := Ideal) c arg2 harg2 arg3 harg3 arg4 harg4 arg5 harg5 x0 x1 x2 x3, y ∈ pc.1.set :=
  View.cover_of_tiledL (kernelRun0_A.sl.H23_8 (F := Ideal) c arg2 harg2 arg3 harg3 arg4 harg4 arg5 harg5 x0 x1 x2 x3) S1x256x256.size (by sl_kernel_rfl) y

/-- The residual stream's block as the stores leave it. -/
theorem canon23 (y : S1x1024x512.Idx) : View.canon (kernelRun0_A.sl.H23_8 (F := Ideal) c arg2 harg2 arg3 harg3 arg4 harg4 arg5 harg5 x0 x1 x2 x3) y = xAt x0 x1 x2 x3 (y 2) (y 1) :=
  View.canon_apply_of_pieces (Val := Elt Ideal) (e := .f32) (fun y : S1x1024x512.Idx => xAt x0 x1 x2 x3 (y 2) (y 1)) _ (pieces23 c arg2 harg2 arg3 harg3 arg4 harg4 arg5 harg5 x0 x1 x2 x3) y (cover23 c arg2 harg2 arg3 harg3 arg4 harg4 arg5 harg5 x0 x1 x2 x3 y)

/-- The residual stream's block. -/
theorem out23_apply (y : S1x1024x512.Idx) : out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = xAt x0 x1 x2 x3 (y 2) (y 1) := by
  unfold out0_A_23
  rw [View.read_writes_junk_eq_canon]
  exact canon23 c arg2 harg2 arg3 harg3 arg4 harg4 arg5 harg5 x0 x1 x2 x3 y

/-- The block the norm reads back. -/
theorem v264_apply (d : Fin 1024) (t : Fin 512) :
    kernelRun0_A.sl.v264 (F := Ideal) c arg2 harg2 arg3 harg3 arg4 harg4 arg5 harg5 arg25 x0 x1 x2 x3 (ix3 0 d t) = xAt x0 x1 x2 x3 t d := by
  unfold kernelRun0_A.sl.v264
  rw [View.readCov_eq_canon']
  refine (canon23 c arg2 harg2 arg3 harg3 arg4 harg4 arg5 harg5 x0 x1 x2 x3 _).trans ?_
  exact congr (congrArg _ (Fin.ext (show 0 + 1 * t.val = t.val by omega))) (Fin.ext (show 0 + 1 * d.val = d.val by omega))

/-- The normed block. -/
theorem r10_apply (d : Fin 1024) (t : Fin 512) :
    kernelRun0_A.sl.r_10 (F := Ideal) c arg2 harg2 arg3 harg3 arg4 harg4 arg5 harg5 arg6 harg6 arg7 harg7 arg8 harg8 arg25 x0 x1 x2 x3 x4 x5 x6 (ix2 d t) = hAt (xAt x0 x1 x2 x3) x4 x5 x6 t d :=
  norm_block harg6 harg7 harg8 x4 x5 x6 _ _ (fun d t => v264_apply c arg2 harg2 arg3 harg3 arg4 harg4 arg5 harg5 arg25 x0 x1 x2 x3 d t) _ _ _ d t

/-- The cosines, the sines, the norms' weights, as the body reads them. -/
theorem r11_apply (k : Fin 8) (t : Fin 512) : kernelRun0_A.sl.r_11 (F := Ideal) c arg14 harg14 x12 (ix2 k t) = x12 (ix3 0 k t) := by
  refine Eq.trans (b := View.readAt (Elt Ideal) arg14.view (Rect.unit (s := S1x8x512) ![0, 0, 0] S1x8x512.size inb_S1x8x512_S1x8x512_0_0_0).toLoadRect (harg14.unread x12) (ix3 0 k t)) ?_ ?_
  · unfold kernelRun0_A.sl.r_11
    pointwise [k0_pay25]
  · rw [load3 harg14 x12 0 0 _ _ _ _ (show 0 + 8 ≤ 8 by omega) (show 0 + 512 ≤ 512 by omega)]
    simp only [Nat.zero_add]

theorem r12_apply (k : Fin 8) (t : Fin 512) : kernelRun0_A.sl.r_12 (F := Ideal) c arg15 harg15 x13 (ix2 k t) = x13 (ix3 0 k t) :=
  r11_apply c arg15 harg15 x13 k t

theorem col_apply {m8 : Memref sig .tc .vmem S64x1 .f32} (h8 : m8.IsWhole) (x8 : Vec Ideal S64x1 .f32) (inb) (j : Fin 64) :
    View.readAt (Elt Ideal) m8.view (Rect.unit (s := S64x1) ![0, 0] S64x1.size inb).toLoadRect (h8.unread x8) (ix2 j 0) = x8 (ix2 j 0) := by
  rw [load2 h8 x8 0 0 _ _ _ (show 0 + 64 ≤ 64 by omega) (show 0 + 1 ≤ 1 by omega)]
  simp only [Nat.zero_add]

/-- 256 projected rows from `R` on, as the body computes them. -/
abbrev Y (R : Nat) (inb : ∀ a, (![R, 0] : Fin 2 → Nat) a + V256x1024.size a ≤ S3648x1024.size a) : FVec Ideal V256x512 .f32 :=
  proj (kernelRun0_A.sl.r_10 (F := Ideal) c arg2 harg2 arg3 harg3 arg4 harg4 arg5 harg5 arg6 harg6 arg7 harg7 arg8 harg8 arg25 x0 x1 x2 x3 x4 x5 x6) (View.readAt (Elt Ideal) arg9.view (Rect.unit (s := S3648x1024) ![R, 0] V256x1024.size inb).toLoadRect (harg9.unread x7))

theorem Y_apply (R : Nat) (hR : R + 256 ≤ 3648) (inb) (a : Fin 256) (t : Fin 512) :
    Y c arg2 harg2 arg3 harg3 arg4 harg4 arg5 harg5 arg6 harg6 arg7 harg7 arg8 harg8 arg9 harg9 arg25 x0 x1 x2 x3 x4 x5 x6 x7 R inb (ix2 a t) = rows (P x0 x1 x2 x3 x4 x5 x6 x7 t) R 256 hR a :=
  proj_block harg9 x7 _ _ (fun d t => r10_apply c arg2 harg2 arg3 harg3 arg4 harg4 arg5 harg5 arg6 harg6 arg7 harg7 arg8 harg8 arg25 x0 x1 x2 x3 x4 x5 x6 d t) R _ hR a t

theorem Y_rows (G : Fin 4) (R : Nat) (hR : R = 256 * G.val) (inb) (a : Fin 256) (t : Fin 512) :
    Y c arg2 harg2 arg3 harg3 arg4 harg4 arg5 harg5 arg6 harg6 arg7 harg7 arg8 harg8 arg9 harg9 arg25 x0 x1 x2 x3 x4 x5 x6 x7 R inb (ix2 a t) = rows (P x0 x1 x2 x3 x4 x5 x6 x7 t) 0 1024 (by omega) ⟨256 * G.val + a.val, by omega⟩ :=
  (Y_apply c arg2 harg2 arg3 harg3 arg4 harg4 arg5 harg5 arg6 harg6 arg7 harg7 arg8 harg8 arg9 harg9 arg25 x0 x1 x2 x3 x4 x5 x6 x7 R (by omega) inb a t).trans (congrArg (P x0 x1 x2 x3 x4 x5 x6 x7 t) (Fin.ext (show R + a.val = 0 + (256 * G.val + a.val) by omega)))

/-- The queries' block. -/
def Q : S1x4x2x256x256.Idx → EReal := fun y =>
  let t : Fin 512 := ⟨256 * (y 2).val + (y 4).val, by have := (y 2).isLt; have := (y 4).isLt; simp at *; omega⟩
  qAt (rows (P x0 x1 x2 x3 x4 x5 x6 x7 t) 0 1024 (by omega)) (fun j => x8 (ix2 j 0)) (fun k => x12 (ix3 0 k t)) (fun k => x13 (ix3 0 k t)) (y 1) (y 3)

/-- One stored tile of the queries. -/
theorem q_piece (G : Fin 4) (S R L : Nat) (hS : S < 2) (hL' : L = 256 * S) (hR' : R % 64 = 0) (hR'' : R + 64 ≤ 256) (io) (hR hL inb)
    (B : Nat) (hB : B = 256 * G.val) (inb') (z : B64x256.Idx) :
    queryTile (Y c arg2 harg2 arg3 harg3 arg4 harg4 arg5 harg5 arg6 harg6 arg7 harg7 arg8 harg8 arg9 harg9 arg25 x0 x1 x2 x3 x4 x5 x6 x7 B inb') R hR L hL (View.readAt (Elt Ideal) arg10.view (Rect.unit (s := S64x1) ![0, 0] S64x1.size inb).toLoadRect (harg10.unread x8))
        (kernelRun0_A.sl.r_11 c arg14 harg14 x12) (kernelRun0_A.sl.r_12 c arg15 harg15 x13) z
      = Q x0 x1 x2 x3 x4 x5 x6 x7 x8 x12 x13 ((Rect.unit (s := V1x4x2x256x256) ![0, G.val, S, R, 0] B64x256.size io).emb z) :=
  query_piece (fun t => rows (P x0 x1 x2 x3 x4 x5 x6 x7 t) 0 1024 (by omega)) (fun j => x8 (ix2 j 0)) (fun t k => x12 (ix3 0 k t)) (fun t k => x13 (ix3 0 k t)) G S R L
    hS hL' hR' hR'' io _ hR hL _ _ _ (Y_rows c arg2 harg2 arg3 harg3 arg4 harg4 arg5 harg5 arg6 harg6 arg7 harg7 arg8 harg8 arg9 harg9 arg25 x0 x1 x2 x3 x4 x5 x6 x7 G B hB inb') (fun j => col_apply harg10 x8 _ j) (fun k t => r11_apply c arg14 harg14 x12 k t)
    (fun k t => r12_apply c arg15 harg15 x13 k t) z

set_option maxHeartbeats 2000000 in
theorem out14_apply (y : S1x4x2x256x256.Idx) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = Q x0 x1 x2 x3 x4 x5 x6 x7 x8 x12 x13 y := by
  unfold out0_A_14
  rw [View.read_writes_junk_eq_canon]
  refine View.canon_apply_of_pieces (Val := Elt Ideal) (e := .bf16) (Q x0 x1 x2 x3 x4 x5 x6 x7 x8 x12 x13) _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 3 1 192 256 (by omega) rfl rfl (by omega) inb_S1x4x2x256x256_S1x1x1x64x256_0_3_1_192_0 (by decide) (by decide) inb_S64x1_S64x1_0_0 768 rfl inb_S3648x1024_S256x1024_768_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 3 0 192 0 (by omega) rfl rfl (by omega) inb_S1x4x2x256x256_S1x1x1x64x256_0_3_0_192_0 (by decide) (by decide) inb_S64x1_S64x1_0_0 768 rfl inb_S3648x1024_S256x1024_768_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 3 1 128 256 (by omega) rfl rfl (by omega) inb_S1x4x2x256x256_S1x1x1x64x256_0_3_1_128_0 (by decide) (by decide) inb_S64x1_S64x1_0_0 768 rfl inb_S3648x1024_S256x1024_768_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 3 0 128 0 (by omega) rfl rfl (by omega) inb_S1x4x2x256x256_S1x1x1x64x256_0_3_0_128_0 (by decide) (by decide) inb_S64x1_S64x1_0_0 768 rfl inb_S3648x1024_S256x1024_768_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 3 1 64 256 (by omega) rfl rfl (by omega) inb_S1x4x2x256x256_S1x1x1x64x256_0_3_1_64_0 (by decide) (by decide) inb_S64x1_S64x1_0_0 768 rfl inb_S3648x1024_S256x1024_768_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 3 0 64 0 (by omega) rfl rfl (by omega) inb_S1x4x2x256x256_S1x1x1x64x256_0_3_0_64_0 (by decide) (by decide) inb_S64x1_S64x1_0_0 768 rfl inb_S3648x1024_S256x1024_768_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 3 1 0 256 (by omega) rfl rfl (by omega) inb_S1x4x2x256x256_S1x1x1x64x256_0_3_1_0_0 (by decide) (by decide) inb_S64x1_S64x1_0_0 768 rfl inb_S3648x1024_S256x1024_768_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 3 0 0 0 (by omega) rfl rfl (by omega) inb_S1x4x2x256x256_S1x1x1x64x256_0_3_0_0_0 (by decide) (by decide) inb_S64x1_S64x1_0_0 768 rfl inb_S3648x1024_S256x1024_768_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 2 1 192 256 (by omega) rfl rfl (by omega) inb_S1x4x2x256x256_S1x1x1x64x256_0_2_1_192_0 (by decide) (by decide) inb_S64x1_S64x1_0_0 512 rfl inb_S3648x1024_S256x1024_512_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 2 0 192 0 (by omega) rfl rfl (by omega) inb_S1x4x2x256x256_S1x1x1x64x256_0_2_0_192_0 (by decide) (by decide) inb_S64x1_S64x1_0_0 512 rfl inb_S3648x1024_S256x1024_512_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 2 1 128 256 (by omega) rfl rfl (by omega) inb_S1x4x2x256x256_S1x1x1x64x256_0_2_1_128_0 (by decide) (by decide) inb_S64x1_S64x1_0_0 512 rfl inb_S3648x1024_S256x1024_512_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 2 0 128 0 (by omega) rfl rfl (by omega) inb_S1x4x2x256x256_S1x1x1x64x256_0_2_0_128_0 (by decide) (by decide) inb_S64x1_S64x1_0_0 512 rfl inb_S3648x1024_S256x1024_512_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 2 1 64 256 (by omega) rfl rfl (by omega) inb_S1x4x2x256x256_S1x1x1x64x256_0_2_1_64_0 (by decide) (by decide) inb_S64x1_S64x1_0_0 512 rfl inb_S3648x1024_S256x1024_512_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 2 0 64 0 (by omega) rfl rfl (by omega) inb_S1x4x2x256x256_S1x1x1x64x256_0_2_0_64_0 (by decide) (by decide) inb_S64x1_S64x1_0_0 512 rfl inb_S3648x1024_S256x1024_512_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 2 1 0 256 (by omega) rfl rfl (by omega) inb_S1x4x2x256x256_S1x1x1x64x256_0_2_1_0_0 (by decide) (by decide) inb_S64x1_S64x1_0_0 512 rfl inb_S3648x1024_S256x1024_512_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 2 0 0 0 (by omega) rfl rfl (by omega) inb_S1x4x2x256x256_S1x1x1x64x256_0_2_0_0_0 (by decide) (by decide) inb_S64x1_S64x1_0_0 512 rfl inb_S3648x1024_S256x1024_512_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 1 1 192 256 (by omega) rfl rfl (by omega) inb_S1x4x2x256x256_S1x1x1x64x256_0_1_1_192_0 (by decide) (by decide) inb_S64x1_S64x1_0_0 256 rfl inb_S3648x1024_S256x1024_256_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 1 0 192 0 (by omega) rfl rfl (by omega) inb_S1x4x2x256x256_S1x1x1x64x256_0_1_0_192_0 (by decide) (by decide) inb_S64x1_S64x1_0_0 256 rfl inb_S3648x1024_S256x1024_256_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 1 1 128 256 (by omega) rfl rfl (by omega) inb_S1x4x2x256x256_S1x1x1x64x256_0_1_1_128_0 (by decide) (by decide) inb_S64x1_S64x1_0_0 256 rfl inb_S3648x1024_S256x1024_256_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 1 0 128 0 (by omega) rfl rfl (by omega) inb_S1x4x2x256x256_S1x1x1x64x256_0_1_0_128_0 (by decide) (by decide) inb_S64x1_S64x1_0_0 256 rfl inb_S3648x1024_S256x1024_256_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 1 1 64 256 (by omega) rfl rfl (by omega) inb_S1x4x2x256x256_S1x1x1x64x256_0_1_1_64_0 (by decide) (by decide) inb_S64x1_S64x1_0_0 256 rfl inb_S3648x1024_S256x1024_256_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 1 0 64 0 (by omega) rfl rfl (by omega) inb_S1x4x2x256x256_S1x1x1x64x256_0_1_0_64_0 (by decide) (by decide) inb_S64x1_S64x1_0_0 256 rfl inb_S3648x1024_S256x1024_256_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 1 1 0 256 (by omega) rfl rfl (by omega) inb_S1x4x2x256x256_S1x1x1x64x256_0_1_1_0_0 (by decide) (by decide) inb_S64x1_S64x1_0_0 256 rfl inb_S3648x1024_S256x1024_256_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 1 0 0 0 (by omega) rfl rfl (by omega) inb_S1x4x2x256x256_S1x1x1x64x256_0_1_0_0_0 (by decide) (by decide) inb_S64x1_S64x1_0_0 256 rfl inb_S3648x1024_S256x1024_256_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 0 1 192 256 (by omega) rfl rfl (by omega) inb_S1x4x2x256x256_S1x1x1x64x256_0_0_1_192_0 (by decide) (by decide) inb_S64x1_S64x1_0_0 0 rfl inb_S3648x1024_S256x1024_0_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 0 0 192 0 (by omega) rfl rfl (by omega) inb_S1x4x2x256x256_S1x1x1x64x256_0_0_0_192_0 (by decide) (by decide) inb_S64x1_S64x1_0_0 0 rfl inb_S3648x1024_S256x1024_0_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 0 1 128 256 (by omega) rfl rfl (by omega) inb_S1x4x2x256x256_S1x1x1x64x256_0_0_1_128_0 (by decide) (by decide) inb_S64x1_S64x1_0_0 0 rfl inb_S3648x1024_S256x1024_0_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 0 0 128 0 (by omega) rfl rfl (by omega) inb_S1x4x2x256x256_S1x1x1x64x256_0_0_0_128_0 (by decide) (by decide) inb_S64x1_S64x1_0_0 0 rfl inb_S3648x1024_S256x1024_0_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 0 1 64 256 (by omega) rfl rfl (by omega) inb_S1x4x2x256x256_S1x1x1x64x256_0_0_1_64_0 (by decide) (by decide) inb_S64x1_S64x1_0_0 0 rfl inb_S3648x1024_S256x1024_0_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 0 0 64 0 (by omega) rfl rfl (by omega) inb_S1x4x2x256x256_S1x1x1x64x256_0_0_0_64_0 (by decide) (by decide) inb_S64x1_S64x1_0_0 0 rfl inb_S3648x1024_S256x1024_0_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 0 1 0 256 (by omega) rfl rfl (by omega) inb_S1x4x2x256x256_S1x1x1x64x256_0_0_1_0_0 (by decide) (by decide) inb_S64x1_S64x1_0_0 0 rfl inb_S3648x1024_S256x1024_0_0 :)
  · exact (q_piece c arg2 harg2 arg3 harg3 arg4 harg4 arg5 harg5 arg6 harg6 arg7 harg7 arg8 harg8 arg9 harg9 arg10 harg10 arg14 harg14 arg15 harg15 arg25 x0 x1 x2 x3 x4 x5 x6 x7 x8 x12 x13 0 0 0 0 (by omega) rfl rfl (by omega) inb_S1x4x2x256x256_S1x1x1x64x256_0_0_0_0_0 (by decide) (by decide) inb_S64x1_S64x1_0_0 0 rfl inb_S3648x1024_S256x1024_0_0 :)

/-- The rows beside the selection keys: row `a` marks the tokens of sub-block `a`. -/
theorem ind_key (a : Fin 16) (t : Fin 256) : kernelRun0_A.sl.r_46 (F := Ideal) (ix2 ⟨a.val, by omega⟩ t) = if t.val / 64 = a.val then 1 else 0 := by
  have e : ∀ t : Fin 256, Scalar.select
      (IntOp.andi (IntOp.cmpi .ne (IntOp.subi (BitVec.setWidth 32 (IntOp.cmpi .sgt (BitVec.ofNat 32 t.val) 0#32)) (BitVec.setWidth 32 (IntOp.cmpi .slt (BitVec.ofNat 32 t.val) 0#32)))
        (Scalar.subi 1#32 (Scalar.extui (Scalar.cmpi .slt 64#32 0#32))))
        (IntOp.cmpi .ne (IntOp.remsi ArithUnit.vector (BitVec.ofNat 32 t.val) 64#32) 0#32))
      (IntOp.subi (IntOp.divsi ArithUnit.vector (BitVec.ofNat 32 t.val) 64#32) 1#32) (IntOp.divsi ArithUnit.vector (BitVec.ofNat 32 t.val) 64#32) = BitVec.ofNat 32 (t.val / 64) := by decide +kernel
  have f : ∀ (q : Fin 4) (a : Fin 16), BitVec.setWidth 32 (IntOp.cmpi .eq (BitVec.ofNat 32 q.val) (BitVec.ofNat 32 a.val)) = if q.val = a.val then 1#32 else 0#32 := by decide +kernel
  unfold kernelRun0_A.sl.r_46
  pointwise [k0_pay107, k0_pay106, k0_pay105, kernelRun0_A.sl.v883, kernelRun0_A.sl.v884]
  rw [e, f ⟨t.val / 64, by omega⟩]
  exact word_if _

theorem ones_value (a : Fin 16) (t : Fin 256) : k0_pay162 (F := Ideal) (ix2 a t) = if a.val = 0 then 1 else 0 := by
  have f : ∀ a : Fin 16, BitVec.setWidth 32 (IntOp.cmpi .eq (BitVec.ofNat 32 a.val) 0#32) = if a.val = 0 then 1#32 else 0#32 := by decide +kernel
  pointwise [k0_pay162]
  rw [f]
  exact word_if _

/-- The selection keys' block. -/
def KS : S1x4x2x256x80.Idx → EReal := fun y =>
  let t : Fin 512 := ⟨256 * (y 2).val + (y 3).val, by have := (y 2).isLt; have := (y 3).isLt; simp at *; omega⟩
  kAt (rows (P x0 x1 x2 x3 x4 x5 x6 x7 t) 1024 256 (by omega)) (fun j => x9 (ix2 j 0)) (fun k => x12 (ix3 0 k t)) (fun k => x13 (ix3 0 k t)) (fun a => if (y 3).val / 64 = a.val then 1 else 0) (y 1) (y 4)

/-- One stored tile of the selection keys. -/
theorem ks_piece (G : Fin 4) (S R L : Nat) (hS : S < 2) (hL' : L = 256 * S) (hR' : R = 64 * G.val) (io hR hL inb inb') (z : B256x80.Idx) :
    keyTile (Y c arg2 harg2 arg3 harg3 arg4 harg4 arg5 harg5 arg6 harg6 arg7 harg7 arg8 harg8 arg9 harg9 arg25 x0 x1 x2 x3 x4 x5 x6 x7 1024 inb') R hR L hL (View.readAt (Elt Ideal) arg11.view (Rect.unit (s := S64x1) ![0, 0] S64x1.size inb).toLoadRect (harg11.unread x9))
        (kernelRun0_A.sl.r_11 c arg14 harg14 x12) (kernelRun0_A.sl.r_12 c arg15 harg15 x13) kernelRun0_A.sl.r_46 z
      = KS x0 x1 x2 x3 x4 x5 x6 x7 x9 x12 x13 ((Rect.unit (s := V1x4x2x256x80) ![0, G.val, S, 0, 0] B256x80.size io).emb z) :=
  key_piece (fun t => rows (P x0 x1 x2 x3 x4 x5 x6 x7 t) 1024 256 (by omega)) (fun j => x9 (ix2 j 0)) (fun t k => x12 (ix3 0 k t)) (fun t k => x13 (ix3 0 k t)) (fun t a => if t.val / 64 = a.val then 1 else 0) G S R L
    hS hL' hR' io _ hR hL _ _ _ _ (Y_apply c arg2 harg2 arg3 harg3 arg4 harg4 arg5 harg5 arg6 harg6 arg7 harg7 arg8 harg8 arg9 harg9 arg25 x0 x1 x2 x3 x4 x5 x6 x7 1024 (by omega) inb') (fun j => col_apply harg11 x9 _ j) (fun k t => r11_apply c arg14 harg14 x12 k t)
    (fun k t => r12_apply c arg15 harg15 x13 k t) ind_key z

set_option maxHeartbeats 2000000 in
theorem out15_apply (y : S1x4x2x256x80.Idx) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = KS x0 x1 x2 x3 x4 x5 x6 x7 x9 x12 x13 y := by
  unfold out0_A_15
  rw [View.read_writes_junk_eq_canon]
  refine View.canon_apply_of_pieces (Val := Elt Ideal) (e := .bf16) (KS x0 x1 x2 x3 x4 x5 x6 x7 x9 x12 x13) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl
  · exact (ks_piece c arg2 harg2 arg3 harg3 arg4 harg4 arg5 harg5 arg6 harg6 arg7 harg7 arg8 harg8 arg9 harg9 arg11 harg11 arg14 harg14 arg15 harg15 arg25 x0 x1 x2 x3 x4 x5 x6 x7 x9 x12 x13 3 1 192 256 (by omega) rfl rfl inb_S1x4x2x256x80_S1x1x1x256x80_0_3_1_0_0 (by decide) (by decide) inb_S64x1_S64x1_0_0 inb_S3648x1024_S256x1024_1024_0 :)
  · exact (ks_piece c arg2 harg2 arg3 harg3 arg4 harg4 arg5 harg5 arg6 harg6 arg7 harg7 arg8 harg8 arg9 harg9 arg11 harg11 arg14 harg14 arg15 harg15 arg25 x0 x1 x2 x3 x4 x5 x6 x7 x9 x12 x13 3 0 192 0 (by omega) rfl rfl inb_S1x4x2x256x80_S1x1x1x256x80_0_3_0_0_0 (by decide) (by decide) inb_S64x1_S64x1_0_0 inb_S3648x1024_S256x1024_1024_0 :)
  · exact (ks_piece c arg2 harg2 arg3 harg3 arg4 harg4 arg5 harg5 arg6 harg6 arg7 harg7 arg8 harg8 arg9 harg9 arg11 harg11 arg14 harg14 arg15 harg15 arg25 x0 x1 x2 x3 x4 x5 x6 x7 x9 x12 x13 2 1 128 256 (by omega) rfl rfl inb_S1x4x2x256x80_S1x1x1x256x80_0_2_1_0_0 (by decide) (by decide) inb_S64x1_S64x1_0_0 inb_S3648x1024_S256x1024_1024_0 :)
  · exact (ks_piece c arg2 harg2 arg3 harg3 arg4 harg4 arg5 harg5 arg6 harg6 arg7 harg7 arg8 harg8 arg9 harg9 arg11 harg11 arg14 harg14 arg15 harg15 arg25 x0 x1 x2 x3 x4 x5 x6 x7 x9 x12 x13 2 0 128 0 (by omega) rfl rfl inb_S1x4x2x256x80_S1x1x1x256x80_0_2_0_0_0 (by decide) (by decide) inb_S64x1_S64x1_0_0 inb_S3648x1024_S256x1024_1024_0 :)
  · exact (ks_piece c arg2 harg2 arg3 harg3 arg4 harg4 arg5 harg5 arg6 harg6 arg7 harg7 arg8 harg8 arg9 harg9 arg11 harg11 arg14 harg14 arg15 harg15 arg25 x0 x1 x2 x3 x4 x5 x6 x7 x9 x12 x13 1 1 64 256 (by omega) rfl rfl inb_S1x4x2x256x80_S1x1x1x256x80_0_1_1_0_0 (by decide) (by decide) inb_S64x1_S64x1_0_0 inb_S3648x1024_S256x1024_1024_0 :)
  · exact (ks_piece c arg2 harg2 arg3 harg3 arg4 harg4 arg5 harg5 arg6 harg6 arg7 harg7 arg8 harg8 arg9 harg9 arg11 harg11 arg14 harg14 arg15 harg15 arg25 x0 x1 x2 x3 x4 x5 x6 x7 x9 x12 x13 1 0 64 0 (by omega) rfl rfl inb_S1x4x2x256x80_S1x1x1x256x80_0_1_0_0_0 (by decide) (by decide) inb_S64x1_S64x1_0_0 inb_S3648x1024_S256x1024_1024_0 :)
  · exact (ks_piece c arg2 harg2 arg3 harg3 arg4 harg4 arg5 harg5 arg6 harg6 arg7 harg7 arg8 harg8 arg9 harg9 arg11 harg11 arg14 harg14 arg15 harg15 arg25 x0 x1 x2 x3 x4 x5 x6 x7 x9 x12 x13 0 1 0 256 (by omega) rfl rfl inb_S1x4x2x256x80_S1x1x1x256x80_0_0_1_0_0 (by decide) (by decide) inb_S64x1_S64x1_0_0 inb_S3648x1024_S256x1024_1024_0 :)
  · exact (ks_piece c arg2 harg2 arg3 harg3 arg4 harg4 arg5 harg5 arg6 harg6 arg7 harg7 arg8 harg8 arg9 harg9 arg11 harg11 arg14 harg14 arg15 harg15 arg25 x0 x1 x2 x3 x4 x5 x6 x7 x9 x12 x13 0 0 0 0 (by omega) rfl rfl inb_S1x4x2x256x80_S1x1x1x256x80_0_0_0_0_0 (by decide) (by decide) inb_S64x1_S64x1_0_0 inb_S3648x1024_S256x1024_1024_0 :)

/-- The window keys' block. -/
def KW : S1x4x2x256x64.Idx → EReal := fun y =>
  let t : Fin 512 := ⟨256 * (y 2).val + (y 3).val, by have := (y 2).isLt; have := (y 3).isLt; simp at *; omega⟩
  wAt (rows (P x0 x1 x2 x3 x4 x5 x6 x7 t) 1280 256 (by omega)) (fun j => x10 (ix2 j 0)) (fun k => x12 (ix3 0 k t)) (fun k => x13 (ix3 0 k t)) (y 1) (y 4)

/-- One stored tile of the window keys. -/
theorem kw_piece (G : Fin 4) (S R L : Nat) (hS : S < 2) (hL' : L = 256 * S) (hR' : R = 64 * G.val) (io hR hL inb inb') (z : B256x64.Idx) :
    chunkTile (Y c arg2 harg2 arg3 harg3 arg4 harg4 arg5 harg5 arg6 harg6 arg7 harg7 arg8 harg8 arg9 harg9 arg25 x0 x1 x2 x3 x4 x5 x6 x7 1280 inb') R hR L hL (View.readAt (Elt Ideal) arg12.view (Rect.unit (s := S64x1) ![0, 0] S64x1.size inb).toLoadRect (harg12.unread x10))
        (kernelRun0_A.sl.r_11 c arg14 harg14 x12) (kernelRun0_A.sl.r_12 c arg15 harg15 x13) z
      = KW x0 x1 x2 x3 x4 x5 x6 x7 x10 x12 x13 ((Rect.unit (s := V1x4x2x256x64) ![0, G.val, S, 0, 0] B256x64.size io).emb z) :=
  chunk_piece (fun t => rows (P x0 x1 x2 x3 x4 x5 x6 x7 t) 1280 256 (by omega)) (fun j => x10 (ix2 j 0)) (fun t k => x12 (ix3 0 k t)) (fun t k => x13 (ix3 0 k t)) G S R L
    hS hL' hR' io _ hR hL _ _ _ (Y_apply c arg2 harg2 arg3 harg3 arg4 harg4 arg5 harg5 arg6 harg6 arg7 harg7 arg8 harg8 arg9 harg9 arg25 x0 x1 x2 x3 x4 x5 x6 x7 1280 (by omega) inb') (fun j => col_apply harg12 x10 _ j) (fun k t => r11_apply c arg14 harg14 x12 k t)
    (fun k t => r12_apply c arg15 harg15 x13 k t) z

set_option maxHeartbeats 2000000 in
theorem out16_apply (y : S1x4x2x256x64.Idx) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = KW x0 x1 x2 x3 x4 x5 x6 x7 x10 x12 x13 y := by
  unfold out0_A_16
  rw [View.read_writes_junk_eq_canon]
  refine View.canon_apply_of_pieces (Val := Elt Ideal) (e := .bf16) (KW x0 x1 x2 x3 x4 x5 x6 x7 x10 x12 x13) _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl
  · exact (kw_piece c arg2 harg2 arg3 harg3 arg4 harg4 arg5 harg5 arg6 harg6 arg7 harg7 arg8 harg8 arg9 harg9 arg12 harg12 arg14 harg14 arg15 harg15 arg25 x0 x1 x2 x3 x4 x5 x6 x7 x10 x12 x13 3 1 192 256 (by omega) rfl rfl inb_S1x4x2x256x64_S1x1x1x256x64_0_3_1_0_0 (by decide) (by decide) inb_S64x1_S64x1_0_0 inb_S3648x1024_S256x1024_1280_0 :)
  · exact (kw_piece c arg2 harg2 arg3 harg3 arg4 harg4 arg5 harg5 arg6 harg6 arg7 harg7 arg8 harg8 arg9 harg9 arg12 harg12 arg14 harg14 arg15 harg15 arg25 x0 x1 x2 x3 x4 x5 x6 x7 x10 x12 x13 3 0 192 0 (by omega) rfl rfl inb_S1x4x2x256x64_S1x1x1x256x64_0_3_0_0_0 (by decide) (by decide) inb_S64x1_S64x1_0_0 inb_S3648x1024_S256x1024_1280_0 :)
  · exact (kw_piece c arg2 harg2 arg3 harg3 arg4 harg4 arg5 harg5 arg6 harg6 arg7 harg7 arg8 harg8 arg9 harg9 arg12 harg12 arg14 harg14 arg15 harg15 arg25 x0 x1 x2 x3 x4 x5 x6 x7 x10 x12 x13 2 1 128 256 (by omega) rfl rfl inb_S1x4x2x256x64_S1x1x1x256x64_0_2_1_0_0 (by decide) (by decide) inb_S64x1_S64x1_0_0 inb_S3648x1024_S256x1024_1280_0 :)
  · exact (kw_piece c arg2 harg2 arg3 harg3 arg4 harg4 arg5 harg5 arg6 harg6 arg7 harg7 arg8 harg8 arg9 harg9 arg12 harg12 arg14 harg14 arg15 harg15 arg25 x0 x1 x2 x3 x4 x5 x6 x7 x10 x12 x13 2 0 128 0 (by omega) rfl rfl inb_S1x4x2x256x64_S1x1x1x256x64_0_2_0_0_0 (by decide) (by decide) inb_S64x1_S64x1_0_0 inb_S3648x1024_S256x1024_1280_0 :)
  · exact (kw_piece c arg2 harg2 arg3 harg3 arg4 harg4 arg5 harg5 arg6 harg6 arg7 harg7 arg8 harg8 arg9 harg9 arg12 harg12 arg14 harg14 arg15 harg15 arg25 x0 x1 x2 x3 x4 x5 x6 x7 x10 x12 x13 1 1 64 256 (by omega) rfl rfl inb_S1x4x2x256x64_S1x1x1x256x64_0_1_1_0_0 (by decide) (by decide) inb_S64x1_S64x1_0_0 inb_S3648x1024_S256x1024_1280_0 :)
  · exact (kw_piece c arg2 harg2 arg3 harg3 arg4 harg4 arg5 harg5 arg6 harg6 arg7 harg7 arg8 harg8 arg9 harg9 arg12 harg12 arg14 harg14 arg15 harg15 arg25 x0 x1 x2 x3 x4 x5 x6 x7 x10 x12 x13 1 0 64 0 (by omega) rfl rfl inb_S1x4x2x256x64_S1x1x1x256x64_0_1_0_0_0 (by decide) (by decide) inb_S64x1_S64x1_0_0 inb_S3648x1024_S256x1024_1280_0 :)
  · exact (kw_piece c arg2 harg2 arg3 harg3 arg4 harg4 arg5 harg5 arg6 harg6 arg7 harg7 arg8 harg8 arg9 harg9 arg12 harg12 arg14 harg14 arg15 harg15 arg25 x0 x1 x2 x3 x4 x5 x6 x7 x10 x12 x13 0 1 0 256 (by omega) rfl rfl inb_S1x4x2x256x64_S1x1x1x256x64_0_0_1_0_0 (by decide) (by decide) inb_S64x1_S64x1_0_0 inb_S3648x1024_S256x1024_1280_0 :)
  · exact (kw_piece c arg2 harg2 arg3 harg3 arg4 harg4 arg5 harg5 arg6 harg6 arg7 harg7 arg8 harg8 arg9 harg9 arg12 harg12 arg14 harg14 arg15 harg15 arg25 x0 x1 x2 x3 x4 x5 x6 x7 x10 x12 x13 0 0 0 0 (by omega) rfl rfl inb_S1x4x2x256x64_S1x1x1x256x64_0_0_0_0_0 (by decide) (by decide) inb_S64x1_S64x1_0_0 inb_S3648x1024_S256x1024_1280_0 :)

/-- A block of plain heads, from projected row `B` on. -/
def C (B : Nat) (hB : B + 256 ≤ 3648) : S1x4x2x256x64.Idx → EReal := fun y =>
  let t : Fin 512 := ⟨256 * (y 2).val + (y 3).val, by have := (y 2).isLt; have := (y 3).isLt; simp at *; omega⟩
  cAt (rows (P x0 x1 x2 x3 x4 x5 x6 x7 t) B 256 hB) (y 1) (y 4)

/-- One stored tile of plain heads. -/
theorem c_piece (B : Nat) (hB : B + 256 ≤ 3648) (G : Fin 4) (S R L : Nat) (hS : S < 2) (hL' : L = 256 * S) (hR' : R = 64 * G.val) (io hRL inb') (z : B256x64.Idx) :
    rawTile (Y c arg2 harg2 arg3 harg3 arg4 harg4 arg5 harg5 arg6 harg6 arg7 harg7 arg8 harg8 arg9 harg9 arg25 x0 x1 x2 x3 x4 x5 x6 x7 B inb') R L hRL z
      = C x0 x1 x2 x3 x4 x5 x6 x7 B hB ((Rect.unit (s := V1x4x2x256x64) ![0, G.val, S, 0, 0] B256x64.size io).emb z) :=
  raw_piece (fun t => rows (P x0 x1 x2 x3 x4 x5 x6 x7 t) B 256 hB) G S R L hS hL' hR' io _ hRL (Y_apply c arg2 harg2 arg3 harg3 arg4 harg4 arg5 harg5 arg6 harg6 arg7 harg7 arg8 harg8 arg9 harg9 arg25 x0 x1 x2 x3 x4 x5 x6 x7 B hB inb') z

set_option maxHeartbeats 2000000 in
theorem out17_apply (y : S1x4x2x256x64.Idx) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = C x0 x1 x2 x3 x4 x5 x6 x7 1536 (by omega) y := by
  unfold out0_A_17
  rw [View.read_writes_junk_eq_canon]
  refine View.canon_apply_of_pieces (Val := Elt Ideal) (e := .f32) (C x0 x1 x2 x3 x4 x5 x6 x7 1536 (by omega)) _ ?_ y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl
  · exact (c_piece c arg2 harg2 arg3 harg3 arg4 harg4 arg5 harg5 arg6 harg6 arg7 harg7 arg8 harg8 arg9 harg9 arg25 x0 x1 x2 x3 x4 x5 x6 x7 1536 (by omega) 3 1 192 256 (by omega) rfl rfl inb_S1x4x2x256x64_S1x1x1x256x64_0_3_1_0_0 (by decide) inb_S3648x1024_S256x1024_1536_0 :)
  · exact (c_piece c arg2 harg2 arg3 harg3 arg4 harg4 arg5 harg5 arg6 harg6 arg7 harg7 arg8 harg8 arg9 harg9 arg25 x0 x1 x2 x3 x4 x5 x6 x7 1536 (by omega) 3 0 192 0 (by omega) rfl rfl inb_S1x4x2x256x64_S1x1x1x256x64_0_3_0_0_0 (by decide) inb_S3648x1024_S256x1024_1536_0 :)
  · exact (c_piece c arg2 harg2 arg3 harg3 arg4 harg4 arg5 harg5 arg6 harg6 arg7 harg7 arg8 harg8 arg9 harg9 arg25 x0 x1 x2 x3 x4 x5 x6 x7 1536 (by omega) 2 1 128 256 (by omega) rfl rfl inb_S1x4x2x256x64_S1x1x1x256x64_0_2_1_0_0 (by decide) inb_S3648x1024_S256x1024_1536_0 :)
  · exact (c_piece c arg2 harg2 arg3 harg3 arg4 harg4 arg5 harg5 arg6 harg6 arg7 harg7 arg8 harg8 arg9 harg9 arg25 x0 x1 x2 x3 x4 x5 x6 x7 1536 (by omega) 2 0 128 0 (by omega) rfl rfl inb_S1x4x2x256x64_S1x1x1x256x64_0_2_0_0_0 (by decide) inb_S3648x1024_S256x1024_1536_0 :)
  · exact (c_piece c arg2 harg2 arg3 harg3 arg4 harg4 arg5 harg5 arg6 harg6 arg7 harg7 arg8 harg8 arg9 harg9 arg25 x0 x1 x2 x3 x4 x5 x6 x7 1536 (by omega) 1 1 64 256 (by omega) rfl rfl inb_S1x4x2x256x64_S1x1x1x256x64_0_1_1_0_0 (by decide) inb_S3648x1024_S256x1024_1536_0 :)
  · exact (c_piece c arg2 harg2 arg3 harg3 arg4 harg4 arg5 harg5 arg6 harg6 arg7 harg7 arg8 harg8 arg9 harg9 arg25 x0 x1 x2 x3 x4 x5 x6 x7 1536 (by omega) 1 0 64 0 (by omega) rfl rfl inb_S1x4x2x256x64_S1x1x1x256x64_0_1_0_0_0 (by decide) inb_S3648x1024_S256x1024_1536_0 :)
  · exact (c_piece c arg2 harg2 arg3 harg3 arg4 harg4 arg5 harg5 arg6 harg6 arg7 harg7 arg8 harg8 arg9 harg9 arg25 x0 x1 x2 x3 x4 x5 x6 x7 1536 (by omega) 0 1 0 256 (by omega) rfl rfl inb_S1x4x2x256x64_S1x1x1x256x64_0_0_1_0_0 (by decide) inb_S3648x1024_S256x1024_1536_0 :)
  · exact (c_piece c arg2 harg2 arg3 harg3 arg4 harg4 arg5 harg5 arg6 harg6 arg7 harg7 arg8 harg8 arg9 harg9 arg25 x0 x1 x2 x3 x4 x5 x6 x7 1536 (by omega) 0 0 0 0 (by omega) rfl rfl inb_S1x4x2x256x64_S1x1x1x256x64_0_0_0_0_0 (by decide) inb_S3648x1024_S256x1024_1536_0 :)

set_option maxHeartbeats 2000000 in
theorem out18_apply (y : S1x4x2x256x64.Idx) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = C x0 x1 x2 x3 x4 x5 x6 x7 1792 (by omega) y := by
  unfold out0_A_18
  rw [View.read_writes_junk_eq_canon]
  refine View.canon_apply_of_pieces (Val := Elt Ideal) (e := .f32) (C x0 x1 x2 x3 x4 x5 x6 x7 1792 (by omega)) _ ?_ y (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl
  · exact (c_piece c arg2 harg2 arg3 harg3 arg4 harg4 arg5 harg5 arg6 harg6 arg7 harg7 arg8 harg8 arg9 harg9 arg25 x0 x1 x2 x3 x4 x5 x6 x7 1792 (by omega) 3 1 192 256 (by omega) rfl rfl inb_S1x4x2x256x64_S1x1x1x256x64_0_3_1_0_0 (by decide) inb_S3648x1024_S256x1024_1792_0 :)
  · exact (c_piece c arg2 harg2 arg3 harg3 arg4 harg4 arg5 harg5 arg6 harg6 arg7 harg7 arg8 harg8 arg9 harg9 arg25 x0 x1 x2 x3 x4 x5 x6 x7 1792 (by omega) 3 0 192 0 (by omega) rfl rfl inb_S1x4x2x256x64_S1x1x1x256x64_0_3_0_0_0 (by decide) inb_S3648x1024_S256x1024_1792_0 :)
  · exact (c_piece c arg2 harg2 arg3 harg3 arg4 harg4 arg5 harg5 arg6 harg6 arg7 harg7 arg8 harg8 arg9 harg9 arg25 x0 x1 x2 x3 x4 x5 x6 x7 1792 (by omega) 2 1 128 256 (by omega) rfl rfl inb_S1x4x2x256x64_S1x1x1x256x64_0_2_1_0_0 (by decide) inb_S3648x1024_S256x1024_1792_0 :)
  · exact (c_piece c arg2 harg2 arg3 harg3 arg4 harg4 arg5 harg5 arg6 harg6 arg7 harg7 arg8 harg8 arg9 harg9 arg25 x0 x1 x2 x3 x4 x5 x6 x7 1792 (by omega) 2 0 128 0 (by omega) rfl rfl inb_S1x4x2x256x64_S1x1x1x256x64_0_2_0_0_0 (by decide) inb_S3648x1024_S256x1024_1792_0 :)
  · exact (c_piece c arg2 harg2 arg3 harg3 arg4 harg4 arg5 harg5 arg6 harg6 arg7 harg7 arg8 harg8 arg9 harg9 arg25 x0 x1 x2 x3 x4 x5 x6 x7 1792 (by omega) 1 1 64 256 (by omega) rfl rfl inb_S1x4x2x256x64_S1x1x1x256x64_0_1_1_0_0 (by decide) inb_S3648x1024_S256x1024_1792_0 :)
  · exact (c_piece c arg2 harg2 arg3 harg3 arg4 harg4 arg5 harg5 arg6 harg6 arg7 harg7 arg8 harg8 arg9 harg9 arg25 x0 x1 x2 x3 x4 x5 x6 x7 1792 (by omega) 1 0 64 0 (by omega) rfl rfl inb_S1x4x2x256x64_S1x1x1x256x64_0_1_0_0_0 (by decide) inb_S3648x1024_S256x1024_1792_0 :)
  · exact (c_piece c arg2 harg2 arg3 harg3 arg4 harg4 arg5 harg5 arg6 harg6 arg7 harg7 arg8 harg8 arg9 harg9 arg25 x0 x1 x2 x3 x4 x5 x6 x7 1792 (by omega) 0 1 0 256 (by omega) rfl rfl inb_S1x4x2x256x64_S1x1x1x256x64_0_0_1_0_0 (by decide) inb_S3648x1024_S256x1024_1792_0 :)
  · exact (c_piece c arg2 harg2 arg3 harg3 arg4 harg4 arg5 harg5 arg6 harg6 arg7 harg7 arg8 harg8 arg9 harg9 arg25 x0 x1 x2 x3 x4 x5 x6 x7 1792 (by omega) 0 0 0 0 (by omega) rfl rfl inb_S1x4x2x256x64_S1x1x1x256x64_0_0_0_0_0 (by decide) inb_S3648x1024_S256x1024_1792_0 :)

/-- A block of values, from projected row `B` on. -/
def V (B : Nat) (hB : B + 256 ≤ 3648) : S1x4x2x80x256.Idx → EReal := fun y =>
  let t : Fin 512 := ⟨256 * (y 2).val + (y 4).val, by have := (y 2).isLt; have := (y 4).isLt; simp at *; omega⟩
  vAt (rows (P x0 x1 x2 x3 x4 x5 x6 x7 t) B 256 hB) (y 1) (y 3)

/-- One stored tile of values. -/
theorem v_piece (B : Nat) (hB : B + 256 ≤ 3648) (G : Fin 4) (S R L : Nat) (hS : S < 2) (hL' : L = 256 * S) (hR' : R = 64 * G.val) (io hRL hb inb') (z : B80x256.Idx) :
    valueTile (truncf .bf16 (Y c arg2 harg2 arg3 harg3 arg4 harg4 arg5 harg5 arg6 harg6 arg7 harg7 arg8 harg8 arg9 harg9 arg25 x0 x1 x2 x3 x4 x5 x6 x7 B inb') hb) R L hRL k0_pay162 z
      = V x0 x1 x2 x3 x4 x5 x6 x7 B hB ((Rect.unit (s := V1x4x2x80x256) ![0, G.val, S, 0, 0] B80x256.size io).emb z) :=
  value_piece (fun t => rows (P x0 x1 x2 x3 x4 x5 x6 x7 t) B 256 hB) G S R L hS hL' hR' io _ hRL _ (Y_apply c arg2 harg2 arg3 harg3 arg4 harg4 arg5 harg5 arg6 harg6 arg7 harg7 arg8 harg8 arg9 harg9 arg25 x0 x1 x2 x3 x4 x5 x6 x7 B hB inb') ones_value z

set_option maxHeartbeats 2000000 in
theorem out19_apply (y : S1x4x2x80x256.Idx) : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = V x0 x1 x2 x3 x4 x5 x6 x7 2048 (by omega) y := by
  unfold out0_A_19
  rw [View.read_writes_junk_eq_canon]
  refine View.canon_apply_of_pieces (Val := Elt Ideal) (e := .bf16) (V x0 x1 x2 x3 x4 x5 x6 x7 2048 (by omega)) _ ?_ y (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl
  · exact (v_piece c arg2 harg2 arg3 harg3 arg4 harg4 arg5 harg5 arg6 harg6 arg7 harg7 arg8 harg8 arg9 harg9 arg25 x0 x1 x2 x3 x4 x5 x6 x7 2048 (by omega) 3 1 192 256 (by omega) rfl rfl inb_S1x4x2x80x256_S1x1x1x80x256_0_3_1_0_0 (by decide) bitsLt_bf16_f32 inb_S3648x1024_S256x1024_2048_0 :)
  · exact (v_piece c arg2 harg2 arg3 harg3 arg4 harg4 arg5 harg5 arg6 harg6 arg7 harg7 arg8 harg8 arg9 harg9 arg25 x0 x1 x2 x3 x4 x5 x6 x7 2048 (by omega) 3 0 192 0 (by omega) rfl rfl inb_S1x4x2x80x256_S1x1x1x80x256_0_3_0_0_0 (by decide) bitsLt_bf16_f32 inb_S3648x1024_S256x1024_2048_0 :)
  · exact (v_piece c arg2 harg2 arg3 harg3 arg4 harg4 arg5 harg5 arg6 harg6 arg7 harg7 arg8 harg8 arg9 harg9 arg25 x0 x1 x2 x3 x4 x5 x6 x7 2048 (by omega) 2 1 128 256 (by omega) rfl rfl inb_S1x4x2x80x256_S1x1x1x80x256_0_2_1_0_0 (by decide) bitsLt_bf16_f32 inb_S3648x1024_S256x1024_2048_0 :)
  · exact (v_piece c arg2 harg2 arg3 harg3 arg4 harg4 arg5 harg5 arg6 harg6 arg7 harg7 arg8 harg8 arg9 harg9 arg25 x0 x1 x2 x3 x4 x5 x6 x7 2048 (by omega) 2 0 128 0 (by omega) rfl rfl inb_S1x4x2x80x256_S1x1x1x80x256_0_2_0_0_0 (by decide) bitsLt_bf16_f32 inb_S3648x1024_S256x1024_2048_0 :)
  · exact (v_piece c arg2 harg2 arg3 harg3 arg4 harg4 arg5 harg5 arg6 harg6 arg7 harg7 arg8 harg8 arg9 harg9 arg25 x0 x1 x2 x3 x4 x5 x6 x7 2048 (by omega) 1 1 64 256 (by omega) rfl rfl inb_S1x4x2x80x256_S1x1x1x80x256_0_1_1_0_0 (by decide) bitsLt_bf16_f32 inb_S3648x1024_S256x1024_2048_0 :)
  · exact (v_piece c arg2 harg2 arg3 harg3 arg4 harg4 arg5 harg5 arg6 harg6 arg7 harg7 arg8 harg8 arg9 harg9 arg25 x0 x1 x2 x3 x4 x5 x6 x7 2048 (by omega) 1 0 64 0 (by omega) rfl rfl inb_S1x4x2x80x256_S1x1x1x80x256_0_1_0_0_0 (by decide) bitsLt_bf16_f32 inb_S3648x1024_S256x1024_2048_0 :)
  · exact (v_piece c arg2 harg2 arg3 harg3 arg4 harg4 arg5 harg5 arg6 harg6 arg7 harg7 arg8 harg8 arg9 harg9 arg25 x0 x1 x2 x3 x4 x5 x6 x7 2048 (by omega) 0 1 0 256 (by omega) rfl rfl inb_S1x4x2x80x256_S1x1x1x80x256_0_0_1_0_0 (by decide) bitsLt_bf16_f32 inb_S3648x1024_S256x1024_2048_0 :)
  · exact (v_piece c arg2 harg2 arg3 harg3 arg4 harg4 arg5 harg5 arg6 harg6 arg7 harg7 arg8 harg8 arg9 harg9 arg25 x0 x1 x2 x3 x4 x5 x6 x7 2048 (by omega) 0 0 0 0 (by omega) rfl rfl inb_S1x4x2x80x256_S1x1x1x80x256_0_0_0_0_0 (by decide) bitsLt_bf16_f32 inb_S3648x1024_S256x1024_2048_0 :)

set_option maxHeartbeats 2000000 in
theorem out20_apply (y : S1x4x2x80x256.Idx) : out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = V x0 x1 x2 x3 x4 x5 x6 x7 2304 (by omega) y := by
  unfold out0_A_20
  rw [View.read_writes_junk_eq_canon]
  refine View.canon_apply_of_pieces (Val := Elt Ideal) (e := .bf16) (V x0 x1 x2 x3 x4 x5 x6 x7 2304 (by omega)) _ ?_ y (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl
  · exact (v_piece c arg2 harg2 arg3 harg3 arg4 harg4 arg5 harg5 arg6 harg6 arg7 harg7 arg8 harg8 arg9 harg9 arg25 x0 x1 x2 x3 x4 x5 x6 x7 2304 (by omega) 3 1 192 256 (by omega) rfl rfl inb_S1x4x2x80x256_S1x1x1x80x256_0_3_1_0_0 (by decide) bitsLt_bf16_f32 inb_S3648x1024_S256x1024_2304_0 :)
  · exact (v_piece c arg2 harg2 arg3 harg3 arg4 harg4 arg5 harg5 arg6 harg6 arg7 harg7 arg8 harg8 arg9 harg9 arg25 x0 x1 x2 x3 x4 x5 x6 x7 2304 (by omega) 3 0 192 0 (by omega) rfl rfl inb_S1x4x2x80x256_S1x1x1x80x256_0_3_0_0_0 (by decide) bitsLt_bf16_f32 inb_S3648x1024_S256x1024_2304_0 :)
  · exact (v_piece c arg2 harg2 arg3 harg3 arg4 harg4 arg5 harg5 arg6 harg6 arg7 harg7 arg8 harg8 arg9 harg9 arg25 x0 x1 x2 x3 x4 x5 x6 x7 2304 (by omega) 2 1 128 256 (by omega) rfl rfl inb_S1x4x2x80x256_S1x1x1x80x256_0_2_1_0_0 (by decide) bitsLt_bf16_f32 inb_S3648x1024_S256x1024_2304_0 :)
  · exact (v_piece c arg2 harg2 arg3 harg3 arg4 harg4 arg5 harg5 arg6 harg6 arg7 harg7 arg8 harg8 arg9 harg9 arg25 x0 x1 x2 x3 x4 x5 x6 x7 2304 (by omega) 2 0 128 0 (by omega) rfl rfl inb_S1x4x2x80x256_S1x1x1x80x256_0_2_0_0_0 (by decide) bitsLt_bf16_f32 inb_S3648x1024_S256x1024_2304_0 :)
  · exact (v_piece c arg2 harg2 arg3 harg3 arg4 harg4 arg5 harg5 arg6 harg6 arg7 harg7 arg8 harg8 arg9 harg9 arg25 x0 x1 x2 x3 x4 x5 x6 x7 2304 (by omega) 1 1 64 256 (by omega) rfl rfl inb_S1x4x2x80x256_S1x1x1x80x256_0_1_1_0_0 (by decide) bitsLt_bf16_f32 inb_S3648x1024_S256x1024_2304_0 :)
  · exact (v_piece c arg2 harg2 arg3 harg3 arg4 harg4 arg5 harg5 arg6 harg6 arg7 harg7 arg8 harg8 arg9 harg9 arg25 x0 x1 x2 x3 x4 x5 x6 x7 2304 (by omega) 1 0 64 0 (by omega) rfl rfl inb_S1x4x2x80x256_S1x1x1x80x256_0_1_0_0_0 (by decide) bitsLt_bf16_f32 inb_S3648x1024_S256x1024_2304_0 :)
  · exact (v_piece c arg2 harg2 arg3 harg3 arg4 harg4 arg5 harg5 arg6 harg6 arg7 harg7 arg8 harg8 arg9 harg9 arg25 x0 x1 x2 x3 x4 x5 x6 x7 2304 (by omega) 0 1 0 256 (by omega) rfl rfl inb_S1x4x2x80x256_S1x1x1x80x256_0_0_1_0_0 (by decide) bitsLt_bf16_f32 inb_S3648x1024_S256x1024_2304_0 :)
  · exact (v_piece c arg2 harg2 arg3 harg3 arg4 harg4 arg5 harg5 arg6 harg6 arg7 harg7 arg8 harg8 arg9 harg9 arg25 x0 x1 x2 x3 x4 x5 x6 x7 2304 (by omega) 0 0 0 0 (by omega) rfl rfl inb_S1x4x2x80x256_S1x1x1x80x256_0_0_0_0_0 (by decide) bitsLt_bf16_f32 inb_S3648x1024_S256x1024_2304_0 :)

/-- The gates' block. -/
def GT : S1x4x2x16x256.Idx → EReal := fun y =>
  let t : Fin 512 := ⟨256 * (y 2).val + (y 4).val, by have := (y 2).isLt; have := (y 4).isLt; simp at *; omega⟩
  gAt (rows (P x0 x1 x2 x3 x4 x5 x6 x7 t) 2560 64 (by omega)) (fun j => x11 (ix2 j 0)) (y 1) (y 3)

/-- One stored tile of the gates. -/
theorem g_piece (G : Fin 4) (S R L : Nat) (hS : S < 2) (hL' : L = 256 * S) (hR' : R = 16 * G.val) (io hR hL inb inb') (z : B16x256.Idx) :
    gateTile (gates (kernelRun0_A.sl.r_10 (F := Ideal) c arg2 harg2 arg3 harg3 arg4 harg4 arg5 harg5 arg6 harg6 arg7 harg7 arg8 harg8 arg25 x0 x1 x2 x3 x4 x5 x6) (View.readAt (Elt Ideal) arg9.view (Rect.unit (s := S3648x1024) ![2560, 0] V64x1024.size inb').toLoadRect (harg9.unread x7))
        (View.readAt (Elt Ideal) arg13.view (Rect.unit (s := S64x1) ![0, 0] S64x1.size inb).toLoadRect (harg13.unread x11))) R hR L hL z
      = GT x0 x1 x2 x3 x4 x5 x6 x7 x11 ((Rect.unit (s := V1x4x2x16x256) ![0, G.val, S, 0, 0] B16x256.size io).emb z) :=
  gate_piece (fun t => gAt (rows (P x0 x1 x2 x3 x4 x5 x6 x7 t) 2560 64 (by omega)) (fun j => x11 (ix2 j 0))) G S R L hS hL' hR' io _ hR hL
    (fun a t => by
      subst hR'
      exact gate_block harg9 harg13 x7 x11 _ _ (fun d t => r10_apply c arg2 harg2 arg3 harg3 arg4 harg4 arg5 harg5 arg6 harg6 arg7 harg7 arg8 harg8 arg25 x0 x1 x2 x3 x4 x5 x6 d t) 2560 _ _ (by omega) _ t) z

set_option maxHeartbeats 2000000 in
theorem out21_apply (y : S1x4x2x16x256.Idx) : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = GT x0 x1 x2 x3 x4 x5 x6 x7 x11 y := by
  unfold out0_A_21
  rw [View.read_writes_junk_eq_canon]
  refine View.canon_apply_of_pieces (Val := Elt Ideal) (e := .f32) (GT x0 x1 x2 x3 x4 x5 x6 x7 x11) _ ?_ y (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl
  · exact (g_piece c arg2 harg2 arg3 harg3 arg4 harg4 arg5 harg5 arg6 harg6 arg7 harg7 arg8 harg8 arg9 harg9 arg13 harg13 arg25 x0 x1 x2 x3 x4 x5 x6 x7 x11 3 1 48 256 (by omega) rfl rfl inb_S1x4x2x16x256_S1x1x1x16x256_0_3_1_0_0 (by decide) (by decide) inb_S64x1_S64x1_0_0 inb_S3648x1024_S64x1024_2560_0 :)
  · exact (g_piece c arg2 harg2 arg3 harg3 arg4 harg4 arg5 harg5 arg6 harg6 arg7 harg7 arg8 harg8 arg9 harg9 arg13 harg13 arg25 x0 x1 x2 x3 x4 x5 x6 x7 x11 3 0 48 0 (by omega) rfl rfl inb_S1x4x2x16x256_S1x1x1x16x256_0_3_0_0_0 (by decide) (by decide) inb_S64x1_S64x1_0_0 inb_S3648x1024_S64x1024_2560_0 :)
  · exact (g_piece c arg2 harg2 arg3 harg3 arg4 harg4 arg5 harg5 arg6 harg6 arg7 harg7 arg8 harg8 arg9 harg9 arg13 harg13 arg25 x0 x1 x2 x3 x4 x5 x6 x7 x11 2 1 32 256 (by omega) rfl rfl inb_S1x4x2x16x256_S1x1x1x16x256_0_2_1_0_0 (by decide) (by decide) inb_S64x1_S64x1_0_0 inb_S3648x1024_S64x1024_2560_0 :)
  · exact (g_piece c arg2 harg2 arg3 harg3 arg4 harg4 arg5 harg5 arg6 harg6 arg7 harg7 arg8 harg8 arg9 harg9 arg13 harg13 arg25 x0 x1 x2 x3 x4 x5 x6 x7 x11 2 0 32 0 (by omega) rfl rfl inb_S1x4x2x16x256_S1x1x1x16x256_0_2_0_0_0 (by decide) (by decide) inb_S64x1_S64x1_0_0 inb_S3648x1024_S64x1024_2560_0 :)
  · exact (g_piece c arg2 harg2 arg3 harg3 arg4 harg4 arg5 harg5 arg6 harg6 arg7 harg7 arg8 harg8 arg9 harg9 arg13 harg13 arg25 x0 x1 x2 x3 x4 x5 x6 x7 x11 1 1 16 256 (by omega) rfl rfl inb_S1x4x2x16x256_S1x1x1x16x256_0_1_1_0_0 (by decide) (by decide) inb_S64x1_S64x1_0_0 inb_S3648x1024_S64x1024_2560_0 :)
  · exact (g_piece c arg2 harg2 arg3 harg3 arg4 harg4 arg5 harg5 arg6 harg6 arg7 harg7 arg8 harg8 arg9 harg9 arg13 harg13 arg25 x0 x1 x2 x3 x4 x5 x6 x7 x11 1 0 16 0 (by omega) rfl rfl inb_S1x4x2x16x256_S1x1x1x16x256_0_1_0_0_0 (by decide) (by decide) inb_S64x1_S64x1_0_0 inb_S3648x1024_S64x1024_2560_0 :)
  · exact (g_piece c arg2 harg2 arg3 harg3 arg4 harg4 arg5 harg5 arg6 harg6 arg7 harg7 arg8 harg8 arg9 harg9 arg13 harg13 arg25 x0 x1 x2 x3 x4 x5 x6 x7 x11 0 1 0 256 (by omega) rfl rfl inb_S1x4x2x16x256_S1x1x1x16x256_0_0_1_0_0 (by decide) (by decide) inb_S64x1_S64x1_0_0 inb_S3648x1024_S64x1024_2560_0 :)
  · exact (g_piece c arg2 harg2 arg3 harg3 arg4 harg4 arg5 harg5 arg6 harg6 arg7 harg7 arg8 harg8 arg9 harg9 arg13 harg13 arg25 x0 x1 x2 x3 x4 x5 x6 x7 x11 0 0 0 0 (by omega) rfl rfl inb_S1x4x2x16x256_S1x1x1x16x256_0_0_0_0_0 (by decide) (by decide) inb_S64x1_S64x1_0_0 inb_S3648x1024_S64x1024_2560_0 :)

/-- The gate branch's block. -/
def Z : S1x4x2x256x256.Idx → EReal := fun y =>
  let t : Fin 512 := ⟨256 * (y 2).val + (y 4).val, by have := (y 2).isLt; have := (y 4).isLt; simp at *; omega⟩
  zAt (rows (P x0 x1 x2 x3 x4 x5 x6 x7 t) 2624 1024 (by omega)) (y 1) (y 3)

/-- One stored tile of the gate branch. -/
theorem z_piece (G : Fin 4) (S R L : Nat) (hS : S < 2) (hL' : L = 256 * S) (hR' : R = 2624 + 256 * G.val) (io hL inb) (z : B256x256.Idx) :
    plainTile (siluTile (kernelRun0_A.sl.r_10 (F := Ideal) c arg2 harg2 arg3 harg3 arg4 harg4 arg5 harg5 arg6 harg6 arg7 harg7 arg8 harg8 arg25 x0 x1 x2 x3 x4 x5 x6) (View.readAt (Elt Ideal) arg9.view (Rect.unit (s := S3648x1024) ![R, 0] V256x1024.size inb).toLoadRect (harg9.unread x7))) L hL z
      = Z x0 x1 x2 x3 x4 x5 x6 x7 ((Rect.unit (s := V1x4x2x256x256) ![0, G.val, S, 0, 0] B256x256.size io).emb z) :=
  plain_piece (fun t => zAt (rows (P x0 x1 x2 x3 x4 x5 x6 x7 t) 2624 1024 (by omega))) G S L hS hL' io _ hL
    (fun a t => by
      rw [silu_block harg9 x7 _ _ (fun d t => r10_apply c arg2 harg2 arg3 harg3 arg4 harg4 arg5 harg5 arg6 harg6 arg7 harg7 arg8 harg8 arg25 x0 x1 x2 x3 x4 x5 x6 d t) R _ (by omega) a t]
      have e : rows (pAt x7 (hAt (xAt x0 x1 x2 x3) x4 x5 x6) t) R 256 (by omega) a = rows (P x0 x1 x2 x3 x4 x5 x6 x7 t) 2624 1024 (by omega) ⟨256 * G.val + a.val, by omega⟩ :=
        congrArg (P x0 x1 x2 x3 x4 x5 x6 x7 t) (Fin.ext (show R + a.val = 2624 + (256 * G.val + a.val) by omega))
      rw [e]
      rfl) z

set_option maxHeartbeats 2000000 in
theorem out22_apply (y : S1x4x2x256x256.Idx) : out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y = Z x0 x1 x2 x3 x4 x5 x6 x7 y := by
  unfold out0_A_22
  rw [View.read_writes_junk_eq_canon]
  refine View.canon_apply_of_pieces (Val := Elt Ideal) (e := .f32) (Z x0 x1 x2 x3 x4 x5 x6 x7) _ ?_ y (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 y)
  unfold kernelRun0_A
  dsimp only
  intro p hp
  simp only [List.mem_cons, List.not_mem_nil, or_false] at hp
  rcases hp with rfl | rfl | rfl | rfl | rfl | rfl | rfl | rfl
  · exact (z_piece c arg2 harg2 arg3 harg3 arg4 harg4 arg5 harg5 arg6 harg6 arg7 harg7 arg8 harg8 arg9 harg9 arg25 x0 x1 x2 x3 x4 x5 x6 x7 3 1 3392 256 (by omega) rfl rfl inb_S1x4x2x256x256_S1x1x1x256x256_0_3_1_0_0 (by decide) inb_S3648x1024_S256x1024_3392_0 :)
  · exact (z_piece c arg2 harg2 arg3 harg3 arg4 harg4 arg5 harg5 arg6 harg6 arg7 harg7 arg8 harg8 arg9 harg9 arg25 x0 x1 x2 x3 x4 x5 x6 x7 3 0 3392 0 (by omega) rfl rfl inb_S1x4x2x256x256_S1x1x1x256x256_0_3_0_0_0 (by decide) inb_S3648x1024_S256x1024_3392_0 :)
  · exact (z_piece c arg2 harg2 arg3 harg3 arg4 harg4 arg5 harg5 arg6 harg6 arg7 harg7 arg8 harg8 arg9 harg9 arg25 x0 x1 x2 x3 x4 x5 x6 x7 2 1 3136 256 (by omega) rfl rfl inb_S1x4x2x256x256_S1x1x1x256x256_0_2_1_0_0 (by decide) inb_S3648x1024_S256x1024_3136_0 :)
  · exact (z_piece c arg2 harg2 arg3 harg3 arg4 harg4 arg5 harg5 arg6 harg6 arg7 harg7 arg8 harg8 arg9 harg9 arg25 x0 x1 x2 x3 x4 x5 x6 x7 2 0 3136 0 (by omega) rfl rfl inb_S1x4x2x256x256_S1x1x1x256x256_0_2_0_0_0 (by decide) inb_S3648x1024_S256x1024_3136_0 :)
  · exact (z_piece c arg2 harg2 arg3 harg3 arg4 harg4 arg5 harg5 arg6 harg6 arg7 harg7 arg8 harg8 arg9 harg9 arg25 x0 x1 x2 x3 x4 x5 x6 x7 1 1 2880 256 (by omega) rfl rfl inb_S1x4x2x256x256_S1x1x1x256x256_0_1_1_0_0 (by decide) inb_S3648x1024_S256x1024_2880_0 :)
  · exact (z_piece c arg2 harg2 arg3 harg3 arg4 harg4 arg5 harg5 arg6 harg6 arg7 harg7 arg8 harg8 arg9 harg9 arg25 x0 x1 x2 x3 x4 x5 x6 x7 1 0 2880 0 (by omega) rfl rfl inb_S1x4x2x256x256_S1x1x1x256x256_0_1_0_0_0 (by decide) inb_S3648x1024_S256x1024_2880_0 :)
  · exact (z_piece c arg2 harg2 arg3 harg3 arg4 harg4 arg5 harg5 arg6 harg6 arg7 harg7 arg8 harg8 arg9 harg9 arg25 x0 x1 x2 x3 x4 x5 x6 x7 0 1 2624 256 (by omega) rfl rfl inb_S1x4x2x256x256_S1x1x1x256x256_0_0_1_0_0 (by decide) inb_S3648x1024_S256x1024_2624_0 :)
  · exact (z_piece c arg2 harg2 arg3 harg3 arg4 harg4 arg5 harg5 arg6 harg6 arg7 harg7 arg8 harg8 arg9 harg9 arg25 x0 x1 x2 x3 x4 x5 x6 x7 0 0 2624 0 (by omega) rfl rfl inb_S1x4x2x256x256_S1x1x1x256x256_0_0_0_0_0 (by decide) inb_S3648x1024_S256x1024_2624_0 :)

end Blocks

end Cert.Proof.NsaIn

end
-- ==== Proof.NsaTokens.lean ====
/-
  Hand-written. THE NSA INPUT PROJECTION, TOKEN BY TOKEN: the arrays that the NSA call produces beside those it shares
  with the MoBA call, and the reference's terms for them.
-/
module

public import proofs.«01_k».proof.Proof.NsaTiles
public import proofs.«01_k».proof.Proof.RefTokens

@[expose] public section

noncomputable section

namespace Cert.Proof.Tiles

open Idealize.ShloMosaic Idealize.ShloMosaic.TcCoe

abbrev W16x4x8x256x64 : Shape := ⟨5, ![16, 4, 8, 256, 64]⟩
abbrev W16x4x8x16x256 : Shape := ⟨5, ![16, 4, 8, 16, 256]⟩
abbrev W16x8x256x4x64 : Shape := ⟨5, ![16, 8, 256, 4, 64]⟩
abbrev W16x8x256x4x16 : Shape := ⟨5, ![16, 8, 256, 4, 16]⟩
abbrev W4x16 : Shape := ⟨2, ![4, 16]⟩
abbrev W1x1x4x1x1x16 : Shape := ⟨6, ![1, 1, 4, 1, 1, 16]⟩
abbrev W16x8x4x64x4x16 : Shape := ⟨6, ![16, 8, 4, 64, 4, 16]⟩
abbrev W16x2048x4x16 : Shape := ⟨4, ![16, 2048, 4, 16]⟩
abbrev W1x1x64 : Shape := ⟨3, ![1, 1, 64]⟩
abbrev W16x2048x64 : Shape := ⟨3, ![16, 2048, 64]⟩

/-! ## The arrays -/

section
variable (p' : Fin 16 → Fin 2048 → Fin 256 → EReal) (p6 : Fin 16 → Fin 2048 → Fin 64 → EReal) (g : Vec Ideal V64 .f32) (c s : Vec Ideal W16x8x2048 .f32)

/-- The sub-block of 64 tokens, within its block of 256, that token `T` lies in. -/
def subBlock (T : Fin 2048) (a : Fin 16) : EReal := if T.val % 256 / 64 = a.val then 1 else 0

def tokW (b : Fin 16) (T : Fin 2048) (G : Fin 4) (a : Fin 64) : EReal :=
  wAt (p' b T) (fun j => g (ix1 j)) (fun k => c (ix3 b k T)) (fun k => s (ix3 b k T)) G a

def tokC (b : Fin 16) (T : Fin 2048) (G : Fin 4) (a : Fin 64) : EReal := cAt (p' b T) G a

def tokG (b : Fin 16) (T : Fin 2048) (G : Fin 4) (r : Fin 16) : EReal := gAt (p6 b T) (fun j => g (ix1 j)) G r

/-- The window keys: a chunk holds 256 tokens of one head. -/
def arrW : W16x4x8x256x64.Idx → EReal := fun i => tokW p' g c s (i 0) (tok' (i 2) (i 3)) (i 1) (i 4)

/-- Plain heads, in chunks of 256 tokens. -/
def arrC : W16x4x8x256x64.Idx → EReal := fun i => tokC p' (i 0) (tok' (i 2) (i 3)) (i 1) (i 4)

/-- The gates: a tile holds the sixteen gates of a group at 256 tokens. -/
def arrG : W16x4x8x16x256.Idx → EReal := fun i => tokG p6 g (i 0) (tok' (i 2) (i 4)) (i 1) (i 3)

end

/-! ## The reference's terms -/

/-- The sub-block markers. -/
def hostMarks : FVec Ideal W16x2048x4x16 .f32 :=
  let z : IVec W4x16 32 := broadcastInDim W4x16 ![] (by decide) (constantI W0 32 0#32)
  let e : FVec Ideal W4x16 .f32 := uitofp .f32 (cmpi .eq (addi (iotaInDim W4x16 32 0) z) (iotaInDim W4x16 32 1))
  let u : FVec Ideal W16x8x4x64x4x16 .f32 := broadcastInDim W16x8x4x64x4x16 ![0, 1, 2, 3, 4, 5] (by decide) (shapeCast W1x1x4x1x1x16 e (by decide) : FVec Ideal W1x1x4x1x1x16 .f32)
  shapeCast W16x2048x4x16 u (by decide)

theorem hostMarks_apply (b : Fin 16) (T : Fin 2048) (G : Fin 4) (a : Fin 16) : hostMarks (ix4 b T G a) = subBlock T a := by
  unfold hostMarks
  pointwise
  have key : ∀ (u : Fin 4) (v : Fin 16), IntOp.cmpi .eq (IntOp.addi (BitVec.ofNat 32 u.val) 0#32) (BitVec.ofNat 32 v.val) = if u.val = v.val then 1#1 else 0#1 := by decide
  have hT : T.val / 64 % 4 = T.val % 256 / 64 := by omega
  refine (congrArg (FloatOps.uitofp FTy.f32) (key ⟨T.val / 64 % 4, by omega⟩ a)).trans ?_
  show (FloatOps.uitofp FTy.f32 (if T.val / 64 % 4 = a.val then 1#1 else 0#1) : Ideal .f32) = subBlock T a
  unfold subBlock
  rw [hT]
  split
  · show (((1#1 : BitVec 1).toNat : ℝ) : EReal) = 1
    norm_num
  · show (((0#1 : BitVec 1).toNat : ℝ) : EReal) = 0
    norm_num

theorem cat_marks : Shape.Concatenates [W16x2048x4x64, W16x2048x4x16] W16x2048x4x80 3 := by decide

/-- Heads with the sub-block markers beside them. -/
def hostMarked (Y : FVec Ideal W16x2048x4x64 .f32) : FVec Ideal W16x2048x4x80 .f32 :=
  concatenate W16x2048x4x80 3 [⟨W16x2048x4x64, Y⟩, ⟨W16x2048x4x16, hostMarks⟩] cat_marks

theorem hostMarked_apply (Y : FVec Ideal W16x2048x4x64 .f32) (b : Fin 16) (T : Fin 2048) (G : Fin 4) (a : Fin 80) :
    hostMarked Y (ix4 b T G a) = if h : a.val < 64 then Y (ix4 b T G ⟨a.val, h⟩) else subBlock T ⟨a.val - 64, by omega⟩ := by
  unfold hostMarked
  pointwise [hostMarks_apply]

/-- Token-major heads as chunks of 256 tokens. -/
def hostChunks64 (Y : FVec Ideal W16x2048x4x64 .f32) : FVec Ideal W16x4x8x256x64 .f32 :=
  transpose W16x4x8x256x64 [0, 3, 1, 2, 4] (shapeCast W16x8x256x4x64 Y (by decide) : FVec Ideal W16x8x256x4x64 .f32) (by decide)

theorem hostChunks64_apply (Y : FVec Ideal W16x2048x4x64 .f32) (b : Fin 16) (G : Fin 4) (i : Fin 8) (t : Fin 256) (r : Fin 64) :
    hostChunks64 Y (ix5 b G i t r) = Y (ix4 b ⟨i.val * 256 + t.val, by omega⟩ G r) := by
  unfold hostChunks64
  pointwise

section
variable {n : Nat} (P : FVec Ideal ⟨3, ![16, 2048, n]⟩ .f32) {p : Fin 16 → Fin 2048 → Fin n → EReal} (o : Nat) (g : Vec Ideal V64 .f32)
  (c s : Vec Ideal W16x8x2048 .f32)

/-- The gates as tiles. -/
def hostGates (h : (⟨3, ![16, 2048, n]⟩ : Shape).Slices ![0, 0, o] W16x2048x64) : FVec Ideal W16x4x8x16x256 .f32 :=
  let z : FVec Ideal W16x2048x64 .f32 := extractStridedSlice W16x2048x64 ![0, 0, o] P h
  let w : FVec Ideal W16x2048x64 .f32 := addf z (broadcastInDim W16x2048x64 ![0, 1, 2] (by decide) (broadcastInDim W1x1x64 ![2] (by decide) g))
  let u : FVec Ideal W16x2048x64 .f32 := broadcastInDim W16x2048x64 ![] (by decide) (constant W0 .f32 0x3F800000#32 : FVec Ideal W0 .f32)
  let v : FVec Ideal W16x2048x64 .f32 := Host.divf u (addf u (Host.exp (Host.negf w)))
  transpose W16x4x8x16x256 [0, 3, 1, 4, 2] (shapeCast W16x8x256x4x16 v (by decide) : FVec Ideal W16x8x256x4x16 .f32) (by decide)

theorem hostGates_eq (h) (ho : o + 64 ≤ n) (hp : ∀ b T r, P (ix3 b T r) = p b T r) :
    hostGates P o g h = arrG (fun b T => rows (p b T) o 64 ho) g := by
  funext y
  obtain ⟨b, G, i, r, t, rfl⟩ : ∃ (b : Fin 16) (G : Fin 4) (i : Fin 8) (r : Fin 16) (t : Fin 256), y = (ix5 b G i r t : W16x4x8x16x256.Idx) := ⟨_, _, _, _, _, eq_ix5 y⟩
  unfold hostGates
  pointwise [slice_idx h ho P, hp]
  show Ideal.logistic (p b (tok' i t) ⟨o + (G.val * 16 + r.val), _⟩ + g (ix1 ⟨G.val * 16 + r.val, _⟩)) = Ideal.logistic (p b (tok' i t) ⟨o + (16 * G.val + r.val), _⟩ + g (ix1 ⟨16 * G.val + r.val, _⟩))
  simp only [Nat.mul_comm]

/-- Four heads with the sub-block markers beside them, as chunks. -/
theorem hostS_eq (h) (ho : o + 256 ≤ n) (hp : ∀ b T r, P (ix3 b T r) = p b T r) (hb : FTy.bf16.bits < FTy.f32.bits) :
    (truncf .bf16 (hostChunks80 (hostMarked (hostHeads4 (hostSlice4 P o h) g c s))) hb : FVec Ideal W16x4x8x256x80 .bf16)
      = arrK (fun b T => rows (p b T) o 256 ho) g c s subBlock := by
  funext y
  obtain ⟨b, G, i, t, a, rfl⟩ : ∃ (b : Fin 16) (G : Fin 4) (i : Fin 8) (t : Fin 256) (a : Fin 80), y = (ix5 b G i t a : W16x4x8x256x80.Idx) := ⟨_, _, _, _, _, eq_ix5 y⟩
  refine (hostChunks80_apply (hostMarked (hostHeads4 (hostSlice4 P o h) g c s)) b G i t a).trans ?_
  rw [hostMarked_apply]
  show _ = tokK (fun b T => rows (p b T) o 256 ho) g c s subBlock b (tok' i t) G a
  unfold tokK kAt
  split
  · rw [hostHeads4_apply]
    refine rope_congr (fun j => nrm_congr (fun j => ?_) (fun _ => rfl) j) (fun _ => rfl) (fun _ => rfl) rfl
    rw [hostSlice4_apply P o h ho, hp]
    refine congrArg (p b (tok' i t)) (Fin.ext ?_)
    show o + (G.val * 64 + j.val) = o + (64 * G.val + j.val)
    omega
  · rfl

/-- Four heads, as chunks. -/
theorem hostW_eq (h) (ho : o + 256 ≤ n) (hp : ∀ b T r, P (ix3 b T r) = p b T r) (hb : FTy.bf16.bits < FTy.f32.bits) :
    (truncf .bf16 (hostChunks64 (hostHeads4 (hostSlice4 P o h) g c s)) hb : FVec Ideal W16x4x8x256x64 .bf16)
      = arrW (fun b T => rows (p b T) o 256 ho) g c s := by
  funext y
  obtain ⟨b, G, i, t, a, rfl⟩ : ∃ (b : Fin 16) (G : Fin 4) (i : Fin 8) (t : Fin 256) (a : Fin 64), y = (ix5 b G i t a : W16x4x8x256x64.Idx) := ⟨_, _, _, _, _, eq_ix5 y⟩
  refine (hostChunks64_apply (hostHeads4 (hostSlice4 P o h) g c s) b G i t a).trans ?_
  show _ = tokW (fun b T => rows (p b T) o 256 ho) g c s b (tok' i t) G a
  unfold tokW wAt
  rw [hostHeads4_apply]
  refine rope_congr (fun j => nrm_congr (fun j => ?_) (fun _ => rfl) j) (fun _ => rfl) (fun _ => rfl) rfl
  rw [hostSlice4_apply P o h ho, hp]
  refine congrArg (p b (tok' i t)) (Fin.ext ?_)
  show o + (G.val * 64 + j.val) = o + (64 * G.val + j.val)
  omega

/-- Plain heads, as chunks. -/
theorem hostC_eq (h) (ho : o + 256 ≤ n) (hp : ∀ b T r, P (ix3 b T r) = p b T r) :
    hostChunks64 (hostSlice4 P o h) = arrC (fun b T => rows (p b T) o 256 ho) := by
  funext y
  obtain ⟨b, G, i, t, a, rfl⟩ : ∃ (b : Fin 16) (G : Fin 4) (i : Fin 8) (t : Fin 256) (a : Fin 64), y = (ix5 b G i t a : W16x4x8x256x64.Idx) := ⟨_, _, _, _, _, eq_ix5 y⟩
  rw [hostChunks64_apply, hostSlice4_apply P o h ho, hp]
  refine congrArg (p b (tok' i t)) (Fin.ext ?_)
  show o + (G.val * 64 + a.val) = o + (64 * G.val + a.val)
  omega

end

end Cert.Proof.Tiles

end
-- ==== Proof.NsaValue.lean ====
/-
  Hand-written. THE NSA INPUT PROJECTION, THE WHOLE ARRAYS: the kernel's ten result arrays as functions of one token
  of the fourteen arguments.
-/
module

public import proofs.«01_k».proof.Proof.NsaBlock
public import proofs.«01_k».proof.Proof.NsaTokens
public import Idealize.ShloMosaic.Lib.Pipeline.ValueKit.Geometry

@[expose] public section

noncomputable section

namespace Cert.Proof.NsaIn

open Idealize.ShloMosaic Idealize.ShloMosaic.TcCoe Idealize.SL.Sem
open Idealize.ShloMosaic.Pipeline (Dat Window)
open Cert.NsaInIdeal Cert.NsaInIdeal.Gen Cert.Proof.Tiles

/-- The residual stream, the normed stream and the projected rows at a token. -/
def X (a0 : Vec Ideal S16x4x8x256x256 .bf16) (a1 : Vec Ideal S1024x1024 .f32) (a2 : Vec Ideal S16x1024x1 .f32) (a3 : Vec Ideal S16x1024x2048 .f32) :
    Fin 16 → Fin 2048 → Fin 1024 → EReal := tokX a0 a1 a2 a3

def PP (a0 : Vec Ideal S16x4x8x256x256 .bf16) (a1 : Vec Ideal S1024x1024 .f32) (a2 : Vec Ideal S16x1024x1 .f32) (a3 : Vec Ideal S16x1024x2048 .f32)
    (a4 : Vec Ideal S1024 .f32) (a5 a6 : Vec Ideal S16x1024x1 .f32) (a7 : Vec Ideal S1024x3648 .f32) : Fin 16 → Fin 2048 → Fin 3648 → EReal :=
  tokP a7 (tokH (X a0 a1 a2 a3) a4 a5 a6)

section Kernel
variable (m : (ℓ : Loc nD τ sig) → Buf (Elt Ideal) ℓ)

/-- The blocks' places: point `t` is sequence `t / 4`, token block `t % 4`. -/
theorem places : ∀ t : Fin grid0.N,
    (win0_0.index t = ![t.val / 4, 0, t.val % 4, 0, 0]
      ∧ win0_1.index t = ![0, 0]
      ∧ win0_2.index t = ![t.val / 4, 0, 0]
      ∧ win0_3.index t = ![t.val / 4, 0, t.val % 4]
      ∧ win0_4.index t = ![0, 0]
      ∧ win0_5.index t = ![t.val / 4, 0, 0]
      ∧ win0_6.index t = ![t.val / 4, 0, 0]
      ∧ win0_7.index t = ![0, 0]
      ∧ win0_8.index t = ![0, 0]
      ∧ win0_9.index t = ![0, 0]
      ∧ win0_10.index t = ![0, 0]
      ∧ win0_11.index t = ![0, 0]
      ∧ win0_12.index t = ![t.val / 4, 0, t.val % 4]
      ∧ win0_13.index t = ![t.val / 4, 0, t.val % 4])
    ∧ win0_14.index t = ![t.val / 4, 0, t.val % 4, 0, 0]
      ∧ win0_15.index t = ![t.val / 4, 0, t.val % 4, 0, 0]
      ∧ win0_16.index t = ![t.val / 4, 0, t.val % 4, 0, 0]
      ∧ win0_17.index t = ![t.val / 4, 0, t.val % 4, 0, 0]
      ∧ win0_18.index t = ![t.val / 4, 0, t.val % 4, 0, 0]
      ∧ win0_19.index t = ![t.val / 4, 0, t.val % 4, 0, 0]
      ∧ win0_20.index t = ![t.val / 4, 0, t.val % 4, 0, 0]
      ∧ win0_21.index t = ![t.val / 4, 0, t.val % 4, 0, 0]
      ∧ win0_22.index t = ![t.val / 4, 0, t.val % 4, 0, 0]
      ∧ win0_23.index t = ![t.val / 4, 0, t.val % 4] := by
  decide +kernel

def seq (t : Fin cfg0.N) : Fin 16 := ⟨t.val / 4, by have h : t.val < 64 := t.isLt; omega⟩
def part (t : Fin cfg0.N) : Fin 4 := ⟨t.val % 4, by omega⟩
theorem seq_val (t : Fin cfg0.N) : (seq t).val = t.val / 4 := rfl
theorem part_val (t : Fin cfg0.N) : (part t).val = t.val % 4 := rfl

section Arrays
variable (c : Dev nD)
abbrev A0 : Vec Ideal S16x4x8x256x256 .bf16 := m ((c : Thread nD τ).loc main_arg0)
abbrev A1 : Vec Ideal S1024x1024 .f32 := m ((c : Thread nD τ).loc main_arg1)
abbrev A2 : Vec Ideal S16x1024x1 .f32 := m ((c : Thread nD τ).loc main_arg2)
abbrev A3 : Vec Ideal S16x1024x2048 .f32 := m ((c : Thread nD τ).loc main_arg3)
abbrev A4 : Vec Ideal S1024 .f32 := m ((c : Thread nD τ).loc main_arg4)
abbrev A5 : Vec Ideal S16x1024x1 .f32 := m ((c : Thread nD τ).loc main_arg5)
abbrev A6 : Vec Ideal S16x1024x1 .f32 := m ((c : Thread nD τ).loc main_arg6)
abbrev A7 : Vec Ideal S1024x3648 .f32 := m ((c : Thread nD τ).loc main_arg7)
abbrev A8 : Vec Ideal S64 .f32 := m ((c : Thread nD τ).loc main_arg8)
abbrev A9 : Vec Ideal S64 .f32 := m ((c : Thread nD τ).loc main_arg9)
abbrev A10 : Vec Ideal S64 .f32 := m ((c : Thread nD τ).loc main_arg10)
abbrev A11 : Vec Ideal S64 .f32 := m ((c : Thread nD τ).loc main_arg11)
abbrev A12 : Vec Ideal S16x8x2048 .f32 := m ((c : Thread nD τ).loc main_arg12)
abbrev A13 : Vec Ideal S16x8x2048 .f32 := m ((c : Thread nD τ).loc main_arg13)
end Arrays

/-! ## The arrays the host lays out -/

theorem V_v1 (c : Dev nD) (p q : Fin 1024) : (Gen.V m c main_v1 : Vec Ideal S1024x1024 .bf16) (ix2 p q) = A1 m c (ix2 q p) := by
  have e : (Gen.V m c main_v1 : Vec Ideal S1024x1024 .bf16)
      = truncf .bf16 (transpose S1024x1024 [1, 0] (A1 m c) transposes_S1024x1024_S1024x1024_1_0 : FVec Ideal S1024x1024 .f32) bitsLt_bf16_f32 := by
    unfold Gen.V; after_results <;> rfl
  rw [e]
  pointwise

theorem V_v2 (c : Dev nD) (p : Fin 1024) : (Gen.V m c main_v2 : Vec Ideal S1024x1 .f32) (ix2 p 0) = A4 m c (ix1 p) := by
  have e : (Gen.V m c main_v2 : Vec Ideal S1024x1 .f32) = shapeCast S1024x1 (A4 m c) shapeCasts_S1024_S1024x1 := by
    unfold Gen.V; after_results <;> rfl
  rw [e]
  pointwise

theorem V_v4 (c : Dev nD) (p : Fin 3648) (q : Fin 1024) : (Gen.V m c main_v4 : Vec Ideal S3648x1024 .bf16) (ix2 p q) = A7 m c (ix2 q p) := by
  have e : (Gen.V m c main_v4 : Vec Ideal S3648x1024 .bf16)
      = truncf .bf16 (transpose S3648x1024 [1, 0] (A7 m c) transposes_S1024x3648_S3648x1024_1_0 : FVec Ideal S3648x1024 .f32) bitsLt_bf16_f32 := by
    unfold Gen.V; after_results <;> rfl
  rw [e]
  pointwise

theorem V_v5 (c : Dev nD) (p : Fin 64) : (Gen.V m c main_v5 : Vec Ideal S64x1 .f32) (ix2 p 0) = A8 m c (ix1 p) := by
  have e : (Gen.V m c main_v5 : Vec Ideal S64x1 .f32) = shapeCast S64x1 (A8 m c) shapeCasts_S64_S64x1 := by
    unfold Gen.V; after_results <;> rfl
  rw [e]
  pointwise

theorem V_v6 (c : Dev nD) (p : Fin 64) : (Gen.V m c main_v6 : Vec Ideal S64x1 .f32) (ix2 p 0) = A9 m c (ix1 p) := by
  have e : (Gen.V m c main_v6 : Vec Ideal S64x1 .f32) = shapeCast S64x1 (A9 m c) shapeCasts_S64_S64x1 := by
    unfold Gen.V; after_results <;> rfl
  rw [e]
  pointwise

theorem V_v7 (c : Dev nD) (p : Fin 64) : (Gen.V m c main_v7 : Vec Ideal S64x1 .f32) (ix2 p 0) = A10 m c (ix1 p) := by
  have e : (Gen.V m c main_v7 : Vec Ideal S64x1 .f32) = shapeCast S64x1 (A10 m c) shapeCasts_S64_S64x1 := by
    unfold Gen.V; after_results <;> rfl
  rw [e]
  pointwise

theorem V_v8 (c : Dev nD) (p : Fin 64) : (Gen.V m c main_v8 : Vec Ideal S64x1 .f32) (ix2 p 0) = A11 m c (ix1 p) := by
  have e : (Gen.V m c main_v8 : Vec Ideal S64x1 .f32) = shapeCast S64x1 (A11 m c) shapeCasts_S64_S64x1 := by
    unfold Gen.V; after_results <;> rfl
  rw [e]
  pointwise

/-! ## The blocks, as parts of the arrays -/

variable (c : Dev nD) (t : Fin cfg0.N)

theorem e0 (h : Fin 4) (s' : Fin 2) (k a : Fin 256) : iblk m c 0 t (ix5 0 h s' k a) = A0 m c (ix5 (seq t) h (tile (part t) s') k a) := by
  obtain ⟨⟨p, -⟩, -⟩ := places t
  blk_simp [iblk]
  rw [V_main_arg0]
  refine congrArg _ ?_
  blk_ext [p, seq_val, part_val, tok_val, tile_val]

theorem e1 (d f : Fin 1024) : iblk m c 1 t (ix2 d f) = A1 m c (ix2 f d) := by
  obtain ⟨⟨-, p, -⟩, -⟩ := places t
  refine Eq.trans ?_ (V_v1 m c d f)
  blk_simp [iblk]
  refine congrArg _ ?_
  blk_ext [p]

theorem e2 (d : Fin 1024) : iblk m c 2 t (ix3 0 d 0) = A2 m c (ix3 (seq t) d 0) := by
  obtain ⟨⟨-, -, p, -⟩, -⟩ := places t
  blk_simp [iblk]
  rw [V_main_arg2]
  refine congrArg _ ?_
  blk_ext [p, seq_val, part_val, tok_val, tile_val]

theorem e3 (d : Fin 1024) (s : Fin 512) : iblk m c 3 t (ix3 0 d s) = A3 m c (ix3 (seq t) d (tok (part t) s)) := by
  obtain ⟨⟨-, -, -, p, -⟩, -⟩ := places t
  blk_simp [iblk]
  rw [V_main_arg3]
  refine congrArg _ ?_
  blk_ext [p, seq_val, part_val, tok_val, tile_val]

theorem e4 (d : Fin 1024) : iblk m c 4 t (ix2 d 0) = A4 m c (ix1 d) := by
  obtain ⟨⟨-, -, -, -, p, -⟩, -⟩ := places t
  refine Eq.trans ?_ (V_v2 m c d)
  blk_simp [iblk]
  refine congrArg _ ?_
  blk_ext [p]

theorem e5 (d : Fin 1024) : iblk m c 5 t (ix3 0 d 0) = A5 m c (ix3 (seq t) d 0) := by
  obtain ⟨⟨-, -, -, -, -, p, -⟩, -⟩ := places t
  blk_simp [iblk]
  rw [V_main_arg5]
  refine congrArg _ ?_
  blk_ext [p, seq_val, part_val, tok_val, tile_val]

theorem e6 (d : Fin 1024) : iblk m c 6 t (ix3 0 d 0) = A6 m c (ix3 (seq t) d 0) := by
  obtain ⟨⟨-, -, -, -, -, -, p, -⟩, -⟩ := places t
  blk_simp [iblk]
  rw [V_main_arg6]
  refine congrArg _ ?_
  blk_ext [p, seq_val, part_val, tok_val, tile_val]

theorem e7 (r : Fin 3648) (d : Fin 1024) : iblk m c 7 t (ix2 r d) = A7 m c (ix2 d r) := by
  obtain ⟨⟨-, -, -, -, -, -, -, p, -⟩, -⟩ := places t
  refine Eq.trans ?_ (V_v4 m c r d)
  blk_simp [iblk]
  refine congrArg _ ?_
  blk_ext [p]

theorem e8 (j : Fin 64) : iblk m c 8 t (ix2 j 0) = A8 m c (ix1 j) := by
  obtain ⟨⟨-, -, -, -, -, -, -, -, p, -⟩, -⟩ := places t
  refine Eq.trans ?_ (V_v5 m c j)
  blk_simp [iblk]
  refine congrArg _ ?_
  blk_ext [p]

theorem e9 (j : Fin 64) : iblk m c 9 t (ix2 j 0) = A9 m c (ix1 j) := by
  obtain ⟨⟨-, -, -, -, -, -, -, -, -, p, -⟩, -⟩ := places t
  refine Eq.trans ?_ (V_v6 m c j)
  blk_simp [iblk]
  refine congrArg _ ?_
  blk_ext [p]

theorem e10 (j : Fin 64) : iblk m c 10 t (ix2 j 0) = A10 m c (ix1 j) := by
  obtain ⟨⟨-, -, -, -, -, -, -, -, -, -, p, -⟩, -⟩ := places t
  refine Eq.trans ?_ (V_v7 m c j)
  blk_simp [iblk]
  refine congrArg _ ?_
  blk_ext [p]

theorem e11 (j : Fin 64) : iblk m c 11 t (ix2 j 0) = A11 m c (ix1 j) := by
  obtain ⟨⟨-, -, -, -, -, -, -, -, -, -, -, p, -⟩, -⟩ := places t
  refine Eq.trans ?_ (V_v8 m c j)
  blk_simp [iblk]
  refine congrArg _ ?_
  blk_ext [p]

theorem e12 (k : Fin 8) (s : Fin 512) : iblk m c 12 t (ix3 0 k s) = A12 m c (ix3 (seq t) k (tok (part t) s)) := by
  obtain ⟨⟨-, -, -, -, -, -, -, -, -, -, -, -, p, -⟩, -⟩ := places t
  blk_simp [iblk]
  rw [V_main_arg12]
  refine congrArg _ ?_
  blk_ext [p, seq_val, part_val, tok_val, tile_val]

theorem e13 (k : Fin 8) (s : Fin 512) : iblk m c 13 t (ix3 0 k s) = A13 m c (ix3 (seq t) k (tok (part t) s)) := by
  obtain ⟨⟨-, -, -, -, -, -, -, -, -, -, -, -, -, p⟩, -⟩ := places t
  blk_simp [iblk]
  rw [V_main_arg13]
  refine congrArg _ ?_
  blk_ext [p, seq_val, part_val, tok_val, tile_val]

/-- The block's residual stream and projected rows are the sequence's, at the block's tokens. -/
theorem block_X (s : Fin 512) : xAt (iblk m c 0 t) (iblk m c 1 t) (iblk m c 2 t) (iblk m c 3 t) s
    = X (A0 m c) (A1 m c) (A2 m c) (A3 m c) (seq t) (tok (part t) s) :=
  xAt_eq (e0 m c t) (e1 m c t) (e2 m c t) (e3 m c t) s

theorem block_P (s : Fin 512) : P (iblk m c 0 t) (iblk m c 1 t) (iblk m c 2 t) (iblk m c 3 t) (iblk m c 4 t) (iblk m c 5 t) (iblk m c 6 t) (iblk m c 7 t) s
    = PP (A0 m c) (A1 m c) (A2 m c) (A3 m c) (A4 m c) (A5 m c) (A6 m c) (A7 m c) (seq t) (tok (part t) s) :=
  pAt_eq (hAt_eq (block_X m c t) (e4 m c t) (e5 m c t) (e6 m c t)) (e7 m c t) s

/-- `k` projected rows from `o` on, at every token. -/
abbrev rowsOf (o k : Nat) (h : o + k ≤ 3648) : Fin 16 → Fin 2048 → Fin k → EReal := fun b T =>
  rows (PP (A0 m c) (A1 m c) (A2 m c) (A3 m c) (A4 m c) (A5 m c) (A6 m c) (A7 m c) b T) o k h

/-- What the kernel leaves in its ten result arrays: the queries, -/
theorem kernel_q : (dats m 0 c).arrAt 14 cfg0.N = arrQ (rowsOf m c 0 1024 (by omega)) (A8 m c) (A12 m c) (A13 m c) := by
  refine (dats m 0 c).arrAt_eq_of_covers 14 _ (by decide +kernel) fun t _ y => ?_
  have p := (places t).2
  refine (congrFun (Value.flushed14_A m c t) y).trans ?_
  refine (out14_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', r, t', rfl⟩ : ∃ (o : Fin 1) (G : Fin 4) (s' : Fin 2) (r : Fin 256) (t' : Fin 256), y = (ix5 o G s' r t' : S1x4x2x256x256.Idx) := ⟨_, _, _, _, _, eq_ix5 _⟩
  have ey : ((cfg0.win 14).blk t).view.emb (ix5 o G s' r t' : S1x4x2x256x256.Idx) = (ix5 (seq t) G (tile (part t) s') r t' : S16x4x8x256x256.Idx) := by
    blk_ext [p, seq_val, part_val, tok_val, tile_val]
  refine Eq.trans ?_ (congrArg _ ey.symm)
  show Q _ _ _ _ _ _ _ _ _ _ _ (ix5 o G s' r t') = _
  simp only [Q, block_P, e8, e12, e13]
  exact congrArg (tokQ (rowsOf m c 0 1024 (by omega)) (A8 m c) (A12 m c) (A13 m c) (seq t) · G r) (tok_eq (part t) s' t' (by omega))

/-- the selection keys, -/
theorem kernel_ks : (dats m 0 c).arrAt 15 cfg0.N = arrK (rowsOf m c 1024 256 (by omega)) (A9 m c) (A12 m c) (A13 m c) subBlock := by
  refine (dats m 0 c).arrAt_eq_of_covers 15 _ (by decide +kernel) fun t _ y => ?_
  have p := (places t).2
  refine (congrFun (Value.flushed15_A m c t) y).trans ?_
  refine (out15_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', t', a, rfl⟩ : ∃ (o : Fin 1) (G : Fin 4) (s' : Fin 2) (t' : Fin 256) (a : Fin 80), y = (ix5 o G s' t' a : S1x4x2x256x80.Idx) := ⟨_, _, _, _, _, eq_ix5 _⟩
  have ey : ((cfg0.win 15).blk t).view.emb (ix5 o G s' t' a : S1x4x2x256x80.Idx) = (ix5 (seq t) G (tile (part t) s') t' a : S16x4x8x256x80.Idx) := by
    blk_ext [p, seq_val, part_val, tok_val, tile_val]
  refine Eq.trans ?_ (congrArg _ ey.symm)
  show KS _ _ _ _ _ _ _ _ _ _ _ (ix5 o G s' t' a) = _
  simp only [KS, block_P, e9, e12, e13]
  have es : (fun a : Fin 16 => if t'.val / 64 = a.val then (1 : EReal) else 0) = subBlock (tok' (tile (part t) s') t') := by
    funext a
    unfold subBlock
    rw [show (tok' (tile (part t) s') t').val % 256 = t'.val from by simp only [tok'_val, tile_val]; omega]
  have et := tok_eq (part t) s' t' (by omega)
  show kAt _ _ _ _ (fun a : Fin 16 => if t'.val / 64 = a.val then (1 : EReal) else 0) G a = _
  rw [es]
  exact congrArg (fun T => kAt (rowsOf m c 1024 256 (by omega) (seq t) T) (fun j => A9 m c (ix1 j)) (fun k => A12 m c (ix3 (seq t) k T)) (fun k => A13 m c (ix3 (seq t) k T)) (subBlock (tok' (tile (part t) s') t')) G a) et

/-- the window keys, -/
theorem kernel_kw : (dats m 0 c).arrAt 16 cfg0.N = arrW (rowsOf m c 1280 256 (by omega)) (A10 m c) (A12 m c) (A13 m c) := by
  refine (dats m 0 c).arrAt_eq_of_covers 16 _ (by decide +kernel) fun t _ y => ?_
  have p := (places t).2
  refine (congrFun (Value.flushed16_A m c t) y).trans ?_
  refine (out16_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', t', a, rfl⟩ : ∃ (o : Fin 1) (G : Fin 4) (s' : Fin 2) (t' : Fin 256) (a : Fin 64), y = (ix5 o G s' t' a : S1x4x2x256x64.Idx) := ⟨_, _, _, _, _, eq_ix5 _⟩
  have ey : ((cfg0.win 16).blk t).view.emb (ix5 o G s' t' a : S1x4x2x256x64.Idx) = (ix5 (seq t) G (tile (part t) s') t' a : S16x4x8x256x64.Idx) := by
    blk_ext [p, seq_val, part_val, tok_val, tile_val]
  refine Eq.trans ?_ (congrArg _ ey.symm)
  show KW _ _ _ _ _ _ _ _ _ _ _ (ix5 o G s' t' a) = _
  simp only [KW, block_P, e10, e12, e13]
  exact congrArg (tokW (rowsOf m c 1280 256 (by omega)) (A10 m c) (A12 m c) (A13 m c) (seq t) · G a) (tok_eq (part t) s' t' (by omega))

/-- the keys to be compressed, -/
theorem kernel_kc : (dats m 0 c).arrAt 17 cfg0.N = arrC (rowsOf m c 1536 256 (by omega)) := by
  refine (dats m 0 c).arrAt_eq_of_covers 17 _ (by decide +kernel) fun t _ y => ?_
  have p := (places t).2
  refine (congrFun (Value.flushed17_A m c t) y).trans ?_
  refine (out17_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', t', a, rfl⟩ : ∃ (o : Fin 1) (G : Fin 4) (s' : Fin 2) (t' : Fin 256) (a : Fin 64), y = (ix5 o G s' t' a : S1x4x2x256x64.Idx) := ⟨_, _, _, _, _, eq_ix5 _⟩
  have ey : ((cfg0.win 17).blk t).view.emb (ix5 o G s' t' a : S1x4x2x256x64.Idx) = (ix5 (seq t) G (tile (part t) s') t' a : S16x4x8x256x64.Idx) := by
    blk_ext [p, seq_val, part_val, tok_val, tile_val]
  refine Eq.trans ?_ (congrArg _ ey.symm)
  show C _ _ _ _ _ _ _ _ _ _ (ix5 o G s' t' a) = _
  simp only [C, block_P]
  exact congrArg (tokC (rowsOf m c 1536 256 (by omega)) (seq t) · G a) (tok_eq (part t) s' t' (by omega))

/-- the values to be compressed, -/
theorem kernel_vc : (dats m 0 c).arrAt 18 cfg0.N = arrC (rowsOf m c 1792 256 (by omega)) := by
  refine (dats m 0 c).arrAt_eq_of_covers 18 _ (by decide +kernel) fun t _ y => ?_
  have p := (places t).2
  refine (congrFun (Value.flushed18_A m c t) y).trans ?_
  refine (out18_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', t', a, rfl⟩ : ∃ (o : Fin 1) (G : Fin 4) (s' : Fin 2) (t' : Fin 256) (a : Fin 64), y = (ix5 o G s' t' a : S1x4x2x256x64.Idx) := ⟨_, _, _, _, _, eq_ix5 _⟩
  have ey : ((cfg0.win 18).blk t).view.emb (ix5 o G s' t' a : S1x4x2x256x64.Idx) = (ix5 (seq t) G (tile (part t) s') t' a : S16x4x8x256x64.Idx) := by
    blk_ext [p, seq_val, part_val, tok_val, tile_val]
  refine Eq.trans ?_ (congrArg _ ey.symm)
  show C _ _ _ _ _ _ _ _ _ _ (ix5 o G s' t' a) = _
  simp only [C, block_P]
  exact congrArg (tokC (rowsOf m c 1792 256 (by omega)) (seq t) · G a) (tok_eq (part t) s' t' (by omega))

/-- the selection values, -/
theorem kernel_vs : (dats m 0 c).arrAt 19 cfg0.N = arrV (rowsOf m c 2048 256 (by omega)) := by
  refine (dats m 0 c).arrAt_eq_of_covers 19 _ (by decide +kernel) fun t _ y => ?_
  have p := (places t).2
  refine (congrFun (Value.flushed19_A m c t) y).trans ?_
  refine (out19_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', a, t', rfl⟩ : ∃ (o : Fin 1) (G : Fin 4) (s' : Fin 2) (a : Fin 80) (t' : Fin 256), y = (ix5 o G s' a t' : S1x4x2x80x256.Idx) := ⟨_, _, _, _, _, eq_ix5 _⟩
  have ey : ((cfg0.win 19).blk t).view.emb (ix5 o G s' a t' : S1x4x2x80x256.Idx) = (ix5 (seq t) G (tile (part t) s') a t' : S16x4x8x80x256.Idx) := by
    blk_ext [p, seq_val, part_val, tok_val, tile_val]
  refine Eq.trans ?_ (congrArg _ ey.symm)
  show V _ _ _ _ _ _ _ _ _ _ (ix5 o G s' a t') = _
  simp only [V, block_P]
  exact congrArg (tokV (rowsOf m c 2048 256 (by omega)) (seq t) · G a) (tok_eq (part t) s' t' (by omega))

/-- the window values, -/
theorem kernel_vw : (dats m 0 c).arrAt 20 cfg0.N = arrV (rowsOf m c 2304 256 (by omega)) := by
  refine (dats m 0 c).arrAt_eq_of_covers 20 _ (by decide +kernel) fun t _ y => ?_
  have p := (places t).2
  refine (congrFun (Value.flushed20_A m c t) y).trans ?_
  refine (out20_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', a, t', rfl⟩ : ∃ (o : Fin 1) (G : Fin 4) (s' : Fin 2) (a : Fin 80) (t' : Fin 256), y = (ix5 o G s' a t' : S1x4x2x80x256.Idx) := ⟨_, _, _, _, _, eq_ix5 _⟩
  have ey : ((cfg0.win 20).blk t).view.emb (ix5 o G s' a t' : S1x4x2x80x256.Idx) = (ix5 (seq t) G (tile (part t) s') a t' : S16x4x8x80x256.Idx) := by
    blk_ext [p, seq_val, part_val, tok_val, tile_val]
  refine Eq.trans ?_ (congrArg _ ey.symm)
  show V _ _ _ _ _ _ _ _ _ _ (ix5 o G s' a t') = _
  simp only [V, block_P]
  exact congrArg (tokV (rowsOf m c 2304 256 (by omega)) (seq t) · G a) (tok_eq (part t) s' t' (by omega))

/-- the gates, -/
theorem kernel_g : (dats m 0 c).arrAt 21 cfg0.N = arrG (rowsOf m c 2560 64 (by omega)) (A11 m c) := by
  refine (dats m 0 c).arrAt_eq_of_covers 21 _ (by decide +kernel) fun t _ y => ?_
  have p := (places t).2
  refine (congrFun (Value.flushed21_A m c t) y).trans ?_
  refine (out21_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', r, t', rfl⟩ : ∃ (o : Fin 1) (G : Fin 4) (s' : Fin 2) (r : Fin 16) (t' : Fin 256), y = (ix5 o G s' r t' : S1x4x2x16x256.Idx) := ⟨_, _, _, _, _, eq_ix5 _⟩
  have ey : ((cfg0.win 21).blk t).view.emb (ix5 o G s' r t' : S1x4x2x16x256.Idx) = (ix5 (seq t) G (tile (part t) s') r t' : S16x4x8x16x256.Idx) := by
    blk_ext [p, seq_val, part_val, tok_val, tile_val]
  refine Eq.trans ?_ (congrArg _ ey.symm)
  show GT _ _ _ _ _ _ _ _ _ (ix5 o G s' r t') = _
  simp only [GT, block_P, e11]
  exact congrArg (tokG (rowsOf m c 2560 64 (by omega)) (A11 m c) (seq t) · G r) (tok_eq (part t) s' t' (by omega))

/-- the gate branch -/
theorem kernel_z : (dats m 0 c).arrAt 22 cfg0.N = arrZ (rowsOf m c 2624 1024 (by omega)) := by
  refine (dats m 0 c).arrAt_eq_of_covers 22 _ (by decide +kernel) fun t _ y => ?_
  have p := (places t).2
  refine (congrFun (Value.flushed22_A m c t) y).trans ?_
  refine (out22_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, G, s', r, t', rfl⟩ : ∃ (o : Fin 1) (G : Fin 4) (s' : Fin 2) (r : Fin 256) (t' : Fin 256), y = (ix5 o G s' r t' : S1x4x2x256x256.Idx) := ⟨_, _, _, _, _, eq_ix5 _⟩
  have ey : ((cfg0.win 22).blk t).view.emb (ix5 o G s' r t' : S1x4x2x256x256.Idx) = (ix5 (seq t) G (tile (part t) s') r t' : S16x4x8x256x256.Idx) := by
    blk_ext [p, seq_val, part_val, tok_val, tile_val]
  refine Eq.trans ?_ (congrArg _ ey.symm)
  show Z _ _ _ _ _ _ _ _ (ix5 o G s' r t') = _
  simp only [Z, block_P]
  exact congrArg (tokZ (rowsOf m c 2624 1024 (by omega)) (seq t) · G r) (tok_eq (part t) s' t' (by omega))

/-- and the residual stream. -/
theorem kernel_x : (dats m 0 c).arrAt 23 cfg0.N = arrX (X (A0 m c) (A1 m c) (A2 m c) (A3 m c)) := by
  refine (dats m 0 c).arrAt_eq_of_covers 23 _ (by decide +kernel) fun t _ y => ?_
  have p := (places t).2
  refine (congrFun (Value.flushed23_A m c t) y).trans ?_
  refine (out23_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  obtain ⟨o, d, s, rfl⟩ : ∃ (o : Fin 1) (d : Fin 1024) (s : Fin 512), y = (ix3 o d s : S1x1024x512.Idx) := ⟨_, _, _, eq_ix3 _⟩
  have ey : ((cfg0.win 23).blk t).view.emb (ix3 o d s : S1x1024x512.Idx) = (ix3 (seq t) d (tok (part t) s) : S16x1024x2048.Idx) := by
    blk_ext [p, seq_val, part_val, tok_val, tile_val]
  refine Eq.trans ?_ (congrArg _ ey.symm)
  exact congrFun (block_X m c t s) d

end Kernel

end Cert.Proof.NsaIn

end
-- ==== Proof.NsaRef.lean ====
/-
  Hand-written. THE NSA INPUT PROJECTION'S VALUE, THE REFERENCE: its ten results are the arrays that the kernel's are, and with
  that the claims about the two programs.
-/
module

public import proofs.«01_k».proof.Defs
public import proofs.«01_k».proof.Proof.NsaValue
public import proofs.«01_k».proof.Proof.NsaTokens
public import proofs.«01_k».proof.Proof.Gen.NsaIn.Frame
public import proofs.«01_k».proof.Proof.Gen.NsaInRefIdeal.Run
public import proofs.«01_k».proof.Proof.Gen.NsaInRefIdeal.Read
public import Idealize.ShloMosaic.Lib.Quiescent

@[expose] public section

noncomputable section

namespace Cert.Proof.NsaIn

open Idealize.ShloMosaic Idealize.ShloMosaic.TcCoe Idealize.SL.Sem Idealize.ShloMosaic.StableHlo
open Cert.NsaInIdeal Cert.NsaInIdeal.Gen Cert.Proof.Tiles

section
open Cert.NsaInRefIdeal.Read

variable (x0 : Vec Ideal W16x4x8x256x256 .bf16) (x1 : Vec Ideal V1024x1024 .f32) (x2 : Vec Ideal W16x1024x1 .f32) (x3 : Vec Ideal W16x1024x2048 .f32)
  (x4 : Vec Ideal W1024 .f32) (x5 x6 : Vec Ideal W16x1024x1 .f32) (x7 : Vec Ideal S1024x3648 .f32) (x8 x9 x10 x11 : Vec Ideal V64 .f32) (x12 x13 : Vec Ideal W16x8x2048 .f32)

theorem v31_ix (b : Fin 16) (T : Fin 2048) (d : Fin 1024) :
    val_main_v31 (F := Ideal) x0 x1 x2 x3 x4 x5 x6 (ix3 b T d) = tokH (X x0 x1 x2 x3) x4 x5 x6 b T d :=
  hostH_eq x0 x1 x2 x3 x4 x5 x6 b T d

theorem v32_ix (b : Fin 16) (T : Fin 2048) (r : Fin 3648) :
    val_main_v32 (F := Ideal) x0 x1 x2 x3 x4 x5 x6 x7 (ix3 b T r) = PP x0 x1 x2 x3 x4 x5 x6 x7 b T r := by
  unfold val_main_v32
  pointwise [v31_ix]
  exact Finset.sum_congr rfl fun f _ => mul_comm _ _

theorem reference_q : val_main_v162 (F := Ideal) x0 x1 x2 x3 x4 x5 x6 x7 x8 x12 x13
    = arrQ (fun b T => rows (PP x0 x1 x2 x3 x4 x5 x6 x7 b T) 0 1024 (by decide)) x8 x12 x13 :=
  hostQ_eq (val_main_v32 (F := Ideal) x0 x1 x2 x3 x4 x5 x6 x7) 0 x8 x12 x13 (by decide) (by decide) (v32_ix x0 x1 x2 x3 x4 x5 x6 x7)

theorem reference_ks : val_main_v165 (F := Ideal) x0 x1 x2 x3 x4 x5 x6 x7 x9 x12 x13
    = arrK (fun b T => rows (PP x0 x1 x2 x3 x4 x5 x6 x7 b T) 1024 256 (by decide)) x9 x12 x13 subBlock :=
  hostS_eq (val_main_v32 (F := Ideal) x0 x1 x2 x3 x4 x5 x6 x7) 1024 x9 x12 x13 (by decide) (by decide) (v32_ix x0 x1 x2 x3 x4 x5 x6 x7) (by decide)

theorem reference_kw : val_main_v168 (F := Ideal) x0 x1 x2 x3 x4 x5 x6 x7 x10 x12 x13
    = arrW (fun b T => rows (PP x0 x1 x2 x3 x4 x5 x6 x7 b T) 1280 256 (by decide)) x10 x12 x13 :=
  hostW_eq (val_main_v32 (F := Ideal) x0 x1 x2 x3 x4 x5 x6 x7) 1280 x10 x12 x13 (by decide) (by decide) (v32_ix x0 x1 x2 x3 x4 x5 x6 x7) (by decide)

theorem reference_kc : val_main_v171 (F := Ideal) x0 x1 x2 x3 x4 x5 x6 x7
    = arrC (fun b T => rows (PP x0 x1 x2 x3 x4 x5 x6 x7 b T) 1536 256 (by decide)) :=
  hostC_eq (val_main_v32 (F := Ideal) x0 x1 x2 x3 x4 x5 x6 x7) 1536 (by decide) (by decide) (v32_ix x0 x1 x2 x3 x4 x5 x6 x7)

theorem reference_vc : val_main_v174 (F := Ideal) x0 x1 x2 x3 x4 x5 x6 x7
    = arrC (fun b T => rows (PP x0 x1 x2 x3 x4 x5 x6 x7 b T) 1792 256 (by decide)) :=
  hostC_eq (val_main_v32 (F := Ideal) x0 x1 x2 x3 x4 x5 x6 x7) 1792 (by decide) (by decide) (v32_ix x0 x1 x2 x3 x4 x5 x6 x7)

theorem reference_vs : val_main_v178 (F := Ideal) x0 x1 x2 x3 x4 x5 x6 x7
    = arrV (fun b T => rows (PP x0 x1 x2 x3 x4 x5 x6 x7 b T) 2048 256 (by decide)) :=
  hostV_eq (val_main_v32 (F := Ideal) x0 x1 x2 x3 x4 x5 x6 x7) 2048 (by decide) (by decide) (v32_ix x0 x1 x2 x3 x4 x5 x6 x7) (by decide)

theorem reference_vw : val_main_v182 (F := Ideal) x0 x1 x2 x3 x4 x5 x6 x7
    = arrV (fun b T => rows (PP x0 x1 x2 x3 x4 x5 x6 x7 b T) 2304 256 (by decide)) :=
  hostV_eq (val_main_v32 (F := Ideal) x0 x1 x2 x3 x4 x5 x6 x7) 2304 (by decide) (by decide) (v32_ix x0 x1 x2 x3 x4 x5 x6 x7) (by decide)

theorem reference_g : val_main_v184 (F := Ideal) x0 x1 x2 x3 x4 x5 x6 x7 x11
    = arrG (fun b T => rows (PP x0 x1 x2 x3 x4 x5 x6 x7 b T) 2560 64 (by decide)) x11 :=
  hostGates_eq (val_main_v32 (F := Ideal) x0 x1 x2 x3 x4 x5 x6 x7) 2560 x11 (by decide) (by decide) (v32_ix x0 x1 x2 x3 x4 x5 x6 x7)

theorem reference_z : val_main_v193 (F := Ideal) x0 x1 x2 x3 x4 x5 x6 x7
    = arrZ (fun b T => rows (PP x0 x1 x2 x3 x4 x5 x6 x7 b T) 2624 1024 (by decide)) :=
  hostZ_eq (val_main_v32 (F := Ideal) x0 x1 x2 x3 x4 x5 x6 x7) 2624 (by decide) (by decide) (v32_ix x0 x1 x2 x3 x4 x5 x6 x7)

theorem reference_x : val_main_v194 (F := Ideal) x0 x1 x2 x3 = arrX (X x0 x1 x2 x3) :=
  hostX_eq x0 x1 x2 x3 (by decide)

end

/-- The reference's frame: its run ends with the arguments unchanged, and it has no counters. -/
theorem frame_reference : Cert.quiescent_NsaInRefIdeal := fun m ρ _ =>
  (θ_run Cert.NsaInRefIdeal.defs _ _).mono (fun r h => ⟨fun c => (h c).2.2.2.2.2.2.2.2.2.2, sem_eq_zero_of_no_sems (by decide) r.2⟩)
    (Cert.NsaInRefIdeal.Value.run (F := Ideal) m ρ)

set_option maxHeartbeats 1000000 in
/-- The kernel's values are the reference's. -/
theorem algebraic : Cert.algebraic_NsaInIdeal_NsaInRefIdeal := by
  intro m ρ m' ρ' _ hagree
  refine ⟨fun c => arrQ (rowsOf m c 0 1024 (by decide)) (A8 m c) (A12 m c) (A13 m c),
    fun c => arrK (rowsOf m c 1024 256 (by decide)) (A9 m c) (A12 m c) (A13 m c) subBlock,
    fun c => arrW (rowsOf m c 1280 256 (by decide)) (A10 m c) (A12 m c) (A13 m c),
    fun c => arrC (rowsOf m c 1536 256 (by decide)),
    fun c => arrC (rowsOf m c 1792 256 (by decide)),
    fun c => arrV (rowsOf m c 2048 256 (by decide)),
    fun c => arrV (rowsOf m c 2304 256 (by decide)),
    fun c => arrG (rowsOf m c 2560 64 (by decide)) (A11 m c),
    fun c => arrZ (rowsOf m c 2624 1024 (by decide)),
    fun c => arrX (X (A0 m c) (A1 m c) (A2 m c) (A3 m c)), ?_, ?_⟩
  · exact (θ_run Cert.NsaInIdeal.defs _ _).mono (fun _ h c => ⟨(h c).1.trans (kernel_q m c),
      (h c).2.1.trans (kernel_ks m c),
      (h c).2.2.1.trans (kernel_kw m c),
      (h c).2.2.2.1.trans (kernel_kc m c),
      (h c).2.2.2.2.1.trans (kernel_vc m c),
      (h c).2.2.2.2.2.1.trans (kernel_vs m c),
      (h c).2.2.2.2.2.2.1.trans (kernel_vw m c),
      (h c).2.2.2.2.2.2.2.1.trans (kernel_g m c),
      (h c).2.2.2.2.2.2.2.2.1.trans (kernel_z m c),
      (h c).2.2.2.2.2.2.2.2.2.1.trans (kernel_x m c),
      (h c).2.2.2.2.2.2.2.2.2.2⟩) (Value.run_blocks m ρ)
  · refine (θ_run Cert.NsaInRefIdeal.defs _ _).mono (fun _ h c => ?_) (Cert.NsaInRefIdeal.Value.run (F := Ideal) m' ρ')
    obtain ⟨a0, a1, a2, a3, a4, a5, a6, a7, a8, a9, a10, a11, a12, a13⟩ := hagree c
    have b0 : launchContents m' c (Proc.devRef .tc Cert.NsaInRefIdeal.main_arg0) = A0 m c := a0
    have b1 : launchContents m' c (Proc.devRef .tc Cert.NsaInRefIdeal.main_arg1) = A1 m c := a1
    have b2 : launchContents m' c (Proc.devRef .tc Cert.NsaInRefIdeal.main_arg2) = A2 m c := a2
    have b3 : launchContents m' c (Proc.devRef .tc Cert.NsaInRefIdeal.main_arg3) = A3 m c := a3
    have b4 : launchContents m' c (Proc.devRef .tc Cert.NsaInRefIdeal.main_arg4) = A4 m c := a4
    have b5 : launchContents m' c (Proc.devRef .tc Cert.NsaInRefIdeal.main_arg5) = A5 m c := a5
    have b6 : launchContents m' c (Proc.devRef .tc Cert.NsaInRefIdeal.main_arg6) = A6 m c := a6
    have b7 : launchContents m' c (Proc.devRef .tc Cert.NsaInRefIdeal.main_arg7) = A7 m c := a7
    have b8 : launchContents m' c (Proc.devRef .tc Cert.NsaInRefIdeal.main_arg8) = A8 m c := a8
    have b9 : launchContents m' c (Proc.devRef .tc Cert.NsaInRefIdeal.main_arg9) = A9 m c := a9
    have b10 : launchContents m' c (Proc.devRef .tc Cert.NsaInRefIdeal.main_arg10) = A10 m c := a10
    have b11 : launchContents m' c (Proc.devRef .tc Cert.NsaInRefIdeal.main_arg11) = A11 m c := a11
    have b12 : launchContents m' c (Proc.devRef .tc Cert.NsaInRefIdeal.main_arg12) = A12 m c := a12
    have b13 : launchContents m' c (Proc.devRef .tc Cert.NsaInRefIdeal.main_arg13) = A13 m c := a13
    refine ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_, (h c).2.2.2.2.2.2.2.2.2.2⟩
    · refine (Cert.NsaInRefIdeal.Read.val_main_v162_eq (launchContents m' c)).trans ?_
      rw [b0, b1, b2, b3, b4, b5, b6, b7, b8, b12, b13]
      exact reference_q _ _ _ _ _ _ _ _ _ _ _
    · refine (Cert.NsaInRefIdeal.Read.val_main_v165_eq (launchContents m' c)).trans ?_
      rw [b0, b1, b2, b3, b4, b5, b6, b7, b9, b12, b13]
      exact reference_ks _ _ _ _ _ _ _ _ _ _ _
    · refine (Cert.NsaInRefIdeal.Read.val_main_v168_eq (launchContents m' c)).trans ?_
      rw [b0, b1, b2, b3, b4, b5, b6, b7, b10, b12, b13]
      exact reference_kw _ _ _ _ _ _ _ _ _ _ _
    · refine (Cert.NsaInRefIdeal.Read.val_main_v171_eq (launchContents m' c)).trans ?_
      rw [b0, b1, b2, b3, b4, b5, b6, b7]
      exact reference_kc _ _ _ _ _ _ _ _
    · refine (Cert.NsaInRefIdeal.Read.val_main_v174_eq (launchContents m' c)).trans ?_
      rw [b0, b1, b2, b3, b4, b5, b6, b7]
      exact reference_vc _ _ _ _ _ _ _ _
    · refine (Cert.NsaInRefIdeal.Read.val_main_v178_eq (launchContents m' c)).trans ?_
      rw [b0, b1, b2, b3, b4, b5, b6, b7]
      exact reference_vs _ _ _ _ _ _ _ _
    · refine (Cert.NsaInRefIdeal.Read.val_main_v182_eq (launchContents m' c)).trans ?_
      rw [b0, b1, b2, b3, b4, b5, b6, b7]
      exact reference_vw _ _ _ _ _ _ _ _
    · refine (Cert.NsaInRefIdeal.Read.val_main_v184_eq (launchContents m' c)).trans ?_
      rw [b0, b1, b2, b3, b4, b5, b6, b7, b11]
      exact reference_g _ _ _ _ _ _ _ _ _
    · refine (Cert.NsaInRefIdeal.Read.val_main_v193_eq (launchContents m' c)).trans ?_
      rw [b0, b1, b2, b3, b4, b5, b6, b7]
      exact reference_z _ _ _ _ _ _ _ _
    · refine (Cert.NsaInRefIdeal.Read.val_main_v194_eq (launchContents m' c)).trans ?_
      rw [b0, b1, b2, b3]
      exact reference_x _ _ _ _

end Cert.Proof.NsaIn

end
-- ==== Proof.NsaFirstBlock.lean ====
/-
  Hand-written. THE NSA INPUT PROJECTION OF THE FIRST LAYER, ONE BLOCK: what the body of the call leaves in its ten
  output blocks, each as one formula in the eleven input blocks. The tokens come in token-major and the body transposes
  them; from there on every stored tile is one of the pieces in Pieces.lean and NsaTiles.lean.
-/
module

public import proofs.«01_k».proof.Proof.Gen.NsaFirstIdeal.Value
public import proofs.«01_k».proof.Proof.NsaTiles
public import Idealize.ShloMosaic.Lib.Pipeline.Value
public import Idealize.ShloMosaic.Lib.Pipeline.ValueKit.Basic
public import Idealize.ShloMosaic.Lib.Pipeline.ValueKit.Tiles
public import Idealize.ShloMosaic.Lib.Pointwise

@[expose] public section

noncomputable section

namespace Cert.Proof.NsaFirst

open Idealize.ShloMosaic Idealize.ShloMosaic.TcCoe Idealize.SL.Sem
open Cert.NsaFirstIdeal Cert.NsaFirstIdeal.Gen Cert.Proof.Tiles

/-! ## The tiles over plain loads -/

/-- The tokens' block, transposed. -/
theorem turned_apply (x : Vec Ideal S1x512x1024 .f32) (d : Fin 1024) (t : Fin 512) : k0_pay2 x (ix2 d t) = x (ix3 0 t d) := by
  unfold k0_pay2
  pointwise

/-- The normed block, over any vectors that hold the tokens, the weights, the scale and the shift. -/
theorem normed_apply (x : Vec Ideal S1x512x1024 .f32) (ng : Vec Ideal S1024x1 .f32) (sc sh : Vec Ideal S1x1024x1 .f32) (d : Fin 1024) (t : Fin 512) :
    k0_pay4 x ng sc sh (ix2 d t) = hAt (fun t d => x (ix3 0 t d)) ng sc sh t d := by
  unfold k0_pay4
  pointwise [turned_apply x]
  rfl

/-- A whole load of the tokens. -/
theorem whole_tokens (x : Vec Ideal S1x512x1024 .f32) (inb) : View.ld x (Rect.unit (s := S1x512x1024) ![0, 0, 0] S1x512x1024.size inb) = x :=
  View.ld_unit_lit inb x (by decide)

theorem whole_norm (x : Vec Ideal S1024x1 .f32) (inb) : View.ld x (Rect.unit (s := S1024x1) ![0, 0] S1024x1.size inb) = x :=
  View.ld_unit_lit inb x (by decide)

theorem whole_scale (x : Vec Ideal S1x1024x1 .f32) (inb) : View.ld x (Rect.unit (s := S1x1024x1) ![0, 0, 0] S1x1024x1.size inb) = x :=
  View.ld_unit_lit inb x (by decide)

theorem whole_col (x : Vec Ideal S64x1 .f32) (inb) : View.ld x (Rect.unit (s := S64x1) ![0, 0] S64x1.size inb) = x :=
  View.ld_unit_lit inb x (by decide)

theorem whole_angle (x : Vec Ideal S1x8x512 .f32) (inb) : View.ld x (Rect.unit (s := S1x8x512) ![0, 0, 0] S1x8x512.size inb) = x :=
  View.ld_unit_lit inb x (by decide)

/-- `k` rows of the weights from `R` on. -/
theorem rows_load (x : Vec Ideal S3648x1024 .bf16) (k R : Nat) (hR : R + k ≤ 3648) (inb) (a : Fin k) (d : Fin 1024) :
    View.ld x (Rect.unit (s := S3648x1024) ![R, 0] (⟨2, ![k, 1024]⟩ : Shape).size inb) (ix2 a d) = x (ix2 ⟨R + a.val, by omega⟩ d) :=
  View.ld_unit_apply_of x _ _ inb _ _ (by
    intro b
    match b with
    | ⟨0, _⟩ => rfl
    | ⟨1, _⟩ => show d.val = 0 + d.val; omega)

section Blocks
variable (x0 : Vec Ideal S1x512x1024 .f32) (x1 : Vec Ideal S1024x1 .f32) (x2 : Vec Ideal S1x1024x1 .f32) (x3 : Vec Ideal S1x1024x1 .f32) (x4 : Vec Ideal S3648x1024 .bf16) (x5 : Vec Ideal S64x1 .f32) (x6 : Vec Ideal S64x1 .f32) (x7 : Vec Ideal S64x1 .f32) (x8 : Vec Ideal S64x1 .f32) (x9 : Vec Ideal S1x8x512 .f32) (x10 : Vec Ideal S1x8x512 .f32)

/-- The input blocks' projected rows, token by token. -/
def P : Fin 512 → Fin 3648 → EReal :=
  pAt x4 (hAt (fun t d => x0 (ix3 0 t d)) x1 x2 x3)

/-- The tokens' block, as the later layers take it. -/
theorem out20_apply (o : Fin 1) (d : Fin 1024) (t : Fin 512) : out0_20 (F := Ideal) x0 x1 x2 x3 x4 x5 x6 x7 x8 x9 x10 (ix3 o d t) = x0 (ix3 0 t d) := by
  unfold out0_20
  rw [View.canon_cons_unit_lit _ _ _ (by decide), whole_tokens]
  unfold k0_pay3
  pointwise [turned_apply x0]

/-- The normed block. -/
theorem h_apply (d : Fin 1024) (t : Fin 512) : k0_pay196 (F := Ideal) x0 x1 x2 x3 x4 x5 x6 x7 x8 x9 x10 (ix2 d t) = hAt (fun t d => x0 (ix3 0 t d)) x1 x2 x3 t d := by
  unfold k0_pay196
  rw [whole_tokens, whole_norm, whole_scale, whole_scale]
  exact normed_apply x0 x1 x2 x3 d t

/-- The cosines and the sines, as the body reads them. -/
theorem cos_apply (k : Fin 8) (t : Fin 512) : k0_pay197 (F := Ideal) x0 x1 x2 x3 x4 x5 x6 x7 x8 x9 x10 (ix2 k t) = x9 (ix3 0 k t) := by
  unfold k0_pay197
  rw [whole_angle]
  pointwise [k0_pay5]

theorem sin_apply (k : Fin 8) (t : Fin 512) : k0_pay198 (F := Ideal) x0 x1 x2 x3 x4 x5 x6 x7 x8 x9 x10 (ix2 k t) = x10 (ix3 0 k t) := by
  unfold k0_pay198
  rw [whole_angle]
  pointwise [k0_pay6]

/-- 256 projected rows from `R` on, as the body computes them. -/
abbrev Y (R : Nat) (inb : ∀ a, (![R, 0] : Fin 2 → Nat) a + V256x1024.size a ≤ S3648x1024.size a) : FVec Ideal V256x512 .f32 :=
  proj (k0_pay196 (F := Ideal) x0 x1 x2 x3 x4 x5 x6 x7 x8 x9 x10) (View.ld x4 (Rect.unit (s := S3648x1024) ![R, 0] V256x1024.size inb))

theorem Y_apply (R : Nat) (hR : R + 256 ≤ 3648) (inb) (a : Fin 256) (t : Fin 512) :
    Y x0 x1 x2 x3 x4 x5 x6 x7 x8 x9 x10 R inb (ix2 a t) = rows (P x0 x1 x2 x3 x4 t) R 256 hR a := by
  rw [Y, proj_apply]
  simp only [rows_load x4 256 R hR inb, h_apply]
  rfl

theorem Y_rows (G : Fin 4) (R : Nat) (hR : R = 256 * G.val) (inb) (a : Fin 256) (t : Fin 512) :
    Y x0 x1 x2 x3 x4 x5 x6 x7 x8 x9 x10 R inb (ix2 a t) = rows (P x0 x1 x2 x3 x4 t) 0 1024 (by omega) ⟨256 * G.val + a.val, by omega⟩ :=
  (Y_apply x0 x1 x2 x3 x4 x5 x6 x7 x8 x9 x10 R (by omega) inb a t).trans (congrArg (P x0 x1 x2 x3 x4 t) (Fin.ext (show R + a.val = 0 + (256 * G.val + a.val) by omega)))

/-- The queries' block. -/
def Q : S1x4x2x256x256.Idx → EReal := fun y =>
  let t : Fin 512 := ⟨256 * (y 2).val + (y 4).val, by have := (y 2).isLt; have := (y 4).isLt; simp at *; omega⟩
  qAt (rows (P x0 x1 x2 x3 x4 t) 0 1024 (by omega)) (fun j => x5 (ix2 j 0)) (fun k => x9 (ix3 0 k t)) (fun k => x10 (ix3 0 k t)) (y 1) (y 3)

/-- One stored tile of the queries. -/
theorem q_piece (G : Fin 4) (S R L : Nat) (hS : S < 2) (hL' : L = 256 * S) (hR' : R % 64 = 0) (hR'' : R + 64 ≤ 256) (io) (hR hL inb)
    (B : Nat) (hB : B = 256 * G.val) (inb') (z : B64x256.Idx) :
    queryTile (Y x0 x1 x2 x3 x4 x5 x6 x7 x8 x9 x10 B inb') R hR L hL (View.ld x5 (Rect.unit (s := S64x1) ![0, 0] S64x1.size inb)) (k0_pay197 x0 x1 x2 x3 x4 x5 x6 x7 x8 x9 x10) (k0_pay198 x0 x1 x2 x3 x4 x5 x6 x7 x8 x9 x10) z
      = Q x0 x1 x2 x3 x4 x5 x9 x10 ((Rect.unit (s := V1x4x2x256x256) ![0, G.val, S, R, 0] B64x256.size io).emb z) :=
  query_piece (fun t => rows (P x0 x1 x2 x3 x4 t) 0 1024 (by omega)) (fun j => x5 (ix2 j 0)) (fun t k => x9 (ix3 0 k t)) (fun t k => x10 (ix3 0 k t)) G S R L
    hS hL' hR' hR'' io _ hR hL _ _ _ (Y_rows x0 x1 x2 x3 x4 x5 x6 x7 x8 x9 x10 G B hB inb') (fun j => congrFun (whole_col x5 inb) (ix2 j 0)) (cos_apply x0 x1 x2 x3 x4 x5 x6 x7 x8 x9 x10) (sin_apply x0 x1 x2 x3 x4 x5 x6 x7 x8 x9 x10) z

set_option maxHeartbeats 2000000 in
theorem out11_apply (y : S1x4x2x256x256.Idx) : out0_11 (F := Ideal) x0 x1 x2 x3 x4 x5 x6 x7 x8 x9 x10 y = Q x0 x1 x2 x3 x4 x5 x9 x10 y := by
  unfold out0_11
  refine View.canon_apply_of_pieces (Val := Elt Ideal) (e := .bf16) (Q x0 x1 x2 x3 x4 x5 x9 x10) _ ?_ y (cover0_11 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact (q_piece x0 x1 x2 x3 x4 x5 x6 x7 x8 x9 x10 3 1 192 256 (by omega) rfl rfl (by omega) inb_S1x4x2x256x256_S1x1x1x64x256_0_3_1_192_0 (by decide) (by decide) inb_S64x1_S64x1_0_0 768 rfl inb_S3648x1024_S256x1024_768_0 :)
  · exact (q_piece x0 x1 x2 x3 x4 x5 x6 x7 x8 x9 x10 3 0 192 0 (by omega) rfl rfl (by omega) inb_S1x4x2x256x256_S1x1x1x64x256_0_3_0_192_0 (by decide) (by decide) inb_S64x1_S64x1_0_0 768 rfl inb_S3648x1024_S256x1024_768_0 :)
  · exact (q_piece x0 x1 x2 x3 x4 x5 x6 x7 x8 x9 x10 3 1 128 256 (by omega) rfl rfl (by omega) inb_S1x4x2x256x256_S1x1x1x64x256_0_3_1_128_0 (by decide) (by decide) inb_S64x1_S64x1_0_0 768 rfl inb_S3648x1024_S256x1024_768_0 :)
  · exact (q_piece x0 x1 x2 x3 x4 x5 x6 x7 x8 x9 x10 3 0 128 0 (by omega) rfl rfl (by omega) inb_S1x4x2x256x256_S1x1x1x64x256_0_3_0_128_0 (by decide) (by decide) inb_S64x1_S64x1_0_0 768 rfl inb_S3648x1024_S256x1024_768_0 :)
  · exact (q_piece x0 x1 x2 x3 x4 x5 x6 x7 x8 x9 x10 3 1 64 256 (by omega) rfl rfl (by omega) inb_S1x4x2x256x256_S1x1x1x64x256_0_3_1_64_0 (by decide) (by decide) inb_S64x1_S64x1_0_0 768 rfl inb_S3648x1024_S256x1024_768_0 :)
  · exact (q_piece x0 x1 x2 x3 x4 x5 x6 x7 x8 x9 x10 3 0 64 0 (by omega) rfl rfl (by omega) inb_S1x4x2x256x256_S1x1x1x64x256_0_3_0_64_0 (by decide) (by decide) inb_S64x1_S64x1_0_0 768 rfl inb_S3648x1024_S256x1024_768_0 :)
  · exact (q_piece x0 x1 x2 x3 x4 x5 x6 x7 x8 x9 x10 3 1 0 256 (by omega) rfl rfl (by omega) inb_S1x4x2x256x256_S1x1x1x64x256_0_3_1_0_0 (by decide) (by decide) inb_S64x1_S64x1_0_0 768 rfl inb_S3648x1024_S256x1024_768_0 :)
  · exact (q_piece x0 x1 x2 x3 x4 x5 x6 x7 x8 x9 x10 3 0 0 0 (by omega) rfl rfl (by omega) inb_S1x4x2x256x256_S1x1x1x64x256_0_3_0_0_0 (by decide) (by decide) inb_S64x1_S64x1_0_0 768 rfl inb_S3648x1024_S256x1024_768_0 :)
  · exact (q_piece x0 x1 x2 x3 x4 x5 x6 x7 x8 x9 x10 2 1 192 256 (by omega) rfl rfl (by omega) inb_S1x4x2x256x256_S1x1x1x64x256_0_2_1_192_0 (by decide) (by decide) inb_S64x1_S64x1_0_0 512 rfl inb_S3648x1024_S256x1024_512_0 :)
  · exact (q_piece x0 x1 x2 x3 x4 x5 x6 x7 x8 x9 x10 2 0 192 0 (by omega) rfl rfl (by omega) inb_S1x4x2x256x256_S1x1x1x64x256_0_2_0_192_0 (by decide) (by decide) inb_S64x1_S64x1_0_0 512 rfl inb_S3648x1024_S256x1024_512_0 :)
  · exact (q_piece x0 x1 x2 x3 x4 x5 x6 x7 x8 x9 x10 2 1 128 256 (by omega) rfl rfl (by omega) inb_S1x4x2x256x256_S1x1x1x64x256_0_2_1_128_0 (by decide) (by decide) inb_S64x1_S64x1_0_0 512 rfl inb_S3648x1024_S256x1024_512_0 :)
  · exact (q_piece x0 x1 x2 x3 x4 x5 x6 x7 x8 x9 x10 2 0 128 0 (by omega) rfl rfl (by omega) inb_S1x4x2x256x256_S1x1x1x64x256_0_2_0_128_0 (by decide) (by decide) inb_S64x1_S64x1_0_0 512 rfl inb_S3648x1024_S256x1024_512_0 :)
  · exact (q_piece x0 x1 x2 x3 x4 x5 x6 x7 x8 x9 x10 2 1 64 256 (by omega) rfl rfl (by omega) inb_S1x4x2x256x256_S1x1x1x64x256_0_2_1_64_0 (by decide) (by decide) inb_S64x1_S64x1_0_0 512 rfl inb_S3648x1024_S256x1024_512_0 :)
  · exact (q_piece x0 x1 x2 x3 x4 x5 x6 x7 x8 x9 x10 2 0 64 0 (by omega) rfl rfl (by omega) inb_S1x4x2x256x256_S1x1x1x64x256_0_2_0_64_0 (by decide) (by decide) inb_S64x1_S64x1_0_0 512 rfl inb_S3648x1024_S256x1024_512_0 :)
  · exact (q_piece x0 x1 x2 x3 x4 x5 x6 x7 x8 x9 x10 2 1 0 256 (by omega) rfl rfl (by omega) inb_S1x4x2x256x256_S1x1x1x64x256_0_2_1_0_0 (by decide) (by decide) inb_S64x1_S64x1_0_0 512 rfl inb_S3648x1024_S256x1024_512_0 :)
  · exact (q_piece x0 x1 x2 x3 x4 x5 x6 x7 x8 x9 x10 2 0 0 0 (by omega) rfl rfl (by omega) inb_S1x4x2x256x256_S1x1x1x64x256_0_2_0_0_0 (by decide) (by decide) inb_S64x1_S64x1_0_0 512 rfl inb_S3648x1024_S256x1024_512_0 :)
  · exact (q_piece x0 x1 x2 x3 x4 x5 x6 x7 x8 x9 x10 1 1 192 256 (by omega) rfl rfl (by omega) inb_S1x4x2x256x256_S1x1x1x64x256_0_1_1_192_0 (by decide) (by decide) inb_S64x1_S64x1_0_0 256 rfl inb_S3648x1024_S256x1024_256_0 :)
  · exact (q_piece x0 x1 x2 x3 x4 x5 x6 x7 x8 x9 x10 1 0 192 0 (by omega) rfl rfl (by omega) inb_S1x4x2x256x256_S1x1x1x64x256_0_1_0_192_0 (by decide) (by decide) inb_S64x1_S64x1_0_0 256 rfl inb_S3648x1024_S256x1024_256_0 :)
  · exact (q_piece x0 x1 x2 x3 x4 x5 x6 x7 x8 x9 x10 1 1 128 256 (by omega) rfl rfl (by omega) inb_S1x4x2x256x256_S1x1x1x64x256_0_1_1_128_0 (by decide) (by decide) inb_S64x1_S64x1_0_0 256 rfl inb_S3648x1024_S256x1024_256_0 :)
  · exact (q_piece x0 x1 x2 x3 x4 x5 x6 x7 x8 x9 x10 1 0 128 0 (by omega) rfl rfl (by omega) inb_S1x4x2x256x256_S1x1x1x64x256_0_1_0_128_0 (by decide) (by decide) inb_S64x1_S64x1_0_0 256 rfl inb_S3648x1024_S256x1024_256_0 :)
  · exact (q_piece x0 x1 x2 x3 x4 x5 x6 x7 x8 x9 x10 1 1 64 256 (by omega) rfl rfl (by omega) inb_S1x4x2x256x256_S1x1x1x64x256_0_1_1_64_0 (by decide) (by decide) inb_S64x1_S64x1_0_0 256 rfl inb_S3648x1024_S256x1024_256_0 :)
  · exact (q_piece x0 x1 x2 x3 x4 x5 x6 x7 x8 x9 x10 1 0 64 0 (by omega) rfl rfl (by omega) inb_S1x4x2x256x256_S1x1x1x64x256_0_1_0_64_0 (by decide) (by decide) inb_S64x1_S64x1_0_0 256 rfl inb_S3648x1024_S256x1024_256_0 :)
  · exact (q_piece x0 x1 x2 x3 x4 x5 x6 x7 x8 x9 x10 1 1 0 256 (by omega) rfl rfl (by omega) inb_S1x4x2x256x256_S1x1x1x64x256_0_1_1_0_0 (by decide) (by decide) inb_S64x1_S64x1_0_0 256 rfl inb_S3648x1024_S256x1024_256_0 :)
  · exact (q_piece x0 x1 x2 x3 x4 x5 x6 x7 x8 x9 x10 1 0 0 0 (by omega) rfl rfl (by omega) inb_S1x4x2x256x256_S1x1x1x64x256_0_1_0_0_0 (by decide) (by decide) inb_S64x1_S64x1_0_0 256 rfl inb_S3648x1024_S256x1024_256_0 :)
  · exact (q_piece x0 x1 x2 x3 x4 x5 x6 x7 x8 x9 x10 0 1 192 256 (by omega) rfl rfl (by omega) inb_S1x4x2x256x256_S1x1x1x64x256_0_0_1_192_0 (by decide) (by decide) inb_S64x1_S64x1_0_0 0 rfl inb_S3648x1024_S256x1024_0_0 :)
  · exact (q_piece x0 x1 x2 x3 x4 x5 x6 x7 x8 x9 x10 0 0 192 0 (by omega) rfl rfl (by omega) inb_S1x4x2x256x256_S1x1x1x64x256_0_0_0_192_0 (by decide) (by decide) inb_S64x1_S64x1_0_0 0 rfl inb_S3648x1024_S256x1024_0_0 :)
  · exact (q_piece x0 x1 x2 x3 x4 x5 x6 x7 x8 x9 x10 0 1 128 256 (by omega) rfl rfl (by omega) inb_S1x4x2x256x256_S1x1x1x64x256_0_0_1_128_0 (by decide) (by decide) inb_S64x1_S64x1_0_0 0 rfl inb_S3648x1024_S256x1024_0_0 :)
  · exact (q_piece x0 x1 x2 x3 x4 x5 x6 x7 x8 x9 x10 0 0 128 0 (by omega) rfl rfl (by omega) inb_S1x4x2x256x256_S1x1x1x64x256_0_0_0_128_0 (by decide) (by decide) inb_S64x1_S64x1_0_0 0 rfl inb_S3648x1024_S256x1024_0_0 :)
  · exact (q_piece x0 x1 x2 x3 x4 x5 x6 x7 x8 x9 x10 0 1 64 256 (by omega) rfl rfl (by omega) inb_S1x4x2x256x256_S1x1x1x64x256_0_0_1_64_0 (by decide) (by decide) inb_S64x1_S64x1_0_0 0 rfl inb_S3648x1024_S256x1024_0_0 :)
  · exact (q_piece x0 x1 x2 x3 x4 x5 x6 x7 x8 x9 x10 0 0 64 0 (by omega) rfl rfl (by omega) inb_S1x4x2x256x256_S1x1x1x64x256_0_0_0_64_0 (by decide) (by decide) inb_S64x1_S64x1_0_0 0 rfl inb_S3648x1024_S256x1024_0_0 :)
  · exact (q_piece x0 x1 x2 x3 x4 x5 x6 x7 x8 x9 x10 0 1 0 256 (by omega) rfl rfl (by omega) inb_S1x4x2x256x256_S1x1x1x64x256_0_0_1_0_0 (by decide) (by decide) inb_S64x1_S64x1_0_0 0 rfl inb_S3648x1024_S256x1024_0_0 :)
  · exact (q_piece x0 x1 x2 x3 x4 x5 x6 x7 x8 x9 x10 0 0 0 0 (by omega) rfl rfl (by omega) inb_S1x4x2x256x256_S1x1x1x64x256_0_0_0_0_0 (by decide) (by decide) inb_S64x1_S64x1_0_0 0 rfl inb_S3648x1024_S256x1024_0_0 :)

/-- The rows beside the selection keys: row `a` marks the tokens of sub-block `a`. -/
theorem ind_key (a : Fin 16) (t : Fin 256) : k0_pay224 (F := Ideal) x0 x1 x2 x3 x4 x5 x6 x7 x8 x9 x10 (ix2 ⟨a.val, by omega⟩ t) = if t.val / 64 = a.val then 1 else 0 := by
  have e : ∀ t : Fin 256, Scalar.select
      (IntOp.andi (IntOp.cmpi .ne (IntOp.subi (BitVec.setWidth 32 (IntOp.cmpi .sgt (BitVec.ofNat 32 t.val) 0#32)) (BitVec.setWidth 32 (IntOp.cmpi .slt (BitVec.ofNat 32 t.val) 0#32)))
        (Scalar.subi (Scalar.extui (Scalar.cmpi .sgt 64#32 0#32)) (Scalar.extui (Scalar.cmpi .slt 64#32 0#32))))
        (IntOp.cmpi .ne (IntOp.remsi ArithUnit.vector (BitVec.ofNat 32 t.val) 64#32) 0#32))
      (IntOp.subi (IntOp.divsi ArithUnit.vector (BitVec.ofNat 32 t.val) 64#32) 1#32) (IntOp.divsi ArithUnit.vector (BitVec.ofNat 32 t.val) 64#32) = BitVec.ofNat 32 (t.val / 64) := by decide +kernel
  have f : ∀ (q : Fin 4) (a : Fin 16), BitVec.setWidth 32 (IntOp.cmpi .eq (BitVec.ofNat 32 q.val) (BitVec.ofNat 32 a.val)) = if q.val = a.val then 1#32 else 0#32 := by decide +kernel
  unfold k0_pay224
  pointwise [k0_pay90, k0_pay89, k0_pay88]
  rw [e, f ⟨t.val / 64, by omega⟩]
  exact word_if _

/-- The rows beside the values: row 0 is ones. -/
theorem ones_value (a : Fin 16) (t : Fin 256) : k0_pay148 (F := Ideal) (ix2 a t) = if a.val = 0 then 1 else 0 := by
  have f : ∀ a : Fin 16, BitVec.setWidth 32 (IntOp.cmpi .eq (BitVec.ofNat 32 a.val) 0#32) = if a.val = 0 then 1#32 else 0#32 := by decide +kernel
  pointwise [k0_pay148]
  rw [f]
  exact word_if _

/-- The selection keys' block. -/
def KS : S1x4x2x256x80.Idx → EReal := fun y =>
  let t : Fin 512 := ⟨256 * (y 2).val + (y 3).val, by have := (y 2).isLt; have := (y 3).isLt; simp at *; omega⟩
  kAt (rows (P x0 x1 x2 x3 x4 t) 1024 256 (by omega)) (fun j => x6 (ix2 j 0)) (fun k => x9 (ix3 0 k t)) (fun k => x10 (ix3 0 k t)) (fun a => if (y 3).val / 64 = a.val then 1 else 0) (y 1) (y 4)

/-- One stored tile of the selection keys. -/
theorem ks_piece (G : Fin 4) (S R L : Nat) (hS : S < 2) (hL' : L = 256 * S) (hR' : R = 64 * G.val) (io hR hL inb inb') (z : B256x80.Idx) :
    keyTile (Y x0 x1 x2 x3 x4 x5 x6 x7 x8 x9 x10 1024 inb') R hR L hL (View.ld x6 (Rect.unit (s := S64x1) ![0, 0] S64x1.size inb)) (k0_pay197 x0 x1 x2 x3 x4 x5 x6 x7 x8 x9 x10) (k0_pay198 x0 x1 x2 x3 x4 x5 x6 x7 x8 x9 x10) (k0_pay224 x0 x1 x2 x3 x4 x5 x6 x7 x8 x9 x10) z
      = KS x0 x1 x2 x3 x4 x6 x9 x10 ((Rect.unit (s := V1x4x2x256x80) ![0, G.val, S, 0, 0] B256x80.size io).emb z) :=
  key_piece (fun t => rows (P x0 x1 x2 x3 x4 t) 1024 256 (by omega)) (fun j => x6 (ix2 j 0)) (fun t k => x9 (ix3 0 k t)) (fun t k => x10 (ix3 0 k t)) (fun t a => if t.val / 64 = a.val then 1 else 0) G S R L
    hS hL' hR' io _ hR hL _ _ _ _ (Y_apply x0 x1 x2 x3 x4 x5 x6 x7 x8 x9 x10 1024 (by omega) inb') (fun j => congrFun (whole_col x6 inb) (ix2 j 0)) (cos_apply x0 x1 x2 x3 x4 x5 x6 x7 x8 x9 x10) (sin_apply x0 x1 x2 x3 x4 x5 x6 x7 x8 x9 x10) (ind_key x0 x1 x2 x3 x4 x5 x6 x7 x8 x9 x10) z

set_option maxHeartbeats 2000000 in
theorem out12_apply (y : S1x4x2x256x80.Idx) : out0_12 (F := Ideal) x0 x1 x2 x3 x4 x5 x6 x7 x8 x9 x10 y = KS x0 x1 x2 x3 x4 x6 x9 x10 y := by
  unfold out0_12
  refine View.canon_apply_of_pieces (Val := Elt Ideal) (e := .bf16) (KS x0 x1 x2 x3 x4 x6 x9 x10) _ ?_ y (cover0_12 _ _ _ _ _ _ _ _ y)
  intro p hp
  simp only [List.mem_cons, List.not_mem_nil, or_false] at hp
  rcases hp with rfl | rfl | rfl | rfl | rfl | rfl | rfl | rfl
  · exact (ks_piece x0 x1 x2 x3 x4 x5 x6 x7 x8 x9 x10 3 1 192 256 (by omega) rfl rfl inb_S1x4x2x256x80_S1x1x1x256x80_0_3_1_0_0 (by decide) (by decide) inb_S64x1_S64x1_0_0 inb_S3648x1024_S256x1024_1024_0 :)
  · exact (ks_piece x0 x1 x2 x3 x4 x5 x6 x7 x8 x9 x10 3 0 192 0 (by omega) rfl rfl inb_S1x4x2x256x80_S1x1x1x256x80_0_3_0_0_0 (by decide) (by decide) inb_S64x1_S64x1_0_0 inb_S3648x1024_S256x1024_1024_0 :)
  · exact (ks_piece x0 x1 x2 x3 x4 x5 x6 x7 x8 x9 x10 2 1 128 256 (by omega) rfl rfl inb_S1x4x2x256x80_S1x1x1x256x80_0_2_1_0_0 (by decide) (by decide) inb_S64x1_S64x1_0_0 inb_S3648x1024_S256x1024_1024_0 :)
  · exact (ks_piece x0 x1 x2 x3 x4 x5 x6 x7 x8 x9 x10 2 0 128 0 (by omega) rfl rfl inb_S1x4x2x256x80_S1x1x1x256x80_0_2_0_0_0 (by decide) (by decide) inb_S64x1_S64x1_0_0 inb_S3648x1024_S256x1024_1024_0 :)
  · exact (ks_piece x0 x1 x2 x3 x4 x5 x6 x7 x8 x9 x10 1 1 64 256 (by omega) rfl rfl inb_S1x4x2x256x80_S1x1x1x256x80_0_1_1_0_0 (by decide) (by decide) inb_S64x1_S64x1_0_0 inb_S3648x1024_S256x1024_1024_0 :)
  · exact (ks_piece x0 x1 x2 x3 x4 x5 x6 x7 x8 x9 x10 1 0 64 0 (by omega) rfl rfl inb_S1x4x2x256x80_S1x1x1x256x80_0_1_0_0_0 (by decide) (by decide) inb_S64x1_S64x1_0_0 inb_S3648x1024_S256x1024_1024_0 :)
  · exact (ks_piece x0 x1 x2 x3 x4 x5 x6 x7 x8 x9 x10 0 1 0 256 (by omega) rfl rfl inb_S1x4x2x256x80_S1x1x1x256x80_0_0_1_0_0 (by decide) (by decide) inb_S64x1_S64x1_0_0 inb_S3648x1024_S256x1024_1024_0 :)
  · exact (ks_piece x0 x1 x2 x3 x4 x5 x6 x7 x8 x9 x10 0 0 0 0 (by omega) rfl rfl inb_S1x4x2x256x80_S1x1x1x256x80_0_0_0_0_0 (by decide) (by decide) inb_S64x1_S64x1_0_0 inb_S3648x1024_S256x1024_1024_0 :)

/-- The window keys' block. -/
def KW : S1x4x2x256x64.Idx → EReal := fun y =>
  let t : Fin 512 := ⟨256 * (y 2).val + (y 3).val, by have := (y 2).isLt; have := (y 3).isLt; simp at *; omega⟩
  wAt (rows (P x0 x1 x2 x3 x4 t) 1280 256 (by omega)) (fun j => x7 (ix2 j 0)) (fun k => x9 (ix3 0 k t)) (fun k => x10 (ix3 0 k t)) (y 1) (y 4)

/-- One stored tile of the window keys. -/
theorem kw_piece (G : Fin 4) (S R L : Nat) (hS : S < 2) (hL' : L = 256 * S) (hR' : R = 64 * G.val) (io hR hL inb inb') (z : B256x64.Idx) :
    chunkTile (Y x0 x1 x2 x3 x4 x5 x6 x7 x8 x9 x10 1280 inb') R hR L hL (View.ld x7 (Rect.unit (s := S64x1) ![0, 0] S64x1.size inb)) (k0_pay197 x0 x1 x2 x3 x4 x5 x6 x7 x8 x9 x10) (k0_pay198 x0 x1 x2 x3 x4 x5 x6 x7 x8 x9 x10) z
      = KW x0 x1 x2 x3 x4 x7 x9 x10 ((Rect.unit (s := V1x4x2x256x64) ![0, G.val, S, 0, 0] B256x64.size io).emb z) :=
  chunk_piece (fun t => rows (P x0 x1 x2 x3 x4 t) 1280 256 (by omega)) (fun j => x7 (ix2 j 0)) (fun t k => x9 (ix3 0 k t)) (fun t k => x10 (ix3 0 k t)) G S R L
    hS hL' hR' io _ hR hL _ _ _ (Y_apply x0 x1 x2 x3 x4 x5 x6 x7 x8 x9 x10 1280 (by omega) inb') (fun j => congrFun (whole_col x7 inb) (ix2 j 0)) (cos_apply x0 x1 x2 x3 x4 x5 x6 x7 x8 x9 x10) (sin_apply x0 x1 x2 x3 x4 x5 x6 x7 x8 x9 x10) z

set_option maxHeartbeats 2000000 in
theorem out13_apply (y : S1x4x2x256x64.Idx) : out0_13 (F := Ideal) x0 x1 x2 x3 x4 x5 x6 x7 x8 x9 x10 y = KW x0 x1 x2 x3 x4 x7 x9 x10 y := by
  unfold out0_13
  refine View.canon_apply_of_pieces (Val := Elt Ideal) (e := .bf16) (KW x0 x1 x2 x3 x4 x7 x9 x10) _ ?_ y (cover0_13 _ _ _ _ _ _ _ _ y)
  intro p hp
  simp only [List.mem_cons, List.not_mem_nil, or_false] at hp
  rcases hp with rfl | rfl | rfl | rfl | rfl | rfl | rfl | rfl
  · exact (kw_piece x0 x1 x2 x3 x4 x5 x6 x7 x8 x9 x10 3 1 192 256 (by omega) rfl rfl inb_S1x4x2x256x64_S1x1x1x256x64_0_3_1_0_0 (by decide) (by decide) inb_S64x1_S64x1_0_0 inb_S3648x1024_S256x1024_1280_0 :)
  · exact (kw_piece x0 x1 x2 x3 x4 x5 x6 x7 x8 x9 x10 3 0 192 0 (by omega) rfl rfl inb_S1x4x2x256x64_S1x1x1x256x64_0_3_0_0_0 (by decide) (by decide) inb_S64x1_S64x1_0_0 inb_S3648x1024_S256x1024_1280_0 :)
  · exact (kw_piece x0 x1 x2 x3 x4 x5 x6 x7 x8 x9 x10 2 1 128 256 (by omega) rfl rfl inb_S1x4x2x256x64_S1x1x1x256x64_0_2_1_0_0 (by decide) (by decide) inb_S64x1_S64x1_0_0 inb_S3648x1024_S256x1024_1280_0 :)
  · exact (kw_piece x0 x1 x2 x3 x4 x5 x6 x7 x8 x9 x10 2 0 128 0 (by omega) rfl rfl inb_S1x4x2x256x64_S1x1x1x256x64_0_2_0_0_0 (by decide) (by decide) inb_S64x1_S64x1_0_0 inb_S3648x1024_S256x1024_1280_0 :)
  · exact (kw_piece x0 x1 x2 x3 x4 x5 x6 x7 x8 x9 x10 1 1 64 256 (by omega) rfl rfl inb_S1x4x2x256x64_S1x1x1x256x64_0_1_1_0_0 (by decide) (by decide) inb_S64x1_S64x1_0_0 inb_S3648x1024_S256x1024_1280_0 :)
  · exact (kw_piece x0 x1 x2 x3 x4 x5 x6 x7 x8 x9 x10 1 0 64 0 (by omega) rfl rfl inb_S1x4x2x256x64_S1x1x1x256x64_0_1_0_0_0 (by decide) (by decide) inb_S64x1_S64x1_0_0 inb_S3648x1024_S256x1024_1280_0 :)
  · exact (kw_piece x0 x1 x2 x3 x4 x5 x6 x7 x8 x9 x10 0 1 0 256 (by omega) rfl rfl inb_S1x4x2x256x64_S1x1x1x256x64_0_0_1_0_0 (by decide) (by decide) inb_S64x1_S64x1_0_0 inb_S3648x1024_S256x1024_1280_0 :)
  · exact (kw_piece x0 x1 x2 x3 x4 x5 x6 x7 x8 x9 x10 0 0 0 0 (by omega) rfl rfl inb_S1x4x2x256x64_S1x1x1x256x64_0_0_0_0_0 (by decide) (by decide) inb_S64x1_S64x1_0_0 inb_S3648x1024_S256x1024_1280_0 :)

/-- A block of plain heads, from projected row `B` on. -/
def C (B : Nat) (hB : B + 256 ≤ 3648) : S1x4x2x256x64.Idx → EReal := fun y =>
  let t : Fin 512 := ⟨256 * (y 2).val + (y 3).val, by have := (y 2).isLt; have := (y 3).isLt; simp at *; omega⟩
  cAt (rows (P x0 x1 x2 x3 x4 t) B 256 hB) (y 1) (y 4)

/-- One stored tile of plain heads. -/
theorem c_piece (B : Nat) (hB : B + 256 ≤ 3648) (G : Fin 4) (S R L : Nat) (hS : S < 2) (hL' : L = 256 * S) (hR' : R = 64 * G.val) (io hRL inb') (z : B256x64.Idx) :
    rawTile (Y x0 x1 x2 x3 x4 x5 x6 x7 x8 x9 x10 B inb') R L hRL z
      = C x0 x1 x2 x3 x4 B hB ((Rect.unit (s := V1x4x2x256x64) ![0, G.val, S, 0, 0] B256x64.size io).emb z) :=
  raw_piece (fun t => rows (P x0 x1 x2 x3 x4 t) B 256 hB) G S R L hS hL' hR' io _ hRL (Y_apply x0 x1 x2 x3 x4 x5 x6 x7 x8 x9 x10 B hB inb') z

set_option maxHeartbeats 2000000 in
theorem out14_apply (y : S1x4x2x256x64.Idx) : out0_14 (F := Ideal) x0 x1 x2 x3 x4 x5 x6 x7 x8 x9 x10 y = C x0 x1 x2 x3 x4 1536 (by omega) y := by
  unfold out0_14
  refine View.canon_apply_of_pieces (Val := Elt Ideal) (e := .f32) (C x0 x1 x2 x3 x4 1536 (by omega)) _ ?_ y (cover0_14 _ _ _ _ _ _ _ _ y)
  intro p hp
  simp only [List.mem_cons, List.not_mem_nil, or_false] at hp
  rcases hp with rfl | rfl | rfl | rfl | rfl | rfl | rfl | rfl
  · exact (c_piece x0 x1 x2 x3 x4 x5 x6 x7 x8 x9 x10 1536 (by omega) 3 1 192 256 (by omega) rfl rfl inb_S1x4x2x256x64_S1x1x1x256x64_0_3_1_0_0 (by decide) inb_S3648x1024_S256x1024_1536_0 :)
  · exact (c_piece x0 x1 x2 x3 x4 x5 x6 x7 x8 x9 x10 1536 (by omega) 3 0 192 0 (by omega) rfl rfl inb_S1x4x2x256x64_S1x1x1x256x64_0_3_0_0_0 (by decide) inb_S3648x1024_S256x1024_1536_0 :)
  · exact (c_piece x0 x1 x2 x3 x4 x5 x6 x7 x8 x9 x10 1536 (by omega) 2 1 128 256 (by omega) rfl rfl inb_S1x4x2x256x64_S1x1x1x256x64_0_2_1_0_0 (by decide) inb_S3648x1024_S256x1024_1536_0 :)
  · exact (c_piece x0 x1 x2 x3 x4 x5 x6 x7 x8 x9 x10 1536 (by omega) 2 0 128 0 (by omega) rfl rfl inb_S1x4x2x256x64_S1x1x1x256x64_0_2_0_0_0 (by decide) inb_S3648x1024_S256x1024_1536_0 :)
  · exact (c_piece x0 x1 x2 x3 x4 x5 x6 x7 x8 x9 x10 1536 (by omega) 1 1 64 256 (by omega) rfl rfl inb_S1x4x2x256x64_S1x1x1x256x64_0_1_1_0_0 (by decide) inb_S3648x1024_S256x1024_1536_0 :)
  · exact (c_piece x0 x1 x2 x3 x4 x5 x6 x7 x8 x9 x10 1536 (by omega) 1 0 64 0 (by omega) rfl rfl inb_S1x4x2x256x64_S1x1x1x256x64_0_1_0_0_0 (by decide) inb_S3648x1024_S256x1024_1536_0 :)
  · exact (c_piece x0 x1 x2 x3 x4 x5 x6 x7 x8 x9 x10 1536 (by omega) 0 1 0 256 (by omega) rfl rfl inb_S1x4x2x256x64_S1x1x1x256x64_0_0_1_0_0 (by decide) inb_S3648x1024_S256x1024_1536_0 :)
  · exact (c_piece x0 x1 x2 x3 x4 x5 x6 x7 x8 x9 x10 1536 (by omega) 0 0 0 0 (by omega) rfl rfl inb_S1x4x2x256x64_S1x1x1x256x64_0_0_0_0_0 (by decide) inb_S3648x1024_S256x1024_1536_0 :)

set_option maxHeartbeats 2000000 in
theorem out15_apply (y : S1x4x2x256x64.Idx) : out0_15 (F := Ideal) x0 x1 x2 x3 x4 x5 x6 x7 x8 x9 x10 y = C x0 x1 x2 x3 x4 1792 (by omega) y := by
  unfold out0_15
  refine View.canon_apply_of_pieces (Val := Elt Ideal) (e := .f32) (C x0 x1 x2 x3 x4 1792 (by omega)) _ ?_ y (cover0_15 _ _ _ _ _ _ _ _ y)
  intro p hp
  simp only [List.mem_cons, List.not_mem_nil, or_false] at hp
  rcases hp with rfl | rfl | rfl | rfl | rfl | rfl | rfl | rfl
  · exact (c_piece x0 x1 x2 x3 x4 x5 x6 x7 x8 x9 x10 1792 (by omega) 3 1 192 256 (by omega) rfl rfl inb_S1x4x2x256x64_S1x1x1x256x64_0_3_1_0_0 (by decide) inb_S3648x1024_S256x1024_1792_0 :)
  · exact (c_piece x0 x1 x2 x3 x4 x5 x6 x7 x8 x9 x10 1792 (by omega) 3 0 192 0 (by omega) rfl rfl inb_S1x4x2x256x64_S1x1x1x256x64_0_3_0_0_0 (by decide) inb_S3648x1024_S256x1024_1792_0 :)
  · exact (c_piece x0 x1 x2 x3 x4 x5 x6 x7 x8 x9 x10 1792 (by omega) 2 1 128 256 (by omega) rfl rfl inb_S1x4x2x256x64_S1x1x1x256x64_0_2_1_0_0 (by decide) inb_S3648x1024_S256x1024_1792_0 :)
  · exact (c_piece x0 x1 x2 x3 x4 x5 x6 x7 x8 x9 x10 1792 (by omega) 2 0 128 0 (by omega) rfl rfl inb_S1x4x2x256x64_S1x1x1x256x64_0_2_0_0_0 (by decide) inb_S3648x1024_S256x1024_1792_0 :)
  · exact (c_piece x0 x1 x2 x3 x4 x5 x6 x7 x8 x9 x10 1792 (by omega) 1 1 64 256 (by omega) rfl rfl inb_S1x4x2x256x64_S1x1x1x256x64_0_1_1_0_0 (by decide) inb_S3648x1024_S256x1024_1792_0 :)
  · exact (c_piece x0 x1 x2 x3 x4 x5 x6 x7 x8 x9 x10 1792 (by omega) 1 0 64 0 (by omega) rfl rfl inb_S1x4x2x256x64_S1x1x1x256x64_0_1_0_0_0 (by decide) inb_S3648x1024_S256x1024_1792_0 :)
  · exact (c_piece x0 x1 x2 x3 x4 x5 x6 x7 x8 x9 x10 1792 (by omega) 0 1 0 256 (by omega) rfl rfl inb_S1x4x2x256x64_S1x1x1x256x64_0_0_1_0_0 (by decide) inb_S3648x1024_S256x1024_1792_0 :)
  · exact (c_piece x0 x1 x2 x3 x4 x5 x6 x7 x8 x9 x10 1792 (by omega) 0 0 0 0 (by omega) rfl rfl inb_S1x4x2x256x64_S1x1x1x256x64_0_0_0_0_0 (by decide) inb_S3648x1024_S256x1024_1792_0 :)

/-- A block of values, from projected row `B` on. -/
def V (B : Nat) (hB : B + 256 ≤ 3648) : S1x4x2x80x256.Idx → EReal := fun y =>
  let t : Fin 512 := ⟨256 * (y 2).val + (y 4).val, by have := (y 2).isLt; have := (y 4).isLt; simp at *; omega⟩
  vAt (rows (P x0 x1 x2 x3 x4 t) B 256 hB) (y 1) (y 3)

/-- One stored tile of values. -/
theorem v_piece (B : Nat) (hB : B + 256 ≤ 3648) (G : Fin 4) (S R L : Nat) (hS : S < 2) (hL' : L = 256 * S) (hR' : R = 64 * G.val) (io hRL hb inb') (z : B80x256.Idx) :
    valueTile (truncf .bf16 (Y x0 x1 x2 x3 x4 x5 x6 x7 x8 x9 x10 B inb') hb) R L hRL k0_pay148 z
      = V x0 x1 x2 x3 x4 B hB ((Rect.unit (s := V1x4x2x80x256) ![0, G.val, S, 0, 0] B80x256.size io).emb z) :=
  value_piece (fun t => rows (P x0 x1 x2 x3 x4 t) B 256 hB) G S R L hS hL' hR' io _ hRL _ (Y_apply x0 x1 x2 x3 x4 x5 x6 x7 x8 x9 x10 B hB inb') ones_value z

set_option maxHeartbeats 2000000 in
theorem out16_apply (y : S1x4x2x80x256.Idx) : out0_16 (F := Ideal) x0 x1 x2 x3 x4 x5 x6 x7 x8 x9 x10 y = V x0 x1 x2 x3 x4 2048 (by omega) y := by
  unfold out0_16
  refine View.canon_apply_of_pieces (Val := Elt Ideal) (e := .bf16) (V x0 x1 x2 x3 x4 2048 (by omega)) _ ?_ y (cover0_16 _ _ _ _ _ _ _ _ y)
  intro p hp
  simp only [List.mem_cons, List.not_mem_nil, or_false] at hp
  rcases hp with rfl | rfl | rfl | rfl | rfl | rfl | rfl | rfl
  · exact (v_piece x0 x1 x2 x3 x4 x5 x6 x7 x8 x9 x10 2048 (by omega) 3 1 192 256 (by omega) rfl rfl inb_S1x4x2x80x256_S1x1x1x80x256_0_3_1_0_0 (by decide) bitsLt_bf16_f32 inb_S3648x1024_S256x1024_2048_0 :)
  · exact (v_piece x0 x1 x2 x3 x4 x5 x6 x7 x8 x9 x10 2048 (by omega) 3 0 192 0 (by omega) rfl rfl inb_S1x4x2x80x256_S1x1x1x80x256_0_3_0_0_0 (by decide) bitsLt_bf16_f32 inb_S3648x1024_S256x1024_2048_0 :)
  · exact (v_piece x0 x1 x2 x3 x4 x5 x6 x7 x8 x9 x10 2048 (by omega) 2 1 128 256 (by omega) rfl rfl inb_S1x4x2x80x256_S1x1x1x80x256_0_2_1_0_0 (by decide) bitsLt_bf16_f32 inb_S3648x1024_S256x1024_2048_0 :)
  · exact (v_piece x0 x1 x2 x3 x4 x5 x6 x7 x8 x9 x10 2048 (by omega) 2 0 128 0 (by omega) rfl rfl inb_S1x4x2x80x256_S1x1x1x80x256_0_2_0_0_0 (by decide) bitsLt_bf16_f32 inb_S3648x1024_S256x1024_2048_0 :)
  · exact (v_piece x0 x1 x2 x3 x4 x5 x6 x7 x8 x9 x10 2048 (by omega) 1 1 64 256 (by omega) rfl rfl inb_S1x4x2x80x256_S1x1x1x80x256_0_1_1_0_0 (by decide) bitsLt_bf16_f32 inb_S3648x1024_S256x1024_2048_0 :)
  · exact (v_piece x0 x1 x2 x3 x4 x5 x6 x7 x8 x9 x10 2048 (by omega) 1 0 64 0 (by omega) rfl rfl inb_S1x4x2x80x256_S1x1x1x80x256_0_1_0_0_0 (by decide) bitsLt_bf16_f32 inb_S3648x1024_S256x1024_2048_0 :)
  · exact (v_piece x0 x1 x2 x3 x4 x5 x6 x7 x8 x9 x10 2048 (by omega) 0 1 0 256 (by omega) rfl rfl inb_S1x4x2x80x256_S1x1x1x80x256_0_0_1_0_0 (by decide) bitsLt_bf16_f32 inb_S3648x1024_S256x1024_2048_0 :)
  · exact (v_piece x0 x1 x2 x3 x4 x5 x6 x7 x8 x9 x10 2048 (by omega) 0 0 0 0 (by omega) rfl rfl inb_S1x4x2x80x256_S1x1x1x80x256_0_0_0_0_0 (by decide) bitsLt_bf16_f32 inb_S3648x1024_S256x1024_2048_0 :)

set_option maxHeartbeats 2000000 in
theorem out17_apply (y : S1x4x2x80x256.Idx) : out0_17 (F := Ideal) x0 x1 x2 x3 x4 x5 x6 x7 x8 x9 x10 y = V x0 x1 x2 x3 x4 2304 (by omega) y := by
  unfold out0_17
  refine View.canon_apply_of_pieces (Val := Elt Ideal) (e := .bf16) (V x0 x1 x2 x3 x4 2304 (by omega)) _ ?_ y (cover0_17 _ _ _ _ _ _ _ _ y)
  intro p hp
  simp only [List.mem_cons, List.not_mem_nil, or_false] at hp
  rcases hp with rfl | rfl | rfl | rfl | rfl | rfl | rfl | rfl
  · exact (v_piece x0 x1 x2 x3 x4 x5 x6 x7 x8 x9 x10 2304 (by omega) 3 1 192 256 (by omega) rfl rfl inb_S1x4x2x80x256_S1x1x1x80x256_0_3_1_0_0 (by decide) bitsLt_bf16_f32 inb_S3648x1024_S256x1024_2304_0 :)
  · exact (v_piece x0 x1 x2 x3 x4 x5 x6 x7 x8 x9 x10 2304 (by omega) 3 0 192 0 (by omega) rfl rfl inb_S1x4x2x80x256_S1x1x1x80x256_0_3_0_0_0 (by decide) bitsLt_bf16_f32 inb_S3648x1024_S256x1024_2304_0 :)
  · exact (v_piece x0 x1 x2 x3 x4 x5 x6 x7 x8 x9 x10 2304 (by omega) 2 1 128 256 (by omega) rfl rfl inb_S1x4x2x80x256_S1x1x1x80x256_0_2_1_0_0 (by decide) bitsLt_bf16_f32 inb_S3648x1024_S256x1024_2304_0 :)
  · exact (v_piece x0 x1 x2 x3 x4 x5 x6 x7 x8 x9 x10 2304 (by omega) 2 0 128 0 (by omega) rfl rfl inb_S1x4x2x80x256_S1x1x1x80x256_0_2_0_0_0 (by decide) bitsLt_bf16_f32 inb_S3648x1024_S256x1024_2304_0 :)
  · exact (v_piece x0 x1 x2 x3 x4 x5 x6 x7 x8 x9 x10 2304 (by omega) 1 1 64 256 (by omega) rfl rfl inb_S1x4x2x80x256_S1x1x1x80x256_0_1_1_0_0 (by decide) bitsLt_bf16_f32 inb_S3648x1024_S256x1024_2304_0 :)
  · exact (v_piece x0 x1 x2 x3 x4 x5 x6 x7 x8 x9 x10 2304 (by omega) 1 0 64 0 (by omega) rfl rfl inb_S1x4x2x80x256_S1x1x1x80x256_0_1_0_0_0 (by decide) bitsLt_bf16_f32 inb_S3648x1024_S256x1024_2304_0 :)
  · exact (v_piece x0 x1 x2 x3 x4 x5 x6 x7 x8 x9 x10 2304 (by omega) 0 1 0 256 (by omega) rfl rfl inb_S1x4x2x80x256_S1x1x1x80x256_0_0_1_0_0 (by decide) bitsLt_bf16_f32 inb_S3648x1024_S256x1024_2304_0 :)
  · exact (v_piece x0 x1 x2 x3 x4 x5 x6 x7 x8 x9 x10 2304 (by omega) 0 0 0 0 (by omega) rfl rfl inb_S1x4x2x80x256_S1x1x1x80x256_0_0_0_0_0 (by decide) bitsLt_bf16_f32 inb_S3648x1024_S256x1024_2304_0 :)

/-- The gates' block. -/
def GT : S1x4x2x16x256.Idx → EReal := fun y =>
  let t : Fin 512 := ⟨256 * (y 2).val + (y 4).val, by have := (y 2).isLt; have := (y 4).isLt; simp at *; omega⟩
  gAt (rows (P x0 x1 x2 x3 x4 t) 2560 64 (by omega)) (fun j => x8 (ix2 j 0)) (y 1) (y 3)

/-- One stored tile of the gates. -/
theorem g_piece (G : Fin 4) (S R L : Nat) (hS : S < 2) (hL' : L = 256 * S) (hR' : R = 16 * G.val) (io hR hL inb inb') (z : B16x256.Idx) :
    gateTile (gates (k0_pay196 (F := Ideal) x0 x1 x2 x3 x4 x5 x6 x7 x8 x9 x10) (View.ld x4 (Rect.unit (s := S3648x1024) ![2560, 0] V64x1024.size inb'))
        (View.ld x8 (Rect.unit (s := S64x1) ![0, 0] S64x1.size inb))) R hR L hL z
      = GT x0 x1 x2 x3 x4 x8 ((Rect.unit (s := V1x4x2x16x256) ![0, G.val, S, 0, 0] B16x256.size io).emb z) :=
  gate_piece (fun t => gAt (rows (P x0 x1 x2 x3 x4 t) 2560 64 (by omega)) (fun j => x8 (ix2 j 0))) G S R L hS hL' hR' io _ hR hL
    (fun a t => by
      subst hR'
      rw [gates_apply, whole_col x8 inb]
      simp only [rows_load x4 64 2560 (by omega) inb', h_apply]
      rfl) z

set_option maxHeartbeats 2000000 in
theorem out18_apply (y : S1x4x2x16x256.Idx) : out0_18 (F := Ideal) x0 x1 x2 x3 x4 x5 x6 x7 x8 x9 x10 y = GT x0 x1 x2 x3 x4 x8 y := by
  unfold out0_18
  refine View.canon_apply_of_pieces (Val := Elt Ideal) (e := .f32) (GT x0 x1 x2 x3 x4 x8) _ ?_ y (cover0_18 _ _ _ _ _ _ _ _ y)
  intro p hp
  simp only [List.mem_cons, List.not_mem_nil, or_false] at hp
  rcases hp with rfl | rfl | rfl | rfl | rfl | rfl | rfl | rfl
  · exact (g_piece x0 x1 x2 x3 x4 x5 x6 x7 x8 x9 x10 3 1 48 256 (by omega) rfl rfl inb_S1x4x2x16x256_S1x1x1x16x256_0_3_1_0_0 (by decide) (by decide) inb_S64x1_S64x1_0_0 inb_S3648x1024_S64x1024_2560_0 :)
  · exact (g_piece x0 x1 x2 x3 x4 x5 x6 x7 x8 x9 x10 3 0 48 0 (by omega) rfl rfl inb_S1x4x2x16x256_S1x1x1x16x256_0_3_0_0_0 (by decide) (by decide) inb_S64x1_S64x1_0_0 inb_S3648x1024_S64x1024_2560_0 :)
  · exact (g_piece x0 x1 x2 x3 x4 x5 x6 x7 x8 x9 x10 2 1 32 256 (by omega) rfl rfl inb_S1x4x2x16x256_S1x1x1x16x256_0_2_1_0_0 (by decide) (by decide) inb_S64x1_S64x1_0_0 inb_S3648x1024_S64x1024_2560_0 :)
  · exact (g_piece x0 x1 x2 x3 x4 x5 x6 x7 x8 x9 x10 2 0 32 0 (by omega) rfl rfl inb_S1x4x2x16x256_S1x1x1x16x256_0_2_0_0_0 (by decide) (by decide) inb_S64x1_S64x1_0_0 inb_S3648x1024_S64x1024_2560_0 :)
  · exact (g_piece x0 x1 x2 x3 x4 x5 x6 x7 x8 x9 x10 1 1 16 256 (by omega) rfl rfl inb_S1x4x2x16x256_S1x1x1x16x256_0_1_1_0_0 (by decide) (by decide) inb_S64x1_S64x1_0_0 inb_S3648x1024_S64x1024_2560_0 :)
  · exact (g_piece x0 x1 x2 x3 x4 x5 x6 x7 x8 x9 x10 1 0 16 0 (by omega) rfl rfl inb_S1x4x2x16x256_S1x1x1x16x256_0_1_0_0_0 (by decide) (by decide) inb_S64x1_S64x1_0_0 inb_S3648x1024_S64x1024_2560_0 :)
  · exact (g_piece x0 x1 x2 x3 x4 x5 x6 x7 x8 x9 x10 0 1 0 256 (by omega) rfl rfl inb_S1x4x2x16x256_S1x1x1x16x256_0_0_1_0_0 (by decide) (by decide) inb_S64x1_S64x1_0_0 inb_S3648x1024_S64x1024_2560_0 :)
  · exact (g_piece x0 x1 x2 x3 x4 x5 x6 x7 x8 x9 x10 0 0 0 0 (by omega) rfl rfl inb_S1x4x2x16x256_S1x1x1x16x256_0_0_0_0_0 (by decide) (by decide) inb_S64x1_S64x1_0_0 inb_S3648x1024_S64x1024_2560_0 :)

/-- The gate branch's block. -/
def Z : S1x4x2x256x256.Idx → EReal := fun y =>
  let t : Fin 512 := ⟨256 * (y 2).val + (y 4).val, by have := (y 2).isLt; have := (y 4).isLt; simp at *; omega⟩
  zAt (rows (P x0 x1 x2 x3 x4 t) 2624 1024 (by omega)) (y 1) (y 3)

/-- One stored tile of the gate branch. -/
theorem z_piece (G : Fin 4) (S R L : Nat) (hS : S < 2) (hL' : L = 256 * S) (hR' : R = 2624 + 256 * G.val) (io hL inb) (z : B256x256.Idx) :
    plainTile (siluTile (k0_pay196 (F := Ideal) x0 x1 x2 x3 x4 x5 x6 x7 x8 x9 x10) (View.ld x4 (Rect.unit (s := S3648x1024) ![R, 0] V256x1024.size inb))) L hL z
      = Z x0 x1 x2 x3 x4 ((Rect.unit (s := V1x4x2x256x256) ![0, G.val, S, 0, 0] B256x256.size io).emb z) :=
  plain_piece (fun t => zAt (rows (P x0 x1 x2 x3 x4 t) 2624 1024 (by omega))) G S L hS hL' io _ hL
    (fun a t => by
      have ey := Y_apply x0 x1 x2 x3 x4 x5 x6 x7 x8 x9 x10 R (by omega) inb a t
      unfold Y at ey
      rw [siluTile_apply, ← proj_apply, ey]
      have e : rows (P x0 x1 x2 x3 x4 t) R 256 (by omega) a = rows (P x0 x1 x2 x3 x4 t) 2624 1024 (by omega) ⟨256 * G.val + a.val, by omega⟩ :=
        congrArg (P x0 x1 x2 x3 x4 t) (Fin.ext (show R + a.val = 2624 + (256 * G.val + a.val) by omega))
      rw [e]
      rfl) z

set_option maxHeartbeats 2000000 in
theorem out19_apply (y : S1x4x2x256x256.Idx) : out0_19 (F := Ideal) x0 x1 x2 x3 x4 x5 x6 x7 x8 x9 x10 y = Z x0 x1 x2 x3 x4 y := by
  unfold out0_19
  refine View.canon_apply_of_pieces (Val := Elt Ideal) (e := .f32) (Z x0 x1 x2 x3 x4) _ ?_ y (cover0_19 _ _ _ _ _ _ _ _ y)
  intro p hp
  simp only [List.mem_cons, List.not_mem_nil, or_false] at hp
  rcases hp with rfl | rfl | rfl | rfl | rfl | rfl | rfl | rfl
  · exact (z_piece x0 x1 x2 x3 x4 x5 x6 x7 x8 x9 x10 3 1 3392 256 (by omega) rfl rfl inb_S1x4x2x256x256_S1x1x1x256x256_0_3_1_0_0 (by decide) inb_S3648x1024_S256x1024_3392_0 :)
  · exact (z_piece x0 x1 x2 x3 x4 x5 x6 x7 x8 x9 x10 3 0 3392 0 (by omega) rfl rfl inb_S1x4x2x256x256_S1x1x1x256x256_0_3_0_0_0 (by decide) inb_S3648x1024_S256x1024_3392_0 :)
  · exact (z_piece x0 x1 x2 x3 x4 x5 x6 x7 x8 x9 x10 2 1 3136 256 (by omega) rfl rfl inb_S1x4x2x256x256_S1x1x1x256x256_0_2_1_0_0 (by decide) inb_S3648x1024_S256x1024_3136_0 :)
  · exact (z_piece x0 x1 x2 x3 x4 x5 x6 x7 x8 x9 x10 2 0 3136 0 (by omega) rfl rfl inb_S1x4x2x256x256_S1x1x1x256x256_0_2_0_0_0 (by decide) inb_S3648x1024_S256x1024_3136_0 :)
  · exact (z_piece x0 x1 x2 x3 x4 x5 x6 x7 x8 x9 x10 1 1 2880 256 (by omega) rfl rfl inb_S1x4x2x256x256_S1x1x1x256x256_0_1_1_0_0 (by decide) inb_S3648x1024_S256x1024_2880_0 :)
  · exact (z_piece x0 x1 x2 x3 x4 x5 x6 x7 x8 x9 x10 1 0 2880 0 (by omega) rfl rfl inb_S1x4x2x256x256_S1x1x1x256x256_0_1_0_0_0 (by decide) inb_S3648x1024_S256x1024_2880_0 :)
  · exact (z_piece x0 x1 x2 x3 x4 x5 x6 x7 x8 x9 x10 0 1 2624 256 (by omega) rfl rfl inb_S1x4x2x256x256_S1x1x1x256x256_0_0_1_0_0 (by decide) inb_S3648x1024_S256x1024_2624_0 :)
  · exact (z_piece x0 x1 x2 x3 x4 x5 x6 x7 x8 x9 x10 0 0 2624 0 (by omega) rfl rfl inb_S1x4x2x256x256_S1x1x1x256x256_0_0_0_0_0 (by decide) inb_S3648x1024_S256x1024_2624_0 :)

end Blocks

end Cert.Proof.NsaFirst

end
-- ==== Proof.NsaFirstValue.lean ====
/-
  Hand-written. THE NSA INPUT PROJECTION OF THE FIRST LAYER, THE WHOLE ARRAYS: the kernel's ten result arrays as
  functions of one token of the eleven arguments.
-/
module

public import proofs.«01_k».proof.Proof.NsaFirstBlock
public import proofs.«01_k».proof.Proof.NsaTokens
public import Idealize.ShloMosaic.Lib.Pipeline.ValueKit.Geometry

@[expose] public section

noncomputable section

namespace Cert.Proof.NsaFirst

open Idealize.ShloMosaic Idealize.ShloMosaic.TcCoe Idealize.SL.Sem
open Idealize.ShloMosaic.Pipeline (Dat Window)
open Cert.NsaFirstIdeal Cert.NsaFirstIdeal.Gen Cert.Proof.Tiles

/-- The tokens and their projected rows. -/
def X (a0 : Vec Ideal S16x2048x1024 .f32) : Fin 16 → Fin 2048 → Fin 1024 → EReal := fun b T d => a0 (ix3 b T d)

def PP (a0 : Vec Ideal S16x2048x1024 .f32) (a1 : Vec Ideal S1024 .f32) (a2 a3 : Vec Ideal S16x1024x1 .f32) (a4 : Vec Ideal S1024x3648 .f32) :
    Fin 16 → Fin 2048 → Fin 3648 → EReal :=
  tokP a4 (tokH (X a0) a1 a2 a3)

section Kernel
variable (m : (ℓ : Loc nD τ sig) → Buf (Elt Ideal) ℓ)

/-- The blocks' places: point `t` is sequence `t / 4`, token block `t % 4`. -/
theorem places : ∀ t : Fin grid0.N,
    (win0_0.index t = ![t.val / 4, t.val % 4, 0]
      ∧ win0_1.index t = ![0, 0]
      ∧ win0_2.index t = ![t.val / 4, 0, 0]
      ∧ win0_3.index t = ![t.val / 4, 0, 0]
      ∧ win0_4.index t = ![0, 0]
      ∧ win0_5.index t = ![0, 0]
      ∧ win0_6.index t = ![0, 0]
      ∧ win0_7.index t = ![0, 0]
      ∧ win0_8.index t = ![0, 0]
      ∧ win0_9.index t = ![t.val / 4, 0, t.val % 4]
      ∧ win0_10.index t = ![t.val / 4, 0, t.val % 4])
    ∧ win0_11.index t = ![t.val / 4, 0, t.val % 4, 0, 0]
      ∧ win0_12.index t = ![t.val / 4, 0, t.val % 4, 0, 0]
      ∧ win0_13.index t = ![t.val / 4, 0, t.val % 4, 0, 0]
      ∧ win0_14.index t = ![t.val / 4, 0, t.val % 4, 0, 0]
      ∧ win0_15.index t = ![t.val / 4, 0, t.val % 4, 0, 0]
      ∧ win0_16.index t = ![t.val / 4, 0, t.val % 4, 0, 0]
      ∧ win0_17.index t = ![t.val / 4, 0, t.val % 4, 0, 0]
      ∧ win0_18.index t = ![t.val / 4, 0, t.val % 4, 0, 0]
      ∧ win0_19.index t = ![t.val / 4, 0, t.val % 4, 0, 0]
      ∧ win0_20.index t = ![t.val / 4, 0, t.val % 4] := by
  decide +kernel

def seq (t : Fin cfg0.N) : Fin 16 := ⟨t.val / 4, by have h : t.val < 64 := t.isLt; omega⟩
def part (t : Fin cfg0.N) : Fin 4 := ⟨t.val % 4, by omega⟩
theorem seq_val (t : Fin cfg0.N) : (seq t).val = t.val / 4 := rfl
theorem part_val (t : Fin cfg0.N) : (part t).val = t.val % 4 := rfl

section Arrays
variable (c : Dev nD)
abbrev A0 : Vec Ideal S16x2048x1024 .f32 := m ((c : Thread nD τ).loc main_arg0)
abbrev A1 : Vec Ideal S1024 .f32 := m ((c : Thread nD τ).loc main_arg1)
abbrev A2 : Vec Ideal S16x1024x1 .f32 := m ((c : Thread nD τ).loc main_arg2)
abbrev A3 : Vec Ideal S16x1024x1 .f32 := m ((c : Thread nD τ).loc main_arg3)
abbrev A4 : Vec Ideal S1024x3648 .f32 := m ((c : Thread nD τ).loc main_arg4)
abbrev A5 : Vec Ideal S64 .f32 := m ((c : Thread nD τ).loc main_arg5)
abbrev A6 : Vec Ideal S64 .f32 := m ((c : Thread nD τ).loc main_arg6)
abbrev A7 : Vec Ideal S64 .f32 := m ((c : Thread nD τ).loc main_arg7)
abbrev A8 : Vec Ideal S64 .f32 := m ((c : Thread nD τ).loc main_arg8)
abbrev A9 : Vec Ideal S16x8x2048 .f32 := m ((c : Thread nD τ).loc main_arg9)
abbrev A10 : Vec Ideal S16x8x2048 .f32 := m ((c : Thread nD τ).loc main_arg10)
end Arrays

/-! ## The arrays the host lays out -/

theorem V_v0 (c : Dev nD) (p : Fin 1024) : (Gen.V m c main_v0 : Vec Ideal S1024x1 .f32) (ix2 p 0) = A1 m c (ix1 p) := by
  have e : (Gen.V m c main_v0 : Vec Ideal S1024x1 .f32) = shapeCast S1024x1 (A1 m c) shapeCasts_S1024_S1024x1 := by
    unfold Gen.V; after_results <;> rfl
  rw [e]
  pointwise

theorem V_v3 (c : Dev nD) (p : Fin 64) : (Gen.V m c main_v3 : Vec Ideal S64x1 .f32) (ix2 p 0) = A5 m c (ix1 p) := by
  have e : (Gen.V m c main_v3 : Vec Ideal S64x1 .f32) = shapeCast S64x1 (A5 m c) shapeCasts_S64_S64x1 := by
    unfold Gen.V; after_results <;> rfl
  rw [e]
  pointwise

theorem V_v4 (c : Dev nD) (p : Fin 64) : (Gen.V m c main_v4 : Vec Ideal S64x1 .f32) (ix2 p 0) = A6 m c (ix1 p) := by
  have e : (Gen.V m c main_v4 : Vec Ideal S64x1 .f32) = shapeCast S64x1 (A6 m c) shapeCasts_S64_S64x1 := by
    unfold Gen.V; after_results <;> rfl
  rw [e]
  pointwise

theorem V_v5 (c : Dev nD) (p : Fin 64) : (Gen.V m c main_v5 : Vec Ideal S64x1 .f32) (ix2 p 0) = A7 m c (ix1 p) := by
  have e : (Gen.V m c main_v5 : Vec Ideal S64x1 .f32) = shapeCast S64x1 (A7 m c) shapeCasts_S64_S64x1 := by
    unfold Gen.V; after_results <;> rfl
  rw [e]
  pointwise

theorem V_v6 (c : Dev nD) (p : Fin 64) : (Gen.V m c main_v6 : Vec Ideal S64x1 .f32) (ix2 p 0) = A8 m c (ix1 p) := by
  have e : (Gen.V m c main_v6 : Vec Ideal S64x1 .f32) = shapeCast S64x1 (A8 m c) shapeCasts_S64_S64x1 := by
    unfold Gen.V; after_results <;> rfl
  rw [e]
  pointwise

theorem V_v2 (c : Dev nD) (p : Fin 3648) (q : Fin 1024) : (Gen.V m c main_v2 : Vec Ideal S3648x1024 .bf16) (ix2 p q) = A4 m c (ix2 q p) := by
  have e : (Gen.V m c main_v2 : Vec Ideal S3648x1024 .bf16)
      = truncf .bf16 (transpose S3648x1024 [1, 0] (A4 m c) transposes_S1024x3648_S3648x1024_1_0 : FVec Ideal S3648x1024 .f32) bitsLt_bf16_f32 := by
    unfold Gen.V; after_results <;> rfl
  rw [e]
  pointwise

/-! ## The blocks, as parts of the arrays -/

variable (c : Dev nD) (t : Fin cfg0.N)

theorem e0 (s : Fin 512) (d : Fin 1024) : iblk m c 0 t (ix3 0 s d) = A0 m c (ix3 (seq t) (tok (part t) s) d) := by
  obtain ⟨⟨p, -⟩, -⟩ := places t
  blk_simp [iblk]
  rw [V_main_arg0]
  refine congrArg _ ?_
  blk_ext [p, seq_val, part_val, tok_val, tile_val]

theorem e1 (d : Fin 1024) : iblk m c 1 t (ix2 d 0) = A1 m c (ix1 d) := by
  obtain ⟨⟨-, p, -⟩, -⟩ := places t
  refine Eq.trans ?_ (V_v0 m c d)
  blk_simp [iblk]
  refine congrArg _ ?_
  blk_ext [p]

theorem e2 (d : Fin 1024) : iblk m c 2 t (ix3 0 d 0) = A2 m c (ix3 (seq t) d 0) := by
  obtain ⟨⟨-, -, p, -⟩, -⟩ := places t
  blk_simp [iblk]
  rw [V_main_arg2]
  refine congrArg _ ?_
  blk_ext [p, seq_val, part_val, tok_val, tile_val]

theorem e3 (d : Fin 1024) : iblk m c 3 t (ix3 0 d 0) = A3 m c (ix3 (seq t) d 0) := by
  obtain ⟨⟨-, -, -, p, -⟩, -⟩ := places t
  blk_simp [iblk]
  rw [V_main_arg3]
  refine congrArg _ ?_
  blk_ext [p, seq_val, part_val, tok_val, tile_val]

theorem e4 (r : Fin 3648) (d : Fin 1024) : iblk m c 4 t (ix2 r d) = A4 m c (ix2 d r) := by
  obtain ⟨⟨-, -, -, -, p, -⟩, -⟩ := places t
  refine Eq.trans ?_ (V_v2 m c r d)
  blk_simp [iblk]
  refine congrArg _ ?_
  blk_ext [p]

theorem e5 (j : Fin 64) : iblk m c 5 t (ix2 j 0) = A5 m c (ix1 j) := by
  obtain ⟨⟨-, -, -, -, -, p, -⟩, -⟩ := places t
  refine Eq.trans ?_ (V_v3 m c j)
  blk_simp [iblk]
  refine congrArg _ ?_
  blk_ext [p]

theorem e6 (j : Fin 64) : iblk m c 6 t (ix2 j 0) = A6 m c (ix1 j) := by
  obtain ⟨⟨-, -, -, -, -, -, p, -⟩, -⟩ := places t
  refine Eq.trans ?_ (V_v4 m c j)
  blk_simp [iblk]
  refine congrArg _ ?_
  blk_ext [p]

theorem e7 (j : Fin 64) : iblk m c 7 t (ix2 j 0) = A7 m c (ix1 j) := by
  obtain ⟨⟨-, -, -, -, -, -, -, p, -⟩, -⟩ := places t
  refine Eq.trans ?_ (V_v5 m c j)
  blk_simp [iblk]
  refine congrArg _ ?_
  blk_ext [p]

theorem e8 (j : Fin 64) : iblk m c 8 t (ix2 j 0) = A8 m c (ix1 j) := by
  obtain ⟨⟨-, -, -, -, -, -, -, -, p, -⟩, -⟩ := places t
  refine Eq.trans ?_ (V_v6 m c j)
  blk_simp [iblk]
  refine congrArg _ ?_
  blk_ext [p]

theorem e9 (k : Fin 8) (s : Fin 512) : iblk m c 9 t (ix3 0 k s) = A9 m c (ix3 (seq t) k (tok (part t) s)) := by
  obtain ⟨⟨-, -, -, -, -, -, -, -, -, p, -⟩, -⟩ := places t
  blk_simp [iblk]
  rw [V_main_arg9]
  refine congrArg _ ?_
  blk_ext [p, seq_val, part_val, tok_val, tile_val]

theorem e10 (k : Fin 8) (s : Fin 512) : iblk m c 10 t (ix3 0 k s) = A10 m c (ix3 (seq t) k (tok (part t) s)) := by
  obtain ⟨⟨-, -, -, -, -, -, -, -, -, -, p⟩, -⟩ := places t
  blk_simp [iblk]
  rw [V_main_arg10]
  refine congrArg _ ?_
  blk_ext [p, seq_val, part_val, tok_val, tile_val]

/-- The block's projected rows are the sequence's, at the block's tokens. -/
theorem block_P (s : Fin 512) : P (iblk m c 0 t) (iblk m c 1 t) (iblk m c 2 t) (iblk m c 3 t) (iblk m c 4 t) s
    = PP (A0 m c) (A1 m c) (A2 m c) (A3 m c) (A4 m c) (seq t) (tok (part t) s) :=
  pAt_eq (hAt_eq (X' := X (A0 m c)) (fun s => funext fun d => e0 m c t s d) (e1 m c t) (e2 m c t) (e3 m c t)) (e4 m c t) s

/-- `k` projected rows from `o` on, at every token. -/
abbrev rowsOf (o k : Nat) (h : o + k ≤ 3648) : Fin 16 → Fin 2048 → Fin k → EReal := fun b T =>
  rows (PP (A0 m c) (A1 m c) (A2 m c) (A3 m c) (A4 m c) b T) o k h

/-- What the kernel leaves in its ten result arrays: the queries, -/
theorem kernel_q : (dats m 0 c).arrAt 11 cfg0.N = arrQ (rowsOf m c 0 1024 (by omega)) (A5 m c) (A9 m c) (A10 m c) := by
  refine (dats m 0 c).arrAt_eq_of_covers 11 _ (by decide +kernel) fun t _ y => ?_
  have p := (places t).2
  refine (congrFun (Value.flushed11 m c t) y).trans ?_
  refine (out11_apply _ _ _ _ _ _ _ _ _ _ _ _).trans ?_
  obtain ⟨o, G, s', r, t', rfl⟩ : ∃ (o : Fin 1) (G : Fin 4) (s' : Fin 2) (r : Fin 256) (t' : Fin 256), y = (ix5 o G s' r t' : S1x4x2x256x256.Idx) := ⟨_, _, _, _, _, eq_ix5 _⟩
  have ey : ((cfg0.win 11).blk t).view.emb (ix5 o G s' r t' : S1x4x2x256x256.Idx) = (ix5 (seq t) G (tile (part t) s') r t' : S16x4x8x256x256.Idx) := by
    blk_ext [p, seq_val, part_val, tok_val, tile_val]
  refine Eq.trans ?_ (congrArg _ ey.symm)
  show Q _ _ _ _ _ _ _ _ (ix5 o G s' r t') = _
  simp only [Q, block_P, e5, e9, e10]
  exact congrArg (tokQ (rowsOf m c 0 1024 (by omega)) (A5 m c) (A9 m c) (A10 m c) (seq t) · G r) (tok_eq (part t) s' t' (by omega))

/-- the selection keys, -/
theorem kernel_ks : (dats m 0 c).arrAt 12 cfg0.N = arrK (rowsOf m c 1024 256 (by omega)) (A6 m c) (A9 m c) (A10 m c) subBlock := by
  refine (dats m 0 c).arrAt_eq_of_covers 12 _ (by decide +kernel) fun t _ y => ?_
  have p := (places t).2
  refine (congrFun (Value.flushed12 m c t) y).trans ?_
  refine (out12_apply _ _ _ _ _ _ _ _ _ _ _ _).trans ?_
  obtain ⟨o, G, s', t', a, rfl⟩ : ∃ (o : Fin 1) (G : Fin 4) (s' : Fin 2) (t' : Fin 256) (a : Fin 80), y = (ix5 o G s' t' a : S1x4x2x256x80.Idx) := ⟨_, _, _, _, _, eq_ix5 _⟩
  have ey : ((cfg0.win 12).blk t).view.emb (ix5 o G s' t' a : S1x4x2x256x80.Idx) = (ix5 (seq t) G (tile (part t) s') t' a : S16x4x8x256x80.Idx) := by
    blk_ext [p, seq_val, part_val, tok_val, tile_val]
  refine Eq.trans ?_ (congrArg _ ey.symm)
  show KS _ _ _ _ _ _ _ _ (ix5 o G s' t' a) = _
  simp only [KS, block_P, e6, e9, e10]
  have es : (fun a : Fin 16 => if t'.val / 64 = a.val then (1 : EReal) else 0) = subBlock (tok' (tile (part t) s') t') := by
    funext a
    unfold subBlock
    rw [show (tok' (tile (part t) s') t').val % 256 = t'.val from by simp only [tok'_val, tile_val]; omega]
  have et := tok_eq (part t) s' t' (by omega)
  show kAt _ _ _ _ (fun a : Fin 16 => if t'.val / 64 = a.val then (1 : EReal) else 0) G a = _
  rw [es]
  exact congrArg (fun T => kAt (rowsOf m c 1024 256 (by omega) (seq t) T) (fun j => A6 m c (ix1 j)) (fun k => A9 m c (ix3 (seq t) k T)) (fun k => A10 m c (ix3 (seq t) k T)) (subBlock (tok' (tile (part t) s') t')) G a) et

/-- the window keys, -/
theorem kernel_kw : (dats m 0 c).arrAt 13 cfg0.N = arrW (rowsOf m c 1280 256 (by omega)) (A7 m c) (A9 m c) (A10 m c) := by
  refine (dats m 0 c).arrAt_eq_of_covers 13 _ (by decide +kernel) fun t _ y => ?_
  have p := (places t).2
  refine (congrFun (Value.flushed13 m c t) y).trans ?_
  refine (out13_apply _ _ _ _ _ _ _ _ _ _ _ _).trans ?_
  obtain ⟨o, G, s', t', a, rfl⟩ : ∃ (o : Fin 1) (G : Fin 4) (s' : Fin 2) (t' : Fin 256) (a : Fin 64), y = (ix5 o G s' t' a : S1x4x2x256x64.Idx) := ⟨_, _, _, _, _, eq_ix5 _⟩
  have ey : ((cfg0.win 13).blk t).view.emb (ix5 o G s' t' a : S1x4x2x256x64.Idx) = (ix5 (seq t) G (tile (part t) s') t' a : S16x4x8x256x64.Idx) := by
    blk_ext [p, seq_val, part_val, tok_val, tile_val]
  refine Eq.trans ?_ (congrArg _ ey.symm)
  show KW _ _ _ _ _ _ _ _ (ix5 o G s' t' a) = _
  simp only [KW, block_P, e7, e9, e10]
  exact congrArg (tokW (rowsOf m c 1280 256 (by omega)) (A7 m c) (A9 m c) (A10 m c) (seq t) · G a) (tok_eq (part t) s' t' (by omega))

/-- the keys to be compressed, -/
theorem kernel_kc : (dats m 0 c).arrAt 14 cfg0.N = arrC (rowsOf m c 1536 256 (by omega)) := by
  refine (dats m 0 c).arrAt_eq_of_covers 14 _ (by decide +kernel) fun t _ y => ?_
  have p := (places t).2
  refine (congrFun (Value.flushed14 m c t) y).trans ?_
  refine (out14_apply _ _ _ _ _ _ _ _ _ _ _ _).trans ?_
  obtain ⟨o, G, s', t', a, rfl⟩ : ∃ (o : Fin 1) (G : Fin 4) (s' : Fin 2) (t' : Fin 256) (a : Fin 64), y = (ix5 o G s' t' a : S1x4x2x256x64.Idx) := ⟨_, _, _, _, _, eq_ix5 _⟩
  have ey : ((cfg0.win 14).blk t).view.emb (ix5 o G s' t' a : S1x4x2x256x64.Idx) = (ix5 (seq t) G (tile (part t) s') t' a : S16x4x8x256x64.Idx) := by
    blk_ext [p, seq_val, part_val, tok_val, tile_val]
  refine Eq.trans ?_ (congrArg _ ey.symm)
  show C _ _ _ _ _ _ _ (ix5 o G s' t' a) = _
  simp only [C, block_P]
  exact congrArg (tokC (rowsOf m c 1536 256 (by omega)) (seq t) · G a) (tok_eq (part t) s' t' (by omega))

/-- the values to be compressed, -/
theorem kernel_vc : (dats m 0 c).arrAt 15 cfg0.N = arrC (rowsOf m c 1792 256 (by omega)) := by
  refine (dats m 0 c).arrAt_eq_of_covers 15 _ (by decide +kernel) fun t _ y => ?_
  have p := (places t).2
  refine (congrFun (Value.flushed15 m c t) y).trans ?_
  refine (out15_apply _ _ _ _ _ _ _ _ _ _ _ _).trans ?_
  obtain ⟨o, G, s', t', a, rfl⟩ : ∃ (o : Fin 1) (G : Fin 4) (s' : Fin 2) (t' : Fin 256) (a : Fin 64), y = (ix5 o G s' t' a : S1x4x2x256x64.Idx) := ⟨_, _, _, _, _, eq_ix5 _⟩
  have ey : ((cfg0.win 15).blk t).view.emb (ix5 o G s' t' a : S1x4x2x256x64.Idx) = (ix5 (seq t) G (tile (part t) s') t' a : S16x4x8x256x64.Idx) := by
    blk_ext [p, seq_val, part_val, tok_val, tile_val]
  refine Eq.trans ?_ (congrArg _ ey.symm)
  show C _ _ _ _ _ _ _ (ix5 o G s' t' a) = _
  simp only [C, block_P]
  exact congrArg (tokC (rowsOf m c 1792 256 (by omega)) (seq t) · G a) (tok_eq (part t) s' t' (by omega))

/-- the selection values, -/
theorem kernel_vs : (dats m 0 c).arrAt 16 cfg0.N = arrV (rowsOf m c 2048 256 (by omega)) := by
  refine (dats m 0 c).arrAt_eq_of_covers 16 _ (by decide +kernel) fun t _ y => ?_
  have p := (places t).2
  refine (congrFun (Value.flushed16 m c t) y).trans ?_
  refine (out16_apply _ _ _ _ _ _ _ _ _ _ _ _).trans ?_
  obtain ⟨o, G, s', a, t', rfl⟩ : ∃ (o : Fin 1) (G : Fin 4) (s' : Fin 2) (a : Fin 80) (t' : Fin 256), y = (ix5 o G s' a t' : S1x4x2x80x256.Idx) := ⟨_, _, _, _, _, eq_ix5 _⟩
  have ey : ((cfg0.win 16).blk t).view.emb (ix5 o G s' a t' : S1x4x2x80x256.Idx) = (ix5 (seq t) G (tile (part t) s') a t' : S16x4x8x80x256.Idx) := by
    blk_ext [p, seq_val, part_val, tok_val, tile_val]
  refine Eq.trans ?_ (congrArg _ ey.symm)
  show V _ _ _ _ _ _ _ (ix5 o G s' a t') = _
  simp only [V, block_P]
  exact congrArg (tokV (rowsOf m c 2048 256 (by omega)) (seq t) · G a) (tok_eq (part t) s' t' (by omega))

/-- the window values, -/
theorem kernel_vw : (dats m 0 c).arrAt 17 cfg0.N = arrV (rowsOf m c 2304 256 (by omega)) := by
  refine (dats m 0 c).arrAt_eq_of_covers 17 _ (by decide +kernel) fun t _ y => ?_
  have p := (places t).2
  refine (congrFun (Value.flushed17 m c t) y).trans ?_
  refine (out17_apply _ _ _ _ _ _ _ _ _ _ _ _).trans ?_
  obtain ⟨o, G, s', a, t', rfl⟩ : ∃ (o : Fin 1) (G : Fin 4) (s' : Fin 2) (a : Fin 80) (t' : Fin 256), y = (ix5 o G s' a t' : S1x4x2x80x256.Idx) := ⟨_, _, _, _, _, eq_ix5 _⟩
  have ey : ((cfg0.win 17).blk t).view.emb (ix5 o G s' a t' : S1x4x2x80x256.Idx) = (ix5 (seq t) G (tile (part t) s') a t' : S16x4x8x80x256.Idx) := by
    blk_ext [p, seq_val, part_val, tok_val, tile_val]
  refine Eq.trans ?_ (congrArg _ ey.symm)
  show V _ _ _ _ _ _ _ (ix5 o G s' a t') = _
  simp only [V, block_P]
  exact congrArg (tokV (rowsOf m c 2304 256 (by omega)) (seq t) · G a) (tok_eq (part t) s' t' (by omega))

/-- the gates, -/
theorem kernel_g : (dats m 0 c).arrAt 18 cfg0.N = arrG (rowsOf m c 2560 64 (by omega)) (A8 m c) := by
  refine (dats m 0 c).arrAt_eq_of_covers 18 _ (by decide +kernel) fun t _ y => ?_
  have p := (places t).2
  refine (congrFun (Value.flushed18 m c t) y).trans ?_
  refine (out18_apply _ _ _ _ _ _ _ _ _ _ _ _).trans ?_
  obtain ⟨o, G, s', r, t', rfl⟩ : ∃ (o : Fin 1) (G : Fin 4) (s' : Fin 2) (r : Fin 16) (t' : Fin 256), y = (ix5 o G s' r t' : S1x4x2x16x256.Idx) := ⟨_, _, _, _, _, eq_ix5 _⟩
  have ey : ((cfg0.win 18).blk t).view.emb (ix5 o G s' r t' : S1x4x2x16x256.Idx) = (ix5 (seq t) G (tile (part t) s') r t' : S16x4x8x16x256.Idx) := by
    blk_ext [p, seq_val, part_val, tok_val, tile_val]
  refine Eq.trans ?_ (congrArg _ ey.symm)
  show GT _ _ _ _ _ _ (ix5 o G s' r t') = _
  simp only [GT, block_P, e8]
  exact congrArg (tokG (rowsOf m c 2560 64 (by omega)) (A8 m c) (seq t) · G r) (tok_eq (part t) s' t' (by omega))

/-- the gate branch -/
theorem kernel_z : (dats m 0 c).arrAt 19 cfg0.N = arrZ (rowsOf m c 2624 1024 (by omega)) := by
  refine (dats m 0 c).arrAt_eq_of_covers 19 _ (by decide +kernel) fun t _ y => ?_
  have p := (places t).2
  refine (congrFun (Value.flushed19 m c t) y).trans ?_
  refine (out19_apply _ _ _ _ _ _ _ _ _ _ _ _).trans ?_
  obtain ⟨o, G, s', r, t', rfl⟩ : ∃ (o : Fin 1) (G : Fin 4) (s' : Fin 2) (r : Fin 256) (t' : Fin 256), y = (ix5 o G s' r t' : S1x4x2x256x256.Idx) := ⟨_, _, _, _, _, eq_ix5 _⟩
  have ey : ((cfg0.win 19).blk t).view.emb (ix5 o G s' r t' : S1x4x2x256x256.Idx) = (ix5 (seq t) G (tile (part t) s') r t' : S16x4x8x256x256.Idx) := by
    blk_ext [p, seq_val, part_val, tok_val, tile_val]
  refine Eq.trans ?_ (congrArg _ ey.symm)
  show Z _ _ _ _ _ (ix5 o G s' r t') = _
  simp only [Z, block_P]
  exact congrArg (tokZ (rowsOf m c 2624 1024 (by omega)) (seq t) · G r) (tok_eq (part t) s' t' (by omega))

/-- and the tokens, transposed. -/
theorem kernel_x : (dats m 0 c).arrAt 20 cfg0.N = arrX (X (A0 m c)) := by
  refine (dats m 0 c).arrAt_eq_of_covers 20 _ (by decide +kernel) fun t _ y => ?_
  have p := (places t).2
  refine (congrFun (Value.flushed20 m c t) y).trans ?_
  obtain ⟨o, d, s, rfl⟩ : ∃ (o : Fin 1) (d : Fin 1024) (s : Fin 512), y = (ix3 o d s : S1x1024x512.Idx) := ⟨_, _, _, eq_ix3 _⟩
  refine (out20_apply _ _ _ _ _ _ _ _ _ _ _ o d s).trans ?_
  have ey : ((cfg0.win 20).blk t).view.emb (ix3 o d s : S1x1024x512.Idx) = (ix3 (seq t) d (tok (part t) s) : S16x1024x2048.Idx) := by
    blk_ext [p, seq_val, part_val, tok_val, tile_val]
  refine Eq.trans ?_ (congrArg _ ey.symm)
  exact e0 m c t s d

end Kernel

end Cert.Proof.NsaFirst

end
-- ==== Proof.NsaFirstRef.lean ====
/-
  Hand-written. THE NSA INPUT PROJECTION OF THE FIRST LAYER, THE REFERENCE: its ten results are the arrays that the
  kernel's are, and with that the claims about the two programs.
-/
module

public import proofs.«01_k».proof.Defs
public import proofs.«01_k».proof.Proof.NsaFirstValue
public import proofs.«01_k».proof.Proof.NsaTokens
public import proofs.«01_k».proof.Proof.Gen.NsaFirst.Frame
public import proofs.«01_k».proof.Proof.Gen.NsaFirstRefIdeal.Run
public import proofs.«01_k».proof.Proof.Gen.NsaFirstRefIdeal.Read
public import Idealize.ShloMosaic.Lib.Quiescent

@[expose] public section

noncomputable section

namespace Cert.Proof.NsaFirst

open Idealize.ShloMosaic Idealize.ShloMosaic.TcCoe Idealize.SL.Sem Idealize.ShloMosaic.StableHlo
open Cert.NsaFirstIdeal Cert.NsaFirstIdeal.Gen Cert.Proof.Tiles

section
open Cert.NsaFirstRefIdeal.Read

variable (x0 : Vec Ideal W16x2048x1024 .f32) (x1 : Vec Ideal W1024 .f32) (x2 x3 : Vec Ideal W16x1024x1 .f32) (x4 : Vec Ideal S1024x3648 .f32)
  (x5 x6 x7 x8 : Vec Ideal V64 .f32) (x9 x10 : Vec Ideal W16x8x2048 .f32)

theorem v22_ix (b : Fin 16) (T : Fin 2048) (d : Fin 1024) :
    val_main_v22 (F := Ideal) x0 x1 x2 x3 (ix3 b T d) = tokH (X x0) x1 x2 x3 b T d :=
  hostH_apply x0 x1 x2 x3 b T d

theorem v23_ix (b : Fin 16) (T : Fin 2048) (r : Fin 3648) :
    val_main_v23 (F := Ideal) x0 x1 x2 x3 x4 (ix3 b T r) = PP x0 x1 x2 x3 x4 b T r := by
  unfold val_main_v23
  pointwise [v22_ix]
  exact Finset.sum_congr rfl fun f _ => mul_comm _ _

theorem reference_q : val_main_v153 (F := Ideal) x0 x1 x2 x3 x4 x5 x9 x10
    = arrQ (fun b T => rows (PP x0 x1 x2 x3 x4 b T) 0 1024 (by decide)) x5 x9 x10 :=
  hostQ_eq (val_main_v23 (F := Ideal) x0 x1 x2 x3 x4) 0 x5 x9 x10 (by decide) (by decide) (v23_ix x0 x1 x2 x3 x4)

theorem reference_ks : val_main_v156 (F := Ideal) x0 x1 x2 x3 x4 x6 x9 x10
    = arrK (fun b T => rows (PP x0 x1 x2 x3 x4 b T) 1024 256 (by decide)) x6 x9 x10 subBlock :=
  hostS_eq (val_main_v23 (F := Ideal) x0 x1 x2 x3 x4) 1024 x6 x9 x10 (by decide) (by decide) (v23_ix x0 x1 x2 x3 x4) (by decide)

theorem reference_kw : val_main_v159 (F := Ideal) x0 x1 x2 x3 x4 x7 x9 x10
    = arrW (fun b T => rows (PP x0 x1 x2 x3 x4 b T) 1280 256 (by decide)) x7 x9 x10 :=
  hostW_eq (val_main_v23 (F := Ideal) x0 x1 x2 x3 x4) 1280 x7 x9 x10 (by decide) (by decide) (v23_ix x0 x1 x2 x3 x4) (by decide)

theorem reference_kc : val_main_v162 (F := Ideal) x0 x1 x2 x3 x4
    = arrC (fun b T => rows (PP x0 x1 x2 x3 x4 b T) 1536 256 (by decide)) :=
  hostC_eq (val_main_v23 (F := Ideal) x0 x1 x2 x3 x4) 1536 (by decide) (by decide) (v23_ix x0 x1 x2 x3 x4)

theorem reference_vc : val_main_v165 (F := Ideal) x0 x1 x2 x3 x4
    = arrC (fun b T => rows (PP x0 x1 x2 x3 x4 b T) 1792 256 (by decide)) :=
  hostC_eq (val_main_v23 (F := Ideal) x0 x1 x2 x3 x4) 1792 (by decide) (by decide) (v23_ix x0 x1 x2 x3 x4)

theorem reference_vs : val_main_v169 (F := Ideal) x0 x1 x2 x3 x4
    = arrV (fun b T => rows (PP x0 x1 x2 x3 x4 b T) 2048 256 (by decide)) :=
  hostV_eq (val_main_v23 (F := Ideal) x0 x1 x2 x3 x4) 2048 (by decide) (by decide) (v23_ix x0 x1 x2 x3 x4) (by decide)

theorem reference_vw : val_main_v173 (F := Ideal) x0 x1 x2 x3 x4
    = arrV (fun b T => rows (PP x0 x1 x2 x3 x4 b T) 2304 256 (by decide)) :=
  hostV_eq (val_main_v23 (F := Ideal) x0 x1 x2 x3 x4) 2304 (by decide) (by decide) (v23_ix x0 x1 x2 x3 x4) (by decide)

theorem reference_g : val_main_v175 (F := Ideal) x0 x1 x2 x3 x4 x8
    = arrG (fun b T => rows (PP x0 x1 x2 x3 x4 b T) 2560 64 (by decide)) x8 :=
  hostGates_eq (val_main_v23 (F := Ideal) x0 x1 x2 x3 x4) 2560 x8 (by decide) (by decide) (v23_ix x0 x1 x2 x3 x4)

theorem reference_z : val_main_v184 (F := Ideal) x0 x1 x2 x3 x4
    = arrZ (fun b T => rows (PP x0 x1 x2 x3 x4 b T) 2624 1024 (by decide)) :=
  hostZ_eq (val_main_v23 (F := Ideal) x0 x1 x2 x3 x4) 2624 (by decide) (by decide) (v23_ix x0 x1 x2 x3 x4)

theorem reference_x : val_main_v185 (F := Ideal) x0 = arrX (X x0) := by
  funext y
  obtain ⟨b, d, T, rfl⟩ : ∃ (b : Fin 16) (d : Fin 1024) (T : Fin 2048), y = (ix3 b d T : W16x1024x2048.Idx) := ⟨_, _, _, eq_ix3 y⟩
  unfold val_main_v185
  pointwise
  rfl

end

/-- The reference's frame: its run ends with the arguments unchanged, and it has no counters. -/
theorem frame_reference : Cert.quiescent_NsaFirstRefIdeal := fun m ρ _ =>
  (θ_run Cert.NsaFirstRefIdeal.defs _ _).mono (fun r h => ⟨fun c => (h c).2.2.2.2.2.2.2.2.2.2, sem_eq_zero_of_no_sems (by decide) r.2⟩)
    (Cert.NsaFirstRefIdeal.Value.run (F := Ideal) m ρ)

set_option maxHeartbeats 1000000 in
/-- The kernel's values are the reference's. -/
theorem algebraic : Cert.algebraic_NsaFirstIdeal_NsaFirstRefIdeal := by
  intro m ρ m' ρ' _ hagree
  refine ⟨fun c => arrQ (rowsOf m c 0 1024 (by decide)) (A5 m c) (A9 m c) (A10 m c),
    fun c => arrK (rowsOf m c 1024 256 (by decide)) (A6 m c) (A9 m c) (A10 m c) subBlock,
    fun c => arrW (rowsOf m c 1280 256 (by decide)) (A7 m c) (A9 m c) (A10 m c),
    fun c => arrC (rowsOf m c 1536 256 (by decide)),
    fun c => arrC (rowsOf m c 1792 256 (by decide)),
    fun c => arrV (rowsOf m c 2048 256 (by decide)),
    fun c => arrV (rowsOf m c 2304 256 (by decide)),
    fun c => arrG (rowsOf m c 2560 64 (by decide)) (A8 m c),
    fun c => arrZ (rowsOf m c 2624 1024 (by decide)),
    fun c => arrX (X (A0 m c)), ?_, ?_⟩
  · exact (θ_run Cert.NsaFirstIdeal.defs _ _).mono (fun _ h c => ⟨(h c).1.trans (kernel_q m c),
      (h c).2.1.trans (kernel_ks m c),
      (h c).2.2.1.trans (kernel_kw m c),
      (h c).2.2.2.1.trans (kernel_kc m c),
      (h c).2.2.2.2.1.trans (kernel_vc m c),
      (h c).2.2.2.2.2.1.trans (kernel_vs m c),
      (h c).2.2.2.2.2.2.1.trans (kernel_vw m c),
      (h c).2.2.2.2.2.2.2.1.trans (kernel_g m c),
      (h c).2.2.2.2.2.2.2.2.1.trans (kernel_z m c),
      (h c).2.2.2.2.2.2.2.2.2.1.trans (kernel_x m c),
      (h c).2.2.2.2.2.2.2.2.2.2⟩) (Value.run_blocks m ρ)
  · refine (θ_run Cert.NsaFirstRefIdeal.defs _ _).mono (fun _ h c => ?_) (Cert.NsaFirstRefIdeal.Value.run (F := Ideal) m' ρ')
    obtain ⟨a0, a1, a2, a3, a4, a5, a6, a7, a8, a9, a10⟩ := hagree c
    have b0 : launchContents m' c (Proc.devRef .tc Cert.NsaFirstRefIdeal.main_arg0) = A0 m c := a0
    have b1 : launchContents m' c (Proc.devRef .tc Cert.NsaFirstRefIdeal.main_arg1) = A1 m c := a1
    have b2 : launchContents m' c (Proc.devRef .tc Cert.NsaFirstRefIdeal.main_arg2) = A2 m c := a2
    have b3 : launchContents m' c (Proc.devRef .tc Cert.NsaFirstRefIdeal.main_arg3) = A3 m c := a3
    have b4 : launchContents m' c (Proc.devRef .tc Cert.NsaFirstRefIdeal.main_arg4) = A4 m c := a4
    have b5 : launchContents m' c (Proc.devRef .tc Cert.NsaFirstRefIdeal.main_arg5) = A5 m c := a5
    have b6 : launchContents m' c (Proc.devRef .tc Cert.NsaFirstRefIdeal.main_arg6) = A6 m c := a6
    have b7 : launchContents m' c (Proc.devRef .tc Cert.NsaFirstRefIdeal.main_arg7) = A7 m c := a7
    have b8 : launchContents m' c (Proc.devRef .tc Cert.NsaFirstRefIdeal.main_arg8) = A8 m c := a8
    have b9 : launchContents m' c (Proc.devRef .tc Cert.NsaFirstRefIdeal.main_arg9) = A9 m c := a9
    have b10 : launchContents m' c (Proc.devRef .tc Cert.NsaFirstRefIdeal.main_arg10) = A10 m c := a10
    refine ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_, (h c).2.2.2.2.2.2.2.2.2.2⟩
    · refine (Cert.NsaFirstRefIdeal.Read.val_main_v153_eq (launchContents m' c)).trans ?_
      rw [b0, b1, b2, b3, b4, b5, b9, b10]
      exact reference_q _ _ _ _ _ _ _ _
    · refine (Cert.NsaFirstRefIdeal.Read.val_main_v156_eq (launchContents m' c)).trans ?_
      rw [b0, b1, b2, b3, b4, b6, b9, b10]
      exact reference_ks _ _ _ _ _ _ _ _
    · refine (Cert.NsaFirstRefIdeal.Read.val_main_v159_eq (launchContents m' c)).trans ?_
      rw [b0, b1, b2, b3, b4, b7, b9, b10]
      exact reference_kw _ _ _ _ _ _ _ _
    · refine (Cert.NsaFirstRefIdeal.Read.val_main_v162_eq (launchContents m' c)).trans ?_
      rw [b0, b1, b2, b3, b4]
      exact reference_kc _ _ _ _ _
    · refine (Cert.NsaFirstRefIdeal.Read.val_main_v165_eq (launchContents m' c)).trans ?_
      rw [b0, b1, b2, b3, b4]
      exact reference_vc _ _ _ _ _
    · refine (Cert.NsaFirstRefIdeal.Read.val_main_v169_eq (launchContents m' c)).trans ?_
      rw [b0, b1, b2, b3, b4]
      exact reference_vs _ _ _ _ _
    · refine (Cert.NsaFirstRefIdeal.Read.val_main_v173_eq (launchContents m' c)).trans ?_
      rw [b0, b1, b2, b3, b4]
      exact reference_vw _ _ _ _ _
    · refine (Cert.NsaFirstRefIdeal.Read.val_main_v175_eq (launchContents m' c)).trans ?_
      rw [b0, b1, b2, b3, b4, b8]
      exact reference_g _ _ _ _ _ _
    · refine (Cert.NsaFirstRefIdeal.Read.val_main_v184_eq (launchContents m' c)).trans ?_
      rw [b0, b1, b2, b3, b4]
      exact reference_z _ _ _ _ _
    · refine (Cert.NsaFirstRefIdeal.Read.val_main_v185_eq (launchContents m' c)).trans ?_
      rw [b0]
      exact reference_x _

end Cert.Proof.NsaFirst

end
-- ==== Proof.lean ====
module

public import proofs.«01_k».proof.Defs
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.OutProjIdeal.Value
public import proofs.«01_k».proof.Proof.Gen.OutRefIdeal.Run
public import proofs.«01_k».proof.Proof.Gen.OutRefIdeal.Read
public import proofs.«01_k».proof.Proof.OutValue
public import proofs.«01_k».proof.Proof.Gen.MobaIn
public import proofs.«01_k».proof.Proof.Gen.MobaIn.Skeleton
public import proofs.«01_k».proof.Proof.Gen.MobaIn.Launch
public import proofs.«01_k».proof.Proof.Gen.MobaIn.Points
public import proofs.«01_k».proof.Proof.Gen.MobaIn.Frame
public import proofs.«01_k».proof.Proof.Gen.MobaInIdeal
public import proofs.«01_k».proof.Proof.Gen.MobaInIdeal.Skeleton
public import proofs.«01_k».proof.Proof.Gen.MobaInIdeal.Launch
public import proofs.«01_k».proof.Proof.Gen.MobaInIdeal.Points
public import proofs.«01_k».proof.Proof.Gen.MobaInIdeal.Frame
public import proofs.«01_k».proof.Proof.Gen.MobaInRefIdeal
public import proofs.«01_k».proof.Proof.Gen.MobaInIdeal.Value
public import proofs.«01_k».proof.Proof.Gen.MobaInRefIdeal.Run
public import proofs.«01_k».proof.Proof.Gen.MobaInRefIdeal.Read
public import proofs.«01_k».proof.Proof.MobaRef
public import proofs.«01_k».proof.Proof.Gen.NsaIn
public import proofs.«01_k».proof.Proof.Gen.NsaIn.Skeleton
public import proofs.«01_k».proof.Proof.Gen.NsaIn.Launch
public import proofs.«01_k».proof.Proof.Gen.NsaIn.Points
public import proofs.«01_k».proof.Proof.Gen.NsaIn.Frame
public import proofs.«01_k».proof.Proof.Gen.NsaInIdeal
public import proofs.«01_k».proof.Proof.Gen.NsaInIdeal.Skeleton
public import proofs.«01_k».proof.Proof.Gen.NsaInIdeal.Launch
public import proofs.«01_k».proof.Proof.Gen.NsaInIdeal.Points
public import proofs.«01_k».proof.Proof.Gen.NsaInIdeal.Frame
public import proofs.«01_k».proof.Proof.Gen.NsaInRefIdeal
public import proofs.«01_k».proof.Proof.Gen.NsaInIdeal.Value
public import proofs.«01_k».proof.Proof.Gen.NsaInRefIdeal.Run
public import proofs.«01_k».proof.Proof.Gen.NsaInRefIdeal.Read
public import proofs.«01_k».proof.Proof.NsaRef
public import proofs.«01_k».proof.Proof.Gen.NsaFirst
public import proofs.«01_k».proof.Proof.Gen.NsaFirst.Skeleton
public import proofs.«01_k».proof.Proof.Gen.NsaFirst.Launch
public import proofs.«01_k».proof.Proof.Gen.NsaFirst.Points
public import proofs.«01_k».proof.Proof.Gen.NsaFirst.Frame
public import proofs.«01_k».proof.Proof.Gen.NsaFirstIdeal
public import proofs.«01_k».proof.Proof.Gen.NsaFirstIdeal.Skeleton
public import proofs.«01_k».proof.Proof.Gen.NsaFirstIdeal.Launch
public import proofs.«01_k».proof.Proof.Gen.NsaFirstIdeal.Points
public import proofs.«01_k».proof.Proof.Gen.NsaFirstIdeal.Frame
public import proofs.«01_k».proof.Proof.Gen.NsaFirstRefIdeal
public import proofs.«01_k».proof.Proof.Gen.NsaFirstIdeal.Value
public import proofs.«01_k».proof.Proof.Gen.NsaFirstRefIdeal.Run
public import proofs.«01_k».proof.Proof.Gen.NsaFirstRefIdeal.Read
public import proofs.«01_k».proof.Proof.NsaFirstRef
public import Idealize.ShloMosaic.Adequacy
public import Idealize.ShloMosaic.Init

@[expose] public section

noncomputable section

namespace Cert.Proof

open Idealize.ShloMosaic Idealize.SL.Sem

theorem claim : Cert.Claim :=
  ⟨Cert.OutProj.Gen.facts, Cert.OutProjIdeal.Gen.facts, Cert.OutRefIdeal.Gen.facts,
    Cert.MobaIn.Gen.facts, Cert.MobaInIdeal.Gen.facts, Cert.MobaInRefIdeal.Gen.facts,
    Cert.NsaIn.Gen.facts, Cert.NsaInIdeal.Gen.facts, Cert.NsaInRefIdeal.Gen.facts,
    Cert.NsaFirst.Gen.facts, Cert.NsaFirstIdeal.Gen.facts, Cert.NsaFirstRefIdeal.Gen.facts,
    fun m ρ _ => Cert.OutProj.Gen.frame m ρ,
    fun m ρ _ => Cert.OutProjIdeal.Gen.frame m ρ, Out.frame_reference,
    fun m ρ _ => Cert.MobaIn.Gen.frame m ρ,
    fun m ρ _ => Cert.MobaInIdeal.Gen.frame m ρ, MobaIn.frame_reference,
    fun m ρ _ => Cert.NsaIn.Gen.frame m ρ,
    fun m ρ _ => Cert.NsaInIdeal.Gen.frame m ρ, NsaIn.frame_reference,
    fun m ρ _ => Cert.NsaFirst.Gen.frame m ρ,
    fun m ρ _ => Cert.NsaFirstIdeal.Gen.frame m ρ, NsaFirst.frame_reference,
    trivial, Out.algebraic, trivial, MobaIn.algebraic, trivial, NsaIn.algebraic, trivial, NsaFirst.algebraic⟩

end Cert.Proof

end
